-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite_latent [hPre_finite_latent : Cert.Pre_finite_latent.Facts] (m : (ℓ : Loc Cert.LatentIdeal.nD Cert.LatentIdeal.τ Cert.LatentIdeal.sig) → Buf (Elt Ideal) ℓ) : Prop :=
  ∀ c : Dev Cert.LatentIdeal.nD,
    (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4))).1 = (fun _ => 1#1)
    ∧ (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4))).2.1 = (fun _ => 1#1)
    ∧ (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4))).2.2 = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_finite_latent [hPre_finite_latent : Cert.Pre_finite_latent.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_finite_latent.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4))).1 = (fun _ => 1#1)
    ∧ (Cert.Pre_finite_latent.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4))).2.1 = (fun _ => 1#1)
    ∧ (Cert.Pre_finite_latent.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4))).2.2 = (fun _ => 1#1)

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateReferenceIdeal (m : (ℓ : Loc Cert.ModulateReferenceIdeal.nD Cert.ModulateReferenceIdeal.τ Cert.ModulateReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ r.2.sem = fun _ => 0)

def quiescent_LatentIdeal_pre_finite_latent [hLatentIdeal : Cert.LatentIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_latent m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4))
      ∧ r.2.sem = fun _ => 0)

def quiescent_LatentReferenceIdeal_pre_finite_latent [hLatentReferenceIdeal : Cert.LatentReferenceIdeal.Facts] [hPre_finite_latent : Cert.Pre_finite_latent.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_finite_latent m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2)
      ∧ r.2.mem ((c.tc : Thread Cert.Modulate.nD Cert.Modulate.τ).loc Cert.Modulate.main_arg3) = m ((c.tc : Thread Cert.Modulate.nD Cert.Modulate.τ).loc Cert.Modulate.main_arg3))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
      ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ r.2.sem = fun _ => 0)

def quiescent_ModulateReferenceIdeal [hModulateReferenceIdeal : Cert.ModulateReferenceIdeal.Facts] : Prop :=
  ∀ (m : (ℓ : Loc Cert.ModulateReferenceIdeal.nD Cert.ModulateReferenceIdeal.τ Cert.ModulateReferenceIdeal.sig) → Buf (Elt Ideal) ℓ) (g : Dev Cert.ModulateReferenceIdeal.nD → PrngReg), Pre_ModulateReferenceIdeal m →
    θ_run (Cert.ModulateReferenceIdeal.defs (F := Ideal)) (onTc (τ := Cert.ModulateReferenceIdeal.τ) (Cert.ModulateReferenceIdeal.main (F := Ideal))) ⟨m, fun _ => 0, g⟩ (fun r => (∀ c : Dev Cert.ModulateReferenceIdeal.nD,
      r.2.mem ((c.tc : Thread Cert.ModulateReferenceIdeal.nD Cert.ModulateReferenceIdeal.τ).loc Cert.ModulateReferenceIdeal.main_arg0) = m ((c.tc : Thread Cert.ModulateReferenceIdeal.nD Cert.ModulateReferenceIdeal.τ).loc Cert.ModulateReferenceIdeal.main_arg0)
      ∧ r.2.mem ((c.tc : Thread Cert.ModulateReferenceIdeal.nD Cert.ModulateReferenceIdeal.τ).loc Cert.ModulateReferenceIdeal.main_arg1) = m ((c.tc : Thread Cert.ModulateReferenceIdeal.nD Cert.ModulateReferenceIdeal.τ).loc Cert.ModulateReferenceIdeal.main_arg1)
      ∧ r.2.mem ((c.tc : Thread Cert.ModulateReferenceIdeal.nD Cert.ModulateReferenceIdeal.τ).loc Cert.ModulateReferenceIdeal.main_arg2) = m ((c.tc : Thread Cert.ModulateReferenceIdeal.nD Cert.ModulateReferenceIdeal.τ).loc Cert.ModulateReferenceIdeal.main_arg2)
      ∧ r.2.mem ((c.tc : Thread Cert.ModulateReferenceIdeal.nD Cert.ModulateReferenceIdeal.τ).loc Cert.ModulateReferenceIdeal.main_arg3) = m ((c.tc : Thread Cert.ModulateReferenceIdeal.nD Cert.ModulateReferenceIdeal.τ).loc Cert.ModulateReferenceIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8)
      ∧ r.2.mem ((c.tc : Thread Cert.Project.nD Cert.Project.τ).loc Cert.Project.main_arg9) = m ((c.tc : Thread Cert.Project.nD Cert.Project.τ).loc Cert.Project.main_arg9)
      ∧ r.2.mem ((c.tc : Thread Cert.Project.nD Cert.Project.τ).loc Cert.Project.main_arg10) = m ((c.tc : Thread Cert.Project.nD Cert.Project.τ).loc Cert.Project.main_arg10)
      ∧ r.2.mem ((c.tc : Thread Cert.Project.nD Cert.Project.τ).loc Cert.Project.main_arg11) = m ((c.tc : Thread Cert.Project.nD Cert.Project.τ).loc Cert.Project.main_arg11)
      ∧ r.2.mem ((c.tc : Thread Cert.Project.nD Cert.Project.τ).loc Cert.Project.main_arg12) = m ((c.tc : Thread Cert.Project.nD Cert.Project.τ).loc Cert.Project.main_arg12)
      ∧ r.2.mem ((c.tc : Thread Cert.Project.nD Cert.Project.τ).loc Cert.Project.main_arg13) = m ((c.tc : Thread Cert.Project.nD Cert.Project.τ).loc Cert.Project.main_arg13)
      ∧ r.2.mem ((c.tc : Thread Cert.Project.nD Cert.Project.τ).loc Cert.Project.main_arg14) = m ((c.tc : Thread Cert.Project.nD Cert.Project.τ).loc Cert.Project.main_arg14)
      ∧ r.2.mem ((c.tc : Thread Cert.Project.nD Cert.Project.τ).loc Cert.Project.main_arg15) = m ((c.tc : Thread Cert.Project.nD Cert.Project.τ).loc Cert.Project.main_arg15)
      ∧ r.2.mem ((c.tc : Thread Cert.Project.nD Cert.Project.τ).loc Cert.Project.main_arg16) = m ((c.tc : Thread Cert.Project.nD Cert.Project.τ).loc Cert.Project.main_arg16)
      ∧ r.2.mem ((c.tc : Thread Cert.Project.nD Cert.Project.τ).loc Cert.Project.main_arg17) = m ((c.tc : Thread Cert.Project.nD Cert.Project.τ).loc Cert.Project.main_arg17)
      ∧ r.2.mem ((c.tc : Thread Cert.Project.nD Cert.Project.τ).loc Cert.Project.main_arg18) = m ((c.tc : Thread Cert.Project.nD Cert.Project.τ).loc Cert.Project.main_arg18)
      ∧ r.2.mem ((c.tc : Thread Cert.Project.nD Cert.Project.τ).loc Cert.Project.main_arg19) = m ((c.tc : Thread Cert.Project.nD Cert.Project.τ).loc Cert.Project.main_arg19)
      ∧ r.2.mem ((c.tc : Thread Cert.Project.nD Cert.Project.τ).loc Cert.Project.main_arg20) = m ((c.tc : Thread Cert.Project.nD Cert.Project.τ).loc Cert.Project.main_arg20)
      ∧ r.2.mem ((c.tc : Thread Cert.Project.nD Cert.Project.τ).loc Cert.Project.main_arg21) = m ((c.tc : Thread Cert.Project.nD Cert.Project.τ).loc Cert.Project.main_arg21))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
      ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
      ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
      ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11)
      ∧ r.2.mem ((c.tc : Thread Cert.ProjectIdeal.nD Cert.ProjectIdeal.τ).loc Cert.ProjectIdeal.main_arg12) = m ((c.tc : Thread Cert.ProjectIdeal.nD Cert.ProjectIdeal.τ).loc Cert.ProjectIdeal.main_arg12)
      ∧ r.2.mem ((c.tc : Thread Cert.ProjectIdeal.nD Cert.ProjectIdeal.τ).loc Cert.ProjectIdeal.main_arg13) = m ((c.tc : Thread Cert.ProjectIdeal.nD Cert.ProjectIdeal.τ).loc Cert.ProjectIdeal.main_arg13)
      ∧ r.2.mem ((c.tc : Thread Cert.ProjectIdeal.nD Cert.ProjectIdeal.τ).loc Cert.ProjectIdeal.main_arg14) = m ((c.tc : Thread Cert.ProjectIdeal.nD Cert.ProjectIdeal.τ).loc Cert.ProjectIdeal.main_arg14)
      ∧ r.2.mem ((c.tc : Thread Cert.ProjectIdeal.nD Cert.ProjectIdeal.τ).loc Cert.ProjectIdeal.main_arg15) = m ((c.tc : Thread Cert.ProjectIdeal.nD Cert.ProjectIdeal.τ).loc Cert.ProjectIdeal.main_arg15)
      ∧ r.2.mem ((c.tc : Thread Cert.ProjectIdeal.nD Cert.ProjectIdeal.τ).loc Cert.ProjectIdeal.main_arg16) = m ((c.tc : Thread Cert.ProjectIdeal.nD Cert.ProjectIdeal.τ).loc Cert.ProjectIdeal.main_arg16)
      ∧ r.2.mem ((c.tc : Thread Cert.ProjectIdeal.nD Cert.ProjectIdeal.τ).loc Cert.ProjectIdeal.main_arg17) = m ((c.tc : Thread Cert.ProjectIdeal.nD Cert.ProjectIdeal.τ).loc Cert.ProjectIdeal.main_arg17)
      ∧ r.2.mem ((c.tc : Thread Cert.ProjectIdeal.nD Cert.ProjectIdeal.τ).loc Cert.ProjectIdeal.main_arg18) = m ((c.tc : Thread Cert.ProjectIdeal.nD Cert.ProjectIdeal.τ).loc Cert.ProjectIdeal.main_arg18)
      ∧ r.2.mem ((c.tc : Thread Cert.ProjectIdeal.nD Cert.ProjectIdeal.τ).loc Cert.ProjectIdeal.main_arg19) = m ((c.tc : Thread Cert.ProjectIdeal.nD Cert.ProjectIdeal.τ).loc Cert.ProjectIdeal.main_arg19)
      ∧ r.2.mem ((c.tc : Thread Cert.ProjectIdeal.nD Cert.ProjectIdeal.τ).loc Cert.ProjectIdeal.main_arg20) = m ((c.tc : Thread Cert.ProjectIdeal.nD Cert.ProjectIdeal.τ).loc Cert.ProjectIdeal.main_arg20)
      ∧ r.2.mem ((c.tc : Thread Cert.ProjectIdeal.nD Cert.ProjectIdeal.τ).loc Cert.ProjectIdeal.main_arg21) = m ((c.tc : Thread Cert.ProjectIdeal.nD Cert.ProjectIdeal.τ).loc Cert.ProjectIdeal.main_arg21))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7)
      ∧ r.2.mem ((c.tc : Thread Cert.ProjectReferenceIdeal.nD Cert.ProjectReferenceIdeal.τ).loc Cert.ProjectReferenceIdeal.main_arg8) = m ((c.tc : Thread Cert.ProjectReferenceIdeal.nD Cert.ProjectReferenceIdeal.τ).loc Cert.ProjectReferenceIdeal.main_arg8)
      ∧ r.2.mem ((c.tc : Thread Cert.ProjectReferenceIdeal.nD Cert.ProjectReferenceIdeal.τ).loc Cert.ProjectReferenceIdeal.main_arg9) = m ((c.tc : Thread Cert.ProjectReferenceIdeal.nD Cert.ProjectReferenceIdeal.τ).loc Cert.ProjectReferenceIdeal.main_arg9)
      ∧ r.2.mem ((c.tc : Thread Cert.ProjectReferenceIdeal.nD Cert.ProjectReferenceIdeal.τ).loc Cert.ProjectReferenceIdeal.main_arg10) = m ((c.tc : Thread Cert.ProjectReferenceIdeal.nD Cert.ProjectReferenceIdeal.τ).loc Cert.ProjectReferenceIdeal.main_arg10)
      ∧ r.2.mem ((c.tc : Thread Cert.ProjectReferenceIdeal.nD Cert.ProjectReferenceIdeal.τ).loc Cert.ProjectReferenceIdeal.main_arg11) = m ((c.tc : Thread Cert.ProjectReferenceIdeal.nD Cert.ProjectReferenceIdeal.τ).loc Cert.ProjectReferenceIdeal.main_arg11)
      ∧ r.2.mem ((c.tc : Thread Cert.ProjectReferenceIdeal.nD Cert.ProjectReferenceIdeal.τ).loc Cert.ProjectReferenceIdeal.main_arg12) = m ((c.tc : Thread Cert.ProjectReferenceIdeal.nD Cert.ProjectReferenceIdeal.τ).loc Cert.ProjectReferenceIdeal.main_arg12)
      ∧ r.2.mem ((c.tc : Thread Cert.ProjectReferenceIdeal.nD Cert.ProjectReferenceIdeal.τ).loc Cert.ProjectReferenceIdeal.main_arg13) = m ((c.tc : Thread Cert.ProjectReferenceIdeal.nD Cert.ProjectReferenceIdeal.τ).loc Cert.ProjectReferenceIdeal.main_arg13)
      ∧ r.2.mem ((c.tc : Thread Cert.ProjectReferenceIdeal.nD Cert.ProjectReferenceIdeal.τ).loc Cert.ProjectReferenceIdeal.main_arg14) = m ((c.tc : Thread Cert.ProjectReferenceIdeal.nD Cert.ProjectReferenceIdeal.τ).loc Cert.ProjectReferenceIdeal.main_arg14)
      ∧ r.2.mem ((c.tc : Thread Cert.ProjectReferenceIdeal.nD Cert.ProjectReferenceIdeal.τ).loc Cert.ProjectReferenceIdeal.main_arg15) = m ((c.tc : Thread Cert.ProjectReferenceIdeal.nD Cert.ProjectReferenceIdeal.τ).loc Cert.ProjectReferenceIdeal.main_arg15)
      ∧ r.2.mem ((c.tc : Thread Cert.ProjectReferenceIdeal.nD Cert.ProjectReferenceIdeal.τ).loc Cert.ProjectReferenceIdeal.main_arg16) = m ((c.tc : Thread Cert.ProjectReferenceIdeal.nD Cert.ProjectReferenceIdeal.τ).loc Cert.ProjectReferenceIdeal.main_arg16)
      ∧ r.2.mem ((c.tc : Thread Cert.ProjectReferenceIdeal.nD Cert.ProjectReferenceIdeal.τ).loc Cert.ProjectReferenceIdeal.main_arg17) = m ((c.tc : Thread Cert.ProjectReferenceIdeal.nD Cert.ProjectReferenceIdeal.τ).loc Cert.ProjectReferenceIdeal.main_arg17)
      ∧ r.2.mem ((c.tc : Thread Cert.ProjectReferenceIdeal.nD Cert.ProjectReferenceIdeal.τ).loc Cert.ProjectReferenceIdeal.main_arg18) = m ((c.tc : Thread Cert.ProjectReferenceIdeal.nD Cert.ProjectReferenceIdeal.τ).loc Cert.ProjectReferenceIdeal.main_arg18)
      ∧ r.2.mem ((c.tc : Thread Cert.ProjectReferenceIdeal.nD Cert.ProjectReferenceIdeal.τ).loc Cert.ProjectReferenceIdeal.main_arg19) = m ((c.tc : Thread Cert.ProjectReferenceIdeal.nD Cert.ProjectReferenceIdeal.τ).loc Cert.ProjectReferenceIdeal.main_arg19)
      ∧ r.2.mem ((c.tc : Thread Cert.ProjectReferenceIdeal.nD Cert.ProjectReferenceIdeal.τ).loc Cert.ProjectReferenceIdeal.main_arg20) = m ((c.tc : Thread Cert.ProjectReferenceIdeal.nD Cert.ProjectReferenceIdeal.τ).loc Cert.ProjectReferenceIdeal.main_arg20)
      ∧ r.2.mem ((c.tc : Thread Cert.ProjectReferenceIdeal.nD Cert.ProjectReferenceIdeal.τ).loc Cert.ProjectReferenceIdeal.main_arg21) = m ((c.tc : Thread Cert.ProjectReferenceIdeal.nD Cert.ProjectReferenceIdeal.τ).loc Cert.ProjectReferenceIdeal.main_arg21))
      ∧ r.2.sem = fun _ => 0)

def preserves_Kernel_KernelIdeal : Prop :=
  IdealRules.named_const.Statement Cert.KernelIdeal.κ "qscale" .f32 0x3E0293EE#32 ((((Real.log 2) * (Real.sqrt 128))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v32) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v14)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v30) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_Latent_LatentIdeal : Prop :=
  IdealRules.named_const.Statement Cert.LatentIdeal.κ "lscale" .f32 0x3DD53B95#32 ((((Real.log 2) * (Real.sqrt 192))⁻¹ : ℝ) : EReal)

def algebraic_LatentIdeal_LatentReferenceIdeal_pre_finite_latent [hLatentIdeal : Cert.LatentIdeal.Facts] [hLatentReferenceIdeal : Cert.LatentReferenceIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal_finite_latent m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)) →
    ∃ (v0 : (c : Dev Cert.LatentIdeal.nD) → Buf (Elt Ideal) ((c.tc : Thread Cert.LatentIdeal.nD Cert.LatentIdeal.τ).loc Cert.LatentIdeal.main_v15)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v15) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v20) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4))

def preserves_Modulate_ModulateIdeal : Prop :=
  True

def algebraic_ModulateIdeal_ModulateReferenceIdeal [hModulateIdeal : Cert.ModulateIdeal.Facts] [hModulateReferenceIdeal : Cert.ModulateReferenceIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateReferenceIdeal.nD Cert.ModulateReferenceIdeal.τ Cert.ModulateReferenceIdeal.sig) → Buf (Elt Ideal) ℓ) (g' : Dev Cert.ModulateReferenceIdeal.nD → PrngReg), Pre_ModulateIdeal m →
    (∀ c : Dev Cert.ModulateIdeal.nD,
      m' ((c.tc : Thread Cert.ModulateReferenceIdeal.nD Cert.ModulateReferenceIdeal.τ).loc Cert.ModulateReferenceIdeal.main_arg0) = m ((c.tc : Thread Cert.ModulateIdeal.nD Cert.ModulateIdeal.τ).loc Cert.ModulateIdeal.main_arg0)
      ∧ m' ((c.tc : Thread Cert.ModulateReferenceIdeal.nD Cert.ModulateReferenceIdeal.τ).loc Cert.ModulateReferenceIdeal.main_arg1) = m ((c.tc : Thread Cert.ModulateIdeal.nD Cert.ModulateIdeal.τ).loc Cert.ModulateIdeal.main_arg1)
      ∧ m' ((c.tc : Thread Cert.ModulateReferenceIdeal.nD Cert.ModulateReferenceIdeal.τ).loc Cert.ModulateReferenceIdeal.main_arg2) = m ((c.tc : Thread Cert.ModulateIdeal.nD Cert.ModulateIdeal.τ).loc Cert.ModulateIdeal.main_arg2)
      ∧ m' ((c.tc : Thread Cert.ModulateReferenceIdeal.nD Cert.ModulateReferenceIdeal.τ).loc Cert.ModulateReferenceIdeal.main_arg3) = m ((c.tc : Thread Cert.ModulateIdeal.nD Cert.ModulateIdeal.τ).loc Cert.ModulateIdeal.main_arg3)) →
    ∃ (v0 : (c : Dev Cert.ModulateIdeal.nD) → Buf (Elt Ideal) ((c.tc : Thread Cert.ModulateIdeal.nD Cert.ModulateIdeal.τ).loc Cert.ModulateIdeal.main_v4)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v4) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
          ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ θ_run (Cert.ModulateReferenceIdeal.defs (F := Ideal)) (onTc (τ := Cert.ModulateReferenceIdeal.τ) (Cert.ModulateReferenceIdeal.main (F := Ideal))) ⟨m', fun _ => 0, g'⟩ (fun r => ∀ c : Dev Cert.ModulateReferenceIdeal.nD,
          r.2.mem ((c.tc : Thread Cert.ModulateReferenceIdeal.nD Cert.ModulateReferenceIdeal.τ).loc Cert.ModulateReferenceIdeal.main_v11) = v0 c
          ∧ r.2.mem ((c.tc : Thread Cert.ModulateReferenceIdeal.nD Cert.ModulateReferenceIdeal.τ).loc Cert.ModulateReferenceIdeal.main_arg0) = m' ((c.tc : Thread Cert.ModulateReferenceIdeal.nD Cert.ModulateReferenceIdeal.τ).loc Cert.ModulateReferenceIdeal.main_arg0)
          ∧ r.2.mem ((c.tc : Thread Cert.ModulateReferenceIdeal.nD Cert.ModulateReferenceIdeal.τ).loc Cert.ModulateReferenceIdeal.main_arg1) = m' ((c.tc : Thread Cert.ModulateReferenceIdeal.nD Cert.ModulateReferenceIdeal.τ).loc Cert.ModulateReferenceIdeal.main_arg1)
          ∧ r.2.mem ((c.tc : Thread Cert.ModulateReferenceIdeal.nD Cert.ModulateReferenceIdeal.τ).loc Cert.ModulateReferenceIdeal.main_arg2) = m' ((c.tc : Thread Cert.ModulateReferenceIdeal.nD Cert.ModulateReferenceIdeal.τ).loc Cert.ModulateReferenceIdeal.main_arg2)
          ∧ r.2.mem ((c.tc : Thread Cert.ModulateReferenceIdeal.nD Cert.ModulateReferenceIdeal.τ).loc Cert.ModulateReferenceIdeal.main_arg3) = m' ((c.tc : Thread Cert.ModulateReferenceIdeal.nD Cert.ModulateReferenceIdeal.τ).loc Cert.ModulateReferenceIdeal.main_arg3))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)
      ∧ m' ((c.tc : Thread Cert.ProjectReferenceIdeal.nD Cert.ProjectReferenceIdeal.τ).loc Cert.ProjectReferenceIdeal.main_arg8) = m ((c.tc : Thread Cert.ProjectIdeal.nD Cert.ProjectIdeal.τ).loc Cert.ProjectIdeal.main_arg8)
      ∧ m' ((c.tc : Thread Cert.ProjectReferenceIdeal.nD Cert.ProjectReferenceIdeal.τ).loc Cert.ProjectReferenceIdeal.main_arg9) = m ((c.tc : Thread Cert.ProjectIdeal.nD Cert.ProjectIdeal.τ).loc Cert.ProjectIdeal.main_arg9)
      ∧ m' ((c.tc : Thread Cert.ProjectReferenceIdeal.nD Cert.ProjectReferenceIdeal.τ).loc Cert.ProjectReferenceIdeal.main_arg10) = m ((c.tc : Thread Cert.ProjectIdeal.nD Cert.ProjectIdeal.τ).loc Cert.ProjectIdeal.main_arg10)
      ∧ m' ((c.tc : Thread Cert.ProjectReferenceIdeal.nD Cert.ProjectReferenceIdeal.τ).loc Cert.ProjectReferenceIdeal.main_arg11) = m ((c.tc : Thread Cert.ProjectIdeal.nD Cert.ProjectIdeal.τ).loc Cert.ProjectIdeal.main_arg11)
      ∧ m' ((c.tc : Thread Cert.ProjectReferenceIdeal.nD Cert.ProjectReferenceIdeal.τ).loc Cert.ProjectReferenceIdeal.main_arg12) = m ((c.tc : Thread Cert.ProjectIdeal.nD Cert.ProjectIdeal.τ).loc Cert.ProjectIdeal.main_arg12)
      ∧ m' ((c.tc : Thread Cert.ProjectReferenceIdeal.nD Cert.ProjectReferenceIdeal.τ).loc Cert.ProjectReferenceIdeal.main_arg13) = m ((c.tc : Thread Cert.ProjectIdeal.nD Cert.ProjectIdeal.τ).loc Cert.ProjectIdeal.main_arg13)
      ∧ m' ((c.tc : Thread Cert.ProjectReferenceIdeal.nD Cert.ProjectReferenceIdeal.τ).loc Cert.ProjectReferenceIdeal.main_arg14) = m ((c.tc : Thread Cert.ProjectIdeal.nD Cert.ProjectIdeal.τ).loc Cert.ProjectIdeal.main_arg14)
      ∧ m' ((c.tc : Thread Cert.ProjectReferenceIdeal.nD Cert.ProjectReferenceIdeal.τ).loc Cert.ProjectReferenceIdeal.main_arg15) = m ((c.tc : Thread Cert.ProjectIdeal.nD Cert.ProjectIdeal.τ).loc Cert.ProjectIdeal.main_arg15)
      ∧ m' ((c.tc : Thread Cert.ProjectReferenceIdeal.nD Cert.ProjectReferenceIdeal.τ).loc Cert.ProjectReferenceIdeal.main_arg16) = m ((c.tc : Thread Cert.ProjectIdeal.nD Cert.ProjectIdeal.τ).loc Cert.ProjectIdeal.main_arg16)
      ∧ m' ((c.tc : Thread Cert.ProjectReferenceIdeal.nD Cert.ProjectReferenceIdeal.τ).loc Cert.ProjectReferenceIdeal.main_arg17) = m ((c.tc : Thread Cert.ProjectIdeal.nD Cert.ProjectIdeal.τ).loc Cert.ProjectIdeal.main_arg17)
      ∧ m' ((c.tc : Thread Cert.ProjectReferenceIdeal.nD Cert.ProjectReferenceIdeal.τ).loc Cert.ProjectReferenceIdeal.main_arg18) = m ((c.tc : Thread Cert.ProjectIdeal.nD Cert.ProjectIdeal.τ).loc Cert.ProjectIdeal.main_arg18)
      ∧ m' ((c.tc : Thread Cert.ProjectReferenceIdeal.nD Cert.ProjectReferenceIdeal.τ).loc Cert.ProjectReferenceIdeal.main_arg19) = m ((c.tc : Thread Cert.ProjectIdeal.nD Cert.ProjectIdeal.τ).loc Cert.ProjectIdeal.main_arg19)
      ∧ m' ((c.tc : Thread Cert.ProjectReferenceIdeal.nD Cert.ProjectReferenceIdeal.τ).loc Cert.ProjectReferenceIdeal.main_arg20) = m ((c.tc : Thread Cert.ProjectIdeal.nD Cert.ProjectIdeal.τ).loc Cert.ProjectIdeal.main_arg20)
      ∧ m' ((c.tc : Thread Cert.ProjectReferenceIdeal.nD Cert.ProjectReferenceIdeal.τ).loc Cert.ProjectReferenceIdeal.main_arg21) = m ((c.tc : Thread Cert.ProjectIdeal.nD Cert.ProjectIdeal.τ).loc Cert.ProjectIdeal.main_arg21)) →
    ∃ (v0 : (c : Dev Cert.ProjectIdeal.nD) → Buf (Elt Ideal) ((c.tc : Thread Cert.ProjectIdeal.nD Cert.ProjectIdeal.τ).loc Cert.ProjectIdeal.main_v87_2)) (v1 : (c : Dev Cert.ProjectIdeal.nD) → Buf (Elt Ideal) ((c.tc : Thread Cert.ProjectIdeal.nD Cert.ProjectIdeal.τ).loc Cert.ProjectIdeal.main_v87_5)) (v2 : (c : Dev Cert.ProjectIdeal.nD) → Buf (Elt Ideal) ((c.tc : Thread Cert.ProjectIdeal.nD Cert.ProjectIdeal.τ).loc Cert.ProjectIdeal.main_v87_7)) (v3 : (c : Dev Cert.ProjectIdeal.nD) → Buf (Elt Ideal) ((c.tc : Thread Cert.ProjectIdeal.nD Cert.ProjectIdeal.τ).loc Cert.ProjectIdeal.main_v87_8)) (v4 : (c : Dev Cert.ProjectIdeal.nD) → Buf (Elt Ideal) ((c.tc : Thread Cert.ProjectIdeal.nD Cert.ProjectIdeal.τ).loc Cert.ProjectIdeal.main_v87_9)) (v5 : (c : Dev Cert.ProjectIdeal.nD) → Buf (Elt Ideal) ((c.tc : Thread Cert.ProjectIdeal.nD Cert.ProjectIdeal.τ).loc Cert.ProjectIdeal.main_v87_10)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v87_2) = v0 c
          ∧ r.2.mem ((c.tc : Thread Cert.ProjectIdeal.nD Cert.ProjectIdeal.τ).loc Cert.ProjectIdeal.main_v87_5) = v1 c
          ∧ r.2.mem ((c.tc : Thread Cert.ProjectIdeal.nD Cert.ProjectIdeal.τ).loc Cert.ProjectIdeal.main_v87_7) = v2 c
          ∧ r.2.mem ((c.tc : Thread Cert.ProjectIdeal.nD Cert.ProjectIdeal.τ).loc Cert.ProjectIdeal.main_v87_8) = v3 c
          ∧ r.2.mem ((c.tc : Thread Cert.ProjectIdeal.nD Cert.ProjectIdeal.τ).loc Cert.ProjectIdeal.main_v87_9) = v4 c
          ∧ r.2.mem ((c.tc : Thread Cert.ProjectIdeal.nD Cert.ProjectIdeal.τ).loc Cert.ProjectIdeal.main_v87_10) = v5 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
          ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
          ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
          ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11)
          ∧ r.2.mem ((c.tc : Thread Cert.ProjectIdeal.nD Cert.ProjectIdeal.τ).loc Cert.ProjectIdeal.main_arg12) = m ((c.tc : Thread Cert.ProjectIdeal.nD Cert.ProjectIdeal.τ).loc Cert.ProjectIdeal.main_arg12)
          ∧ r.2.mem ((c.tc : Thread Cert.ProjectIdeal.nD Cert.ProjectIdeal.τ).loc Cert.ProjectIdeal.main_arg13) = m ((c.tc : Thread Cert.ProjectIdeal.nD Cert.ProjectIdeal.τ).loc Cert.ProjectIdeal.main_arg13)
          ∧ r.2.mem ((c.tc : Thread Cert.ProjectIdeal.nD Cert.ProjectIdeal.τ).loc Cert.ProjectIdeal.main_arg14) = m ((c.tc : Thread Cert.ProjectIdeal.nD Cert.ProjectIdeal.τ).loc Cert.ProjectIdeal.main_arg14)
          ∧ r.2.mem ((c.tc : Thread Cert.ProjectIdeal.nD Cert.ProjectIdeal.τ).loc Cert.ProjectIdeal.main_arg15) = m ((c.tc : Thread Cert.ProjectIdeal.nD Cert.ProjectIdeal.τ).loc Cert.ProjectIdeal.main_arg15)
          ∧ r.2.mem ((c.tc : Thread Cert.ProjectIdeal.nD Cert.ProjectIdeal.τ).loc Cert.ProjectIdeal.main_arg16) = m ((c.tc : Thread Cert.ProjectIdeal.nD Cert.ProjectIdeal.τ).loc Cert.ProjectIdeal.main_arg16)
          ∧ r.2.mem ((c.tc : Thread Cert.ProjectIdeal.nD Cert.ProjectIdeal.τ).loc Cert.ProjectIdeal.main_arg17) = m ((c.tc : Thread Cert.ProjectIdeal.nD Cert.ProjectIdeal.τ).loc Cert.ProjectIdeal.main_arg17)
          ∧ r.2.mem ((c.tc : Thread Cert.ProjectIdeal.nD Cert.ProjectIdeal.τ).loc Cert.ProjectIdeal.main_arg18) = m ((c.tc : Thread Cert.ProjectIdeal.nD Cert.ProjectIdeal.τ).loc Cert.ProjectIdeal.main_arg18)
          ∧ r.2.mem ((c.tc : Thread Cert.ProjectIdeal.nD Cert.ProjectIdeal.τ).loc Cert.ProjectIdeal.main_arg19) = m ((c.tc : Thread Cert.ProjectIdeal.nD Cert.ProjectIdeal.τ).loc Cert.ProjectIdeal.main_arg19)
          ∧ r.2.mem ((c.tc : Thread Cert.ProjectIdeal.nD Cert.ProjectIdeal.τ).loc Cert.ProjectIdeal.main_arg20) = m ((c.tc : Thread Cert.ProjectIdeal.nD Cert.ProjectIdeal.τ).loc Cert.ProjectIdeal.main_arg20)
          ∧ r.2.mem ((c.tc : Thread Cert.ProjectIdeal.nD Cert.ProjectIdeal.τ).loc Cert.ProjectIdeal.main_arg21) = m ((c.tc : Thread Cert.ProjectIdeal.nD Cert.ProjectIdeal.τ).loc Cert.ProjectIdeal.main_arg21))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v63) = v0 c
          ∧ r.2.mem ((c.tc : Thread Cert.ProjectReferenceIdeal.nD Cert.ProjectReferenceIdeal.τ).loc Cert.ProjectReferenceIdeal.main_v64) = v1 c
          ∧ r.2.mem ((c.tc : Thread Cert.ProjectReferenceIdeal.nD Cert.ProjectReferenceIdeal.τ).loc Cert.ProjectReferenceIdeal.main_v36) = v2 c
          ∧ r.2.mem ((c.tc : Thread Cert.ProjectReferenceIdeal.nD Cert.ProjectReferenceIdeal.τ).loc Cert.ProjectReferenceIdeal.main_v37) = v3 c
          ∧ r.2.mem ((c.tc : Thread Cert.ProjectReferenceIdeal.nD Cert.ProjectReferenceIdeal.τ).loc Cert.ProjectReferenceIdeal.main_v65) = v4 c
          ∧ r.2.mem ((c.tc : Thread Cert.ProjectReferenceIdeal.nD Cert.ProjectReferenceIdeal.τ).loc Cert.ProjectReferenceIdeal.main_v39) = v5 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7)
          ∧ r.2.mem ((c.tc : Thread Cert.ProjectReferenceIdeal.nD Cert.ProjectReferenceIdeal.τ).loc Cert.ProjectReferenceIdeal.main_arg8) = m' ((c.tc : Thread Cert.ProjectReferenceIdeal.nD Cert.ProjectReferenceIdeal.τ).loc Cert.ProjectReferenceIdeal.main_arg8)
          ∧ r.2.mem ((c.tc : Thread Cert.ProjectReferenceIdeal.nD Cert.ProjectReferenceIdeal.τ).loc Cert.ProjectReferenceIdeal.main_arg9) = m' ((c.tc : Thread Cert.ProjectReferenceIdeal.nD Cert.ProjectReferenceIdeal.τ).loc Cert.ProjectReferenceIdeal.main_arg9)
          ∧ r.2.mem ((c.tc : Thread Cert.ProjectReferenceIdeal.nD Cert.ProjectReferenceIdeal.τ).loc Cert.ProjectReferenceIdeal.main_arg10) = m' ((c.tc : Thread Cert.ProjectReferenceIdeal.nD Cert.ProjectReferenceIdeal.τ).loc Cert.ProjectReferenceIdeal.main_arg10)
          ∧ r.2.mem ((c.tc : Thread Cert.ProjectReferenceIdeal.nD Cert.ProjectReferenceIdeal.τ).loc Cert.ProjectReferenceIdeal.main_arg11) = m' ((c.tc : Thread Cert.ProjectReferenceIdeal.nD Cert.ProjectReferenceIdeal.τ).loc Cert.ProjectReferenceIdeal.main_arg11)
          ∧ r.2.mem ((c.tc : Thread Cert.ProjectReferenceIdeal.nD Cert.ProjectReferenceIdeal.τ).loc Cert.ProjectReferenceIdeal.main_arg12) = m' ((c.tc : Thread Cert.ProjectReferenceIdeal.nD Cert.ProjectReferenceIdeal.τ).loc Cert.ProjectReferenceIdeal.main_arg12)
          ∧ r.2.mem ((c.tc : Thread Cert.ProjectReferenceIdeal.nD Cert.ProjectReferenceIdeal.τ).loc Cert.ProjectReferenceIdeal.main_arg13) = m' ((c.tc : Thread Cert.ProjectReferenceIdeal.nD Cert.ProjectReferenceIdeal.τ).loc Cert.ProjectReferenceIdeal.main_arg13)
          ∧ r.2.mem ((c.tc : Thread Cert.ProjectReferenceIdeal.nD Cert.ProjectReferenceIdeal.τ).loc Cert.ProjectReferenceIdeal.main_arg14) = m' ((c.tc : Thread Cert.ProjectReferenceIdeal.nD Cert.ProjectReferenceIdeal.τ).loc Cert.ProjectReferenceIdeal.main_arg14)
          ∧ r.2.mem ((c.tc : Thread Cert.ProjectReferenceIdeal.nD Cert.ProjectReferenceIdeal.τ).loc Cert.ProjectReferenceIdeal.main_arg15) = m' ((c.tc : Thread Cert.ProjectReferenceIdeal.nD Cert.ProjectReferenceIdeal.τ).loc Cert.ProjectReferenceIdeal.main_arg15)
          ∧ r.2.mem ((c.tc : Thread Cert.ProjectReferenceIdeal.nD Cert.ProjectReferenceIdeal.τ).loc Cert.ProjectReferenceIdeal.main_arg16) = m' ((c.tc : Thread Cert.ProjectReferenceIdeal.nD Cert.ProjectReferenceIdeal.τ).loc Cert.ProjectReferenceIdeal.main_arg16)
          ∧ r.2.mem ((c.tc : Thread Cert.ProjectReferenceIdeal.nD Cert.ProjectReferenceIdeal.τ).loc Cert.ProjectReferenceIdeal.main_arg17) = m' ((c.tc : Thread Cert.ProjectReferenceIdeal.nD Cert.ProjectReferenceIdeal.τ).loc Cert.ProjectReferenceIdeal.main_arg17)
          ∧ r.2.mem ((c.tc : Thread Cert.ProjectReferenceIdeal.nD Cert.ProjectReferenceIdeal.τ).loc Cert.ProjectReferenceIdeal.main_arg18) = m' ((c.tc : Thread Cert.ProjectReferenceIdeal.nD Cert.ProjectReferenceIdeal.τ).loc Cert.ProjectReferenceIdeal.main_arg18)
          ∧ r.2.mem ((c.tc : Thread Cert.ProjectReferenceIdeal.nD Cert.ProjectReferenceIdeal.τ).loc Cert.ProjectReferenceIdeal.main_arg19) = m' ((c.tc : Thread Cert.ProjectReferenceIdeal.nD Cert.ProjectReferenceIdeal.τ).loc Cert.ProjectReferenceIdeal.main_arg19)
          ∧ r.2.mem ((c.tc : Thread Cert.ProjectReferenceIdeal.nD Cert.ProjectReferenceIdeal.τ).loc Cert.ProjectReferenceIdeal.main_arg20) = m' ((c.tc : Thread Cert.ProjectReferenceIdeal.nD Cert.ProjectReferenceIdeal.τ).loc Cert.ProjectReferenceIdeal.main_arg20)
          ∧ r.2.mem ((c.tc : Thread Cert.ProjectReferenceIdeal.nD Cert.ProjectReferenceIdeal.τ).loc Cert.ProjectReferenceIdeal.main_arg21) = m' ((c.tc : Thread Cert.ProjectReferenceIdeal.nD Cert.ProjectReferenceIdeal.τ).loc Cert.ProjectReferenceIdeal.main_arg21))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hLatent : Cert.Latent.Facts) (hLatentIdeal : Cert.LatentIdeal.Facts) (hLatentReferenceIdeal : Cert.LatentReferenceIdeal.Facts) (hModulate : Cert.Modulate.Facts) (hModulateIdeal : Cert.ModulateIdeal.Facts) (hModulateReferenceIdeal : Cert.ModulateReferenceIdeal.Facts) (hProject : Cert.Project.Facts) (hProjectIdeal : Cert.ProjectIdeal.Facts) (hProjectReferenceIdeal : Cert.ProjectReferenceIdeal.Facts) (hPre_finite : Cert.Pre_finite.Facts) (hPre_finite_latent : Cert.Pre_finite_latent.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Latent (hLatent := hLatent)
    ∧ quiescent_LatentIdeal (hLatentIdeal := hLatentIdeal)
    ∧ quiescent_LatentIdeal_pre_finite_latent (hLatentIdeal := hLatentIdeal) (hPre_finite_latent := hPre_finite_latent)
    ∧ quiescent_LatentReferenceIdeal (hLatentReferenceIdeal := hLatentReferenceIdeal)
    ∧ quiescent_LatentReferenceIdeal_pre_finite_latent (hLatentReferenceIdeal := hLatentReferenceIdeal) (hPre_finite_latent := hPre_finite_latent)
    ∧ quiescent_Modulate (hModulate := hModulate)
    ∧ quiescent_ModulateIdeal (hModulateIdeal := hModulateIdeal)
    ∧ quiescent_ModulateReferenceIdeal (hModulateReferenceIdeal := hModulateReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Latent_LatentIdeal
    ∧ algebraic_LatentIdeal_LatentReferenceIdeal_pre_finite_latent (hLatentIdeal := hLatentIdeal) (hLatentReferenceIdeal := hLatentReferenceIdeal) (hPre_finite_latent := hPre_finite_latent)
    ∧ preserves_Modulate_ModulateIdeal
    ∧ algebraic_ModulateIdeal_ModulateReferenceIdeal (hModulateIdeal := hModulateIdeal) (hModulateReferenceIdeal := hModulateReferenceIdeal)
    ∧ preserves_Project_ProjectIdeal
    ∧ algebraic_ProjectIdeal_ProjectReferenceIdeal (hProjectIdeal := hProjectIdeal) (hProjectReferenceIdeal := hProjectReferenceIdeal)
-- ==== Pre_finite.lean ====
abbrev S4x4096x8x128 : Shape := ⟨4, ![4, 4096, 8, 128]⟩
abbrev S4x256x2x128 : Shape := ⟨4, ![4, 256, 2, 128]⟩
abbrev S4x4096x2x128 : Shape := ⟨4, ![4, 4096, 2, 128]⟩
abbrev S2x2048x5632 : Shape := ⟨3, ![2, 2048, 5632]⟩
abbrev S2x5632x2048 : Shape := ⟨3, ![2, 5632, 2048]⟩
abbrev S2x2048x2048 : Shape := ⟨3, ![2, 2048, 2048]⟩
abbrev S_ : Shape := ⟨0, ![]⟩

class Facts : Prop where
  bcast_S_S4x4096x8x128 : S_.BroadcastsInDim S4x4096x8x128 (![] : Fin 0 → Fin S4x4096x8x128.rank)
  bcast_S_S4x256x2x128 : S_.BroadcastsInDim S4x256x2x128 (![] : Fin 0 → Fin S4x256x2x128.rank)
  bcast_S_S4x4096x2x128 : S_.BroadcastsInDim S4x4096x2x128 (![] : Fin 0 → Fin S4x4096x2x128.rank)

variable [Facts]

def fn {F : FTy → Type} [FloatOps F] (main_arg0 : FVec F S4x4096x8x128 .f32) (main_arg1 : FVec F S4x256x2x128 .f32) (main_arg2 : FVec F S4x256x2x128 .f32) (main_arg3 : FVec F S4x4096x2x128 .f32) (main_arg4 : FVec F S4x4096x2x128 .f32) (main_arg5 : FVec F S2x2048x5632 .f32) (main_arg6 : FVec F S2x2048x5632 .f32) (main_arg7 : FVec F S2x5632x2048 .f32) (main_arg8 : FVec F S2x2048x2048 .f32) : IVec S4x4096x8x128 1 × IVec S4x256x2x128 1 × IVec S4x4096x2x128 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_v3 : FVec F S4x256x2x128 .f32 := Host.absf main_arg1
  let main_cst_0 : FVec F S_ .f32 := constant S_ .f32 0x7F800000#32
  let main_v4 : FVec F S4x256x2x128 .f32 := broadcastInDim S4x256x2x128 ![] bcast_S_S4x256x2x128 main_cst_0
  let main_v5 : IVec S4x256x2x128 1 := cmpf .olt main_v3 main_v4
  let main_v6 : FVec F S4x4096x2x128 .f32 := Host.absf main_arg3
  let main_cst_1 : FVec F S_ .f32 := constant S_ .f32 0x7F800000#32
  let main_v7 : FVec F S4x4096x2x128 .f32 := broadcastInDim S4x4096x2x128 ![] bcast_S_S4x4096x2x128 main_cst_1
  let main_v8 : IVec S4x4096x2x128 1 := cmpf .olt main_v6 main_v7
  (main_v2, main_v5, main_v8)
-- ==== Pre_finite_latent.lean ====
abbrev S4x4096x4x192 : Shape := ⟨4, ![4, 4096, 4, 192]⟩
abbrev S4x256x4x192 : Shape := ⟨4, ![4, 256, 4, 192]⟩
abbrev S4x256x4x128 : Shape := ⟨4, ![4, 256, 4, 128]⟩
abbrev S4x4096x4x128 : Shape := ⟨4, ![4, 4096, 4, 128]⟩
abbrev S_ : Shape := ⟨0, ![]⟩

class Facts : Prop where
  bcast_S_S4x4096x4x192 : S_.BroadcastsInDim S4x4096x4x192 (![] : Fin 0 → Fin S4x4096x4x192.rank)
  bcast_S_S4x256x4x192 : S_.BroadcastsInDim S4x256x4x192 (![] : Fin 0 → Fin S4x256x4x192.rank)

variable [Facts]

def fn {F : FTy → Type} [FloatOps F] (main_arg0 : FVec F S4x4096x4x192 .f32) (main_arg1 : FVec F S4x256x4x192 .f32) (main_arg2 : FVec F S4x256x4x128 .f32) (main_arg3 : FVec F S4x4096x4x192 .f32) (main_arg4 : FVec F S4x4096x4x128 .f32) : IVec S4x4096x4x192 1 × IVec S4x256x4x192 1 × IVec S4x4096x4x192 1 :=
  let main_v0 : FVec F S4x4096x4x192 .f32 := Host.absf main_arg0
  let main_cst : FVec F S_ .f32 := constant S_ .f32 0x7F800000#32
  let main_v1 : FVec F S4x4096x4x192 .f32 := broadcastInDim S4x4096x4x192 ![] bcast_S_S4x4096x4x192 main_cst
  let main_v2 : IVec S4x4096x4x192 1 := cmpf .olt main_v0 main_v1
  let main_v3 : FVec F S4x256x4x192 .f32 := Host.absf main_arg1
  let main_cst_0 : FVec F S_ .f32 := constant S_ .f32 0x7F800000#32
  let main_v4 : FVec F S4x256x4x192 .f32 := broadcastInDim S4x256x4x192 ![] bcast_S_S4x256x4x192 main_cst_0
  let main_v5 : IVec S4x256x4x192 1 := cmpf .olt main_v3 main_v4
  let main_v6 : FVec F S4x4096x4x192 .f32 := Host.absf main_arg3
  let main_cst_1 : FVec F S_ .f32 := constant S_ .f32 0x7F800000#32
  let main_v7 : FVec F S4x4096x4x192 .f32 := broadcastInDim S4x4096x4x192 ![] bcast_S_S4x4096x4x192 main_cst_1
  let main_v8 : IVec S4x4096x4x192 1 := cmpf .olt main_v6 main_v7
  (main_v2, main_v5, main_v8)
-- ==== Kernel.lean ====
abbrev S4x4096x8x128 : Shape := ⟨4, ![4, 4096, 8, 128]⟩
abbrev S4x256x2x128 : Shape := ⟨4, ![4, 256, 2, 128]⟩
abbrev S4x4096x2x128 : Shape := ⟨4, ![4, 4096, 2, 128]⟩
abbrev S2x2048x5632 : Shape := ⟨3, ![2, 2048, 5632]⟩
abbrev S2x5632x2048 : Shape := ⟨3, ![2, 5632, 2048]⟩
abbrev S2x2048x2048 : Shape := ⟨3, ![2, 2048, 2048]⟩
abbrev S4x4096x1024 : Shape := ⟨3, ![4, 4096, 1024]⟩
abbrev S4x256x256 : Shape := ⟨3, ![4, 256, 256]⟩
abbrev S4x4096x256 : Shape := ⟨3, ![4, 4096, 256]⟩
abbrev S2048x5632 : Shape := ⟨2, ![2048, 5632]⟩
abbrev S5632x2048 : Shape := ⟨2, ![5632, 2048]⟩
abbrev S2048x2048 : Shape := ⟨2, ![2048, 2048]⟩
abbrev S1x512x512 : Shape := ⟨3, ![1, 512, 512]⟩
abbrev S1x256x128 : Shape := ⟨3, ![1, 256, 128]⟩
abbrev S1x4096x128 : Shape := ⟨3, ![1, 4096, 128]⟩
abbrev S1x32x5632 : Shape := ⟨3, ![1, 32, 5632]⟩
abbrev S1x176x2048 : Shape := ⟨3, ![1, 176, 2048]⟩
abbrev S1x32x2048 : Shape := ⟨3, ![1, 32, 2048]⟩
abbrev S32x5632 : Shape := ⟨2, ![32, 5632]⟩
abbrev S176x2048 : Shape := ⟨2, ![176, 2048]⟩
abbrev S32x2048 : Shape := ⟨2, ![32, 2048]⟩
abbrev S2048x128 : Shape := ⟨2, ![2048, 128]⟩
abbrev S2x2048x1024 : Shape := ⟨3, ![2, 2048, 1024]⟩
abbrev S2048x1024 : Shape := ⟨2, ![2048, 1024]⟩
abbrev S1x512x128 : Shape := ⟨3, ![1, 512, 128]⟩
abbrev S512x128 : Shape := ⟨2, ![512, 128]⟩
abbrev S1x1024x128 : Shape := ⟨3, ![1, 1024, 128]⟩
abbrev S1024x128 : Shape := ⟨2, ![1024, 128]⟩
abbrev S1x2048x1024 : Shape := ⟨3, ![1, 2048, 1024]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S1024x256 : Shape := ⟨2, ![1024, 256]⟩
abbrev S2048x256 : Shape := ⟨2, ![2048, 256]⟩
abbrev S256x128 : Shape := ⟨2, ![256, 128]⟩
abbrev S1x2048x256 : Shape := ⟨3, ![1, 2048, 256]⟩
abbrev S256x256 : Shape := ⟨2, ![256, 256]⟩

abbrev nBuf : Space → Nat
  | .hbm => 23
  | .vmem => 34
  | .smem => 0
  | _ => 0

abbrev bufTy : (tb : Table) → Fin (tcTables nBuf tb) → BufTy
  | .hbm, ⟨0, _⟩ => ⟨S4x4096x8x128, .f32⟩
  | .hbm, ⟨1, _⟩ => ⟨S4x256x2x128, .f32⟩
  | .hbm, ⟨2, _⟩ => ⟨S4x256x2x128, .f32⟩
  | .hbm, ⟨3, _⟩ => ⟨S4x4096x2x128, .f32⟩
  | .hbm, ⟨4, _⟩ => ⟨S4x4096x2x128, .f32⟩
  | .hbm, ⟨5, _⟩ => ⟨S2x2048x5632, .f32⟩
  | .hbm, ⟨6, _⟩ => ⟨S2x2048x5632, .f32⟩
  | .hbm, ⟨7, _⟩ => ⟨S2x5632x2048, .f32⟩
  | .hbm, ⟨8, _⟩ => ⟨S2x2048x2048, .f32⟩
  | .hbm, ⟨9, _⟩ => ⟨S4x4096x1024, .f32⟩
  | .hbm, ⟨10, _⟩ => ⟨S4x256x2x128, .bf16⟩
  | .hbm, ⟨11, _⟩ => ⟨S4x256x256, .bf16⟩
  | .hbm, ⟨12, _⟩ => ⟨S4x256x2x128, .bf16⟩
  | .hbm, ⟨13, _⟩ => ⟨S4x256x256, .bf16⟩
  | .hbm, ⟨14, _⟩ => ⟨S4x4096x2x128, .bf16⟩
  | .hbm, ⟨15, _⟩ => ⟨S4x4096x256, .bf16⟩
  | .hbm, ⟨16, _⟩ => ⟨S4x4096x2x128, .bf16⟩
  | .hbm, ⟨17, _⟩ => ⟨S4x4096x256, .bf16⟩
  | .hbm, ⟨18, _⟩ => ⟨S4x4096x1024, .bf16⟩
  | .hbm, ⟨19, _⟩ => ⟨S2048x5632, .bf16⟩
  | .hbm, ⟨20, _⟩ => ⟨S2048x5632, .bf16⟩
  | .hbm, ⟨21, _⟩ => ⟨S5632x2048, .bf16⟩
  | .hbm, ⟨22, _⟩ => ⟨S2048x2048, .bf16⟩
  | .local _ .vmem, ⟨0, _⟩ => ⟨S1x512x512, .f32⟩
  | .local _ .vmem, ⟨1, _⟩ => ⟨S1x512x512, .f32⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x32x5632, .f32⟩
  | .local _ .vmem, ⟨11, _⟩ => ⟨S1x32x5632, .f32⟩
  | .local _ .vmem, ⟨12, _⟩ => ⟨S1x32x5632, .f32⟩
  | .local _ .vmem, ⟨13, _⟩ => ⟨S1x32x5632, .f32⟩
  | .local _ .vmem, ⟨14, _⟩ => ⟨S1x176x2048, .f32⟩
  | .local _ .vmem, ⟨15, _⟩ => ⟨S1x176x2048, .f32⟩
  | .local _ .vmem, ⟨16, _⟩ => ⟨S1x32x2048, .f32⟩
  | .local _ .vmem, ⟨17, _⟩ => ⟨S1x32x2048, .f32⟩
  | .local _ .vmem, ⟨18, _⟩ => ⟨S1x512x512, .bf16⟩
  | .local _ .vmem, ⟨19, _⟩ => ⟨S1x512x512, .bf16⟩
  | .local _ .vmem, ⟨20, _⟩ => ⟨S32x5632, .bf16⟩
  | .local _ .vmem, ⟨21, _⟩ => ⟨S32x5632, .bf16⟩
  | .local _ .vmem, ⟨22, _⟩ => ⟨S32x5632, .bf16⟩
  | .local _ .vmem, ⟨23, _⟩ => ⟨S32x5632, .bf16⟩
  | .local _ .vmem, ⟨24, _⟩ => ⟨S176x2048, .bf16⟩
  | .local _ .vmem, ⟨25, _⟩ => ⟨S176x2048, .bf16⟩
  | .local _ .vmem, ⟨26, _⟩ => ⟨S32x2048, .bf16⟩
  | .local _ .vmem, ⟨27, _⟩ => ⟨S32x2048, .bf16⟩
  | .local _ .vmem, ⟨28, _⟩ => ⟨S2048x128, .bf16⟩
  | .local _ .vmem, ⟨29, _⟩ => ⟨S2x2048x1024, .f32⟩
  | .local _ .vmem, ⟨30, _⟩ => ⟨S2048x1024, .bf16⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  let c0_i32_7 : BitVec 32 := 0#32
  ![c0_i32_5.toNat, v20.toNat, c0_i32_6.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  let c0_i32_7 : BitVec 32 := 0#32
  ![c0_i32_5.toNat, v20.toNat, c0_i32_6.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c2_i32_0 : BitVec 32 := 2#32
  let v4 : BitVec 32 := Scalar.divsi v3 c2_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v3 c2_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  ![c0_i32_5.toNat, v20.toNat, c0_i32_6.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  let c0_i32_7 : BitVec 32 := 0#32
  ![c0_i32_5.toNat, v20.toNat, c0_i32_6.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c2_i32_0 : BitVec 32 := 2#32
  let v4 : BitVec 32 := Scalar.divsi v3 c2_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v3 c2_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x32x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x32x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S32x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S32x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S176x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== KernelIdeal.lean ====
variable {F : FTy → Type} [FloatOps F] [Named F]
def κ : String → Option EReal := fun
  | "qscale" => some ((((Real.log 2) * (Real.sqrt 128))⁻¹ : ℝ) : EReal)
  | _ => none
-- ==== ReferenceIdeal.lean ====
abbrev S4x4096x8x128 : Shape := ⟨4, ![4, 4096, 8, 128]⟩
abbrev S4x256x2x128 : Shape := ⟨4, ![4, 256, 2, 128]⟩
abbrev S4x4096x2x128 : Shape := ⟨4, ![4, 4096, 2, 128]⟩
abbrev S2x2048x5632 : Shape := ⟨3, ![2, 2048, 5632]⟩
abbrev S2x5632x2048 : Shape := ⟨3, ![2, 5632, 2048]⟩
abbrev S2x2048x2048 : Shape := ⟨3, ![2, 2048, 2048]⟩
abbrev S4x4352x2x128 : Shape := ⟨4, ![4, 4352, 2, 128]⟩
abbrev S4x4096x2x4x128 : Shape := ⟨5, ![4, 4096, 2, 4, 128]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S4x4096x1024 : Shape := ⟨3, ![4, 4096, 1024]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S1x2048x2048 : Shape := ⟨3, ![1, 2048, 2048]⟩
abbrev S2048x2048 : Shape := ⟨2, ![2048, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x256x2x128, .f32⟩
  | .hbm, ⟨2, _⟩ => ⟨S4x256x2x128, .f32⟩
  | .hbm, ⟨3, _⟩ => ⟨S4x4096x2x128, .f32⟩
  | .hbm, ⟨4, _⟩ => ⟨S4x4096x2x128, .f32⟩
  | .hbm, ⟨5, _⟩ => ⟨S2x2048x5632, .f32⟩
  | .hbm, ⟨6, _⟩ => ⟨S2x2048x5632, .f32⟩
  | .hbm, ⟨7, _⟩ => ⟨S2x5632x2048, .f32⟩
  | .hbm, ⟨8, _⟩ => ⟨S2x2048x2048, .f32⟩
  | .hbm, ⟨9, _⟩ => ⟨S4x4352x2x128, .f32⟩
  | .hbm, ⟨10, _⟩ => ⟨S4x4352x2x128, .f32⟩
  | .hbm, ⟨11, _⟩ => ⟨S4x4096x2x4x128, .f32⟩
  | .hbm, ⟨12, _⟩ => ⟨S4x2x4352x4096x4, .f32⟩
  | .hbm, ⟨13, _⟩ => ⟨S4x2x4x4096x4352, .f32⟩
  | .hbm, ⟨14, _⟩ => ⟨S_, .f32⟩
  | .hbm, ⟨15, _⟩ => ⟨S_, .f32⟩
  | .hbm, ⟨16, _⟩ => ⟨S4x2x4x4096x4352, .f32⟩
  | .hbm, ⟨17, _⟩ => ⟨S4x2x4x4096x4352, .f32⟩
  | .hbm, ⟨18, _⟩ => ⟨S_, .f32⟩
  | .hbm, ⟨19, _⟩ => ⟨S4x2x4x4096, .f32⟩
  | .hbm, ⟨20, _⟩ => ⟨S_, .f32⟩
  | .hbm, ⟨21, _⟩ => ⟨S4x2x4x4096, .f32⟩
  | .hbm, ⟨22, _⟩ => ⟨S4x2x4x4096, .f32⟩
  | .hbm, ⟨23, _⟩ => ⟨S4x2x4x4096x1, .f32⟩
  | .hbm, ⟨24, _⟩ => ⟨S4x2x4x4096x4352, .f32⟩
  | .hbm, ⟨25, _⟩ => ⟨S4x2x4x4096x4352, .f32⟩
  | .hbm, ⟨26, _⟩ => ⟨S4x2x4x4096x4352, .f32⟩
  | .hbm, ⟨27, _⟩ => ⟨S_, .f32⟩
  | .hbm, ⟨28, _⟩ => ⟨S4x2x4x4096, .f32⟩
  | .hbm, ⟨29, _⟩ => ⟨S4x2x4x4096x1, .f32⟩
  | .hbm, ⟨30, _⟩ => ⟨S4x2x4x4096x4352, .f32⟩
  | .hbm, ⟨31, _⟩ => ⟨S4x2x4x4096x4352, .f32⟩
  | .hbm, ⟨32, _⟩ => ⟨S4x2x128x4x4096, .f32⟩
  | .hbm, ⟨33, _⟩ => ⟨S4x4096x2x4x128, .f32⟩
  | .hbm, ⟨34, _⟩ => ⟨S4x4096x1024, .f32⟩
  | .hbm, ⟨35, _⟩ => ⟨S4x4096x1024, .bf16⟩
  | .hbm, ⟨36, _⟩ => ⟨S1x2048x5632, .f32⟩
  | .hbm, ⟨37, _⟩ => ⟨S2048x5632, .f32⟩
  | .hbm, ⟨38, _⟩ => ⟨S2048x5632, .bf16⟩
  | .hbm, ⟨39, _⟩ => ⟨S1x2048x5632, .f32⟩
  | .hbm, ⟨40, _⟩ => ⟨S2048x5632, .f32⟩
  | .hbm, ⟨41, _⟩ => ⟨S2048x5632, .bf16⟩
  | .hbm, ⟨42, _⟩ => ⟨S1x5632x2048, .f32⟩
  | .hbm, ⟨43, _⟩ => ⟨S5632x2048, .f32⟩
  | .hbm, ⟨44, _⟩ => ⟨S5632x2048, .bf16⟩
  | .hbm, ⟨45, _⟩ => ⟨S1x2048x2048, .f32⟩
  | .hbm, ⟨46, _⟩ => ⟨S2048x2048, .f32⟩
  | .hbm, ⟨47, _⟩ => ⟨S2048x2048, .bf16⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Ffn.lean ====
abbrev S4x4096x2048 : Shape := ⟨3, ![4, 4096, 2048]⟩
abbrev S4x1x12288 : Shape := ⟨3, ![4, 1, 12288]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S1x12288 : Shape := ⟨2, ![1, 12288]⟩
abbrev S4x12288 : Shape := ⟨2, ![4, 12288]⟩
abbrev S3x12288 : Shape := ⟨2, ![3, 12288]⟩
abbrev S8x12288 : Shape := ⟨2, ![8, 12288]⟩
abbrev S8x6x2048 : Shape := ⟨3, ![8, 6, 2048]⟩
abbrev S1x1x2048 : Shape := ⟨3, ![1, 1, 2048]⟩
abbrev S1x512x2048 : Shape := ⟨3, ![1, 512, 2048]⟩
abbrev S1x6x2048 : Shape := ⟨3, ![1, 6, 2048]⟩
abbrev S2048x512 : Shape := ⟨2, ![2048, 512]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S512x512 : Shape := ⟨2, ![512, 512]⟩

abbrev nBuf : Space → Nat
  | .hbm => 18
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x1x12288, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S_, .f32⟩
  | .hbm, ⟨7, _⟩ => ⟨S1x12288, .f32⟩
  | .hbm, ⟨8, _⟩ => ⟨S4x12288, .f32⟩
  | .hbm, ⟨9, _⟩ => ⟨S_, .f32⟩
  | .hbm, ⟨10, _⟩ => ⟨S3x12288, .f32⟩
  | .hbm, ⟨11, _⟩ => ⟨S8x12288, .f32⟩
  | .hbm, ⟨12, _⟩ => ⟨S8x6x2048, .f32⟩
  | .hbm, ⟨13, _⟩ => ⟨S2048x5632, .bf16⟩
  | .hbm, ⟨14, _⟩ => ⟨S2048x5632, .bf16⟩
  | .hbm, ⟨15, _⟩ => ⟨S5632x2048, .bf16⟩
  | .hbm, ⟨16, _⟩ => ⟨S1x1x2048, .f32⟩
  | .hbm, ⟨17, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1x512x2048, .f32⟩
  | .local _ .vmem, ⟨12, _⟩ => ⟨S1x512x2048, .f32⟩
  | .local _ .vmem, ⟨13, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 8, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== FfnReferenceIdeal.lean ====
abbrev S4x4096x2048 : Shape := ⟨3, ![4, 4096, 2048]⟩
abbrev S4x1x12288 : Shape := ⟨3, ![4, 1, 12288]⟩
abbrev S2048 : Shape := ⟨1, ![2048]⟩
abbrev S2048x5632 : Shape := ⟨2, ![2048, 5632]⟩
abbrev S5632x2048 : Shape := ⟨2, ![5632, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5632 : Shape := ⟨3, ![4, 4096, 5632]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x12288, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x5632, .f32⟩
  | .hbm, ⟨36, _⟩ => ⟨S4x4096x5632, .f32⟩
  | .hbm, ⟨37, _⟩ => ⟨S4x4096x5632, .f32⟩
  | .hbm, ⟨38, _⟩ => ⟨S_, .f32⟩
  | .hbm, ⟨39, _⟩ => ⟨S4x4096x5632, .f32⟩
  | .hbm, ⟨40, _⟩ => ⟨S4x4096x5632, .f32⟩
  | .hbm, ⟨41, _⟩ => ⟨S_, .f32⟩
  | .hbm, ⟨42, _⟩ => ⟨S4x4096x5632, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S4x4096x5632, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Merge.lean ====
abbrev S4x4096x8x128 : Shape := ⟨4, ![4, 4096, 8, 128]⟩
abbrev S4x4096x4x128 : Shape := ⟨4, ![4, 4096, 4, 128]⟩
abbrev S4x4096x512 : Shape := ⟨3, ![4, 4096, 512]⟩
abbrev S128 : Shape := ⟨1, ![128]⟩
abbrev S2048x2048 : Shape := ⟨2, ![2048, 2048]⟩
abbrev S4x4096x2048 : Shape := ⟨3, ![4, 4096, 2048]⟩
abbrev S4x1x12288 : Shape := ⟨3, ![4, 1, 12288]⟩
abbrev S4x4096x1024 : Shape := ⟨3, ![4, 4096, 1024]⟩
abbrev S1x4x4096x512 : Shape := ⟨4, ![1, 4, 4096, 512]⟩
abbrev S2x4x4096x512 : Shape := ⟨4, ![2, 4, 4096, 512]⟩
abbrev S_ : Shape := ⟨0, ![]⟩
abbrev S1x12288 : Shape := ⟨2, ![1, 12288]⟩
abbrev S4x12288 : Shape := ⟨2, ![4, 12288]⟩
abbrev S3x12288 : Shape := ⟨2, ![3, 12288]⟩
abbrev S8x12288 : Shape := ⟨2, ![8, 12288]⟩
abbrev S8x6x2048 : Shape := ⟨3, ![8, 6, 2048]⟩
abbrev S1x1x128 : Shape := ⟨3, ![1, 1, 128]⟩
abbrev S1x512x1024 : Shape := ⟨3, ![1, 512, 1024]⟩
abbrev S1x512x512 : Shape := ⟨3, ![1, 512, 512]⟩
abbrev S2x1x512x512 : Shape := ⟨4, ![2, 1, 512, 512]⟩
abbrev S1x512x2048 : Shape := ⟨3, ![1, 512, 2048]⟩
abbrev S1x6x2048 : Shape := ⟨3, ![1, 6, 2048]⟩
abbrev S512x2048 : Shape := ⟨2, ![512, 2048]⟩
abbrev S512x1024 : Shape := ⟨2, ![512, 1024]⟩
abbrev S512x512 : Shape := ⟨2, ![512, 512]⟩
abbrev S1x1x512x128 : Shape := ⟨4, ![1, 1, 512, 128]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S1x512x128 : Shape := ⟨3, ![1, 512, 128]⟩
abbrev S1x1x2048 : Shape := ⟨3, ![1, 1, 2048]⟩
abbrev S1x2048 : Shape := ⟨2, ![1, 2048]⟩

abbrev nBuf : Space → Nat
  | .hbm => 26
  | .vmem => 17
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x4x128, .f32⟩
  | .hbm, ⟨2, _⟩ => ⟨S4x4096x4x128, .f32⟩
  | .hbm, ⟨3, _⟩ => ⟨S4x4096x4x128, .f32⟩
  | .hbm, ⟨4, _⟩ => ⟨S4x4096x512, .f32⟩
  | .hbm, ⟨5, _⟩ => ⟨S128, .f32⟩
  | .hbm, ⟨6, _⟩ => ⟨S2048x2048, .f32⟩
  | .hbm, ⟨7, _⟩ => ⟨S4x4096x2048, .f32⟩
  | .hbm, ⟨8, _⟩ => ⟨S4x1x12288, .f32⟩
  | .hbm, ⟨9, _⟩ => ⟨S4x4096x8x128, .bf16⟩
  | .hbm, ⟨10, _⟩ => ⟨S4x4096x1024, .bf16⟩
  | .hbm, ⟨11, _⟩ => ⟨S4x4096x4x128, .bf16⟩
  | .hbm, ⟨12, _⟩ => ⟨S4x4096x512, .bf16⟩
  | .hbm, ⟨13, _⟩ => ⟨S1x4x4096x512, .f32⟩
  | .hbm, ⟨14, _⟩ => ⟨S1x4x4096x512, .f32⟩
  | .hbm, ⟨15, _⟩ => ⟨S2x4x4096x512, .f32⟩
  | .hbm, ⟨16, _⟩ => ⟨S_, .f32⟩
  | .hbm, ⟨17, _⟩ => ⟨S1x12288, .f32⟩
  | .hbm, ⟨18, _⟩ => ⟨S4x12288, .f32⟩
  | .hbm, ⟨19, _⟩ => ⟨S_, .f32⟩
  | .hbm, ⟨20, _⟩ => ⟨S3x12288, .f32⟩
  | .hbm, ⟨21, _⟩ => ⟨S8x12288, .f32⟩
  | .hbm, ⟨22, _⟩ => ⟨S8x6x2048, .f32⟩
  | .hbm, ⟨23, _⟩ => ⟨S1x1x128, .f32⟩
  | .hbm, ⟨24, _⟩ => ⟨S2048x2048, .bf16⟩
  | .hbm, ⟨25, _⟩ => ⟨S4x4096x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x512, .bf16⟩
  | .local _ .vmem, ⟨3, _⟩ => ⟨S1x512x512, .bf16⟩
  | .local _ .vmem, ⟨4, _⟩ => ⟨S2x1x512x512, .f32⟩
  | .local _ .vmem, ⟨5, _⟩ => ⟨S2x1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x1x128, .f32⟩
  | .local _ .vmem, ⟨9, _⟩ => ⟨S2048x2048, .bf16⟩
  | .local _ .vmem, ⟨10, _⟩ => ⟨S1x512x2048, .f32⟩
  | .local _ .vmem, ⟨11, _⟩ => ⟨S1x512x2048, .f32⟩
  | .local _ .vmem, ⟨12, _⟩ => ⟨S1x6x2048, .f32⟩
  | .local _ .vmem, ⟨13, _⟩ => ⟨S1x6x2048, .f32⟩
  | .local _ .vmem, ⟨14, _⟩ => ⟨S1x512x2048, .f32⟩
  | .local _ .vmem, ⟨15, _⟩ => ⟨S1x512x2048, .f32⟩
  | .local _ .vmem, ⟨16, _⟩ => ⟨S512x2048, .bf16⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeReferenceIdeal.lean ====
abbrev S4x4096x8x128 : Shape := ⟨4, ![4, 4096, 8, 128]⟩
abbrev S4x4096x4x128 : Shape := ⟨4, ![4, 4096, 4, 128]⟩
abbrev S4x4096x512 : Shape := ⟨3, ![4, 4096, 512]⟩
abbrev S128 : Shape := ⟨1, ![128]⟩
abbrev S2048x2048 : Shape := ⟨2, ![2048, 2048]⟩
abbrev S4x4096x2048 : Shape := ⟨3, ![4, 4096, 2048]⟩
abbrev S4x1x12288 : Shape := ⟨3, ![4, 1, 12288]⟩
abbrev S4x1x2048 : Shape := ⟨3, ![4, 1, 2048]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4096x1024 : Shape := ⟨3, ![4, 4096, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x4x128, .f32⟩
  | .hbm, ⟨2, _⟩ => ⟨S4x4096x4x128, .f32⟩
  | .hbm, ⟨3, _⟩ => ⟨S4x4096x4x128, .f32⟩
  | .hbm, ⟨4, _⟩ => ⟨S4x4096x512, .f32⟩
  | .hbm, ⟨5, _⟩ => ⟨S128, .f32⟩
  | .hbm, ⟨6, _⟩ => ⟨S2048x2048, .f32⟩
  | .hbm, ⟨7, _⟩ => ⟨S4x4096x2048, .f32⟩
  | .hbm, ⟨8, _⟩ => ⟨S4x1x12288, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x4096x4x128, .f32⟩
  | .hbm, ⟨16, _⟩ => ⟨S4x4096x4x128, .f32⟩
  | .hbm, ⟨17, _⟩ => ⟨S_, .f32⟩
  | .hbm, ⟨18, _⟩ => ⟨S4x4096x4, .f32⟩
  | .hbm, ⟨19, _⟩ => ⟨S4x4096x4x1, .f32⟩
  | .hbm, ⟨20, _⟩ => ⟨S_, .f32⟩
  | .hbm, ⟨21, _⟩ => ⟨S4x4096x4x1, .f32⟩
  | .hbm, ⟨22, _⟩ => ⟨S4x4096x4x1, .f32⟩
  | .hbm, ⟨23, _⟩ => ⟨S_, .f32⟩
  | .hbm, ⟨24, _⟩ => ⟨S4x4096x4x1, .f32⟩
  | .hbm, ⟨25, _⟩ => ⟨S4x4096x4x1, .f32⟩
  | .hbm, ⟨26, _⟩ => ⟨S4x4096x4x1, .f32⟩
  | .hbm, ⟨27, _⟩ => ⟨S4x4096x4x128, .f32⟩
  | .hbm, ⟨28, _⟩ => ⟨S4x4096x4x128, .f32⟩
  | .hbm, ⟨29, _⟩ => ⟨S1x1x1x128, .f32⟩
  | .hbm, ⟨30, _⟩ => ⟨S4x4096x4x128, .f32⟩
  | .hbm, ⟨31, _⟩ => ⟨S4x4096x4x128, .f32⟩
  | .hbm, ⟨32, _⟩ => ⟨S4x4096x4x128, .f32⟩
  | .hbm, ⟨33, _⟩ => ⟨S4x4096x4x128, .f32⟩
  | .hbm, ⟨34, _⟩ => ⟨S4x4096x4x128, .f32⟩
  | .hbm, ⟨35, _⟩ => ⟨S_, .f32⟩
  | .hbm, ⟨36, _⟩ => ⟨S4x4096x4x128, .f32⟩
  | .hbm, ⟨37, _⟩ => ⟨S4x4096x4x128, .f32⟩
  | .hbm, ⟨38, _⟩ => ⟨S_, .f32⟩
  | .hbm, ⟨39, _⟩ => ⟨S4x4096x4x128, .f32⟩
  | .hbm, ⟨40, _⟩ => ⟨S4x4096x4x128, .f32⟩
  | .hbm, ⟨41, _⟩ => ⟨S4x4096x4x128, .f32⟩
  | .hbm, ⟨42, _⟩ => ⟨S4x4096x4x128, .f32⟩
  | .hbm, ⟨43, _⟩ => ⟨S4x4096x1024, .f32⟩
  | .hbm, ⟨44, _⟩ => ⟨S4x4096x512, .f32⟩
  | .hbm, ⟨45, _⟩ => ⟨S4x4096x512, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Latent.lean ====
abbrev S4x4096x4x192 : Shape := ⟨4, ![4, 4096, 4, 192]⟩
abbrev S4x256x4x192 : Shape := ⟨4, ![4, 256, 4, 192]⟩
abbrev S4x256x4x128 : Shape := ⟨4, ![4, 256, 4, 128]⟩
abbrev S4x4096x4x128 : Shape := ⟨4, ![4, 4096, 4, 128]⟩
abbrev S_ : Shape := ⟨0, ![]⟩
abbrev S4x4096x4x64 : Shape := ⟨4, ![4, 4096, 4, 64]⟩
abbrev S4x4096x4x256 : Shape := ⟨4, ![4, 4096, 4, 256]⟩
abbrev S4x256x4x64 : Shape := ⟨4, ![4, 256, 4, 64]⟩
abbrev S4x256x4x256 : Shape := ⟨4, ![4, 256, 4, 256]⟩
abbrev S4x4096x1024 : Shape := ⟨3, ![4, 4096, 1024]⟩
abbrev S4x256x1024 : Shape := ⟨3, ![4, 256, 1024]⟩
abbrev S4x256x512 : Shape := ⟨3, ![4, 256, 512]⟩
abbrev S4x4096x512 : Shape := ⟨3, ![4, 4096, 512]⟩
abbrev S1x1024x256 : Shape := ⟨3, ![1, 1024, 256]⟩
abbrev S1x256x256 : Shape := ⟨3, ![1, 256, 256]⟩
abbrev S1x256x128 : Shape := ⟨3, ![1, 256, 128]⟩
abbrev S1x4096x256 : Shape := ⟨3, ![1, 4096, 256]⟩
abbrev S1x4096x128 : Shape := ⟨3, ![1, 4096, 128]⟩
abbrev S1x1024x128 : Shape := ⟨3, ![1, 1024, 128]⟩
abbrev S1024x256 : Shape := ⟨2, ![1024, 256]⟩
abbrev S2x1024x1024 : Shape := ⟨3, ![2, 1024, 1024]⟩
abbrev S1024x1024 : Shape := ⟨2, ![1024, 1024]⟩
abbrev S1024x128 : Shape := ⟨2, ![1024, 128]⟩
abbrev S1x1024x1024 : Shape := ⟨3, ![1, 1024, 1024]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S256x256 : Shape := ⟨2, ![256, 256]⟩
abbrev S256x128 : Shape := ⟨2, ![256, 128]⟩

abbrev nBuf : Space → Nat
  | .hbm => 24
  | .vmem => 18
  | .smem => 0
  | _ => 0

abbrev bufTy : (tb : Table) → Fin (tcTables nBuf tb) → BufTy
  | .hbm, ⟨0, _⟩ => ⟨S4x4096x4x192, .f32⟩
  | .hbm, ⟨1, _⟩ => ⟨S4x256x4x192, .f32⟩
  | .hbm, ⟨2, _⟩ => ⟨S4x256x4x128, .f32⟩
  | .hbm, ⟨3, _⟩ => ⟨S4x4096x4x192, .f32⟩
  | .hbm, ⟨4, _⟩ => ⟨S4x4096x4x128, .f32⟩
  | .hbm, ⟨5, _⟩ => ⟨S_, .f32⟩
  | .hbm, ⟨6, _⟩ => ⟨S4x4096x4x64, .f32⟩
  | .hbm, ⟨7, _⟩ => ⟨S4x4096x4x256, .f32⟩
  | .hbm, ⟨8, _⟩ => ⟨S_, .f32⟩
  | .hbm, ⟨9, _⟩ => ⟨S4x256x4x64, .f32⟩
  | .hbm, ⟨10, _⟩ => ⟨S4x256x4x256, .f32⟩
  | .hbm, ⟨11, _⟩ => ⟨S_, .f32⟩
  | .hbm, ⟨12, _⟩ => ⟨S4x4096x4x64, .f32⟩
  | .hbm, ⟨13, _⟩ => ⟨S4x4096x4x256, .f32⟩
  | .hbm, ⟨14, _⟩ => ⟨S4x4096x1024, .f32⟩
  | .hbm, ⟨15, _⟩ => ⟨S4x256x4x256, .bf16⟩
  | .hbm, ⟨16, _⟩ => ⟨S4x256x1024, .bf16⟩
  | .hbm, ⟨17, _⟩ => ⟨S4x4096x4x256, .bf16⟩
  | .hbm, ⟨18, _⟩ => ⟨S4x4096x1024, .bf16⟩
  | .hbm, ⟨19, _⟩ => ⟨S4x256x4x128, .bf16⟩
  | .hbm, ⟨20, _⟩ => ⟨S4x256x512, .bf16⟩
  | .hbm, ⟨21, _⟩ => ⟨S4x4096x4x128, .bf16⟩
  | .hbm, ⟨22, _⟩ => ⟨S4x4096x512, .bf16⟩
  | .hbm, ⟨23, _⟩ => ⟨S4x4096x512, .bf16⟩
  | .local _ .vmem, ⟨0, _⟩ => ⟨S1x1024x256, .f32⟩
  | .local _ .vmem, ⟨1, _⟩ => ⟨S1x1024x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256x128, .bf16⟩
  | .local _ .vmem, ⟨5, _⟩ => ⟨S1x256x128, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1024x256, .bf16⟩
  | .local _ .vmem, ⟨13, _⟩ => ⟨S2x1024x1024, .f32⟩
  | .local _ .vmem, ⟨14, _⟩ => ⟨S1024x1024, .bf16⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S4x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== LatentIdeal.lean ====
variable {F : FTy → Type} [FloatOps F] [Named F]
def κ : String → Option EReal := fun
  | "lscale" => some ((((Real.log 2) * (Real.sqrt 192))⁻¹ : ℝ) : EReal)
  | _ => none
-- ==== LatentReferenceIdeal.lean ====
abbrev S4x4096x4x192 : Shape := ⟨4, ![4, 4096, 4, 192]⟩
abbrev S4x256x4x192 : Shape := ⟨4, ![4, 256, 4, 192]⟩
abbrev S4x256x4x128 : Shape := ⟨4, ![4, 256, 4, 128]⟩
abbrev S4x4096x4x128 : Shape := ⟨4, ![4, 4096, 4, 128]⟩
abbrev S4x4352x4x192 : Shape := ⟨4, ![4, 4352, 4, 192]⟩
abbrev S4x4352x4x128 : Shape := ⟨4, ![4, 4352, 4, 128]⟩
abbrev S4x4x4096x4352 : Shape := ⟨4, ![4, 4, 4096, 4352]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S4x4096x512 : Shape := ⟨3, ![4, 4096, 512]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x4x192, .f32⟩
  | .hbm, ⟨1, _⟩ => ⟨S4x256x4x192, .f32⟩
  | .hbm, ⟨2, _⟩ => ⟨S4x256x4x128, .f32⟩
  | .hbm, ⟨3, _⟩ => ⟨S4x4096x4x192, .f32⟩
  | .hbm, ⟨4, _⟩ => ⟨S4x4096x4x128, .f32⟩
  | .hbm, ⟨5, _⟩ => ⟨S4x4352x4x192, .f32⟩
  | .hbm, ⟨6, _⟩ => ⟨S4x4352x4x128, .f32⟩
  | .hbm, ⟨7, _⟩ => ⟨S4x4x4096x4352, .f32⟩
  | .hbm, ⟨8, _⟩ => ⟨S_, .f32⟩
  | .hbm, ⟨9, _⟩ => ⟨S_, .f32⟩
  | .hbm, ⟨10, _⟩ => ⟨S4x4x4096x4352, .f32⟩
  | .hbm, ⟨11, _⟩ => ⟨S4x4x4096x4352, .f32⟩
  | .hbm, ⟨12, _⟩ => ⟨S_, .f32⟩
  | .hbm, ⟨13, _⟩ => ⟨S4x4x4096, .f32⟩
  | .hbm, ⟨14, _⟩ => ⟨S_, .f32⟩
  | .hbm, ⟨15, _⟩ => ⟨S4x4x4096, .f32⟩
  | .hbm, ⟨16, _⟩ => ⟨S4x4x4096, .f32⟩
  | .hbm, ⟨17, _⟩ => ⟨S4x4x4096x1, .f32⟩
  | .hbm, ⟨18, _⟩ => ⟨S4x4x4096x4352, .f32⟩
  | .hbm, ⟨19, _⟩ => ⟨S4x4x4096x4352, .f32⟩
  | .hbm, ⟨20, _⟩ => ⟨S4x4x4096x4352, .f32⟩
  | .hbm, ⟨21, _⟩ => ⟨S_, .f32⟩
  | .hbm, ⟨22, _⟩ => ⟨S4x4x4096, .f32⟩
  | .hbm, ⟨23, _⟩ => ⟨S4x4x4096x1, .f32⟩
  | .hbm, ⟨24, _⟩ => ⟨S4x4x4096x4352, .f32⟩
  | .hbm, ⟨25, _⟩ => ⟨S4x4x4096x4352, .f32⟩
  | .hbm, ⟨26, _⟩ => ⟨S4x4x128x4096, .f32⟩
  | .hbm, ⟨27, _⟩ => ⟨S4x4096x4x128, .f32⟩
  | .hbm, ⟨28, _⟩ => ⟨S4x4096x512, .f32⟩
  | .hbm, ⟨29, _⟩ => ⟨S4x4096x512, .bf16⟩
  | _, _ => ⟨S4x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Modulate.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x1x12288 : Shape := ⟨3, ![2, 1, 12288]⟩
abbrev S8x12288 : Shape := ⟨2, ![8, 12288]⟩
abbrev S1x2048x1024 : Shape := ⟨3, ![1, 2048, 1024]⟩
abbrev S1x1x1024 : Shape := ⟨3, ![1, 1, 1024]⟩
abbrev S8x1024 : Shape := ⟨2, ![8, 1024]⟩
abbrev S2048x1024 : Shape := ⟨2, ![2048, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S2x1x12288, .f32⟩
  | .hbm, ⟨9, _⟩ => ⟨S8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateReferenceIdeal.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩

abbrev nBuf : Space → Nat
  | .hbm => 25
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S1x2048x12288, .f32⟩
  | .hbm, ⟨18, _⟩ => ⟨S2048x12288, .f32⟩
  | .hbm, ⟨19, _⟩ => ⟨S8x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S8x12288, .f32⟩
  | .hbm, ⟨24, _⟩ => ⟨S8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Project.lean ====
abbrev S4x4096x2048 : Shape := ⟨3, ![4, 4096, 2048]⟩
abbrev S4x1x12288 : Shape := ⟨3, ![4, 1, 12288]⟩
abbrev S2x2048 : Shape := ⟨2, ![2, 2048]⟩
abbrev S2x2048x3936 : Shape := ⟨3, ![2, 2048, 3936]⟩
abbrev S4096x2x32 : Shape := ⟨3, ![4096, 2, 32]⟩
abbrev S4096x2x16 : Shape := ⟨3, ![4096, 2, 16]⟩
abbrev S2x128 : Shape := ⟨2, ![2, 128]⟩
abbrev S2x512 : Shape := ⟨2, ![2, 512]⟩
abbrev S2x256 : Shape := ⟨2, ![2, 256]⟩
abbrev S2x512x768 : Shape := ⟨3, ![2, 512, 768]⟩
abbrev S2x256x1024 : Shape := ⟨3, ![2, 256, 1024]⟩
abbrev S2x64 : Shape := ⟨2, ![2, 64]⟩
abbrev S2x16x256 : Shape := ⟨3, ![2, 16, 256]⟩
abbrev S_ : Shape := ⟨0, ![]⟩
abbrev S1x12288 : Shape := ⟨2, ![1, 12288]⟩
abbrev S4x12288 : Shape := ⟨2, ![4, 12288]⟩
abbrev S3x12288 : Shape := ⟨2, ![3, 12288]⟩
abbrev S8x12288 : Shape := ⟨2, ![8, 12288]⟩
abbrev S8x6x2048 : Shape := ⟨3, ![8, 6, 2048]⟩
abbrev S4096x1x32 : Shape := ⟨3, ![4096, 1, 32]⟩
abbrev S4096x32 : Shape := ⟨2, ![4096, 32]⟩
abbrev S4096x128 : Shape := ⟨2, ![4096, 128]⟩
abbrev S4096x1x16 : Shape := ⟨3, ![4096, 1, 16]⟩
abbrev S4096x16 : Shape := ⟨2, ![4096, 16]⟩
abbrev S4096x64 : Shape := ⟨2, ![4096, 64]⟩
abbrev S2x2048x2304 : Shape := ⟨3, ![2, 2048, 2304]⟩
abbrev S2x2048x64 : Shape := ⟨3, ![2, 2048, 64]⟩
abbrev S2x2048x32 : Shape := ⟨3, ![2, 2048, 32]⟩
abbrev S2x2048x96 : Shape := ⟨3, ![2, 2048, 96]⟩
abbrev S2x2048x1536 : Shape := ⟨3, ![2, 2048, 1536]⟩
abbrev S2x2048x4096 : Shape := ⟨3, ![2, 2048, 4096]⟩
abbrev S2x512x4x192 : Shape := ⟨4, ![2, 512, 4, 192]⟩
abbrev S2x512x4x128 : Shape := ⟨4, ![2, 512, 4, 128]⟩
abbrev S2x512x512 : Shape := ⟨3, ![2, 512, 512]⟩
abbrev S2x512x4x64 : Shape := ⟨4, ![2, 512, 4, 64]⟩
abbrev S2x512x256 : Shape := ⟨3, ![2, 512, 256]⟩
abbrev S2x256x4x256 : Shape := ⟨4, ![2, 256, 4, 256]⟩
abbrev S2x256x4x128 : Shape := ⟨4, ![2, 256, 4, 128]⟩
abbrev S2x256x512 : Shape := ⟨3, ![2, 256, 512]⟩
abbrev S2x128x512 : Shape := ⟨3, ![2, 128, 512]⟩
abbrev S1 : Shape := ⟨1, ![1]⟩
abbrev S2 : Shape := ⟨1, ![2]⟩
abbrev S2x1x128 : Shape := ⟨3, ![2, 1, 128]⟩
abbrev S2x1x512 : Shape := ⟨3, ![2, 1, 512]⟩
abbrev S2x1x256 : Shape := ⟨3, ![2, 1, 256]⟩
abbrev S2x1x64 : Shape := ⟨3, ![2, 1, 64]⟩
abbrev S2x1x2048 : Shape := ⟨3, ![2, 1, 2048]⟩
abbrev S1x2x1x1x1x64 : Shape := ⟨6, ![1, 2, 1, 1, 1, 64]⟩
abbrev S1x2x1x1x2x64 : Shape := ⟨6, ![1, 2, 1, 1, 2, 64]⟩
abbrev S4x4096x1024 : Shape := ⟨3, ![4, 4096, 1024]⟩
abbrev S4x4096x256 : Shape := ⟨3, ![4, 4096, 256]⟩
abbrev S4x4096x512 : Shape := ⟨3, ![4, 4096, 512]⟩
abbrev S1x512x2048 : Shape := ⟨3, ![1, 512, 2048]⟩
abbrev S1x6x2048 : Shape := ⟨3, ![1, 6, 2048]⟩
abbrev S1x1x2048 : Shape := ⟨3, ![1, 1, 2048]⟩
abbrev S1x2048x4096 : Shape := ⟨3, ![1, 2048, 4096]⟩
abbrev S512x128 : Shape := ⟨2, ![512, 128]⟩
abbrev S1x1x128 : Shape := ⟨3, ![1, 1, 128]⟩
abbrev S1x1x512 : Shape := ⟨3, ![1, 1, 512]⟩
abbrev S1x1x256 : Shape := ⟨3, ![1, 1, 256]⟩
abbrev S1x512x768 : Shape := ⟨3, ![1, 512, 768]⟩
abbrev S1x256x1024 : Shape := ⟨3, ![1, 256, 1024]⟩
abbrev S1x128x512 : Shape := ⟨3, ![1, 128, 512]⟩
abbrev S1x512x1024 : Shape := ⟨3, ![1, 512, 1024]⟩
abbrev S1x512x256 : Shape := ⟨3, ![1, 512, 256]⟩
abbrev S1x512x512 : Shape := ⟨3, ![1, 512, 512]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x512 : Shape := ⟨2, ![512, 512]⟩
abbrev S1x128 : Shape := ⟨2, ![1, 128]⟩
abbrev S1x512x128 : Shape := ⟨3, ![1, 512, 128]⟩
abbrev S512x256 : Shape := ⟨2, ![512, 256]⟩
abbrev S1x512 : Shape := ⟨2, ![1, 512]⟩
abbrev S512x768 : Shape := ⟨2, ![512, 768]⟩
abbrev S1x256 : Shape := ⟨2, ![1, 256]⟩
abbrev S256x1024 : Shape := ⟨2, ![256, 1024]⟩
abbrev S512x1024 : Shape := ⟨2, ![512, 1024]⟩
abbrev S128x512 : Shape := ⟨2, ![128, 512]⟩

abbrev nBuf : Space → Nat
  | .hbm => 128
  | .vmem => 48
  | .smem => 0
  | _ => 0

abbrev bufTy : (tb : Table) → Fin (tcTables nBuf tb) → BufTy
  | .hbm, ⟨0, _⟩ => ⟨S4x4096x2048, .f32⟩
  | .hbm, ⟨1, _⟩ => ⟨S4x1x12288, .f32⟩
  | .hbm, ⟨2, _⟩ => ⟨S2x2048, .f32⟩
  | .hbm, ⟨3, _⟩ => ⟨S2x2048x3936, .f32⟩
  | .hbm, ⟨4, _⟩ => ⟨S4096x2x32, .f32⟩
  | .hbm, ⟨5, _⟩ => ⟨S4096x2x32, .f32⟩
  | .hbm, ⟨6, _⟩ => ⟨S4096x2x16, .f32⟩
  | .hbm, ⟨7, _⟩ => ⟨S4096x2x16, .f32⟩
  | .hbm, ⟨8, _⟩ => ⟨S2x128, .f32⟩
  | .hbm, ⟨9, _⟩ => ⟨S2x128, .f32⟩
  | .hbm, ⟨10, _⟩ => ⟨S2x512, .f32⟩
  | .hbm, ⟨11, _⟩ => ⟨S2x256, .f32⟩
  | .hbm, ⟨12, _⟩ => ⟨S2x512x768, .f32⟩
  | .hbm, ⟨13, _⟩ => ⟨S2x256x1024, .f32⟩
  | .hbm, ⟨14, _⟩ => ⟨S2x128, .f32⟩
  | .hbm, ⟨15, _⟩ => ⟨S2x128, .f32⟩
  | .hbm, ⟨16, _⟩ => ⟨S2x64, .f32⟩
  | .hbm, ⟨17, _⟩ => ⟨S2x64, .f32⟩
  | .hbm, ⟨18, _⟩ => ⟨S2x16x256, .f32⟩
  | .hbm, ⟨19, _⟩ => ⟨S2x256, .f32⟩
  | .hbm, ⟨20, _⟩ => ⟨S2x16x256, .f32⟩
  | .hbm, ⟨21, _⟩ => ⟨S2x256, .f32⟩
  | .hbm, ⟨22, _⟩ => ⟨S_, .f32⟩
  | .hbm, ⟨23, _⟩ => ⟨S1x12288, .f32⟩
  | .hbm, ⟨24, _⟩ => ⟨S4x12288, .f32⟩
  | .hbm, ⟨25, _⟩ => ⟨S_, .f32⟩
  | .hbm, ⟨26, _⟩ => ⟨S3x12288, .f32⟩
  | .hbm, ⟨27, _⟩ => ⟨S8x12288, .f32⟩
  | .hbm, ⟨28, _⟩ => ⟨S8x6x2048, .f32⟩
  | .hbm, ⟨29, _⟩ => ⟨S4096x1x32, .f32⟩
  | .hbm, ⟨30, _⟩ => ⟨S4096x32, .f32⟩
  | .hbm, ⟨31, _⟩ => ⟨S4096x1x32, .f32⟩
  | .hbm, ⟨32, _⟩ => ⟨S4096x32, .f32⟩
  | .hbm, ⟨33, _⟩ => ⟨S4096x1x32, .f32⟩
  | .hbm, ⟨34, _⟩ => ⟨S4096x32, .f32⟩
  | .hbm, ⟨35, _⟩ => ⟨S4096x1x32, .f32⟩
  | .hbm, ⟨36, _⟩ => ⟨S4096x32, .f32⟩
  | .hbm, ⟨37, _⟩ => ⟨S4096x1x32, .f32⟩
  | .hbm, ⟨38, _⟩ => ⟨S4096x32, .f32⟩
  | .hbm, ⟨39, _⟩ => ⟨S4096x1x32, .f32⟩
  | .hbm, ⟨40, _⟩ => ⟨S4096x32, .f32⟩
  | .hbm, ⟨41, _⟩ => ⟨S4096x128, .f32⟩
  | .hbm, ⟨42, _⟩ => ⟨S4096x32, .f32⟩
  | .hbm, ⟨43, _⟩ => ⟨S4096x32, .f32⟩
  | .hbm, ⟨44, _⟩ => ⟨S4096x128, .f32⟩
  | .hbm, ⟨45, _⟩ => ⟨S4096x1x16, .f32⟩
  | .hbm, ⟨46, _⟩ => ⟨S4096x16, .f32⟩
  | .hbm, ⟨47, _⟩ => ⟨S4096x1x16, .f32⟩
  | .hbm, ⟨48, _⟩ => ⟨S4096x16, .f32⟩
  | .hbm, ⟨49, _⟩ => ⟨S4096x1x16, .f32⟩
  | .hbm, ⟨50, _⟩ => ⟨S4096x16, .f32⟩
  | .hbm, ⟨51, _⟩ => ⟨S4096x1x16, .f32⟩
  | .hbm, ⟨52, _⟩ => ⟨S4096x16, .f32⟩
  | .hbm, ⟨53, _⟩ => ⟨S4096x1x16, .f32⟩
  | .hbm, ⟨54, _⟩ => ⟨S4096x16, .f32⟩
  | .hbm, ⟨55, _⟩ => ⟨S4096x1x16, .f32⟩
  | .hbm, ⟨56, _⟩ => ⟨S4096x16, .f32⟩
  | .hbm, ⟨57, _⟩ => ⟨S4096x64, .f32⟩
  | .hbm, ⟨58, _⟩ => ⟨S4096x16, .f32⟩
  | .hbm, ⟨59, _⟩ => ⟨S4096x16, .f32⟩
  | .hbm, ⟨60, _⟩ => ⟨S4096x64, .f32⟩
  | .hbm, ⟨61, _⟩ => ⟨S4096x128, .f32⟩
  | .hbm, ⟨62, _⟩ => ⟨S4096x128, .f32⟩
  | .hbm, ⟨63, _⟩ => ⟨S2x2048x2304, .f32⟩
  | .hbm, ⟨64, _⟩ => ⟨S2x2048x64, .f32⟩
  | .hbm, ⟨65, _⟩ => ⟨S2x2048x64, .f32⟩
  | .hbm, ⟨66, _⟩ => ⟨S2x2048x32, .f32⟩
  | .hbm, ⟨67, _⟩ => ⟨S_, .f32⟩
  | .hbm, ⟨68, _⟩ => ⟨S2x2048x96, .f32⟩
  | .hbm, ⟨69, _⟩ => ⟨S2x2048x1536, .f32⟩
  | .hbm, ⟨70, _⟩ => ⟨S2x2048x4096, .f32⟩
  | .hbm, ⟨71, _⟩ => ⟨S2x2048x4096, .bf16⟩
  | .hbm, ⟨72, _⟩ => ⟨S2x512x4x192, .f32⟩
  | .hbm, ⟨73, _⟩ => ⟨S2x512x4x128, .f32⟩
  | .hbm, ⟨74, _⟩ => ⟨S2x512x512, .f32⟩
  | .hbm, ⟨75, _⟩ => ⟨S2x512x4x64, .f32⟩
  | .hbm, ⟨76, _⟩ => ⟨S2x512x256, .f32⟩
  | .hbm, ⟨77, _⟩ => ⟨S2x512x768, .f32⟩
  | .hbm, ⟨78, _⟩ => ⟨S2x256x4x256, .f32⟩
  | .hbm, ⟨79, _⟩ => ⟨S2x256x4x128, .f32⟩
  | .hbm, ⟨80, _⟩ => ⟨S2x256x512, .f32⟩
  | .hbm, ⟨81, _⟩ => ⟨S2x256x4x128, .f32⟩
  | .hbm, ⟨82, _⟩ => ⟨S2x256x512, .f32⟩
  | .hbm, ⟨83, _⟩ => ⟨S2x256x1024, .f32⟩
  | .hbm, ⟨84, _⟩ => ⟨S_, .f32⟩
  | .hbm, ⟨85, _⟩ => ⟨S2x128x512, .f32⟩
  | .hbm, ⟨86, _⟩ => ⟨S_, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S2, .i32⟩
  | .hbm, ⟨91, _⟩ => ⟨S2x128x512, .f32⟩
  | .hbm, ⟨92, _⟩ => ⟨S_, .i32⟩
  | .hbm, ⟨93, _⟩ => ⟨S1, .i32⟩
  | .hbm, ⟨94, _⟩ => ⟨S_, .i32⟩
  | .hbm, ⟨95, _⟩ => ⟨S1, .i32⟩
  | .hbm, ⟨96, _⟩ => ⟨S2, .i32⟩
  | .hbm, ⟨97, _⟩ => ⟨S2x128x512, .f32⟩
  | .hbm, ⟨98, _⟩ => ⟨S2x1x128, .f32⟩
  | .hbm, ⟨99, _⟩ => ⟨S2x1x128, .f32⟩
  | .hbm, ⟨100, _⟩ => ⟨S2x1x512, .f32⟩
  | .hbm, ⟨101, _⟩ => ⟨S2x1x256, .f32⟩
  | .hbm, ⟨102, _⟩ => ⟨S2x1x128, .f32⟩
  | .hbm, ⟨103, _⟩ => ⟨S2x1x128, .f32⟩
  | .hbm, ⟨104, _⟩ => ⟨S2x1x64, .f32⟩
  | .hbm, ⟨105, _⟩ => ⟨S2x1x64, .f32⟩
  | .hbm, ⟨106, _⟩ => ⟨S2x1x2048, .f32⟩
  | .hbm, ⟨107, _⟩ => ⟨S1x2x1x1x1x64, .f32⟩
  | .hbm, ⟨108, _⟩ => ⟨S1x2x1x1x2x64, .f32⟩
  | .hbm, ⟨109, _⟩ => ⟨S2x1x128, .f32⟩
  | .hbm, ⟨110, _⟩ => ⟨S1x2x1x1x1x64, .f32⟩
  | .hbm, ⟨111, _⟩ => ⟨S1x2x1x1x2x64, .f32⟩
  | .hbm, ⟨112, _⟩ => ⟨S2x1x128, .f32⟩
  | .hbm, ⟨113, _⟩ => ⟨S2x512x768, .bf16⟩
  | .hbm, ⟨114, _⟩ => ⟨S2x256x1024, .bf16⟩
  | .hbm, ⟨115, _⟩ => ⟨S2x512, .f32⟩
  | .hbm, ⟨116, _⟩ => ⟨S2x1x512, .f32⟩
  | .hbm, ⟨117, _⟩ => ⟨S4x4096x1024, .bf16⟩
  | .hbm, ⟨118, _⟩ => ⟨S4x4096x256, .bf16⟩
  | .hbm, ⟨119, _⟩ => ⟨S4x4096x256, .bf16⟩
  | .hbm, ⟨120, _⟩ => ⟨S4x4096x1024, .bf16⟩
  | .hbm, ⟨121, _⟩ => ⟨S4x4096x1024, .bf16⟩
  | .hbm, ⟨122, _⟩ => ⟨S4x4096x512, .bf16⟩
  | .hbm, ⟨123, _⟩ => ⟨S4x4096x512, .f32⟩
  | .hbm, ⟨124, _⟩ => ⟨S4x4096x256, .f32⟩
  | .hbm, ⟨125, _⟩ => ⟨S4x4096x256, .f32⟩
  | .hbm, ⟨126, _⟩ => ⟨S4x4096x512, .bf16⟩
  | .hbm, ⟨127, _⟩ => ⟨S4x4096x512, .f32⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x1x2048, .f32⟩
  | .local _ .vmem, ⟨5, _⟩ => ⟨S1x2048x4096, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x1x128, .f32⟩
  | .local _ .vmem, ⟨15, _⟩ => ⟨S1x1x128, .f32⟩
  | .local _ .vmem, ⟨16, _⟩ => ⟨S1x1x512, .f32⟩
  | .local _ .vmem, ⟨17, _⟩ => ⟨S1x1x256, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x512x768, .bf16⟩
  | .local _ .vmem, ⟨23, _⟩ => ⟨S1x256x1024, .bf16⟩
  | .local _ .vmem, ⟨24, _⟩ => ⟨S1x128x512, .f32⟩
  | .local _ .vmem, ⟨25, _⟩ => ⟨S1x1x512, .f32⟩
  | .local _ .vmem, ⟨26, _⟩ => ⟨S1x512x1024, .bf16⟩
  | .local _ .vmem, ⟨27, _⟩ => ⟨S1x512x1024, .bf16⟩
  | .local _ .vmem, ⟨28, _⟩ => ⟨S1x512x256, .bf16⟩
  | .local _ .vmem, ⟨29, _⟩ => ⟨S1x512x256, .bf16⟩
  | .local _ .vmem, ⟨30, _⟩ => ⟨S1x512x256, .bf16⟩
  | .local _ .vmem, ⟨31, _⟩ => ⟨S1x512x256, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S1x512x512, .bf16⟩
  | .local _ .vmem, ⟨37, _⟩ => ⟨S1x512x512, .bf16⟩
  | .local _ .vmem, ⟨38, _⟩ => ⟨S1x512x512, .f32⟩
  | .local _ .vmem, ⟨39, _⟩ => ⟨S1x512x512, .f32⟩
  | .local _ .vmem, ⟨40, _⟩ => ⟨S1x512x256, .f32⟩
  | .local _ .vmem, ⟨41, _⟩ => ⟨S1x512x256, .f32⟩
  | .local _ .vmem, ⟨42, _⟩ => ⟨S1x512x256, .f32⟩
  | .local _ .vmem, ⟨43, _⟩ => ⟨S1x512x256, .f32⟩
  | .local _ .vmem, ⟨44, _⟩ => ⟨S1x512x512, .bf16⟩
  | .local _ .vmem, ⟨45, _⟩ => ⟨S1x512x512, .bf16⟩
  | .local _ .vmem, ⟨46, _⟩ => ⟨S1x512x512, .f32⟩
  | .local _ .vmem, ⟨47, _⟩ => ⟨S1x512x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_cst_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_1 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_2 : Ref sig .tc := ⟨.hbm, 84, rfl⟩
abbrev main_v59 : Ref sig .tc := ⟨.hbm, 85, rfl⟩
abbrev main_c : Ref sig .tc := ⟨.hbm, 86, rfl⟩
abbrev main_v60 : Ref sig .tc := ⟨.hbm, 87, rfl⟩
abbrev main_c_3 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_4 : Ref sig .tc := ⟨.hbm, 92, rfl⟩
abbrev main_v64 : Ref sig .tc := ⟨.hbm, 93, rfl⟩
abbrev main_c_5 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87_0 : Ref sig .tc := ⟨.hbm, 117, rfl⟩
abbrev main_v87_1 : Ref sig .tc := ⟨.hbm, 118, rfl⟩
abbrev main_v87_2 : Ref sig .tc := ⟨.hbm, 119, rfl⟩
abbrev main_v87_3 : Ref sig .tc := ⟨.hbm, 120, rfl⟩
abbrev main_v87_4 : Ref sig .tc := ⟨.hbm, 121, rfl⟩
abbrev main_v87_5 : Ref sig .tc := ⟨.hbm, 122, rfl⟩
abbrev main_v87_6 : Ref sig .tc := ⟨.hbm, 123, rfl⟩
abbrev main_v87_7 : Ref sig .tc := ⟨.hbm, 124, rfl⟩
abbrev main_v87_8 : Ref sig .tc := ⟨.hbm, 125, rfl⟩
abbrev main_v87_9 : Ref sig .tc := ⟨.hbm, 126, rfl⟩
abbrev main_v87_10 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_stg27_0 : Ref sig .tc := ⟨.vmem, 40, rfl⟩
abbrev cc0_stg27_1 : Ref sig .tc := ⟨.vmem, 41, rfl⟩
abbrev cc0_stg28_0 : Ref sig .tc := ⟨.vmem, 42, rfl⟩
abbrev cc0_stg28_1 : Ref sig .tc := ⟨.vmem, 43, rfl⟩
abbrev cc0_stg29_0 : Ref sig .tc := ⟨.vmem, 44, rfl⟩
abbrev cc0_stg29_1 : Ref sig .tc := ⟨.vmem, 45, rfl⟩
abbrev cc0_stg30_0 : Ref sig .tc := ⟨.vmem, 46, rfl⟩
abbrev cc0_stg30_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39
abbrev cc0_sem27_0 : DmaSem sig := 40
abbrev cc0_sem27_1 : DmaSem sig := 41
abbrev cc0_sem28_0 : DmaSem sig := 42
abbrev cc0_sem28_1 : DmaSem sig := 43
abbrev cc0_sem29_0 : DmaSem sig := 44
abbrev cc0_sem29_1 : DmaSem sig := 45
abbrev cc0_sem30_0 : DmaSem sig := 46
abbrev cc0_sem30_1 : DmaSem sig := 47

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512x768 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x512x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x512x512 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x512x512 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]
-- ==== ProjectReferenceIdeal.lean ====
abbrev S4x4096x2048 : Shape := ⟨3, ![4, 4096, 2048]⟩
abbrev S4x1x12288 : Shape := ⟨3, ![4, 1, 12288]⟩
abbrev S2x2048 : Shape := ⟨2, ![2, 2048]⟩
abbrev S2x2048x3936 : Shape := ⟨3, ![2, 2048, 3936]⟩
abbrev S4096x2x32 : Shape := ⟨3, ![4096, 2, 32]⟩
abbrev S4096x2x16 : Shape := ⟨3, ![4096, 2, 16]⟩
abbrev S2x128 : Shape := ⟨2, ![2, 128]⟩
abbrev S2x512 : Shape := ⟨2, ![2, 512]⟩
abbrev S2x256 : Shape := ⟨2, ![2, 256]⟩
abbrev S2x512x768 : Shape := ⟨3, ![2, 512, 768]⟩
abbrev S2x256x1024 : Shape := ⟨3, ![2, 256, 1024]⟩
abbrev S2x64 : Shape := ⟨2, ![2, 64]⟩
abbrev S2x16x256 : Shape := ⟨3, ![2, 16, 256]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x3936 : Shape := ⟨3, ![1, 2048, 3936]⟩
abbrev S2048x3936 : Shape := ⟨2, ![2048, 3936]⟩
abbrev S4x4096x3936 : Shape := ⟨3, ![4, 4096, 3936]⟩
abbrev S4x4096x1024 : Shape := ⟨3, ![4, 4096, 1024]⟩
abbrev S4x4096x256 : Shape := ⟨3, ![4, 4096, 256]⟩
abbrev S4x4096x512 : Shape := ⟨3, ![4, 4096, 512]⟩
abbrev S4x4096x64 : Shape := ⟨3, ![4, 4096, 64]⟩
abbrev S4x4096x16 : Shape := ⟨3, ![4, 4096, 16]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S4x4096x4x256 : Shape := ⟨4, ![4, 4096, 4, 256]⟩
abbrev S4x4096x4x128 : Shape := ⟨4, ![4, 4096, 4, 128]⟩

abbrev nBuf : Space → Nat
  | .hbm => 95
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x12288, .f32⟩
  | .hbm, ⟨2, _⟩ => ⟨S2x2048, .f32⟩
  | .hbm, ⟨3, _⟩ => ⟨S2x2048x3936, .f32⟩
  | .hbm, ⟨4, _⟩ => ⟨S4096x2x32, .f32⟩
  | .hbm, ⟨5, _⟩ => ⟨S4096x2x32, .f32⟩
  | .hbm, ⟨6, _⟩ => ⟨S4096x2x16, .f32⟩
  | .hbm, ⟨7, _⟩ => ⟨S4096x2x16, .f32⟩
  | .hbm, ⟨8, _⟩ => ⟨S2x128, .f32⟩
  | .hbm, ⟨9, _⟩ => ⟨S2x128, .f32⟩
  | .hbm, ⟨10, _⟩ => ⟨S2x512, .f32⟩
  | .hbm, ⟨11, _⟩ => ⟨S2x256, .f32⟩
  | .hbm, ⟨12, _⟩ => ⟨S2x512x768, .f32⟩
  | .hbm, ⟨13, _⟩ => ⟨S2x256x1024, .f32⟩
  | .hbm, ⟨14, _⟩ => ⟨S2x128, .f32⟩
  | .hbm, ⟨15, _⟩ => ⟨S2x128, .f32⟩
  | .hbm, ⟨16, _⟩ => ⟨S2x64, .f32⟩
  | .hbm, ⟨17, _⟩ => ⟨S2x64, .f32⟩
  | .hbm, ⟨18, _⟩ => ⟨S2x16x256, .f32⟩
  | .hbm, ⟨19, _⟩ => ⟨S2x256, .f32⟩
  | .hbm, ⟨20, _⟩ => ⟨S2x16x256, .f32⟩
  | .hbm, ⟨21, _⟩ => ⟨S2x256, .f32⟩
  | .hbm, ⟨22, _⟩ => ⟨S4x1x2048, .f32⟩
  | .hbm, ⟨23, _⟩ => ⟨S4x1x2048, .f32⟩
  | .hbm, ⟨24, _⟩ => ⟨S4x1x2048, .f32⟩
  | .hbm, ⟨25, _⟩ => ⟨S4x1x2048, .f32⟩
  | .hbm, ⟨26, _⟩ => ⟨S4x1x2048, .f32⟩
  | .hbm, ⟨27, _⟩ => ⟨S4x1x2048, .f32⟩
  | .hbm, ⟨28, _⟩ => ⟨S1x2048, .f32⟩
  | .hbm, ⟨29, _⟩ => ⟨S2048, .f32⟩
  | .hbm, ⟨30, _⟩ => ⟨S4x4096x2048, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S4x4096x1, .f32⟩
  | .hbm, ⟨41, _⟩ => ⟨S4x4096x2048, .f32⟩
  | .hbm, ⟨42, _⟩ => ⟨S4x4096x2048, .f32⟩
  | .hbm, ⟨43, _⟩ => ⟨S1x1x2048, .f32⟩
  | .hbm, ⟨44, _⟩ => ⟨S4x4096x2048, .f32⟩
  | .hbm, ⟨45, _⟩ => ⟨S4x4096x2048, .f32⟩
  | .hbm, ⟨46, _⟩ => ⟨S_, .f32⟩
  | .hbm, ⟨47, _⟩ => ⟨S4x1x2048, .f32⟩
  | .hbm, ⟨48, _⟩ => ⟨S4x1x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S1x2048x3936, .f32⟩
  | .hbm, ⟨54, _⟩ => ⟨S2048x3936, .f32⟩
  | .hbm, ⟨55, _⟩ => ⟨S4x4096x3936, .f32⟩
  | .hbm, ⟨56, _⟩ => ⟨S4x4096x1024, .f32⟩
  | .hbm, ⟨57, _⟩ => ⟨S4x4096x256, .f32⟩
  | .hbm, ⟨58, _⟩ => ⟨S4x4096x256, .f32⟩
  | .hbm, ⟨59, _⟩ => ⟨S4x4096x512, .f32⟩
  | .hbm, ⟨60, _⟩ => ⟨S4x4096x256, .f32⟩
  | .hbm, ⟨61, _⟩ => ⟨S4x4096x64, .f32⟩
  | .hbm, ⟨62, _⟩ => ⟨S4x4096x256, .f32⟩
  | .hbm, ⟨63, _⟩ => ⟨S4x4096x256, .f32⟩
  | .hbm, ⟨64, _⟩ => ⟨S4x4096x512, .f32⟩
  | .hbm, ⟨65, _⟩ => ⟨S4x4096x512, .f32⟩
  | .hbm, ⟨66, _⟩ => ⟨S4x4096x16, .f32⟩
  | .hbm, ⟨67, _⟩ => ⟨S4x4096x16, .f32⟩
  | .hbm, ⟨68, _⟩ => ⟨S1x256, .f32⟩
  | .hbm, ⟨69, _⟩ => ⟨S256, .f32⟩
  | .hbm, ⟨70, _⟩ => ⟨S4x4096x256, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S_, .f32⟩
  | .hbm, ⟨78, _⟩ => ⟨S4x4096x1, .f32⟩
  | .hbm, ⟨79, _⟩ => ⟨S4x4096x1, .f32⟩
  | .hbm, ⟨80, _⟩ => ⟨S4x4096x1, .f32⟩
  | .hbm, ⟨81, _⟩ => ⟨S4x4096x256, .f32⟩
  | .hbm, ⟨82, _⟩ => ⟨S4x4096x256, .f32⟩
  | .hbm, ⟨83, _⟩ => ⟨S1x1x256, .f32⟩
  | .hbm, ⟨84, _⟩ => ⟨S4x4096x256, .f32⟩
  | .hbm, ⟨85, _⟩ => ⟨S4x4096x256, .f32⟩
  | .hbm, ⟨86, _⟩ => ⟨S1x256x1024, .f32⟩
  | .hbm, ⟨87, _⟩ => ⟨S256x1024, .f32⟩
  | .hbm, ⟨88, _⟩ => ⟨S4x4096x1024, .f32⟩
  | .hbm, ⟨89, _⟩ => ⟨S4x4096x4x256, .f32⟩
  | .hbm, ⟨90, _⟩ => ⟨S4x4096x4x128, .f32⟩
  | .hbm, ⟨91, _⟩ => ⟨S4x4096x512, .f32⟩
  | .hbm, ⟨92, _⟩ => ⟨S4x4096x256, .bf16⟩
  | .hbm, ⟨93, _⟩ => ⟨S4x4096x512, .bf16⟩
  | .hbm, ⟨94, _⟩ => ⟨S4x4096x512, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_3 : Ref sig .tc := ⟨.hbm, 71, rfl⟩
abbrev main_v45 : Ref sig .tc := ⟨.hbm, 72, rfl⟩
abbrev main_v46 : Ref sig .tc := ⟨.hbm, 73, rfl⟩
abbrev main_cst_4 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]
-- ==== Proof.Ffn.Cases.lean ====
/-
  What one grid point of the feed-forward call leaves in its output block and in the scratch of normalised rows,
  as a function of the point's input blocks: at the first point of a row block the rows are normalised and the
  output starts at zero, at every point one slab of the hidden units is added, at the last point the sum is scaled
  by the gate and added to the input rows.
-/
module

public import proofs.«01_k».proof.Proof.Gen.FfnIdeal.Value
public import Idealize.ShloMosaic.Lib.Tactic
public import Idealize.ShloMosaic.Lib.Pipeline.Value
public import Idealize.ShloMosaic.Lib.Pipeline.ValueKit.Basic

@[expose] public section

noncomputable section

namespace Cert.FfnIdeal.Layer

open Cert.FfnIdeal Cert.FfnIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Row 4 of the modulation block (the scale). -/
abbrev row4 (x1 : Vec F S1x6x2048 .f32) : Vec F S1x1x2048 .f32 :=
  View.ld x1 (Rect.unit (s := S1x6x2048) ![0, 4, 0] S1x1x2048.size inb_S1x6x2048_S1x1x2048_0_4_0)
/-- Row 3 of the modulation block (the shift). -/
abbrev row3 (x1 : Vec F S1x6x2048 .f32) : Vec F S1x1x2048 .f32 :=
  View.ld x1 (Rect.unit (s := S1x6x2048) ![0, 3, 0] S1x1x2048.size inb_S1x6x2048_S1x1x2048_0_3_0)
/-- Row 5 of the modulation block (the gate). -/
abbrev row5 (x1 : Vec F S1x6x2048 .f32) : Vec F S1x1x2048 .f32 :=
  View.ld x1 (Rect.unit (s := S1x6x2048) ![0, 5, 0] S1x1x2048.size inb_S1x6x2048_S1x1x2048_0_5_0)

/-- The normalised and modulated rows of a block. -/
abbrev hid (x0 : Vec F S1x512x2048 .f32) (x1 : Vec F S1x6x2048 .f32) (x2 : Vec F S1x1x2048 .f32) : Vec F S512x2048 .bf16 :=
  k0_pay1 x0 x2 (row4 x1) (row3 x1)

section Cases
variable (c : Dev nD) (i : grid0.Coords)
  (a3 : Memref sig .tc .vmem S1x512x2048 .f32) (h3 : a3.IsWhole) (a4 : Memref sig .tc .vmem S1x6x2048 .f32) (h4 : a4.IsWhole)
  (a5 : Memref sig .tc .vmem S1x1x2048 .f32) (h5 : a5.IsWhole) (a6 : Memref sig .tc .vmem S2048x512 .bf16) (h6 : a6.IsWhole)
  (a7 : Memref sig .tc .vmem S2048x512 .bf16) (h7 : a7.IsWhole) (a8 : Memref sig .tc .vmem S512x2048 .bf16) (h8 : a8.IsWhole)
  (a9 : Memref sig .tc .vmem S1x512x2048 .f32) (h9 : a9.IsWhole) (a10 : Memref sig .tc .vmem S512x2048 .bf16) (h10 : a10.IsWhole)
  (x0 : Vec F S1x512x2048 .f32) (x1 : Vec F S1x6x2048 .f32) (x2 : Vec F S1x1x2048 .f32) (x3 x4 : Vec F S2048x512 .bf16)
  (x5 : Vec F S512x2048 .bf16) (xo : Vec F S1x512x2048 .f32) (xs : Vec F S512x2048 .bf16)

/-- The scratch after the first point of a row block. -/
theorem sout_A (hc0 : cond0_0 i) (hc1 : ¬cond0_1 i) :
    sout0_A_0 c i a3 h3 a4 h4 a5 h5 a6 h6 a7 h7 a8 h8 a9 h9 a10 h10 hc0 hc1 x0 x1 x2 x3 x4 x5 = hid x0 x1 x2 := by
  unfold sout0_A_0
  rw [View.read_writes_eq_canon _ _ _ (scover0_A_0 c i a3 h3 a4 h4 a5 h5 a6 h6 a7 h7 a8 h8 a9 h9 a10 h10 hc0 hc1 x0 x1 x2 x3 x4 x5)]
  unfold kernelRun0_A
  dsimp only
  sl_unfold_words
  rw [View.canon_unit_zero hz2]
  simp only [View.readAt_eq_ld, h3.read_unread, h4.read_unread, h5.read_unread, View.ld_unit_zero (S := S1x512x2048) hz3, View.ld_unit_zero (S := S1x1x2048) hz3]

/-- The output block after the first point of a row block. -/
theorem out_A (hc0 : cond0_0 i) (hc1 : ¬cond0_1 i) :
    out0_A_6 c i a3 h3 a4 h4 a5 h5 a6 h6 a7 h7 a8 h8 a9 h9 a10 h10 hc0 hc1 x0 x1 x2 x3 x4 x5
      = k0_pay3 (hid x0 x1 x2) x3 x4 (k0_pay2 (F := F)) x5 := by
  unfold out0_A_6
  rw [View.read_writes_eq_canon _ _ _ (cover0_A_6 c i a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S1x512x2048) hz3]
  simp only [View.readAt_eq_ld, h3.read_unread, h4.read_unread, h5.read_unread, h6.read_unread, h7.read_unread, h8.read_unread,
    View.readCov_unit_zero (S := S1x512x2048) _ hz3, View.readCov_unit_zero (S := S512x2048) _ hz2,
    View.ld_unit_zero (S := S1x512x2048) hz3, View.ld_unit_zero (S := S1x1x2048) hz3, View.ld_unit_zero (S := S2048x512) hz2, View.ld_unit_zero (S := S512x2048) hz2]

/-- The output block after a middle point: one slab added. -/
theorem out_B (hc0 : ¬cond0_0 i) (hc1 : ¬cond0_1 i) :
    out0_B_6 c i a3 h3 a4 h4 a5 h5 a6 h6 a7 h7 a8 h8 a9 h9 a10 h10 hc0 hc1 x0 x1 x2 x3 x4 x5 xo xs
      = k0_pay3 xs x3 x4 xo x5 := by
  unfold out0_B_6
  rw [View.read_writes_eq_canon _ _ _ (cover0_B_6 c i a3 h3 a4 h4 a5 h5 a6 h6 a7 h7 a8 h8 a9 h9 a10 h10 hc0 hc1 x0 x1 x2 x3 x4 x5 xo xs)]
  unfold kernelRun0_B
  dsimp only
  sl_unfold_words
  rw [View.canon_unit_zero hz3]
  simp only [View.readAt_eq_ld, h9.read_unread, h10.read_unread, h6.read_unread, h7.read_unread, h8.read_unread,
    View.ld_unit_zero (S := S1x512x2048) hz3, View.ld_unit_zero (S := S2048x512) hz2, View.ld_unit_zero (S := S512x2048) hz2]

/-- The output block after the last point: the last slab added, then scaled and added to the input rows. -/
theorem out_C (hc0 : ¬cond0_0 i) (hc1 : cond0_1 i) :
    out0_C_6 c i a3 h3 a4 h4 a5 h5 a6 h6 a7 h7 a8 h8 a9 h9 a10 h10 hc0 hc1 x0 x1 x2 x3 x4 x5 xo xs
      = k0_pay4 x0 (row5 x1) (k0_pay3 xs x3 x4 xo x5) := by
  unfold out0_C_6
  rw [View.read_writes_eq_canon _ _ _ (cover0_C_6 c i a3 h3 a4 h4 a5 h5 a6 h6 a7 h7 a8 h8 a9 h9 a10 h10 hc0 hc1 x0 x1 x2 x3 x4 x5 xo xs)]
  unfold kernelRun0_C
  dsimp only
  sl_unfold_words
  rw [View.canon_cons_unit_zero (S := S1x512x2048) hz3]
  simp only [View.readAt_eq_ld, h3.read_unread, h4.read_unread, h9.read_unread, h10.read_unread, h6.read_unread, h7.read_unread, h8.read_unread,
    View.readCov_unit_zero (S := S1x512x2048) _ hz3,
    View.ld_unit_zero (S := S1x512x2048) hz3, View.ld_unit_zero (S := S2048x512) hz2, View.ld_unit_zero (S := S512x2048) hz2]

end Cases

variable (m : (ℓ : Loc nD τ sig) → Buf (Elt F) ℓ) (c : Dev nD)

theorem at0 (t : Fin cfg0.N) (acc) (h : t.val % 11 = 0) : Value.stAt0 m c t.val t.isLt acc
    = (k0_pay3 (hid (iblk m c 0 t) (iblk m c 1 t) (iblk m c 2 t)) (iblk m c 3 t) (iblk m c 4 t) (k0_pay2 (F := F)) (iblk m c 5 t),
       hid (iblk m c 0 t) (iblk m c 1 t) (iblk m c 2 t)) := by
  rw [Value.stAt0_A m c t acc h (by omega), out_A, sout_A]

theorem at1 (t : Fin cfg0.N) (acc) (h : ¬t.val % 11 = 0) (h' : ¬t.val % 11 = 10) : Value.stAt0 m c t.val t.isLt acc
    = (k0_pay3 acc.2 (iblk m c 3 t) (iblk m c 4 t) acc.1 (iblk m c 5 t), acc.2) := by
  rw [Value.stAt0_B m c t acc h h', out_B]; rfl

theorem at2 (t : Fin cfg0.N) (acc) (h' : t.val % 11 = 10) : Value.stAt0 m c t.val t.isLt acc
    = (k0_pay4 (iblk m c 0 t) (row5 (iblk m c 1 t)) (k0_pay3 acc.2 (iblk m c 3 t) (iblk m c 4 t) acc.1 (iblk m c 5 t)), acc.2) := by
  rw [Value.stAt0_C m c t acc (by omega) h', out_C]; rfl

end Cert.FfnIdeal.Layer

end
-- ==== Proof.Ffn.Rows.lean ====
module

public import proofs.«01_k».proof.Proof.Ffn.Cases
public import Idealize.ShloMosaic.Lib.Pointwise
public import Idealize.ShloMosaic.Lib.StableHlo.ReadAt

@[expose] public section

noncomputable section

namespace Cert.FfnIdeal.Layer

open Cert.FfnIdeal Cert.FfnIdeal.Gen Idealize.ShloMosaic Idealize.ShloMosaic.TcCoe Idealize.SL.Sem

/-- A feature of a row after the layer's second normalisation and modulation. -/
def nrm (x : Vec Ideal S4x4096x2048 .f32) (s : Vec Ideal S4x1x12288 .f32) (g : Vec Ideal S2048 .f32) (b : Fin 4) (r : Fin 4096) (k : Fin 2048) : EReal :=
  x (ix3 b r k) * Ideal.rsqrt (Ideal.div (∑ x', x (ix3 b r x') * x (ix3 b r x')) (Ideal.ofBits FTy.f32 1157627904#32) + Ideal.ofBits FTy.f32 897988541#32)
    * g (ix1 k) * (1 + s (ix3 b 0 ⟨8192 + k.val, by omega⟩)) + s (ix3 b 0 ⟨6144 + k.val, by omega⟩)

/-- A projection of a normalised row. -/
def proj (x : Vec Ideal S4x4096x2048 .f32) (s : Vec Ideal S4x1x12288 .f32) (g : Vec Ideal S2048 .f32) (w : Vec Ideal S2048x5632 .f32) (b : Fin 4) (r : Fin 4096) (f : Fin 5632) : EReal :=
  ∑ k, nrm x s g b r k * w (ix2 k f)

/-- An entry of the gated row that the last projection takes. -/
def gated (x : Vec Ideal S4x4096x2048 .f32) (s : Vec Ideal S4x1x12288 .f32) (g : Vec Ideal S2048 .f32) (wg wu : Vec Ideal S2048x5632 .f32) (b : Fin 4) (r : Fin 4096) (f : Fin 5632) : EReal :=
  Ideal.div (proj x s g wg b r f) (1 + Ideal.exp (0 - proj x s g wg b r f)) * proj x s g wu b r f

/-- The block's result. -/
def ffn (x : Vec Ideal S4x4096x2048 .f32) (s : Vec Ideal S4x1x12288 .f32) (g : Vec Ideal S2048 .f32) (wg wu : Vec Ideal S2048x5632 .f32) (wd : Vec Ideal S5632x2048 .f32)
    (b : Fin 4) (r : Fin 4096) (k : Fin 2048) : EReal :=
  x (ix3 b r k) + s (ix3 b 0 ⟨10240 + k.val, by omega⟩) * ∑ f, gated x s g wg wu b r f * wd (ix2 f k)

theorem hid_apply (x0 : Vec Ideal S1x512x2048 .f32) (x1 : Vec Ideal S1x6x2048 .f32) (x2 : Vec Ideal S1x1x2048 .f32) (r : Fin 512) (k : Fin 2048) :
    hid x0 x1 x2 (ix2 r k) = x0 (ix3 0 r k) * Ideal.rsqrt (Ideal.div (∑ x, x0 (ix3 0 r x) * x0 (ix3 0 r x)) (Ideal.ofBits FTy.f32 1157627904#32)
      + Ideal.ofBits FTy.f32 897988541#32) * x2 (ix3 0 0 k) * (1 + x1 (ix3 0 4 k)) + x1 (ix3 0 3 k) := by
  unfold hid row3 row4
  pointwise [k0_pay1]

theorem pay3_apply (x3 x4 : Vec Ideal S2048x512 .bf16) (x5 : Vec Ideal S512x2048 .bf16) (o : Vec Ideal S1x512x2048 .f32) (h : Vec Ideal S512x2048 .bf16) (r : Fin 512) (k : Fin 2048) :
    k0_pay3 h x3 x4 o x5 (ix3 0 r k) = o (ix3 0 r k) + ∑ x,
        (Ideal.div (∑ y, h (ix2 r y) * x3 (ix2 y x)) (1 + Ideal.exp (0 - ∑ y, h (ix2 r y) * x3 (ix2 y x))) * ∑ y, h (ix2 r y) * x4 (ix2 y x)) * x5 (ix2 x k) := by
  pointwise [k0_pay3]

theorem pay4_apply (x1 : Vec Ideal S1x6x2048 .f32) (x0 o : Vec Ideal S1x512x2048 .f32) (r : Fin 512) (k : Fin 2048) :
    k0_pay4 x0 (row5 x1) o (ix3 0 r k) = x0 (ix3 0 r k) + x1 (ix3 0 5 k) * o (ix3 0 r k) := by
  unfold row5
  pointwise [k0_pay4]

theorem pay2_apply (r : Fin 512) (k : Fin 2048) : k0_pay2 (F := Ideal) (ix3 0 r k) = (0 : EReal) := by
  pointwise [k0_pay2]

variable (m : (ℓ : Loc nD τ sig) → Buf (Elt Ideal) ℓ) (c : Dev nD)

theorem V1_apply (b : Fin 4) (k : Fin 12288) :
    StableHlo.upto hostOps0 (fun b => m (c, b)) 5 (Proc.tc.devRef main_v1) (ix2 b k) = m ((c.tc : Thread nD τ).loc main_arg1) (ix3 b 0 k) := by
  after_reads_at

theorem V4_apply (b : Fin 4) (j : Fin 6) (k : Fin 2048) :
    V m c main_v4 (ix3 (⟨b.val + 1, by omega⟩ : Fin 8) j k) = m ((c.tc : Thread nD τ).loc main_arg1) (ix3 b 0 ⟨j.val * 2048 + k.val, by omega⟩) := by
  unfold V
  after_reads_at
  rw [dif_neg (by omega), dif_pos (by omega)]
  exact V1_apply m c _ _

theorem V5_apply (b : Fin 2048) (k : Fin 5632) : V m c main_v5 (ix2 b k) = m ((c.tc : Thread nD τ).loc main_arg3) (ix2 b k) := by
  unfold V
  after_reads_at

theorem V6_apply (b : Fin 2048) (k : Fin 5632) : V m c main_v6 (ix2 b k) = m ((c.tc : Thread nD τ).loc main_arg4) (ix2 b k) := by
  unfold V
  after_reads_at

theorem V7_apply (b : Fin 5632) (k : Fin 2048) : V m c main_v7 (ix2 b k) = m ((c.tc : Thread nD τ).loc main_arg5) (ix2 b k) := by
  unfold V
  after_reads_at

theorem V8_apply (k : Fin 2048) : V m c main_v8 (ix3 0 0 k) = m ((c.tc : Thread nD τ).loc main_arg2) (ix1 k) := by
  unfold V
  after_reads_at

/-- The blocks' places, decided over the grid. -/
theorem idx : ∀ t : Fin cfg0.N, win0_0.index t = ![t.val / 88, t.val / 11 % 8, 0] ∧ win0_1.index t = ![t.val / 88 + 1, 0, 0]
    ∧ win0_2.index t = ![0, 0, 0] ∧ win0_3.index t = ![0, t.val % 11] ∧ win0_4.index t = ![0, t.val % 11] ∧ win0_5.index t = ![t.val % 11, 0] :=
  (by decide +kernel : ∀ t : Fin grid0.N, _)

theorem N_eq (t : Fin cfg0.N) : t.val < 352 := lt_of_lt_of_eq t.isLt N_0

theorem blk0 (t : Fin cfg0.N) (r : Fin 512) (k : Fin 2048) : iblk m c 0 t (ix3 0 r k)
    = m ((c.tc : Thread nD τ).loc main_arg0) (ix3 (⟨t.val / 88, by have := N_eq t; omega⟩ : Fin 4) (⟨512 * (t.val / 11 % 8) + r.val, by omega⟩ : Fin 4096) k) := by
  have e := (idx t).1
  have : iblk m c 0 t (ix3 0 r k) = V m c main_arg0 (ix3 (⟨t.val / 88, by have := N_eq t; omega⟩ : Fin 4) (⟨512 * (t.val / 11 % 8) + r.val, by omega⟩ : Fin 4096) k) := by
    unfold iblk
    refine congrArg (V m c main_arg0) (funext fun a => Fin.ext ?_)
    match a with
    | ⟨0, _⟩ => show win0_0.index t (0 : Fin 3) * 1 + 1 * 0 = t.val / 88; rw [e]; simp
    | ⟨1, _⟩ => show win0_0.index t (1 : Fin 3) * 512 + 1 * r.val = 512 * (t.val / 11 % 8) + r.val; rw [e]; simp; omega
    | ⟨2, _⟩ => show win0_0.index t (2 : Fin 3) * 2048 + 1 * k.val = k.val; rw [e]; simp
  rw [this]
  exact congrFun (V_main_arg0 m c) _

theorem blk1 (t : Fin cfg0.N) (j : Fin 6) (k : Fin 2048) : iblk m c 1 t (ix3 0 j k)
    = m ((c.tc : Thread nD τ).loc main_arg1) (ix3 (⟨t.val / 88, by have := N_eq t; omega⟩ : Fin 4) 0 ⟨j.val * 2048 + k.val, by omega⟩) := by
  have e := (idx t).2.1
  refine Eq.trans ?_ (V4_apply m c _ j k)
  unfold iblk
  refine congrArg (V m c main_v4) (funext fun a => Fin.ext ?_)
  match a with
  | ⟨0, _⟩ => show win0_1.index t (0 : Fin 3) * 1 + 1 * 0 = t.val / 88 + 1; rw [e]; simp
  | ⟨1, _⟩ => show win0_1.index t (1 : Fin 3) * 6 + 1 * j.val = j.val; rw [e]; simp
  | ⟨2, _⟩ => show win0_1.index t (2 : Fin 3) * 2048 + 1 * k.val = k.val; rw [e]; simp

theorem blk2 (t : Fin cfg0.N) (k : Fin 2048) : iblk m c 2 t (ix3 0 0 k) = m ((c.tc : Thread nD τ).loc main_arg2) (ix1 k) := by
  have e := (idx t).2.2.1
  refine Eq.trans ?_ (V8_apply m c k)
  unfold iblk
  refine congrArg (V m c main_v8) (funext fun a => Fin.ext ?_)
  match a with
  | ⟨0, _⟩ => show win0_2.index t (0 : Fin 3) * 1 + 1 * 0 = 0; rw [e]; simp
  | ⟨1, _⟩ => show win0_2.index t (1 : Fin 3) * 1 + 1 * 0 = 0; rw [e]; simp
  | ⟨2, _⟩ => show win0_2.index t (2 : Fin 3) * 2048 + 1 * k.val = k.val; rw [e]; simp

theorem blk3 (t : Fin cfg0.N) (k : Fin 2048) (f : Fin 512) : iblk m c 3 t (ix2 k f)
    = m ((c.tc : Thread nD τ).loc main_arg3) (ix2 k (⟨512 * (t.val % 11) + f.val, by omega⟩ : Fin 5632)) := by
  have e := (idx t).2.2.2.1
  refine Eq.trans ?_ (V5_apply m c k _)
  unfold iblk
  refine congrArg (V m c main_v5) (funext fun a => Fin.ext ?_)
  match a with
  | ⟨0, _⟩ => show win0_3.index t (0 : Fin 2) * 2048 + 1 * k.val = k.val; rw [e]; simp
  | ⟨1, _⟩ => show win0_3.index t (1 : Fin 2) * 512 + 1 * f.val = 512 * (t.val % 11) + f.val; rw [e]; simp; omega

theorem blk4 (t : Fin cfg0.N) (k : Fin 2048) (f : Fin 512) : iblk m c 4 t (ix2 k f)
    = m ((c.tc : Thread nD τ).loc main_arg4) (ix2 k (⟨512 * (t.val % 11) + f.val, by omega⟩ : Fin 5632)) := by
  have e := (idx t).2.2.2.2.1
  refine Eq.trans ?_ (V6_apply m c k _)
  unfold iblk
  refine congrArg (V m c main_v6) (funext fun a => Fin.ext ?_)
  match a with
  | ⟨0, _⟩ => show win0_4.index t (0 : Fin 2) * 2048 + 1 * k.val = k.val; rw [e]; simp
  | ⟨1, _⟩ => show win0_4.index t (1 : Fin 2) * 512 + 1 * f.val = 512 * (t.val % 11) + f.val; rw [e]; simp; omega

theorem blk5 (t : Fin cfg0.N) (f : Fin 512) (k : Fin 2048) : iblk m c 5 t (ix2 f k)
    = m ((c.tc : Thread nD τ).loc main_arg5) (ix2 (⟨512 * (t.val % 11) + f.val, by omega⟩ : Fin 5632) k) := by
  have e := (idx t).2.2.2.2.2
  refine Eq.trans ?_ (V7_apply m c _ k)
  unfold iblk
  refine congrArg (V m c main_v7) (funext fun a => Fin.ext ?_)
  match a with
  | ⟨0, _⟩ => show win0_5.index t (0 : Fin 2) * 512 + 1 * f.val = 512 * (t.val % 11) + f.val; rw [e]; simp; omega
  | ⟨1, _⟩ => show win0_5.index t (1 : Fin 2) * 2048 + 1 * k.val = k.val; rw [e]; simp

end Cert.FfnIdeal.Layer
end
-- ==== Proof.Ffn.Sweep.lean ====
module

public import proofs.«01_k».proof.Proof.Ffn.Rows

@[expose] public section

noncomputable section

namespace Cert.FfnIdeal.Layer

open Cert.FfnIdeal Cert.FfnIdeal.Gen Cert.FfnIdeal.Value Idealize.ShloMosaic Idealize.ShloMosaic.TcCoe Idealize.SL.Sem

variable (m : (ℓ : Loc nD τ sig) → Buf (Elt Ideal) ℓ) (c : Dev nD)

/-- The arguments as launched. -/
abbrev aX : Vec Ideal S4x4096x2048 .f32 := m ((c.tc : Thread nD τ).loc main_arg0)
abbrev aM : Vec Ideal S4x1x12288 .f32 := m ((c.tc : Thread nD τ).loc main_arg1)
abbrev aN : Vec Ideal S2048 .f32 := m ((c.tc : Thread nD τ).loc main_arg2)
abbrev aG : Vec Ideal S2048x5632 .f32 := m ((c.tc : Thread nD τ).loc main_arg3)
abbrev aU : Vec Ideal S2048x5632 .f32 := m ((c.tc : Thread nD τ).loc main_arg4)
abbrev aD : Vec Ideal S5632x2048 .f32 := m ((c.tc : Thread nD τ).loc main_arg5)

/-- The batch entry and the row of the array that row `r` of point `n`'s block is. -/
abbrev bOf (n : ℕ) (h : n < 352) : Fin 4 := ⟨n / 88, by omega⟩
abbrev rOf (n : ℕ) (r : Fin 512) : Fin 4096 := ⟨512 * (n / 11 % 8) + r.val, by omega⟩

/-- The share of slab `s` of the hidden features in the last projection. -/
def part (b : Fin 4) (r : Fin 4096) (k : Fin 2048) (s : Fin 11) : EReal :=
  ∑ f : Fin 512, gated (aX m c) (aM m c) (aN m c) (aG m c) (aU m c) b r ⟨512 * s.val + f.val, by omega⟩ * aD m c (ix2 ⟨512 * s.val + f.val, by omega⟩ k)

theorem hid_eq (t : Fin cfg0.N) (r : Fin 512) (k : Fin 2048) :
    hid (iblk m c 0 t) (iblk m c 1 t) (iblk m c 2 t) (ix2 r k) = nrm (aX m c) (aM m c) (aN m c) (bOf t.val (N_eq t)) (rOf t.val r) k := by
  rw [hid_apply]
  unfold nrm
  simp only [blk0, blk1, blk2]
  rfl

theorem add_part (t : Fin cfg0.N) (h : Vec Ideal S512x2048 .bf16) (o : Vec Ideal S1x512x2048 .f32)
    (hh : ∀ r k, h (ix2 r k) = nrm (aX m c) (aM m c) (aN m c) (bOf t.val (N_eq t)) (rOf t.val r) k) (r : Fin 512) (k : Fin 2048) :
    k0_pay3 h (iblk m c 3 t) (iblk m c 4 t) o (iblk m c 5 t) (ix3 0 r k)
      = o (ix3 0 r k) + part m c (bOf t.val (N_eq t)) (rOf t.val r) k ⟨t.val % 11, by omega⟩ := by
  rw [pay3_apply]
  unfold part gated proj
  simp only [blk3, blk4, blk5, hh]

/-- What the launch carries after point `n`: the normalised rows, and the slabs added up so far (after the last slab, the result). -/
theorem carried : ∀ (n : ℕ) (hn : n < cfg0.N) (h352 : n < 352),
    let S := Pipeline.accAt (fun n h => stAt0 m c n h junk0) (stAt0 m c) 0 n (by omega)
    (∀ r k, S.2 (ix2 r k) = nrm (aX m c) (aM m c) (aN m c) (bOf n h352) (rOf n r) k)
    ∧ (n % 11 ≠ 10 → ∀ r k, S.1 (ix3 0 r k) = ∑ s : Fin (n % 11 + 1), part m c (bOf n h352) (rOf n r) k ⟨s.val, by omega⟩)
    ∧ (n % 11 = 10 → ∀ r k, S.1 (ix3 0 r k)
        = aX m c (ix3 (bOf n h352) (rOf n r) k) + aM m c (ix3 (bOf n h352) 0 ⟨10240 + k.val, by omega⟩) * ∑ s : Fin 11, part m c (bOf n h352) (rOf n r) k s) := by
  intro n
  induction n with
  | zero =>
    intro hn h352
    have e : Pipeline.accAt (fun n h => stAt0 m c n h junk0) (stAt0 m c) 0 0 (by omega) = stAt0 m c 0 hn junk0 := rfl
    have e' := at0 m c ⟨0, hn⟩ junk0 rfl
    dsimp only
    rw [e, show stAt0 m c 0 hn junk0 = _ from e']
    refine ⟨fun r k => hid_eq m c ⟨0, hn⟩ r k, fun _ r k => ?_, fun h => absurd h (by decide)⟩
    refine (add_part m c ⟨0, hn⟩ _ _ (hid_eq m c ⟨0, hn⟩) r k).trans ?_
    rw [pay2_apply, zero_add]
    exact (Fin.sum_univ_one fun s : Fin 1 => part m c (bOf 0 h352) (rOf 0 r) k ⟨s.val, by omega⟩).symm
  | succ n ih =>
    intro hn h352
    have ih := ih (by omega) (by omega)
    dsimp only at ih ⊢
    have e : Pipeline.accAt (fun n h => stAt0 m c n h junk0) (stAt0 m c) 0 (n + 1) (by omega)
        = stAt0 m c (n + 1) hn (Pipeline.accAt (fun n h => stAt0 m c n h junk0) (stAt0 m c) 0 n (by omega)) :=
      (Pipeline.accAt_succ ..).trans (by congr 1; omega)
    rw [e]
    generalize Pipeline.accAt (fun n h => stAt0 m c n h junk0) (stAt0 m c) 0 n _ = S at ih
    obtain ⟨ih2, ih1, -⟩ := ih
    by_cases h0 : (n + 1) % 11 = 0
    · have e' := at0 m c ⟨n + 1, hn⟩ S h0
      rw [show stAt0 m c (n + 1) hn S = _ from e']
      refine ⟨fun r k => hid_eq m c ⟨n + 1, hn⟩ r k, fun _ r k => ?_, fun h => absurd h (by omega)⟩
      refine (add_part m c ⟨n + 1, hn⟩ _ _ (hid_eq m c ⟨n + 1, hn⟩) r k).trans ?_
      rw [pay2_apply, zero_add]
      have : ∀ (a : ℕ) (ha : a = 0), part m c (bOf (n + 1) h352) (rOf (n + 1) r) k ⟨a, by omega⟩ = ∑ s : Fin (a + 1), part m c (bOf (n + 1) h352) (rOf (n + 1) r) k ⟨s.val, by omega⟩ := by
        rintro a rfl
        exact (Fin.sum_univ_one fun s : Fin 1 => part m c (bOf (n + 1) h352) (rOf (n + 1) r) k ⟨s.val, by omega⟩).symm
      exact this _ h0
    · have hb : bOf n (by omega) = bOf (n + 1) h352 := Fin.ext (by show n / 88 = (n + 1) / 88; omega)
      have hr : ∀ r, rOf n r = rOf (n + 1) r := fun r => Fin.ext (by show 512 * (n / 11 % 8) + r.val = 512 * ((n + 1) / 11 % 8) + r.val; omega)
      have hm : (n + 1) % 11 = n % 11 + 1 := by omega
      have ih1 := ih1 (by omega)
      simp only [hb, hr] at ih1 ih2
      have acc : ∀ r k, k0_pay3 S.2 (iblk m c 3 ⟨n + 1, hn⟩) (iblk m c 4 ⟨n + 1, hn⟩) S.1 (iblk m c 5 ⟨n + 1, hn⟩) (ix3 0 r k)
          = ∑ s : Fin ((n + 1) % 11 + 1), part m c (bOf (n + 1) h352) (rOf (n + 1) r) k ⟨s.val, by omega⟩ := by
        intro r k
        refine (add_part m c ⟨n + 1, hn⟩ _ _ ih2 r k).trans ?_
        rw [ih1 r k]
        have : ∀ (a b : ℕ) (hb : b < 11) (ha : b = a + 1), (∑ s : Fin (a + 1), part m c (bOf (n + 1) h352) (rOf (n + 1) r) k ⟨s.val, by omega⟩)
            + part m c (bOf (n + 1) h352) (rOf (n + 1) r) k ⟨b, hb⟩ = ∑ s : Fin (b + 1), part m c (bOf (n + 1) h352) (rOf (n + 1) r) k ⟨s.val, by omega⟩ := by
          rintro a b hb rfl
          exact (Fin.sum_univ_castSucc (n := a + 1) fun s : Fin (a + 1 + 1) => part m c (bOf (n + 1) h352) (rOf (n + 1) r) k ⟨s.val, by omega⟩).symm
        exact this _ _ (by omega) hm
      by_cases h10 : (n + 1) % 11 = 10
      · have e' := at2 m c ⟨n + 1, hn⟩ S h10
        rw [show stAt0 m c (n + 1) hn S = _ from e']
        refine ⟨ih2, fun h => absurd h10 h, fun _ r k => ?_⟩
        refine (pay4_apply _ _ _ r k).trans ?_
        rw [acc r k, blk0, blk1]
        have : ∀ (a : ℕ) (ha : a = 10), (∑ s : Fin (a + 1), part m c (bOf (n + 1) h352) (rOf (n + 1) r) k ⟨s.val, by omega⟩) = ∑ s : Fin 11, part m c (bOf (n + 1) h352) (rOf (n + 1) r) k s := by
          rintro a rfl; rfl
        rw [this _ h10]
        rfl
      · have e' := at1 m c ⟨n + 1, hn⟩ S h0 h10
        rw [show stAt0 m c (n + 1) hn S = _ from e']
        exact ⟨ih2, fun _ => acc, fun h => absurd h h10⟩

/-- The slabs together are all the hidden features. -/
theorem sum_parts (f : Fin 5632 → EReal) : ∑ s : Fin 11, ∑ i : Fin 512, f ⟨512 * s.val + i.val, by omega⟩ = ∑ i, f i := by
  rw [← Finset.sum_product', Finset.univ_product_univ]
  refine Eq.trans ?_ (Equiv.sum_comp (finProdFinEquiv (m := 11) (n := 512)) f)
  exact Finset.sum_congr rfl fun x _ => congrArg f (Fin.ext (by show 512 * x.1.val + x.2.val = x.2.val + 512 * x.1.val; omega))

/-- What the launch leaves in the result. -/
theorem result (b : Fin 4) (r : Fin 4096) (k : Fin 2048) :
    G6 m c (ix3 b r k) = ffn (aX m c) (aM m c) (aN m c) (aG m c) (aU m c) (aD m c) b r k := by
  have hp : pt6Of (ix3 b r k) = 11 * (8 * b.val + r.val / 512) + 10 := by
    show 11 * (8 * (b.val / 1 - 0) + 1 * (r.val / 512 - 0) + 1 * (k.val / 2048 - 0)) + 10 = _
    omega
  have hlt : pt6Of (ix3 b r k) < 352 := by rw [hp]; omega
  have hN : pt6Of (ix3 b r k) < cfg0.N := lt_of_lt_of_eq hlt N_0.symm
  unfold G6
  rw [dif_pos hN]
  have hloc : loc6Of (ix3 b r k) = ix3 0 (⟨r.val % 512, by omega⟩ : Fin 512) k := by
    funext a; apply Fin.ext
    match a with
    | ⟨0, _⟩ => show b.val % 1 = 0; omega
    | ⟨1, _⟩ => rfl
    | ⟨2, _⟩ => show k.val % 2048 = k.val; omega
  rw [hloc]
  refine ((carried m c _ hN hlt).2.2 (by rw [hp]; omega) _ _).trans ?_
  have hb : bOf (pt6Of (ix3 b r k)) hlt = b := Fin.ext (by show pt6Of (ix3 b r k) / 88 = b.val; rw [hp]; omega)
  have hr : rOf (pt6Of (ix3 b r k)) (⟨r.val % 512, by omega⟩ : Fin 512) = r :=
    Fin.ext (by show 512 * (pt6Of (ix3 b r k) / 11 % 8) + r.val % 512 = r.val; rw [hp]; omega)
  rw [hb, hr]
  unfold ffn part
  rw [sum_parts fun f => gated (aX m c) (aM m c) (aN m c) (aG m c) (aU m c) b r f * aD m c (ix2 f k)]

end Cert.FfnIdeal.Layer
end
-- ==== Proof.Ffn.Ref.lean ====
module

public import proofs.«01_k».proof.Proof.Ffn.Rows
public import Idealize.ShloMosaic.Lib.IdealHost
public import proofs.«01_k».proof.Proof.Gen.FfnReferenceIdeal.Run

@[expose] public section

noncomputable section

namespace Cert.FfnReferenceIdeal.Layer

open Cert.FfnReferenceIdeal Cert.FfnReferenceIdeal.Value Idealize.ShloMosaic Idealize.ShloMosaic.TcCoe Idealize.SL.Sem
open Cert.FfnIdeal.Layer (ffn gated proj nrm)

/-- `a · (1 / (1 + e⁻ᵃ))` is `a / (1 + e⁻ᵃ)`. -/
theorem silu (a : EReal) : a * Ideal.div 1 (1 + Ideal.exp (-a)) = Ideal.div a (1 + Ideal.exp (0 - a)) := by
  have h : (0 : EReal) ≤ Ideal.exp (-a) := by
    unfold Ideal.exp
    split
    · exact le_rfl
    · exact le_top
    · exact EReal.coe_nonneg.2 (Real.exp_pos _).le
  have h1 : (1 : EReal) + Ideal.exp (-a) ≠ 0 := (lt_of_lt_of_le zero_lt_one (le_add_of_nonneg_right h)).ne'
  rw [Ideal.mul_one_div h1, sub_eq_add_neg, zero_add]

variable (m : (ℓ : Loc nD τ sig) → Buf (Elt Ideal) ℓ) (c : Dev nD)

theorem result (b : Fin 4) (r : Fin 4096) (k : Fin 2048) : res_main_v32 m c (ix3 b r k)
    = ffn (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) b r k := by
  unfold res_main_v32 ffn gated proj nrm
  clean_types
  pointwise
  simp only [silu]

end Cert.FfnReferenceIdeal.Layer
end
-- ==== Proof.Ffn.Claim.lean ====
module

public import proofs.«01_k».proof.Defs
public import proofs.«01_k».proof.Proof.Ffn.Sweep
public import proofs.«01_k».proof.Proof.Ffn.Ref

@[expose] public section

noncomputable section

namespace Cert.Ffn

open Idealize.ShloMosaic Idealize.SL.Sem

/-- The block's call and its reference end with the same result. -/
theorem algebraic : Cert.algebraic_FfnIdeal_FfnReferenceIdeal (hFfnIdeal := Cert.FfnIdeal.Gen.facts) (hFfnReferenceIdeal := Cert.FfnReferenceIdeal.Gen.facts) := by
  intro m g m' g' _ h
  refine ⟨fun c => Cert.FfnIdeal.Value.G6 m c, Cert.FfnIdeal.Value.run m g, ?_⟩
  refine (θ_run _ _ _).mono (fun r hr c => ⟨(hr c).1.trans ?_, (hr c).2⟩) (Cert.FfnReferenceIdeal.Value.run m' g')
  obtain ⟨e0, e1, e2, e3, e4, e5⟩ := h c
  funext j
  obtain ⟨b, r, k, rfl⟩ : ∃ (b : Fin 4) (r : Fin 4096) (k : Fin 2048), j = ix3 b r k := ⟨j 0, j 1, j 2, eq_ix3 j⟩
  refine (Cert.FfnReferenceIdeal.Layer.result m' c b r k).trans ?_
  refine Eq.trans ?_ (Cert.FfnIdeal.Layer.result m c b r k).symm
  rw [e0, e1, e2, e3, e4, e5]

end Cert.Ffn

end
-- ==== Proof.Attn.Prog.lean ====
/-
The attention kernel's body written with its loops: five chunks of keys (four of 1024 and the context's
256), each in blocks of 64 rows.  The printed body is this program with every loop unrolled.
-/
module

public import proofs.«01_k».proof.Proof.Gen.KernelIdeal

@[expose] public section

set_option maxRecDepth 16384

noncomputable section

namespace Cert.KernelIdeal.Attn

open Idealize.ShloMosaic Idealize.SL.Sem
open Shapes1.Facts₀ Shapes2.Facts₀

variable {nD : Nat} {τ : Topo} {sig : RefSig} {Λ : Labels} {F : FTy → Type} [FloatOps F]

local notation "ℙ" => Prog (TpuEff nD τ sig (Elt F) Λ Proc.tc)
local notation "𝕊" => Memref sig Kind.tc CoreSpace.vmem S2x2048x1024 EltTy.f32
local notation "ℚ'" => Memref sig Kind.tc CoreSpace.vmem S2048x128 EltTy.bf16
local notation "ℙ'" => Memref sig Kind.tc CoreSpace.vmem S2048x1024 EltTy.bf16
local notation "𝕏" => Memref sig Kind.tc CoreSpace.vmem S2048x128 EltTy.f32

/-! ## Where the blocks lie -/

theorem inbS (sl r j : Nat) (hs : sl < 2) (hr : r < 32) (hj : j < 8) :
    ∀ a, (![sl, 64 * r, 128 * j] : Fin 3 → Nat) a + S1x64x128.size a ≤ S2x2048x1024.size a := by
  intro a; fin_cases a
  · show sl + 1 ≤ 2; omega
  · show 64 * r + 64 ≤ 2048; omega
  · show 128 * j + 128 ≤ 1024; omega

theorem inbSlot (sl : Nat) (hs : sl < 2) :
    ∀ a, (![sl, 0, 0] : Fin 3 → Nat) a + S1x2048x1024.size a ≤ S2x2048x1024.size a := by
  intro a; fin_cases a
  · show sl + 1 ≤ 2; omega
  · show 0 + 2048 ≤ 2048; omega
  · show 0 + 1024 ≤ 1024; omega

theorem inbKV (j : Nat) (hj : j < 4) :
    ∀ a, (![0, 1024 * j, 0] : Fin 3 → Nat) a + S1x1024x128.size a ≤ S1x4096x128.size a := by
  intro a; fin_cases a
  · show 0 + 1 ≤ 1; omega
  · show 1024 * j + 1024 ≤ 4096; omega
  · show 0 + 128 ≤ 128; omega

theorem inbM (r : Nat) (hr : r < 32) :
    ∀ a, (![64 * r, 0] : Fin 2 → Nat) a + S64x128.size a ≤ S2048x128.size a := by
  intro a; fin_cases a
  · show 64 * r + 64 ≤ 2048; omega
  · show 0 + 128 ≤ 128; omega

theorem inbP (r j : Nat) (hr : r < 32) (hj : j < 8) :
    ∀ a, (![64 * r, 128 * j] : Fin 2 → Nat) a + S64x128.size a ≤ S2048x1024.size a := by
  intro a; fin_cases a
  · show 64 * r + 64 ≤ 2048; omega
  · show 128 * j + 128 ≤ 1024; omega

theorem packP (r j : Nat) (hr : r < 32) (hj : j < 8) :
    (Rect.unit (s := S2048x1024) ![64 * r, 128 * j] S64x128.size (inbP r j hr hj)).PackedRows (EltTy.packing .bf16) := by
  refine .inr ⟨by decide, rfl, .inl ⟨?_, ?_⟩⟩
  · show 2 ∣ 64 * r; exact ⟨32 * r, by omega⟩
  · show 2 ∣ 64; decide

theorem inbQ (g : Nat) (hg : g < 4) :
    ∀ a, (![512 * g, 0] : Fin 2 → Nat) a + S512x128.size a ≤ S2048x128.size a := by
  intro a; fin_cases a
  · show 512 * g + 512 ≤ 2048; omega
  · show 0 + 128 ≤ 128; omega

theorem packQ (g : Nat) (hg : g < 4) :
    (Rect.unit (s := S2048x128) ![512 * g, 0] S512x128.size (inbQ g hg)).PackedRows (EltTy.packing .bf16) := by
  refine .inr ⟨by decide, rfl, .inl ⟨?_, ?_⟩⟩
  · show 2 ∣ 512 * g; exact ⟨256 * g, by omega⟩
  · show 2 ∣ 512; decide

theorem inbG (g : Nat) (hg : g < 4) :
    ∀ a, (![0, 0, 128 * g] : Fin 3 → Nat) a + S1x512x128.size a ≤ S1x512x512.size a := by
  intro a; fin_cases a
  · show 0 + 1 ≤ 1; omega
  · show 0 + 512 ≤ 512; omega
  · show 128 * g + 128 ≤ 512; omega

theorem packG (g : Nat) (hg : g < 4) :
    (Rect.unit (s := S1x512x512) ![0, 0, 128 * g] S1x512x128.size (inbG g hg)).PackedRows (EltTy.packing .bf16) := by
  refine .inr ⟨by decide, rfl, .inl ⟨?_, ?_⟩⟩
  · show 2 ∣ 0; decide
  · show 2 ∣ 512; decide

/-! ## The steps of a block -/

/-- Rows `64 r …` and columns `128 j …` of a slot of the scores. -/
def ldS (sl r j : Nat) (hs : sl < 2) (hr : r < 32) (hj : j < 8) (s : 𝕊) : ℙ (FVec F S64x128 .f32) := do
  let v ← Prog.lift (.load s (Rect.unit (s := S2x2048x1024) ![sl, 64 * r, 128 * j] S1x64x128.size (inbS sl r j hs hr hj)).toLoadRect (View.loadsAt_vmem h_S1x64x128))
  pure (shapeCast S64x128 v shapeCasts_S1x64x128_S64x128)

/-- Rows `64 r …` of a running statistic. -/
def ldM (r : Nat) (hr : r < 32) (m : 𝕏) : ℙ (Vec F S64x128 .f32) :=
  Prog.lift (.load m (Rect.unit (s := S2048x128) ![64 * r, 0] S64x128.size (inbM r hr)).toLoadRect (View.loadsAt_vmem h_S64x128))

/-- Rows `64 r …` of a running statistic read and written. -/
def stM (r : Nat) (hr : r < 32) (m : 𝕏) (x : FVec F S64x128 .f32) : ℙ PUnit := do
  let _ ← Prog.lift (.load m (Rect.unit (s := S2048x128) ![64 * r, 0] S64x128.size (inbM r hr)).toLoadRect (View.loadsAt_vmem h_S64x128))
  Prog.lift (.store m (Rect.unit (s := S2048x128) ![64 * r, 0] S64x128.size (inbM r hr)) (shapeCast S64x128 x shapeCasts_S64x128_S64x128) Finset.univ (View.stores_vmem_bits_univ h_S64x128 rfl) (.inl rfl))

/-- One column group of a block's weights read and written. -/
def stP (r j : Nat) (hr : r < 32) (hj : j < 8) (m : ℙ') (hm : m.IsWhole) (x : FVec F S64x128 .f32) : ℙ PUnit := do
  let _ ← Prog.lift (.load m (Rect.unit (s := S2048x1024) ![64 * r, 128 * j] S64x128.size (inbP r j hr hj)).toLoadRect (View.loadsAt_vmem h_S64x128))
  Prog.lift (.store m (Rect.unit (s := S2048x1024) ![64 * r, 128 * j] S64x128.size (inbP r j hr hj)) (shapeCast S64x128 (truncf .bf16 x bitsLt_bf16_f32) shapeCasts_S64x128_S64x128) Finset.univ (View.stores_vmem h_S64x128 (hm.storeExact_slice rfl _ (packP r j hr hj)) (fun _ => rfl)) (.inl rfl))

/-- The rows' new maximum, on every lane: the old one and the largest of the lanes of `x`. -/
def newMax (x m : FVec F S64x128 .f32) : FVec F S64x128 .f32 :=
  maximumf m (broadcastTo S64x128 (shapeCast S64x1 (multiReduction .maximumf [1] S64 x 0xFF800000#32 reduces_S64x128_S64 (.inl rfl) rfl) shapeCasts_S64_S64x1) broadcasts_S64x1_S64x128)

/-- The rows' running sum, maximum and output rescaled to the new maximum `m'`. -/
def rescale (r : Nat) (hr : r < 32) (m' m : FVec F S64x128 .f32) (mx lx ax : 𝕏) : ℙ PUnit := do
  let l ← ldM r hr lx
  stM r hr lx (mulf (exp2 (subf m m')) l)
  stM r hr mx m'
  let acc ← ldM r hr ax
  stM r hr ax (mulf (exp2 (subf m m')) acc)

/-- A block of 64 rows against 1024 keys. -/
def block (sl r : Nat) (hs : sl < 2) (hr : r < 32) (s : 𝕊) (p : ℙ') (hp : p.IsWhole) (mx lx ax : 𝕏) : ℙ PUnit := do
  let s0 ← ldS sl r 0 hs hr (by decide) s
  let s1 ← ldS sl r 1 hs hr (by decide) s
  let s2 ← ldS sl r 2 hs hr (by decide) s
  let s3 ← ldS sl r 3 hs hr (by decide) s
  let s4 ← ldS sl r 4 hs hr (by decide) s
  let s5 ← ldS sl r 5 hs hr (by decide) s
  let s6 ← ldS sl r 6 hs hr (by decide) s
  let s7 ← ldS sl r 7 hs hr (by decide) s
  let m ← ldM r hr mx
  let m' := newMax (maximumf (maximumf (maximumf (maximumf (maximumf (maximumf (maximumf s0 s1) s2) s3) s4) s5) s6) s7) m
  rescale r hr m' m mx lx ax
  stP r 0 hr (by decide) p hp (exp2 (subf s0 m'))
  stP r 1 hr (by decide) p hp (exp2 (subf s1 m'))
  stP r 2 hr (by decide) p hp (exp2 (subf s2 m'))
  stP r 3 hr (by decide) p hp (exp2 (subf s3 m'))
  stP r 4 hr (by decide) p hp (exp2 (subf s4 m'))
  stP r 5 hr (by decide) p hp (exp2 (subf s5 m'))
  stP r 6 hr (by decide) p hp (exp2 (subf s6 m'))
  stP r 7 hr (by decide) p hp (exp2 (subf s7 m'))

/-- A block of 64 rows against the context's 256 keys. -/
def blockC (r : Nat) (hr : r < 32) (s : 𝕊) (p : ℙ') (hp : p.IsWhole) (mx lx ax : 𝕏) : ℙ PUnit := do
  let s0 ← ldS 0 r 0 (by decide) hr (by decide) s
  let s1 ← ldS 0 r 1 (by decide) hr (by decide) s
  let m ← ldM r hr mx
  let m' := newMax (maximumf s0 s1) m
  rescale r hr m' m mx lx ax
  stP r 0 hr (by decide) p hp (exp2 (subf s0 m'))
  stP r 1 hr (by decide) p hp (exp2 (subf s1 m'))

/-- `n` blocks from the `r`-th on. -/
def rows (b : (r : Nat) → r < 32 → ℙ PUnit) : (n r : Nat) → r + n ≤ 32 → ℙ PUnit
  | 0, _, _ => pure ⟨⟩
  | n + 1, r, h => do
    b r (by omega)
    rows b n (r + 1) (by omega)

/-! ## The steps of a chunk -/

/-- The scores of a latent chunk's keys, into a slot. -/
def scores (j sl : Nat) (hj : j < 4) (hs : sl < 2) (kl : Memref sig Kind.tc CoreSpace.vmem S1x4096x128 EltTy.bf16) (q : ℚ') (s : 𝕊) : ℙ PUnit := do
  let k ← Prog.lift (.load kl (Rect.unit (s := S1x4096x128) ![0, 1024 * j, 0] S1x1024x128.size (inbKV j hj)).toLoadRect (View.loadsAt_vmem h_S1x1024x128))
  let qv ← Prog.lift (.load q (Rect.unit (s := S2048x128) ![0, 0] S2048x128.size inb_S2048x128_S2048x128_0_0).toLoadRect (View.loadsAt_vmem h_S2048x128))
  let _ ← Prog.lift (.load s (Rect.unit (s := S2x2048x1024) ![sl, 0, 0] S1x2048x1024.size (inbSlot sl hs)).toLoadRect (View.loadsAt_vmem h_S1x2048x1024))
  Prog.lift (.store s (Rect.unit (s := S2x2048x1024) ![sl, 0, 0] S1x2048x1024.size (inbSlot sl hs))
    (shapeCast S1x2048x1024 (matmul dot_S2048x128_S1024x128_S2048x1024_1_1_0_0_n_n none (qv : Vec F S2048x128 .bf16) (shapeCast S1024x128 (k : Vec F S1x1024x128 .bf16) shapeCasts_S1x1024x128_S1024x128) (constant S2048x1024 .f32 0x00000000#32)) shapeCasts_S2048x1024_S1x2048x1024)
    Finset.univ (View.stores_vmem_bits_univ h_S1x2048x1024 rfl) (.inl rfl))

/-- The scores of the context's keys, into the first columns of slot 0. -/
def scoresC (kc : Memref sig Kind.tc CoreSpace.vmem S1x256x128 EltTy.bf16) (q : ℚ') (s : 𝕊) : ℙ PUnit := do
  let k ← Prog.lift (.load kc (Rect.unit (s := S1x256x128) ![0, 0, 0] S1x256x128.size inb_S1x256x128_S1x256x128_0_0_0).toLoadRect (View.loadsAt_vmem h_S1x256x128))
  let qv ← Prog.lift (.load q (Rect.unit (s := S2048x128) ![0, 0] S2048x128.size inb_S2048x128_S2048x128_0_0).toLoadRect (View.loadsAt_vmem h_S2048x128))
  let _ ← Prog.lift (.load s (Rect.unit (s := S2x2048x1024) ![0, 0, 0] S1x2048x256.size inb_S2x2048x1024_S1x2048x256_0_0_0).toLoadRect (View.loadsAt_vmem h_S1x2048x256))
  Prog.lift (.store s (Rect.unit (s := S2x2048x1024) ![0, 0, 0] S1x2048x256.size inb_S2x2048x1024_S1x2048x256_0_0_0)
    (shapeCast S1x2048x256 (matmul dot_S2048x128_S256x128_S2048x256_1_1_0_0_n_n none (qv : Vec F S2048x128 .bf16) (shapeCast S256x128 (k : Vec F S1x256x128 .bf16) shapeCasts_S1x256x128_S256x128) (constant S2048x256 .f32 0x00000000#32)) shapeCasts_S2048x256_S1x2048x256)
    Finset.univ (View.stores_vmem_bits_univ h_S1x2048x256 rfl) (.inl rfl))

/-- The values of a latent chunk. -/
def values (j : Nat) (hj : j < 4) (vl : Memref sig Kind.tc CoreSpace.vmem S1x4096x128 EltTy.bf16) : ℙ (FVec F S1024x128 .bf16) := do
  let v ← Prog.lift (.load vl (Rect.unit (s := S1x4096x128) ![0, 1024 * j, 0] S1x1024x128.size (inbKV j hj)).toLoadRect (View.loadsAt_vmem h_S1x1024x128))
  pure (shapeCast S1024x128 v shapeCasts_S1x1024x128_S1024x128)

/-- A whole statistic read, added to and written. -/
def addTo (m : 𝕏) (x : FVec F S2048x128 .f32) : ℙ PUnit := do
  let y ← Prog.lift (.load m (Rect.unit (s := S2048x128) ![0, 0] S2048x128.size inb_S2048x128_S2048x128_0_0).toLoadRect (View.loadsAt_vmem h_S2048x128))
  let _ ← Prog.lift (.load m (Rect.unit (s := S2048x128) ![0, 0] S2048x128.size inb_S2048x128_S2048x128_0_0).toLoadRect (View.loadsAt_vmem h_S2048x128))
  Prog.lift (.store m (Rect.unit (s := S2048x128) ![0, 0] S2048x128.size inb_S2048x128_S2048x128_0_0) (shapeCast S2048x128 (addf y x) shapeCasts_S2048x128_S2048x128) Finset.univ (View.stores_vmem_bits_univ h_S2048x128 rfl) (.inl rfl))

/-- The two sums of a chunk's product, the weighted values' and the weights', added to the running ones. -/
def addPV (pv : FVec F S2048x256 .f32) (lx ax : 𝕏) : ℙ PUnit := do
  addTo ax (extractStridedSlice S2048x128 ![0, 0] pv slices_S2048x256_o0_0_S2048x128)
  addTo lx (extractStridedSlice S2048x128 ![0, 128] pv slices_S2048x256_o0_128_S2048x128)

/-- A latent chunk: its blocks, then its weights against its values and a block of ones. -/
def chunk (sl : Nat) (hs : sl < 2) (v : FVec F S1024x128 .bf16) (s : 𝕊) (p : ℙ') (hp : p.IsWhole) (mx lx ax : 𝕏) : ℙ PUnit := do
  rows (fun r hr => block sl r hs hr s p hp mx lx ax) 32 0 (by decide)
  let pw ← Prog.lift (.load p (Rect.unit (s := S2048x1024) ![0, 0] S2048x1024.size inb_S2048x1024_S2048x1024_0_0).toLoadRect (View.loadsAt_vmem h_S2048x1024))
  addPV (matmul dot_S2048x1024_S1024x256_S2048x256_1_0_0_1_n_n none (pw : Vec F S2048x1024 .bf16) (concatenate S1024x256 1 [⟨S1024x128, v⟩, ⟨S1024x128, broadcast S1024x128 (Scalar.ofBits .bf16 0x3F80#16 : F .bf16)⟩] concatenates_S1024x128_S1024x128_S1024x256_d1) (constant S2048x256 .f32 0x00000000#32)) lx ax

/-- The context's chunk. -/
def chunkC (vc : Memref sig Kind.tc CoreSpace.vmem S1x256x128 EltTy.bf16) (s : 𝕊) (p : ℙ') (hp : p.IsWhole) (mx lx ax : 𝕏) : ℙ PUnit := do
  let v ← Prog.lift (.load vc (Rect.unit (s := S1x256x128) ![0, 0, 0] S1x256x128.size inb_S1x256x128_S1x256x128_0_0_0).toLoadRect (View.loadsAt_vmem h_S1x256x128))
  rows (fun r hr => blockC r hr s p hp mx lx ax) 32 0 (by decide)
  let pw ← Prog.lift (.load p (Rect.unit (s := S2048x1024) ![0, 0] S2048x256.size inb_S2048x1024_S2048x256_0_0).toLoadRect (View.loadsAt_vmem h_S2048x256))
  addPV (matmul dot_S2048x256_S256x256_S2048x256_1_0_0_1_n_n none (pw : Vec F S2048x256 .bf16) (concatenate S256x256 1 [⟨S256x128, shapeCast S256x128 (v : Vec F S1x256x128 .bf16) shapeCasts_S1x256x128_S256x128⟩, ⟨S256x128, broadcast S256x128 (Scalar.ofBits .bf16 0x3F80#16 : F .bf16)⟩] concatenates_S256x128_S256x128_S256x256_d1) (constant S2048x256 .f32 0x00000000#32)) lx ax

/-! ## The beginning and the end -/

/-- Query head `g` of the block's group, scaled and rounded, into its rows of the query scratch. -/
def copyQ [Named F] (g : Nat) (hg : g < 4) (q : Memref sig Kind.tc CoreSpace.vmem S1x512x512 EltTy.f32) (qs : ℚ') (hqs : qs.IsWhole) : ℙ PUnit := do
  let x ← Prog.lift (.load q (Rect.unit (s := S1x512x512) ![0, 0, 128 * g] S1x512x128.size (inbG g hg)).toLoadRect (View.loadsAt_vmem h_S1x512x128))
  let _ ← Prog.lift (.load qs (Rect.unit (s := S2048x128) ![512 * g, 0] S512x128.size (inbQ g hg)).toLoadRect (View.loadsAt_vmem h_S512x128))
  Prog.lift (.store qs (Rect.unit (s := S2048x128) ![512 * g, 0] S512x128.size (inbQ g hg)) (shapeCast S512x128 (truncf .bf16 (mulf (shapeCast S512x128 (x : Vec F S1x512x128 .f32) shapeCasts_S1x512x128_S512x128) (broadcast S512x128 (Named.named κ "qscale" 0x3E0293EE#32 : F .f32))) bitsLt_bf16_f32) shapeCasts_S512x128_S512x128) Finset.univ (View.stores_vmem h_S512x128 (hqs.storeExact_slice rfl _ (packQ g hg)) (fun _ => rfl)) (.inl rfl))

/-- A running statistic set to one number. -/
def fill (m : 𝕏) (b : BitVec 32) : ℙ PUnit := do
  let _ ← Prog.lift (.load m (Rect.unit (s := S2048x128) ![0, 0] S2048x128.size inb_S2048x128_S2048x128_0_0).toLoadRect (View.loadsAt_vmem h_S2048x128))
  Prog.lift (.store m (Rect.unit (s := S2048x128) ![0, 0] S2048x128.size inb_S2048x128_S2048x128_0_0) (shapeCast S2048x128 (broadcast S2048x128 (Scalar.ofBits .f32 b : F .f32)) shapeCasts_S2048x128_S2048x128) Finset.univ (View.stores_vmem_bits_univ h_S2048x128 rfl) (.inl rfl))

/-- Query head `g` of the result: its rows' sums of weighted values over their sums of weights. -/
def finish (g : Nat) (hg : g < 4) (o : Memref sig Kind.tc CoreSpace.vmem S1x512x512 EltTy.bf16) (ho : o.IsWhole) (lx ax : 𝕏) : ℙ PUnit := do
  let a ← Prog.lift (.load ax (Rect.unit (s := S2048x128) ![512 * g, 0] S512x128.size (inbQ g hg)).toLoadRect (View.loadsAt_vmem h_S512x128))
  let l ← Prog.lift (.load lx (Rect.unit (s := S2048x128) ![512 * g, 0] S512x128.size (inbQ g hg)).toLoadRect (View.loadsAt_vmem h_S512x128))
  let _ ← Prog.lift (.load o (Rect.unit (s := S1x512x512) ![0, 0, 128 * g] S1x512x128.size (inbG g hg)).toLoadRect (View.loadsAt_vmem h_S1x512x128))
  Prog.lift (.store o (Rect.unit (s := S1x512x512) ![0, 0, 128 * g] S1x512x128.size (inbG g hg)) (shapeCast S1x512x128 (truncf .bf16 (mulf (a : Vec F S512x128 .f32) (divf (broadcast S512x128 (Scalar.ofBits .f32 0x3F800000#32 : F .f32)) (l : Vec F S512x128 .f32))) bitsLt_bf16_f32) shapeCasts_S512x128_S1x512x128) Finset.univ (View.stores_vmem h_S1x512x128 (ho.storeExact_slice rfl _ (packG g hg)) (fun _ => rfl)) (.inl rfl))

/-- A block of rows of a weight matrix with 5632 columns rounded. -/
def castW (x : Memref sig Kind.tc CoreSpace.vmem S1x32x5632 EltTy.f32) (y : Memref sig Kind.tc CoreSpace.vmem S32x5632 EltTy.bf16) (hy : y.IsWhole) : ℙ PUnit := do
  let v ← Prog.lift (.load x (Rect.unit (s := S1x32x5632) ![0, 0, 0] S1x32x5632.size inb_S1x32x5632_S1x32x5632_0_0_0).toLoadRect (View.loadsAt_vmem h_S1x32x5632))
  let _ ← Prog.lift (.load y (Rect.unit (s := S32x5632) ![0, 0] S32x5632.size inb_S32x5632_S32x5632_0_0).toLoadRect (View.loadsAt_vmem h_S32x5632))
  Prog.lift (.store y (Rect.unit (s := S32x5632) ![0, 0] S32x5632.size inb_S32x5632_S32x5632_0_0) (truncf .bf16 (shapeCast S32x5632 (v : Vec F S1x32x5632 .f32) shapeCasts_S1x32x5632_S32x5632) bitsLt_bf16_f32) Finset.univ (View.stores_vmem h_S32x5632 (hy.storeExact_slice rfl _ packedbf16_S32x5632_S32x5632_0_0) (fun _ => rfl)) (.inl rfl))

/-- A block of 176 rows of the down projection rounded. -/
def castD (x : Memref sig Kind.tc CoreSpace.vmem S1x176x2048 EltTy.f32) (y : Memref sig Kind.tc CoreSpace.vmem S176x2048 EltTy.bf16) (hy : y.IsWhole) : ℙ PUnit := do
  let v ← Prog.lift (.load x (Rect.unit (s := S1x176x2048) ![0, 0, 0] S1x176x2048.size inb_S1x176x2048_S1x176x2048_0_0_0).toLoadRect (View.loadsAt_vmem h_S1x176x2048))
  let _ ← Prog.lift (.load y (Rect.unit (s := S176x2048) ![0, 0] S176x2048.size inb_S176x2048_S176x2048_0_0).toLoadRect (View.loadsAt_vmem h_S176x2048))
  Prog.lift (.store y (Rect.unit (s := S176x2048) ![0, 0] S176x2048.size inb_S176x2048_S176x2048_0_0) (truncf .bf16 (shapeCast S176x2048 (v : Vec F S1x176x2048 .f32) shapeCasts_S1x176x2048_S176x2048) bitsLt_bf16_f32) Finset.univ (View.stores_vmem h_S176x2048 (hy.storeExact_slice rfl _ packedbf16_S176x2048_S176x2048_0_0) (fun _ => rfl)) (.inl rfl))

/-- A block of 32 rows of the output projection rounded. -/
def castO (x : Memref sig Kind.tc CoreSpace.vmem S1x32x2048 EltTy.f32) (y : Memref sig Kind.tc CoreSpace.vmem S32x2048 EltTy.bf16) (hy : y.IsWhole) : ℙ PUnit := do
  let v ← Prog.lift (.load x (Rect.unit (s := S1x32x2048) ![0, 0, 0] S1x32x2048.size inb_S1x32x2048_S1x32x2048_0_0_0).toLoadRect (View.loadsAt_vmem h_S1x32x2048))
  let _ ← Prog.lift (.load y (Rect.unit (s := S32x2048) ![0, 0] S32x2048.size inb_S32x2048_S32x2048_0_0).toLoadRect (View.loadsAt_vmem h_S32x2048))
  Prog.lift (.store y (Rect.unit (s := S32x2048) ![0, 0] S32x2048.size inb_S32x2048_S32x2048_0_0) (truncf .bf16 (shapeCast S32x2048 (v : Vec F S1x32x2048 .f32) shapeCasts_S1x32x2048_S32x2048) bitsLt_bf16_f32) Finset.univ (View.stores_vmem h_S32x2048 (hy.storeExact_slice rfl _ packedbf16_S32x2048_S32x2048_0_0) (fun _ => rfl)) (.inl rfl))

/-- The body at a grid point: the weights' blocks rounded, the queries copied, the statistics begun, the five
    chunks, the result. -/
def body [Named F] (q : Memref sig Kind.tc CoreSpace.vmem S1x512x512 EltTy.f32)
    (kc vc : Memref sig Kind.tc CoreSpace.vmem S1x256x128 EltTy.bf16)
    (kl vl : Memref sig Kind.tc CoreSpace.vmem S1x4096x128 EltTy.bf16)
    (w0 w1 : Memref sig Kind.tc CoreSpace.vmem S1x32x5632 EltTy.f32) (w2 : Memref sig Kind.tc CoreSpace.vmem S1x176x2048 EltTy.f32)
    (w3 : Memref sig Kind.tc CoreSpace.vmem S1x32x2048 EltTy.f32)
    (o : Memref sig Kind.tc CoreSpace.vmem S1x512x512 EltTy.bf16) (ho : o.IsWhole)
    (y0 : Memref sig Kind.tc CoreSpace.vmem S32x5632 EltTy.bf16) (hy0 : y0.IsWhole)
    (y1 : Memref sig Kind.tc CoreSpace.vmem S32x5632 EltTy.bf16) (hy1 : y1.IsWhole)
    (y2 : Memref sig Kind.tc CoreSpace.vmem S176x2048 EltTy.bf16) (hy2 : y2.IsWhole)
    (y3 : Memref sig Kind.tc CoreSpace.vmem S32x2048 EltTy.bf16) (hy3 : y3.IsWhole)
    (qs : ℚ') (hqs : qs.IsWhole) (s : 𝕊) (p : ℙ') (hp : p.IsWhole) (mx lx ax : 𝕏) : ℙ PUnit := do
  castW w0 y0 hy0
  castW w1 y1 hy1
  castD w2 y2 hy2
  castO w3 y3 hy3
  copyQ 0 (by decide) q qs hqs
  copyQ 1 (by decide) q qs hqs
  copyQ 2 (by decide) q qs hqs
  copyQ 3 (by decide) q qs hqs
  fill mx 0xFF800000#32
  fill lx 0x00000000#32
  fill ax 0x00000000#32
  scores 0 0 (by decide) (by decide) kl qs s
  scores 1 1 (by decide) (by decide) kl qs s
  let v0 ← values 0 (by decide) vl
  chunk 0 (by decide) v0 s p hp mx lx ax
  scores 2 0 (by decide) (by decide) kl qs s
  let v1 ← values 1 (by decide) vl
  chunk 1 (by decide) v1 s p hp mx lx ax
  scores 3 1 (by decide) (by decide) kl qs s
  let v2 ← values 2 (by decide) vl
  chunk 0 (by decide) v2 s p hp mx lx ax
  scoresC kc qs s
  let v3 ← values 3 (by decide) vl
  chunk 1 (by decide) v3 s p hp mx lx ax
  chunkC vc s p hp mx lx ax
  finish 0 (by decide) o ho lx ax
  finish 1 (by decide) o ho lx ax
  finish 2 (by decide) o ho lx ax
  finish 3 (by decide) o ho lx ax

end Cert.KernelIdeal.Attn

end
-- ==== Proof.Attn.Eq.lean ====
module

public import proofs.«01_k».proof.Proof.Attn.Prog
public import Idealize.ShloMosaic.Lib.Exec
public import Idealize.ShloMosaic.Lib.Tactic

@[expose] public section

set_option maxRecDepth 16384

noncomputable section

namespace Cert.KernelIdeal.Attn

open Idealize.ShloMosaic Idealize.SL.Sem Idealize.ShloMosaic.Tactic

variable {F : FTy → Type} [FloatOps F] [Named F]

theorem body_eq (i : grid0.Coords) (arg3 : Memref sig .tc .vmem S1x512x512 .f32) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x32x5632 .f32) (harg8 : arg8.IsWhole) (arg9 : Memref sig .tc .vmem S1x32x5632 .f32) (harg9 : arg9.IsWhole) (arg10 : Memref sig .tc .vmem S1x176x2048 .f32) (harg10 : arg10.IsWhole) (arg11 : Memref sig .tc .vmem S1x32x2048 .f32) (harg11 : arg11.IsWhole) (arg12 : Memref sig .tc .vmem S1x512x512 .bf16) (harg12 : arg12.IsWhole) (arg13 : Memref sig .tc .vmem S32x5632 .bf16) (harg13 : arg13.IsWhole) (arg14 : Memref sig .tc .vmem S32x5632 .bf16) (harg14 : arg14.IsWhole) (arg15 : Memref sig .tc .vmem S176x2048 .bf16) (harg15 : arg15.IsWhole) (arg16 : Memref sig .tc .vmem S32x2048 .bf16) (harg16 : arg16.IsWhole) (arg17 : Memref sig .tc .vmem S2048x128 .bf16) (harg17 : arg17.IsWhole) (arg18 : Memref sig .tc .vmem S2x2048x1024 .f32) (harg18 : arg18.IsWhole) (arg19 : Memref sig .tc .vmem S2048x1024 .bf16) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) :
    cc0_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = body arg3 arg4 arg5 arg6 arg7 arg8 arg9 arg10 arg11 arg12 harg12 arg13 harg13 arg14 harg14 arg15 harg15 arg16 harg16 arg17 harg17 arg18 arg19 harg19 arg20 arg21 arg22 := by
  sl_kernel_rfl

end Cert.KernelIdeal.Attn

end
-- ==== Proof.Attn.Step.lean ====
/-
A load and a store of a memref held by what it reads: the load hands over the rectangle's part of it, the
store replaces that part.
-/
module

public import proofs.«01_k».proof.Proof.Attn.Prog
public import Idealize.ShloMosaic.Lib.Exec
public import Idealize.ShloMosaic.Lib.Tactic
public import Idealize.ShloMosaic.Lib.Memref
public import Idealize.ShloMosaic.Lib.Pipeline.FrameBody

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Λ : Labels} {Val : EltTy → Type}

local notation "𝕄" => MT nD τ sig Unit Val ℕ (UR sig nD τ) ℕ

variable {defs : Defs nD τ sig Val Λ} {c : Dev nD}

/-- The weakest precondition of a program of the core. -/
abbrev WP {α : Type} (defs : Defs nD τ sig Val Λ) (c : Dev nD) (p : Prog (TpuEff nD τ sig Val Λ Proc.tc) α) (Q : α → sProp 𝕄) : sProp 𝕄 :=
  wp frame (wpE defs Variants.none (c.tc : Thread nD τ) none) Set.univ p Q

theorem WP_bind {α β : Type} (p : Prog (TpuEff nD τ sig Val Λ Proc.tc) α) (k : α → Prog (TpuEff nD τ sig Val Λ Proc.tc) β) (Q : β → sProp 𝕄) :
    WP defs c (p >>= k) Q = WP defs c p (fun v => WP defs c (k v) Q) := wp_bind _ _ _ _ _ _

theorem WP_pure {α : Type} (v : α) (Q : α → sProp 𝕄) : Q v ⊢ WP defs c (pure v) Q := le_wp_ret _ _ _ _ Q

theorem wp_ld {cs : CoreSpace} {s : Shape} {e : EltTy} {m : Memref sig Kind.tc cs s e} {r : Rect s} {hl : m.view.LoadsAt r.toLoadRect}
    (X : s.Idx → Val e) (Q : (r.shape.Idx → Val e) → sProp 𝕄) :
    ownsTc c m fullShare X ⊢ iprop((ownsTc c m fullShare X -∗ Q (fun j => X (r.emb j))) -∗ WP defs c (Prog.lift (.load m r.toLoadRect hl)) Q) := by
  unfold ownsTc owns
  iintro ⟨%f, %hf, H⟩ K
  subst hf
  iapply (wp_load (defs := defs) Variants.none (c.tc : Thread nD τ) none Set.univ (m := m) (r := r.toLoadRect) (hl := hl) (S := m.view.set) (q := fullShare) (f := f) (k := .ret) (Q := Q) (View.setOn_subset_set _ _)) $$ H
  iintro H
  iapply (le_wp_ret _ _ _ _ Q)
  rw [show m.view.readAt Val r.toLoadRect f = (fun j => m.view.read Val f (r.emb j)) from rfl]
  iapply K
  iexists f
  isplitr
  · ipureintro; rfl
  · iexact H

theorem wp_st {cs : CoreSpace} {s : Shape} {e : EltTy} {m : Memref sig Kind.tc cs s e} {r : Rect s} {w : r.shape.Idx → Val e}
    {hx : (m.access r).Stores Finset.univ} {hm : Finset.univ = Finset.univ ∨ ∀ a, r.stride a = 1}
    (X : s.Idx → Val e) (Q : PUnit → sProp 𝕄) :
    ownsTc c m fullShare X ⊢ iprop((ownsTc c m fullShare (r.overlay X w) -∗ Q ⟨⟩) -∗ WP defs c (Prog.lift (.store m r w Finset.univ hx hm)) Q) := by
  unfold ownsTc
  iintro H K
  ihave H' := (show owns (c.tc : Thread nD τ) m fullShare X ⊢ iprop(∃ g, ⌜m.view.read Val g = X⌝ ∗ m.view.loc (c.tc : Thread nD τ) ↦[m.view.set]{fullShare} g) from .rfl) $$ H
  icases H' with ⟨%f, %hf, H⟩
  iapply (wp_store (defs := defs) Variants.none (c.tc : Thread nD τ) none Set.univ (m := m) (r := r) (w := w) (hx := hx) (hm := hm) (S := m.view.set) (f := f) (k := .ret) (Q := Q)
    (by rw [View.setOn_univ]; exact m.view.set_slice_subset r)) $$ H
  iintro H
  iapply (le_wp_ret _ _ _ _ Q)
  iapply K
  have hread : m.view.read Val ((m.access r).write Val f w Finset.univ) = r.overlay X w := by
    funext j
    by_cases hj : j ∈ r.set
    · obtain ⟨i, rfl⟩ := r.exists_idx_of_mem hj
      change (m.access r).read Val ((m.access r).write Val f w Finset.univ) i = r.overlay X w (r.emb i)
      rw [Rect.overlay_emb, View.read_write_univ]
    · rw [Rect.overlay_of_not_mem _ _ _ hj, ← hf]
      exact View.read_slice_write_of_not_mem (v := m.view) r f w Finset.univ (by rwa [Rect.map_emb_univ])
  rw [← hread]
  iapply (owns_intro (c.tc : Thread nD τ) m fullShare)
  iexact H

end Cert.KernelIdeal.Attn

end
-- ==== Proof.Attn.Block.lean ====
/-
What a block of 64 rows does to the weights and to the rows' running statistics.
-/
module

public import proofs.«01_k».proof.Proof.Attn.Step
public import Idealize.ShloMosaic.Lib.Pointwise

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Shapes1.Facts₀ Shapes2.Facts₀

/-! ## A rectangle's part replaced, coordinate by coordinate -/

theorem overlay_unit_mem {sh : Shape} {α : Type} {off size : Fin sh.rank → Nat} {inb : ∀ a, off a + size a ≤ sh.size a}
    (X : sh.Idx → α) (w : (Rect.unit off size inb).shape.Idx → α) (i : sh.Idx) (j : (Rect.unit off size inb).shape.Idx)
    (h : ∀ a, (i a).val = off a + (j a).val) : (Rect.unit off size inb).overlay X w i = w j := by
  have e : i = (Rect.unit off size inb).emb j := funext fun a => Fin.ext (by
    rw [h a]; show _ = off a + 1 * (j a).val; omega)
  rw [e, Rect.overlay_emb]

theorem overlay_unit_not_mem {sh : Shape} {α : Type} {off size : Fin sh.rank → Nat} {inb : ∀ a, off a + size a ≤ sh.size a}
    (X : sh.Idx → α) (w : (Rect.unit off size inb).shape.Idx → α) (i : sh.Idx) (a : Fin sh.rank)
    (h : (i a).val < off a ∨ off a + size a ≤ (i a).val) : (Rect.unit off size inb).overlay X w i = X i := by
  refine Rect.overlay_of_not_mem _ _ _ fun hm => ?_
  obtain ⟨j, rfl⟩ := (Rect.unit off size inb).exists_idx_of_mem hm
  have e : (((Rect.unit off size inb).idx j) a).val = off a + 1 * (j a).val := rfl
  have hj : (j a).val < size a := (j a).isLt
  omega

/-! ## Arrays in the middle of a chunk -/

/-- A statistic with its first `64 r` rows replaced. -/
def mixM (r : Nat) (new old : S2048x128.Idx → EReal) : S2048x128.Idx → EReal :=
  fun i => if (i 0).val < 64 * r then new i else old i

/-- The weights with their first `64 r` rows and, of the next 64, the first `k` column groups replaced, among
    the first `W` columns. -/
def mixP (W r k : Nat) (new old : S2048x1024.Idx → EReal) : S2048x1024.Idx → EReal :=
  fun i => if (i 1).val < W ∧ ((i 0).val < 64 * r ∨ ((i 0).val < 64 * (r + 1) ∧ (i 1).val < 128 * k)) then new i else old i

/-- Rows `64 r …` of an array. -/
def rdM (X : S2048x128.Idx → EReal) (r : Nat) (hr : r < 32) : FVec Ideal S64x128 .f32 :=
  fun i => X (ix2 ⟨64 * r + (i 0).val, by have : (i 0).val < 64 := (i 0).isLt; omega⟩ (i 1))

/-- Rows `64 r …` and columns `128 j …` of a slot of the scores. -/
def rdS (S : S2x2048x1024.Idx → EReal) (sl r j : Nat) (hs : sl < 2) (hr : r < 32) (hj : j < 8) : FVec Ideal S64x128 .f32 :=
  fun i => S (ix3 ⟨sl, hs⟩ ⟨64 * r + (i 0).val, by have : (i 0).val < 64 := (i 0).isLt; omega⟩ ⟨128 * j + (i 1).val, by have : (i 1).val < 128 := (i 1).isLt; omega⟩)

/-- The rows' new maximum, `T` the largest of each row's new scores. -/
def nM (T : Fin 2048 → EReal) (M : S2048x128.Idx → EReal) : S2048x128.Idx → EReal :=
  fun i => max (M i) (T (i 0))

/-- A running sum rescaled to the new maximum. -/
def nX (T : Fin 2048 → EReal) (M X : S2048x128.Idx → EReal) : S2048x128.Idx → EReal :=
  fun i => Ideal.exp2 (M i - nM T M i) * X i

/-- The new weights. -/
def nP (S : S2x2048x1024.Idx → EReal) (sl : Nat) (hs : sl < 2) (T : Fin 2048 → EReal) (M : S2048x128.Idx → EReal) : S2048x1024.Idx → EReal :=
  fun i => Ideal.exp2 (S (ix3 ⟨sl, hs⟩ (i 0) (i 1)) - nM T M (ix2 (i 0) ⟨(i 1).val % 128, Nat.mod_lt _ (by decide)⟩))

theorem rdM_mix (r : Nat) (hr : r < 32) (new old : S2048x128.Idx → EReal) : rdM (mixM r new old) r hr = rdM old r hr := by
  funext i
  unfold rdM mixM
  rw [if_neg]
  show ¬ 64 * r + (i 0).val < 64 * r
  omega

theorem mixM_step (r : Nat) (hr : r < 32) (new old : S2048x128.Idx → EReal) (x : FVec Ideal S64x128 .f32)
    (hx : ∀ (a : Fin 64) (b : Fin 128), x (ix2 a b) = new (ix2 ⟨64 * r + a.val, by omega⟩ b)) :
    (Rect.unit (s := S2048x128) ![64 * r, 0] S64x128.size (inbM r hr)).overlay (mixM r new old) (shapeCast S64x128 x shapeCasts_S64x128_S64x128) = mixM (r + 1) new old := by
  funext i
  have h1 : (i 1).val < 128 := (i 1).isLt
  by_cases h : 64 * r ≤ (i 0).val ∧ (i 0).val < 64 * r + 64
  · refine (overlay_unit_mem (sh := S2048x128) (off := ![64 * r, 0]) (size := S64x128.size) _ _ i (ix2 (⟨(i 0).val - 64 * r, by omega⟩ : Fin 64) (i 1 : Fin 128)) ?_).trans ?_
    · intro a
      match a with
      | ⟨0, _⟩ => show (i 0).val = 64 * r + ((i 0).val - 64 * r); omega
      | ⟨1, _⟩ => show (i 1).val = 0 + (i 1).val; omega
    · rw [shapeCast_self]
      refine (hx _ _).trans ?_
      unfold mixM
      rw [if_pos (by omega)]
      refine congrArg new (funext fun a => Fin.ext ?_)
      match a with
      | ⟨0, _⟩ => show 64 * r + ((i 0).val - 64 * r) = (i 0).val; omega
      | ⟨1, _⟩ => rfl
  · rw [overlay_unit_not_mem _ _ i 0 (by show (i 0).val < 64 * r ∨ 64 * r + 64 ≤ (i 0).val; omega)]
    unfold mixM
    by_cases h2 : (i 0).val < 64 * r
    · rw [if_pos h2, if_pos (by omega)]
    · rw [if_neg h2, if_neg (by omega)]

theorem mixP_step (W r k : Nat) (hr : r < 32) (hk : k < 8) (hW : 128 * (k + 1) ≤ W) (new old : S2048x1024.Idx → EReal) (x : FVec Ideal S64x128 .f32)
    (hx : ∀ (a : Fin 64) (b : Fin 128), x (ix2 a b) = new (ix2 ⟨64 * r + a.val, by omega⟩ ⟨128 * k + b.val, by omega⟩)) :
    (Rect.unit (s := S2048x1024) ![64 * r, 128 * k] S64x128.size (inbP r k hr hk)).overlay (mixP W r k new old)
      (shapeCast S64x128 (truncf .bf16 x bitsLt_bf16_f32) shapeCasts_S64x128_S64x128) = mixP W r (k + 1) new old := by
  funext i
  by_cases h : (64 * r ≤ (i 0).val ∧ (i 0).val < 64 * r + 64) ∧ (128 * k ≤ (i 1).val ∧ (i 1).val < 128 * k + 128)
  · refine (overlay_unit_mem (sh := S2048x1024) (off := ![64 * r, 128 * k]) (size := S64x128.size) _ _ i (ix2 (⟨(i 0).val - 64 * r, by omega⟩ : Fin 64) (⟨(i 1).val - 128 * k, by omega⟩ : Fin 128)) ?_).trans ?_
    · intro a
      match a with
      | ⟨0, _⟩ => show (i 0).val = 64 * r + ((i 0).val - 64 * r); omega
      | ⟨1, _⟩ => show (i 1).val = 128 * k + ((i 1).val - 128 * k); omega
    · rw [shapeCast_self]
      show x _ = _
      refine (hx _ _).trans ?_
      unfold mixP
      rw [if_pos (by omega)]
      refine congrArg new (funext fun a => Fin.ext ?_)
      match a with
      | ⟨0, _⟩ => show 64 * r + ((i 0).val - 64 * r) = (i 0).val; omega
      | ⟨1, _⟩ => show 128 * k + ((i 1).val - 128 * k) = (i 1).val; omega
  · have e : (Rect.unit (s := S2048x1024) ![64 * r, 128 * k] S64x128.size (inbP r k hr hk)).overlay (mixP W r k new old)
      (shapeCast S64x128 (truncf .bf16 x bitsLt_bf16_f32) shapeCasts_S64x128_S64x128) i = mixP W r k new old i := by
      by_cases h2 : 64 * r ≤ (i 0).val ∧ (i 0).val < 64 * r + 64
      · exact overlay_unit_not_mem _ _ i 1 (by show (i 1).val < 128 * k ∨ 128 * k + 128 ≤ (i 1).val; omega)
      · exact overlay_unit_not_mem _ _ i 0 (by show (i 0).val < 64 * r ∨ 64 * r + 64 ≤ (i 0).val; omega)
    rw [e]
    unfold mixP
    exact if_congr (by omega) rfl rfl

theorem mixP_row (W r k : Nat) (h : W ≤ 128 * k) (new old : S2048x1024.Idx → EReal) : mixP W r k new old = mixP W (r + 1) 0 new old := by
  funext i
  unfold mixP
  exact if_congr (by omega) rfl rfl

theorem ofBits_bot : Ideal.ofBits FTy.f32 0xFF800000#32 = ⊥ := by
  simp [Ideal.ofBits, Ideal.ieee]

theorem newMax_apply (x M : FVec Ideal S64x128 .f32) (a : Fin 64) (b : Fin 128) :
    newMax x M (ix2 a b) = max (M (ix2 a b)) (Finset.univ.fold max ⊥ fun l : Fin 128 => x (ix2 a l)) := by
  pointwise [newMax]
  rw [ofBits_bot]

/-! ## The block's steps as triples -/

variable {nD : Nat} {τ : Topo} {sig : RefSig} {Λ : Labels}

local notation "𝕄" => MT nD τ sig Unit (Elt Ideal) ℕ (UR sig nD τ) ℕ
local notation "𝕊" => Memref sig Kind.tc CoreSpace.vmem S2x2048x1024 EltTy.f32
local notation "ℙ'" => Memref sig Kind.tc CoreSpace.vmem S2048x1024 EltTy.bf16
local notation "𝕏" => Memref sig Kind.tc CoreSpace.vmem S2048x128 EltTy.f32

variable {defs : Defs nD τ sig (Elt Ideal) Λ} {c : Dev nD}

theorem cast_apply (X : S1x64x128.Idx → EReal) (a : Fin 64) (b : Fin 128) :
    shapeCast S64x128 X shapeCasts_S1x64x128_S64x128 (ix2 a b) = X (ix3 0 a b) := by
  pointwise

theorem wp_ldS (sl r j : Nat) (hs : sl < 2) (hr : r < 32) (hj : j < 8) (s : 𝕊) (S : S2x2048x1024.Idx → EReal) (Q : FVec Ideal S64x128 .f32 → sProp 𝕄) :
    ownsTc c s fullShare S ⊢ iprop((ownsTc c s fullShare S -∗ Q (rdS S sl r j hs hr hj)) -∗ WP defs c (ldS (F := Ideal) sl r j hs hr hj s) Q) := by
  unfold ldS
  rw [WP_bind]
  iintro H K
  iapply (wp_ld (c := c) (defs := defs) S _) $$ H
  iintro H
  iapply (WP_pure (defs := defs) (c := c) _ Q)
  have e : shapeCast S64x128 (fun j' : (Rect.unit (s := S2x2048x1024) ![sl, 64 * r, 128 * j] S1x64x128.size (inbS sl r j hs hr hj)).shape.Idx => S ((Rect.unit (s := S2x2048x1024) ![sl, 64 * r, 128 * j] S1x64x128.size (inbS sl r j hs hr hj)).emb j')) shapeCasts_S1x64x128_S64x128
      = rdS S sl r j hs hr hj := by
    funext i
    obtain ⟨a, b, rfl⟩ : ∃ (a : Fin 64) (b : Fin 128), i = ix2 a b := ⟨i 0, i 1, eq_ix2 i⟩
    refine (cast_apply _ a b).trans (congrArg S (funext fun x => Fin.ext ?_))
    match x with
    | ⟨0, _⟩ => show sl + 1 * 0 = sl; omega
    | ⟨1, _⟩ => show 64 * r + 1 * a.val = 64 * r + a.val; omega
    | ⟨2, _⟩ => show 128 * j + 1 * b.val = 128 * j + b.val; omega
  rw [e]
  iapply K
  iexact H

theorem wp_ldM (r : Nat) (hr : r < 32) (m : 𝕏) (X : S2048x128.Idx → EReal) (Q : FVec Ideal S64x128 .f32 → sProp 𝕄) :
    ownsTc c m fullShare X ⊢ iprop((ownsTc c m fullShare X -∗ Q (rdM X r hr)) -∗ WP defs c (ldM (F := Ideal) r hr m) Q) := by
  unfold ldM
  iintro H K
  iapply (wp_ld (c := c) (defs := defs) X _) $$ H
  have e : (fun j' => X ((Rect.unit (s := S2048x128) ![64 * r, 0] S64x128.size (inbM r hr)).emb j')) = rdM X r hr := by
    funext i
    refine congrArg X (funext fun a => Fin.ext ?_)
    match a with
    | ⟨0, _⟩ => show 64 * r + 1 * (i 0).val = 64 * r + (i 0).val; omega
    | ⟨1, _⟩ => show 0 + 1 * (i 1).val = (i 1).val; omega
  rw [e]
  iexact K

theorem wp_stM (r : Nat) (hr : r < 32) (m : 𝕏) (x : FVec Ideal S64x128 .f32) (new old : S2048x128.Idx → EReal)
    (hx : ∀ (a : Fin 64) (b : Fin 128), x (ix2 a b) = new (ix2 ⟨64 * r + a.val, by omega⟩ b)) (Q : PUnit → sProp 𝕄) :
    ownsTc c m fullShare (mixM r new old) ⊢ iprop((ownsTc c m fullShare (mixM (r + 1) new old) -∗ Q ⟨⟩) -∗ WP defs c (stM r hr m x) Q) := by
  unfold stM
  rw [WP_bind]
  iintro H K
  iapply (wp_ld (c := c) (defs := defs) (mixM r new old) _) $$ H
  iintro H
  iapply (wp_st (c := c) (defs := defs) (mixM r new old) _) $$ H
  rw [mixM_step r hr new old x hx]
  iexact K

theorem wp_stP (W r k : Nat) (hr : r < 32) (hk : k < 8) (hW : 128 * (k + 1) ≤ W) (m : ℙ') (hm : m.IsWhole) (x : FVec Ideal S64x128 .f32) (new old : S2048x1024.Idx → EReal)
    (hx : ∀ (a : Fin 64) (b : Fin 128), x (ix2 a b) = new (ix2 ⟨64 * r + a.val, by omega⟩ ⟨128 * k + b.val, by omega⟩)) (Q : PUnit → sProp 𝕄) :
    ownsTc c m fullShare (mixP W r k new old) ⊢ iprop((ownsTc c m fullShare (mixP W r (k + 1) new old) -∗ Q ⟨⟩) -∗ WP defs c (stP r k hr hk m hm x) Q) := by
  unfold stP
  rw [WP_bind]
  iintro H K
  iapply (wp_ld (c := c) (defs := defs) (mixP W r k new old) _) $$ H
  iintro H
  iapply (wp_st (c := c) (defs := defs) (mixP W r k new old) _) $$ H
  rw [mixP_step W r k hr hk hW new old x hx]
  iexact K

theorem wp_rescale (r : Nat) (hr : r < 32) (T : Fin 2048 → EReal) (M L A : S2048x128.Idx → EReal) (m' : FVec Ideal S64x128 .f32)
    (hm : ∀ (a : Fin 64) (b : Fin 128), m' (ix2 a b) = nM T M (ix2 ⟨64 * r + a.val, by omega⟩ b)) (mx lx ax : 𝕏) (Q : PUnit → sProp 𝕄) :
    iprop(ownsTc c mx fullShare (mixM r (nM T M) M) ∗ ownsTc c lx fullShare (mixM r (nX T M L) L) ∗ ownsTc c ax fullShare (mixM r (nX T M A) A)) ⊢
      iprop((iprop(ownsTc c mx fullShare (mixM (r + 1) (nM T M) M) ∗ ownsTc c lx fullShare (mixM (r + 1) (nX T M L) L) ∗ ownsTc c ax fullShare (mixM (r + 1) (nX T M A) A)) -∗ Q ⟨⟩)
        -∗ WP defs c (rescale r hr m' (rdM M r hr) mx lx ax) Q) := by
  have hX : ∀ (X : S2048x128.Idx → EReal) (a : Fin 64) (b : Fin 128),
      (mulf (exp2 (subf (rdM M r hr) m')) (rdM X r hr)) (ix2 a b) = nX T M X (ix2 ⟨64 * r + a.val, by omega⟩ b) := by
    intro X a b
    show Ideal.exp2 (rdM M r hr (ix2 a b) - m' (ix2 a b)) * rdM X r hr (ix2 a b) = _
    rw [hm a b]
    rfl
  unfold rescale
  rw [WP_bind]
  iintro ⟨HM, HL, HA⟩ K
  iapply (wp_ldM (c := c) (defs := defs) r hr lx _ _) $$ HL
  iintro HL
  rw [WP_bind, rdM_mix]
  iapply (wp_stM (c := c) (defs := defs) r hr lx _ _ _ (hX L) _) $$ HL
  iintro HL
  rw [WP_bind]
  iapply (wp_stM (c := c) (defs := defs) r hr mx _ _ _ hm _) $$ HM
  iintro HM
  rw [WP_bind]
  iapply (wp_ldM (c := c) (defs := defs) r hr ax _ _) $$ HA
  iintro HA
  rw [rdM_mix]
  iapply (wp_stM (c := c) (defs := defs) r hr ax _ _ _ (hX A) _) $$ HA
  iintro HA
  iapply K
  isplitl [HM]; · iexact HM
  isplitl [HL]; · iexact HL
  iexact HA

/-- Column `l` of the `j`-th group of a row's scores. -/
def col (S : S2x2048x1024.Idx → EReal) (sl : Nat) (hs : sl < 2) (i : Fin 2048) (j : Nat) (hj : j < 8) (l : Fin 128) : EReal :=
  S (ix3 ⟨sl, hs⟩ i ⟨128 * j + l.val, by omega⟩)

/-- The largest of a row's 1024 scores, as a block takes it. -/
def top (S : S2x2048x1024.Idx → EReal) (sl : Nat) (hs : sl < 2) (i : Fin 2048) : EReal :=
  Finset.univ.fold max ⊥ fun l : Fin 128 => max (max (max (max (max (max (max (col S sl hs i 0 (by decide) l) (col S sl hs i 1 (by decide) l))
    (col S sl hs i 2 (by decide) l)) (col S sl hs i 3 (by decide) l)) (col S sl hs i 4 (by decide) l)) (col S sl hs i 5 (by decide) l)) (col S sl hs i 6 (by decide) l)) (col S sl hs i 7 (by decide) l)

/-- The largest of a row's first 256 scores. -/
def topC (S : S2x2048x1024.Idx → EReal) (i : Fin 2048) : EReal :=
  Finset.univ.fold max ⊥ fun l : Fin 128 => max (col S 0 (by decide) i 0 (by decide) l) (col S 0 (by decide) i 1 (by decide) l)

/-- What the buffers hold when the first `r` blocks of rows have been done. -/
def half (W r : Nat) (S : S2x2048x1024.Idx → EReal) (sl : Nat) (hs : sl < 2) (T : Fin 2048 → EReal) (P : S2048x1024.Idx → EReal) (M L A : S2048x128.Idx → EReal)
    (c : Dev nD) (s : 𝕊) (p : ℙ') (mx lx ax : 𝕏) : sProp 𝕄 :=
  iprop(ownsTc c s fullShare S ∗ ownsTc c p fullShare (mixP W r 0 (nP S sl hs T M) P) ∗ ownsTc c mx fullShare (mixM r (nM T M) M)
    ∗ ownsTc c lx fullShare (mixM r (nX T M L) L) ∗ ownsTc c ax fullShare (mixM r (nX T M A) A))

theorem weight_apply (sl r k : Nat) (hs : sl < 2) (hr : r < 32) (hk : k < 8) (S : S2x2048x1024.Idx → EReal) (T : Fin 2048 → EReal) (M : S2048x128.Idx → EReal) (m' : FVec Ideal S64x128 .f32)
    (hm : ∀ (a : Fin 64) (b : Fin 128), m' (ix2 a b) = nM T M (ix2 ⟨64 * r + a.val, by omega⟩ b)) (a : Fin 64) (b : Fin 128) :
    (exp2 (subf (rdS S sl r k hs hr hk) m')) (ix2 a b) = nP S sl hs T M (ix2 ⟨64 * r + a.val, by omega⟩ ⟨128 * k + b.val, by omega⟩) := by
  show Ideal.exp2 (rdS S sl r k hs hr hk (ix2 a b) - m' (ix2 a b)) = _
  rw [hm a b]
  have e : (⟨(128 * k + b.val) % 128, Nat.mod_lt _ (by decide)⟩ : Fin 128) = b := Fin.ext (by show (128 * k + b.val) % 128 = b.val; omega)
  show _ = Ideal.exp2 (_ - nM T M (ix2 _ (⟨(128 * k + b.val) % 128, Nat.mod_lt _ (by decide)⟩ : Fin 128)))
  rw [e]
  rfl

theorem wp_block (sl r : Nat) (hs : sl < 2) (hr : r < 32) (S : S2x2048x1024.Idx → EReal) (P : S2048x1024.Idx → EReal) (M L A : S2048x128.Idx → EReal)
    (s : 𝕊) (p : ℙ') (hp : p.IsWhole) (mx lx ax : 𝕏) (Q : PUnit → sProp 𝕄) :
    half 1024 r S sl hs (top S sl hs) P M L A c s p mx lx ax ⊢
      iprop((half 1024 (r + 1) S sl hs (top S sl hs) P M L A c s p mx lx ax -∗ Q ⟨⟩) -∗ WP defs c (block sl r hs hr s p hp mx lx ax) Q) := by
  unfold half block
  iintro ⟨HS, HP, HM, HL, HA⟩ K
  rw [WP_bind]; iapply (wp_ldS (c := c) (defs := defs) sl r 0 hs hr _ s S _) $$ HS; iintro HS
  rw [WP_bind]; iapply (wp_ldS (c := c) (defs := defs) sl r 1 hs hr _ s S _) $$ HS; iintro HS
  rw [WP_bind]; iapply (wp_ldS (c := c) (defs := defs) sl r 2 hs hr _ s S _) $$ HS; iintro HS
  rw [WP_bind]; iapply (wp_ldS (c := c) (defs := defs) sl r 3 hs hr _ s S _) $$ HS; iintro HS
  rw [WP_bind]; iapply (wp_ldS (c := c) (defs := defs) sl r 4 hs hr _ s S _) $$ HS; iintro HS
  rw [WP_bind]; iapply (wp_ldS (c := c) (defs := defs) sl r 5 hs hr _ s S _) $$ HS; iintro HS
  rw [WP_bind]; iapply (wp_ldS (c := c) (defs := defs) sl r 6 hs hr _ s S _) $$ HS; iintro HS
  rw [WP_bind]; iapply (wp_ldS (c := c) (defs := defs) sl r 7 hs hr _ s S _) $$ HS; iintro HS
  rw [WP_bind]; iapply (wp_ldM (c := c) (defs := defs) r hr mx _ _) $$ HM; iintro HM
  rw [rdM_mix]
  have hm : ∀ (a : Fin 64) (b : Fin 128), newMax (maximumf (maximumf (maximumf (maximumf (maximumf (maximumf (maximumf (rdS S sl r 0 hs hr (by decide)) (rdS S sl r 1 hs hr (by decide)))
      (rdS S sl r 2 hs hr (by decide))) (rdS S sl r 3 hs hr (by decide))) (rdS S sl r 4 hs hr (by decide))) (rdS S sl r 5 hs hr (by decide))) (rdS S sl r 6 hs hr (by decide))) (rdS S sl r 7 hs hr (by decide)))
      (rdM M r hr) (ix2 a b) = nM (top S sl hs) M (ix2 ⟨64 * r + a.val, by omega⟩ b) := fun a b => newMax_apply _ _ a b
  generalize newMax (maximumf (maximumf (maximumf (maximumf (maximumf (maximumf (maximumf (rdS S sl r 0 hs hr (by decide)) (rdS S sl r 1 hs hr (by decide)))
      (rdS S sl r 2 hs hr (by decide))) (rdS S sl r 3 hs hr (by decide))) (rdS S sl r 4 hs hr (by decide))) (rdS S sl r 5 hs hr (by decide))) (rdS S sl r 6 hs hr (by decide))) (rdS S sl r 7 hs hr (by decide)))
      (rdM M r hr) = m' at hm ⊢
  rw [WP_bind]
  iapply (wp_rescale (c := c) (defs := defs) r hr (top S sl hs) M L A m' hm mx lx ax _) $$ [HM HL HA]
  · isplitl [HM]; · iexact HM
    isplitl [HL]; · iexact HL
    iexact HA
  iintro ⟨HM, HL, HA⟩
  rw [WP_bind]; iapply (wp_stP (c := c) (defs := defs) 1024 r 0 hr _ (by decide) p hp _ _ P (weight_apply sl r 0 hs hr _ S (top S sl hs) M m' hm) _) $$ HP; iintro HP
  rw [WP_bind]; iapply (wp_stP (c := c) (defs := defs) 1024 r 1 hr _ (by decide) p hp _ _ P (weight_apply sl r 1 hs hr _ S (top S sl hs) M m' hm) _) $$ HP; iintro HP
  rw [WP_bind]; iapply (wp_stP (c := c) (defs := defs) 1024 r 2 hr _ (by decide) p hp _ _ P (weight_apply sl r 2 hs hr _ S (top S sl hs) M m' hm) _) $$ HP; iintro HP
  rw [WP_bind]; iapply (wp_stP (c := c) (defs := defs) 1024 r 3 hr _ (by decide) p hp _ _ P (weight_apply sl r 3 hs hr _ S (top S sl hs) M m' hm) _) $$ HP; iintro HP
  rw [WP_bind]; iapply (wp_stP (c := c) (defs := defs) 1024 r 4 hr _ (by decide) p hp _ _ P (weight_apply sl r 4 hs hr _ S (top S sl hs) M m' hm) _) $$ HP; iintro HP
  rw [WP_bind]; iapply (wp_stP (c := c) (defs := defs) 1024 r 5 hr _ (by decide) p hp _ _ P (weight_apply sl r 5 hs hr _ S (top S sl hs) M m' hm) _) $$ HP; iintro HP
  rw [WP_bind]; iapply (wp_stP (c := c) (defs := defs) 1024 r 6 hr _ (by decide) p hp _ _ P (weight_apply sl r 6 hs hr _ S (top S sl hs) M m' hm) _) $$ HP; iintro HP
  iapply (wp_stP (c := c) (defs := defs) 1024 r 7 hr _ (by decide) p hp _ _ P (weight_apply sl r 7 hs hr _ S (top S sl hs) M m' hm) _) $$ HP; iintro HP
  rw [mixP_row 1024 r 8 (by decide)]
  iapply K
  isplitl [HS]; · iexact HS
  isplitl [HP]; · iexact HP
  isplitl [HM]; · iexact HM
  isplitl [HL]; · iexact HL
  iexact HA

theorem wp_blockC (r : Nat) (hr : r < 32) (S : S2x2048x1024.Idx → EReal) (P : S2048x1024.Idx → EReal) (M L A : S2048x128.Idx → EReal)
    (s : 𝕊) (p : ℙ') (hp : p.IsWhole) (mx lx ax : 𝕏) (Q : PUnit → sProp 𝕄) :
    half 256 r S 0 (by decide) (topC S) P M L A c s p mx lx ax ⊢
      iprop((half 256 (r + 1) S 0 (by decide) (topC S) P M L A c s p mx lx ax -∗ Q ⟨⟩) -∗ WP defs c (blockC r hr s p hp mx lx ax) Q) := by
  unfold half blockC
  iintro ⟨HS, HP, HM, HL, HA⟩ K
  rw [WP_bind]; iapply (wp_ldS (c := c) (defs := defs) 0 r 0 _ hr _ s S _) $$ HS; iintro HS
  rw [WP_bind]; iapply (wp_ldS (c := c) (defs := defs) 0 r 1 _ hr _ s S _) $$ HS; iintro HS
  rw [WP_bind]; iapply (wp_ldM (c := c) (defs := defs) r hr mx _ _) $$ HM; iintro HM
  rw [rdM_mix]
  have hm : ∀ (a : Fin 64) (b : Fin 128), newMax (maximumf (rdS S 0 r 0 (by decide) hr (by decide)) (rdS S 0 r 1 (by decide) hr (by decide)))
      (rdM M r hr) (ix2 a b) = nM (topC S) M (ix2 ⟨64 * r + a.val, by omega⟩ b) := fun a b => newMax_apply _ _ a b
  generalize newMax (maximumf (rdS S 0 r 0 (by decide) hr (by decide)) (rdS S 0 r 1 (by decide) hr (by decide))) (rdM M r hr) = m' at hm ⊢
  rw [WP_bind]
  iapply (wp_rescale (c := c) (defs := defs) r hr (topC S) M L A m' hm mx lx ax _) $$ [HM HL HA]
  · isplitl [HM]; · iexact HM
    isplitl [HL]; · iexact HL
    iexact HA
  iintro ⟨HM, HL, HA⟩
  rw [WP_bind]; iapply (wp_stP (c := c) (defs := defs) 256 r 0 hr _ (by decide) p hp _ _ P (weight_apply 0 r 0 _ hr _ S (topC S) M m' hm) _) $$ HP; iintro HP
  iapply (wp_stP (c := c) (defs := defs) 256 r 1 hr _ (by decide) p hp _ _ P (weight_apply 0 r 1 _ hr _ S (topC S) M m' hm) _) $$ HP; iintro HP
  rw [mixP_row 256 r 2 (by decide)]
  iapply K
  isplitl [HS]; · iexact HS
  isplitl [HP]; · iexact HP
  isplitl [HM]; · iexact HM
  isplitl [HL]; · iexact HL
  iexact HA

end Cert.KernelIdeal.Attn

end
-- ==== Proof.Attn.Chunk.lean ====
/-
What a chunk of keys does to the buffers, and the steps before and after the chunks.
-/
module

public import proofs.«01_k».proof.Proof.Attn.Block

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Shapes1.Facts₀ Shapes2.Facts₀

/-! ## Whole arrays read and written -/

theorem overlay_whole {sh : Shape} {α : Type} {off : Fin sh.rank → Nat} (h0 : ∀ a, off a = 0) (inb : ∀ a, off a + sh.size a ≤ sh.size a)
    (X w : sh.Idx → α) : (Rect.unit off sh.size inb).overlay X w = w := by
  funext i
  refine overlay_unit_mem (off := off) (size := sh.size) (inb := inb) X w i i fun a => ?_
  rw [h0 a, Nat.zero_add]

theorem whole_store {sh : Shape} {α : Type} {off : Fin sh.rank → Nat} {Y : sh.Idx → α} (h0 : ∀ a, off a = 0) (inb : ∀ a, off a + sh.size a ≤ sh.size a)
    (X w : sh.Idx → α) (h : ∀ i, w i = Y i) : (Rect.unit off sh.size inb).overlay X w = Y :=
  (overlay_whole h0 inb X w).trans (funext h)

theorem emb_whole {sh : Shape} {off : Fin sh.rank → Nat} (h0 : ∀ a, off a = 0) (inb : ∀ a, off a + sh.size a ≤ sh.size a)
    (i : sh.Idx) : (Rect.unit off sh.size inb).emb i = i :=
  funext fun a => Fin.ext (by show off a + 1 * (i a).val = (i a).val; rw [h0 a]; omega)

theorem zero2 : ∀ a : Fin 2, (![0, 0] : Fin 2 → Nat) a = 0 := by decide
theorem zero3 : ∀ a : Fin 3, (![0, 0, 0] : Fin 3 → Nat) a = 0 := by decide

/-! ## Entries -/

theorem pv_apply (P : FVec Ideal S2048x1024 .bf16) (v : FVec Ideal S1024x128 .bf16) (a : Fin 2048) (b : Fin 128) :
    (extractStridedSlice S2048x128 ![0, 0] (matmul dot_S2048x1024_S1024x256_S2048x256_1_0_0_1_n_n none P
      (concatenate S1024x256 1 [⟨S1024x128, v⟩, ⟨S1024x128, broadcast S1024x128 (Scalar.ofBits .bf16 0x3F80#16 : Ideal .bf16)⟩] concatenates_S1024x128_S1024x128_S1024x256_d1)
      (constant S2048x256 .f32 0x00000000#32)) slices_S2048x256_o0_0_S2048x128 : FVec Ideal S2048x128 .f32) (ix2 a b) = ∑ x, P (ix2 a x) * v (ix2 x b) := by
  pointwise

theorem p1_apply (P : FVec Ideal S2048x1024 .bf16) (v : FVec Ideal S1024x128 .bf16) (a : Fin 2048) (b : Fin 128) :
    (extractStridedSlice S2048x128 ![0, 128] (matmul dot_S2048x1024_S1024x256_S2048x256_1_0_0_1_n_n none P
      (concatenate S1024x256 1 [⟨S1024x128, v⟩, ⟨S1024x128, broadcast S1024x128 (Scalar.ofBits .bf16 0x3F80#16 : Ideal .bf16)⟩] concatenates_S1024x128_S1024x128_S1024x256_d1)
      (constant S2048x256 .f32 0x00000000#32)) slices_S2048x256_o0_128_S2048x128 : FVec Ideal S2048x128 .f32) (ix2 a b) = ∑ x, P (ix2 a x) := by
  pointwise

theorem pvC_apply (P : FVec Ideal S2048x256 .bf16) (v : FVec Ideal S256x128 .bf16) (a : Fin 2048) (b : Fin 128) :
    (extractStridedSlice S2048x128 ![0, 0] (matmul dot_S2048x256_S256x256_S2048x256_1_0_0_1_n_n none P
      (concatenate S256x256 1 [⟨S256x128, v⟩, ⟨S256x128, broadcast S256x128 (Scalar.ofBits .bf16 0x3F80#16 : Ideal .bf16)⟩] concatenates_S256x128_S256x128_S256x256_d1)
      (constant S2048x256 .f32 0x00000000#32)) slices_S2048x256_o0_0_S2048x128 : FVec Ideal S2048x128 .f32) (ix2 a b) = ∑ x, P (ix2 a x) * v (ix2 x b) := by
  pointwise

theorem p1C_apply (P : FVec Ideal S2048x256 .bf16) (v : FVec Ideal S256x128 .bf16) (a : Fin 2048) (b : Fin 128) :
    (extractStridedSlice S2048x128 ![0, 128] (matmul dot_S2048x256_S256x256_S2048x256_1_0_0_1_n_n none P
      (concatenate S256x256 1 [⟨S256x128, v⟩, ⟨S256x128, broadcast S256x128 (Scalar.ofBits .bf16 0x3F80#16 : Ideal .bf16)⟩] concatenates_S256x128_S256x128_S256x256_d1)
      (constant S2048x256 .f32 0x00000000#32)) slices_S2048x256_o0_128_S2048x128 : FVec Ideal S2048x128 .f32) (ix2 a b) = ∑ x, P (ix2 a x) := by
  pointwise

theorem qk_apply (q : FVec Ideal S2048x128 .bf16) (k : S1x1024x128.Idx → EReal) (a : Fin 2048) (b : Fin 1024) :
    (shapeCast S1x2048x1024 (matmul dot_S2048x128_S1024x128_S2048x1024_1_1_0_0_n_n none q (shapeCast S1024x128 (k : Vec Ideal S1x1024x128 .bf16) shapeCasts_S1x1024x128_S1024x128 : FVec Ideal S1024x128 .bf16)
      (constant S2048x1024 .f32 0x00000000#32)) shapeCasts_S2048x1024_S1x2048x1024 : Vec Ideal S1x2048x1024 .f32) (ix3 0 a b) = ∑ x, q (ix2 a x) * k (ix3 0 b x) := by
  pointwise

theorem qkC_apply (q : FVec Ideal S2048x128 .bf16) (k : S1x256x128.Idx → EReal) (a : Fin 2048) (b : Fin 256) :
    (shapeCast S1x2048x256 (matmul dot_S2048x128_S256x128_S2048x256_1_1_0_0_n_n none q (shapeCast S256x128 (k : Vec Ideal S1x256x128 .bf16) shapeCasts_S1x256x128_S256x128 : FVec Ideal S256x128 .bf16)
      (constant S2048x256 .f32 0x00000000#32)) shapeCasts_S2048x256_S1x2048x256 : Vec Ideal S1x2048x256 .f32) (ix3 0 a b) = ∑ x, q (ix2 a x) * k (ix3 0 b x) := by
  pointwise

theorem scaled_apply (x : S1x512x128.Idx → EReal) (a : Fin 512) (b : Fin 128) :
    (shapeCast S512x128 (truncf .bf16 (mulf (shapeCast S512x128 (x : Vec Ideal S1x512x128 .f32) shapeCasts_S1x512x128_S512x128) (broadcast S512x128 (Named.named κ "qscale" 0x3E0293EE#32 : Ideal .f32))) bitsLt_bf16_f32) shapeCasts_S512x128_S512x128 : Vec Ideal S512x128 .bf16) (ix2 a b)
      = x (ix3 0 a b) * (Named.named κ "qscale" 0x3E0293EE#32 : Ideal .f32) := by
  pointwise

theorem ratio_apply (x l : FVec Ideal S512x128 .f32) (a : Fin 512) (b : Fin 128) :
    (shapeCast S1x512x128 (truncf .bf16 (mulf x (divf (broadcast S512x128 (Scalar.ofBits .f32 0x3F800000#32 : Ideal .f32)) l)) bitsLt_bf16_f32) shapeCasts_S512x128_S1x512x128 : Vec Ideal S1x512x128 .bf16) (ix3 0 a b)
      = x (ix2 a b) * Ideal.div 1 (l (ix2 a b)) := by
  pointwise

/-! ## Triples -/

variable {nD : Nat} {τ : Topo} {sig : RefSig} {Λ : Labels}

local notation "𝕄" => MT nD τ sig Unit (Elt Ideal) ℕ (UR sig nD τ) ℕ
local notation "ℙ" => Prog (TpuEff nD τ sig (Elt Ideal) Λ Proc.tc)
local notation "𝕊" => Memref sig Kind.tc CoreSpace.vmem S2x2048x1024 EltTy.f32
local notation "ℚ'" => Memref sig Kind.tc CoreSpace.vmem S2048x128 EltTy.bf16
local notation "ℙ'" => Memref sig Kind.tc CoreSpace.vmem S2048x1024 EltTy.bf16
local notation "𝕏" => Memref sig Kind.tc CoreSpace.vmem S2048x128 EltTy.f32

variable {defs : Defs nD τ sig (Elt Ideal) Λ} {c : Dev nD}

theorem wp_rows (b : (r : Nat) → r < 32 → ℙ PUnit) (I : Nat → sProp 𝕄)
    (hb : ∀ (r : Nat) (hr : r < 32) (Q : PUnit → sProp 𝕄), I r ⊢ iprop((I (r + 1) -∗ Q ⟨⟩) -∗ WP defs c (b r hr) Q)) :
    ∀ (n r : Nat) (h : r + n ≤ 32) (Q : PUnit → sProp 𝕄), I r ⊢ iprop((I (r + n) -∗ Q ⟨⟩) -∗ WP defs c (rows b n r h) Q)
  | 0, r, h, Q => by
    unfold rows
    iintro H K
    iapply (WP_pure (defs := defs) (c := c) _ Q)
    iapply K
    iexact H
  | n + 1, r, h, Q => by
    unfold rows
    rw [WP_bind, show r + (n + 1) = r + 1 + n by omega]
    iintro H K
    iapply (hb r _ _) $$ H
    iintro H
    iapply (wp_rows b I hb n (r + 1) _ Q) $$ H
    iexact K

/-- A whole statistic with an array added. -/
def plus (X x : S2048x128.Idx → EReal) : S2048x128.Idx → EReal := fun i => X i + x i

theorem wp_addTo (m : 𝕏) (x : FVec Ideal S2048x128 .f32) (X : S2048x128.Idx → EReal) (Q : PUnit → sProp 𝕄) :
    ownsTc c m fullShare X ⊢ iprop((ownsTc c m fullShare (plus X x) -∗ Q ⟨⟩) -∗ WP defs c (addTo m x) Q) := by
  unfold addTo
  iintro H K
  rw [WP_bind]; iapply (wp_ld (c := c) (defs := defs) X _) $$ H; iintro H
  rw [WP_bind]; iapply (wp_ld (c := c) (defs := defs) X _) $$ H; iintro H
  iapply (wp_st (c := c) (defs := defs) X _) $$ H
  rw [whole_store (Y := plus X x) zero2 _ X _ ?_]
  · iexact K
  · intro i
    refine (congrFun (shapeCast_self _ _) i).trans ?_
    show X _ + x i = X i + x i
    rw [emb_whole (sh := S2048x128) zero2]

theorem wp_fill (m : 𝕏) (b : BitVec 32) (X : S2048x128.Idx → EReal) (Q : PUnit → sProp 𝕄) :
    ownsTc c m fullShare X ⊢ iprop((ownsTc c m fullShare (fun _ => Ideal.ofBits .f32 b) -∗ Q ⟨⟩) -∗ WP defs c (fill (F := Ideal) m b) Q) := by
  unfold fill
  iintro H K
  rw [WP_bind]; iapply (wp_ld (c := c) (defs := defs) X _) $$ H; iintro H
  iapply (wp_st (c := c) (defs := defs) X _) $$ H
  have e : (Rect.unit (s := S2048x128) ![0, 0] S2048x128.size inb_S2048x128_S2048x128_0_0).overlay X
      (shapeCast S2048x128 (broadcast S2048x128 (Scalar.ofBits .f32 b : Ideal .f32)) shapeCasts_S2048x128_S2048x128)
      = fun _ => Ideal.ofBits .f32 b := by
    refine (overlay_whole (sh := S2048x128) zero2 _ X _).trans ?_
    rw [shapeCast_self]
    rfl
  rw [e]
  iexact K

/-- The products of the queries with a chunk's keys, in their slot. -/
def slot (j sl : Nat) (hj : j < 4) (KL : S1x4096x128.Idx → EReal) (QS : S2048x128.Idx → EReal) (S : S2x2048x1024.Idx → EReal) : S2x2048x1024.Idx → EReal :=
  fun i => if (i 0).val = sl then ∑ d : Fin 128, QS (ix2 (i 1) d) * KL (ix3 0 ⟨1024 * j + (i 2).val, by have : (i 2).val < 1024 := (i 2).isLt; omega⟩ d) else S i

/-- The products of the queries with the context's keys, in the first slot's first columns. -/
def slotC (KC : S1x256x128.Idx → EReal) (QS : S2048x128.Idx → EReal) (S : S2x2048x1024.Idx → EReal) : S2x2048x1024.Idx → EReal :=
  fun i => if h : (i 0).val = 0 ∧ (i 2).val < 256 then ∑ d : Fin 128, QS (ix2 (i 1) d) * KC (ix3 0 ⟨(i 2).val, h.2⟩ d) else S i

theorem slot_store (j sl : Nat) (hj : j < 4) (hs : sl < 2) (KL : S1x4096x128.Idx → EReal) (QS : S2048x128.Idx → EReal) (S : S2x2048x1024.Idx → EReal) (w : S1x2048x1024.Idx → EReal)
    (hw : ∀ (a : Fin 2048) (b : Fin 1024), w (ix3 (0 : Fin 1) a b) = ∑ d : Fin 128, QS (ix2 a d) * KL (ix3 0 ⟨1024 * j + b.val, by omega⟩ d)) :
    (Rect.unit (s := S2x2048x1024) ![sl, 0, 0] S1x2048x1024.size (inbSlot sl hs)).overlay S w = slot j sl hj KL QS S := by
  funext i
  unfold slot
  have h1 : (i 1).val < 2048 := (i 1).isLt
  have h2 : (i 2).val < 1024 := (i 2).isLt
  by_cases h : (i 0).val = sl
  · rw [if_pos h]
    refine (overlay_unit_mem (sh := S2x2048x1024) (off := ![sl, 0, 0]) (size := S1x2048x1024.size) _ _ i (ix3 (0 : Fin 1) (⟨(i 1).val, h1⟩ : Fin 2048) (⟨(i 2).val, h2⟩ : Fin 1024)) ?_).trans (hw _ _)
    intro a
    match a with
    | ⟨0, _⟩ => exact h
    | ⟨1, _⟩ => exact (Nat.zero_add _).symm
    | ⟨2, _⟩ => exact (Nat.zero_add _).symm
  · rw [if_neg h]
    exact overlay_unit_not_mem (sh := S2x2048x1024) _ _ i 0 (by show (i 0).val < sl ∨ sl + 1 ≤ (i 0).val; omega)

theorem slotC_store (KC : S1x256x128.Idx → EReal) (QS : S2048x128.Idx → EReal) (S : S2x2048x1024.Idx → EReal) (w : S1x2048x256.Idx → EReal)
    (hw : ∀ (a : Fin 2048) (b : Fin 256), w (ix3 (0 : Fin 1) a b) = ∑ d : Fin 128, QS (ix2 a d) * KC (ix3 0 b d)) :
    (Rect.unit (s := S2x2048x1024) ![0, 0, 0] S1x2048x256.size inb_S2x2048x1024_S1x2048x256_0_0_0).overlay S w = slotC KC QS S := by
  funext i
  unfold slotC
  have h0 : (i 0).val < 2 := (i 0).isLt
  have h1 : (i 1).val < 2048 := (i 1).isLt
  by_cases h : (i 0).val = 0 ∧ (i 2).val < 256
  · rw [dif_pos h]
    refine (overlay_unit_mem (sh := S2x2048x1024) (off := ![0, 0, 0]) (size := S1x2048x256.size) _ _ i (ix3 (0 : Fin 1) (⟨(i 1).val, h1⟩ : Fin 2048) (⟨(i 2).val, h.2⟩ : Fin 256)) ?_).trans (hw _ _)
    intro a
    match a with
    | ⟨0, _⟩ => exact h.1
    | ⟨1, _⟩ => exact (Nat.zero_add _).symm
    | ⟨2, _⟩ => exact (Nat.zero_add _).symm
  · rw [dif_neg h]
    by_cases h2 : (i 0).val = 0
    · exact overlay_unit_not_mem (sh := S2x2048x1024) _ _ i 2 (by show (i 2).val < 0 ∨ 0 + 256 ≤ (i 2).val; omega)
    · exact overlay_unit_not_mem (sh := S2x2048x1024) _ _ i 0 (by show (i 0).val < 0 ∨ 0 + 1 ≤ (i 0).val; omega)

theorem wp_scores (j sl : Nat) (hj : j < 4) (hs : sl < 2) (kl : Memref sig Kind.tc CoreSpace.vmem S1x4096x128 EltTy.bf16) (q : ℚ') (s : 𝕊)
    (KL : S1x4096x128.Idx → EReal) (QS : S2048x128.Idx → EReal) (S : S2x2048x1024.Idx → EReal) (Q : PUnit → sProp 𝕄) :
    iprop(ownsTc c kl fullShare KL ∗ ownsTc c q fullShare QS ∗ ownsTc c s fullShare S) ⊢
      iprop((iprop(ownsTc c kl fullShare KL ∗ ownsTc c q fullShare QS ∗ ownsTc c s fullShare (slot j sl hj KL QS S)) -∗ Q ⟨⟩) -∗ WP defs c (scores (F := Ideal) j sl hj hs kl q s) Q) := by
  unfold scores
  iintro ⟨HK, HQ, HS⟩ K
  rw [WP_bind]; iapply (wp_ld (c := c) (defs := defs) KL _) $$ HK; iintro HK
  rw [WP_bind]; iapply (wp_ld (c := c) (defs := defs) QS _) $$ HQ; iintro HQ
  rw [WP_bind]; iapply (wp_ld (c := c) (defs := defs) S _) $$ HS; iintro HS
  iapply (wp_st (c := c) (defs := defs) S _) $$ HS
  rw [slot_store j sl hj hs KL QS S _ ?_]
  · iintro HS
    iapply K
    isplitl [HK]; · iexact HK
    isplitl [HQ]; · iexact HQ
    iexact HS
  · intro a b
    refine (qk_apply _ _ _ _).trans (Finset.sum_congr rfl fun d _ => ?_)
    refine congrArg₂ (· * ·) (congrArg QS (emb_whole (sh := S2048x128) zero2 _ _)) (congrArg KL (funext fun x => Fin.ext ?_))
    match x with
    | ⟨0, _⟩ => rfl
    | ⟨1, _⟩ => show 1024 * j + 1 * b.val = 1024 * j + b.val; omega
    | ⟨2, _⟩ => show 0 + 1 * d.val = d.val; omega

theorem wp_scoresC (kc : Memref sig Kind.tc CoreSpace.vmem S1x256x128 EltTy.bf16) (q : ℚ') (s : 𝕊)
    (KC : S1x256x128.Idx → EReal) (QS : S2048x128.Idx → EReal) (S : S2x2048x1024.Idx → EReal) (Q : PUnit → sProp 𝕄) :
    iprop(ownsTc c kc fullShare KC ∗ ownsTc c q fullShare QS ∗ ownsTc c s fullShare S) ⊢
      iprop((iprop(ownsTc c kc fullShare KC ∗ ownsTc c q fullShare QS ∗ ownsTc c s fullShare (slotC KC QS S)) -∗ Q ⟨⟩) -∗ WP defs c (scoresC (F := Ideal) kc q s) Q) := by
  unfold scoresC
  iintro ⟨HK, HQ, HS⟩ K
  rw [WP_bind]; iapply (wp_ld (c := c) (defs := defs) KC _) $$ HK; iintro HK
  rw [WP_bind]; iapply (wp_ld (c := c) (defs := defs) QS _) $$ HQ; iintro HQ
  rw [WP_bind]; iapply (wp_ld (c := c) (defs := defs) S _) $$ HS; iintro HS
  iapply (wp_st (c := c) (defs := defs) S _) $$ HS
  rw [slotC_store KC QS S _ ?_]
  · iintro HS
    iapply K
    isplitl [HK]; · iexact HK
    isplitl [HQ]; · iexact HQ
    iexact HS
  · intro a b
    refine (qkC_apply _ _ _ _).trans (Finset.sum_congr rfl fun d _ => ?_)
    exact congrArg₂ (· * ·) (congrArg QS (emb_whole (sh := S2048x128) zero2 _ _)) (congrArg KC (emb_whole (sh := S1x256x128) zero3 _ _))

/-- The values of a latent chunk. -/
def vals (j : Nat) (hj : j < 4) (VL : S1x4096x128.Idx → EReal) : FVec Ideal S1024x128 .bf16 :=
  fun i => VL (ix3 0 ⟨1024 * j + (i 0).val, by have : (i 0).val < 1024 := (i 0).isLt; omega⟩ (i 1))

theorem castV_apply (X : S1x1024x128.Idx → EReal) (a : Fin 1024) (b : Fin 128) :
    shapeCast S1024x128 X shapeCasts_S1x1024x128_S1024x128 (ix2 a b) = X (ix3 0 a b) := by
  pointwise

theorem wp_values (j : Nat) (hj : j < 4) (vl : Memref sig Kind.tc CoreSpace.vmem S1x4096x128 EltTy.bf16) (VL : S1x4096x128.Idx → EReal) (Q : FVec Ideal S1024x128 .bf16 → sProp 𝕄) :
    ownsTc c vl fullShare VL ⊢ iprop((ownsTc c vl fullShare VL -∗ Q (vals j hj VL)) -∗ WP defs c (values (F := Ideal) j hj vl) Q) := by
  unfold values
  rw [WP_bind]
  iintro H K
  iapply (wp_ld (c := c) (defs := defs) VL _) $$ H
  iintro H
  iapply (WP_pure (defs := defs) (c := c) _ Q)
  have e : shapeCast S1024x128 (fun j' : (Rect.unit (s := S1x4096x128) ![0, 1024 * j, 0] S1x1024x128.size (inbKV j hj)).shape.Idx => VL ((Rect.unit (s := S1x4096x128) ![0, 1024 * j, 0] S1x1024x128.size (inbKV j hj)).emb j')) shapeCasts_S1x1024x128_S1024x128
      = vals j hj VL := by
    funext i
    obtain ⟨a, b, rfl⟩ : ∃ (a : Fin 1024) (b : Fin 128), i = ix2 a b := ⟨i 0, i 1, eq_ix2 i⟩
    refine (castV_apply _ a b).trans (congrArg VL (funext fun x => Fin.ext ?_))
    match x with
    | ⟨0, _⟩ => rfl
    | ⟨1, _⟩ => show 1024 * j + 1 * a.val = 1024 * j + a.val; omega
    | ⟨2, _⟩ => show 0 + 1 * b.val = b.val; omega
  rw [e]
  iapply K
  iexact H

/-! ## A chunk -/

/-- A statistic after a chunk with the weights `P`: rescaled, then the weighted sum of the values added. -/
def nA {n : Nat} (T : Fin 2048 → EReal) (P : Fin 2048 → Fin n → EReal) (v : Fin n → Fin 128 → EReal) (M A : S2048x128.Idx → EReal) : S2048x128.Idx → EReal :=
  plus (nX T M A) fun i => ∑ x, P (i 0) x * v x (i 1)

/-- The running sum of the weights after a chunk. -/
def nL {n : Nat} (T : Fin 2048 → EReal) (P : Fin 2048 → Fin n → EReal) (M L : S2048x128.Idx → EReal) : S2048x128.Idx → EReal :=
  plus (nX T M L) fun i => ∑ x, P (i 0) x

theorem mixM_zero (new old : S2048x128.Idx → EReal) : mixM 0 new old = old := by
  funext i; exact if_neg (by omega)

theorem mixM_all (new old : S2048x128.Idx → EReal) : mixM 32 new old = new := by
  funext i
  have h : (i 0).val < 2048 := (i 0).isLt
  exact if_pos (by omega)

theorem mixP_zero (W : Nat) (new old : S2048x1024.Idx → EReal) : mixP W 0 0 new old = old := by
  funext i; exact if_neg (by omega)

theorem mixP_all (W : Nat) (new old : S2048x1024.Idx → EReal) (i : S2048x1024.Idx) (hi : (i 1).val < W) : mixP W 32 0 new old i = new i := by
  have h : (i 0).val < 2048 := (i 0).isLt
  exact if_pos (by omega)

theorem half_zero (W : Nat) (S : S2x2048x1024.Idx → EReal) (sl : Nat) (hs : sl < 2) (T : Fin 2048 → EReal) (P : S2048x1024.Idx → EReal) (M L A : S2048x128.Idx → EReal)
    (s : 𝕊) (p : ℙ') (mx lx ax : 𝕏) : half (τ := τ) W 0 S sl hs T P M L A c s p mx lx ax
      = (iprop(ownsTc c s fullShare S ∗ ownsTc c p fullShare P ∗ ownsTc c mx fullShare M ∗ ownsTc c lx fullShare L ∗ ownsTc c ax fullShare A) : sProp 𝕄) := by
  unfold half; rw [mixM_zero, mixM_zero, mixM_zero, mixP_zero]

theorem half_all (W : Nat) (S : S2x2048x1024.Idx → EReal) (sl : Nat) (hs : sl < 2) (T : Fin 2048 → EReal) (P : S2048x1024.Idx → EReal) (M L A : S2048x128.Idx → EReal)
    (s : 𝕊) (p : ℙ') (mx lx ax : 𝕏) : half (τ := τ) W (0 + 32) S sl hs T P M L A c s p mx lx ax
      = (iprop(ownsTc c s fullShare S ∗ ownsTc c p fullShare (mixP W 32 0 (nP S sl hs T M) P) ∗ ownsTc c mx fullShare (nM T M) ∗ ownsTc c lx fullShare (nX T M L) ∗ ownsTc c ax fullShare (nX T M A)) : sProp 𝕄) := by
  unfold half; rw [mixM_all, mixM_all, mixM_all]

/-- The buffers a chunk works on. -/
def bufs (S : S2x2048x1024.Idx → EReal) (M L A : S2048x128.Idx → EReal) (c : Dev nD) (s : 𝕊) (p : ℙ') (mx lx ax : 𝕏) : sProp 𝕄 :=
  iprop(ownsTc c s fullShare S ∗ (∃ P, ownsTc c p fullShare P) ∗ ownsTc c mx fullShare M ∗ ownsTc c lx fullShare L ∗ ownsTc c ax fullShare A)

/-- The weights of a chunk. -/
def wts (S : S2x2048x1024.Idx → EReal) (sl : Nat) (hs : sl < 2) (T : Fin 2048 → EReal) (M : S2048x128.Idx → EReal) (i : Fin 2048) (x : Fin 1024) : EReal :=
  nP S sl hs T M (ix2 i x)

theorem wts_read (W : Nat) (S : S2x2048x1024.Idx → EReal) (sl : Nat) (hs : sl < 2) (T : Fin 2048 → EReal) (P : S2048x1024.Idx → EReal) (M : S2048x128.Idx → EReal) (a : Fin 2048) (x : Fin 1024)
    (hx : x.val < W) (i : S2048x1024.Idx) (hi : i = ix2 a x) : mixP W 32 0 (nP S sl hs T M) P i = wts S sl hs T M a x := by
  rw [hi]
  exact mixP_all W _ _ _ hx

theorem plus_eq (X : S2048x128.Idx → EReal) (x y : S2048x128.Idx → EReal) (h : ∀ (a : Fin 2048) (b : Fin 128), x (ix2 a b) = y (ix2 a b)) : plus X x = plus X y := by
  have e : x = y := by
    funext i
    obtain ⟨a, b, rfl⟩ : ∃ (a : Fin 2048) (b : Fin 128), i = ix2 a b := ⟨i 0, i 1, eq_ix2 i⟩
    exact h a b
  rw [e]

theorem wp_chunk (sl : Nat) (hs : sl < 2) (v : FVec Ideal S1024x128 .bf16) (s : 𝕊) (p : ℙ') (hp : p.IsWhole) (mx lx ax : 𝕏)
    (S : S2x2048x1024.Idx → EReal) (M L A : S2048x128.Idx → EReal) (Q : PUnit → sProp 𝕄) :
    bufs S M L A c s p mx lx ax ⊢ iprop((bufs S (nM (top S sl hs) M) (nL (top S sl hs) (wts S sl hs (top S sl hs) M) M L)
        (nA (top S sl hs) (wts S sl hs (top S sl hs) M) (fun x y => v (ix2 x y)) M A) c s p mx lx ax -∗ Q ⟨⟩)
      -∗ WP defs c (chunk sl hs v s p hp mx lx ax) Q) := by
  unfold bufs chunk
  iintro ⟨HS, ⟨%P, HP⟩, HM, HL, HA⟩ K
  rw [WP_bind]
  iapply (wp_rows (c := c) (defs := defs) _ (fun r => half 1024 r S sl hs (top S sl hs) P M L A c s p mx lx ax)
    (fun r hr Q => wp_block sl r hs hr S P M L A s p hp mx lx ax Q) 32 0 _ _) $$ [HS HP HM HL HA]
  · rw [half_zero]
    isplitl [HS]; · iexact HS
    isplitl [HP]; · iexact HP
    isplitl [HM]; · iexact HM
    isplitl [HL]; · iexact HL
    iexact HA
  rw [half_all]
  iintro ⟨HS, HP, HM, HL, HA⟩
  rw [WP_bind]; iapply (wp_ld (c := c) (defs := defs) _ _) $$ HP; iintro HP
  unfold addPV
  rw [WP_bind]; iapply (wp_addTo (c := c) (defs := defs) ax _ _ _) $$ HA; iintro HA
  iapply (wp_addTo (c := c) (defs := defs) lx _ _ _) $$ HL; iintro HL
  rw [plus_eq (nX (top S sl hs) M A) _ (fun i => ∑ x, wts S sl hs (top S sl hs) M (i 0) x * v (ix2 x (i 1))) ?ha,
    plus_eq (nX (top S sl hs) M L) _ (fun i => ∑ x, wts S sl hs (top S sl hs) M (i 0) x) ?hl]
  · iapply K
    isplitl [HS]; · iexact HS
    isplitl [HP]; · iexists _; iexact HP
    isplitl [HM]; · iexact HM
    isplitl [HL]; · iexact HL
    iexact HA
  case ha =>
    intro a b
    refine (pv_apply _ _ a b).trans (Finset.sum_congr rfl fun x _ => congrArg (· * v (ix2 x b)) ?_)
    exact wts_read 1024 S sl hs _ P M a x x.isLt _ (emb_whole (sh := S2048x1024) zero2 _ _)
  case hl =>
    intro a b
    refine (p1_apply _ _ a b).trans (Finset.sum_congr rfl fun x _ => ?_)
    exact wts_read 1024 S sl hs _ P M a x x.isLt _ (emb_whole (sh := S2048x1024) zero2 _ _)

theorem first_cols (a : Fin 2048) (x : Fin 256) :
    (Rect.unit (s := S2048x1024) ![0, 0] S2048x256.size inb_S2048x1024_S2048x256_0_0).emb (ix2 a x) = ix2 a (⟨x.val, by omega⟩ : Fin 1024) := by
  funext d
  refine Fin.ext ?_
  match d with
  | ⟨0, _⟩ => show 0 + 1 * a.val = a.val; omega
  | ⟨1, _⟩ => show 0 + 1 * x.val = x.val; omega

/-- The weights of the context's chunk. -/
def wtsC (S : S2x2048x1024.Idx → EReal) (M : S2048x128.Idx → EReal) (i : Fin 2048) (x : Fin 256) : EReal :=
  wts S 0 (by decide) (topC S) M i ⟨x.val, by omega⟩

theorem castVC_apply (X : S1x256x128.Idx → EReal) (a : Fin 256) (b : Fin 128) :
    shapeCast S256x128 X shapeCasts_S1x256x128_S256x128 (ix2 a b) = X (ix3 0 a b) := by
  pointwise

theorem wp_chunkC (vc : Memref sig Kind.tc CoreSpace.vmem S1x256x128 EltTy.bf16) (s : 𝕊) (p : ℙ') (hp : p.IsWhole) (mx lx ax : 𝕏)
    (VC : S1x256x128.Idx → EReal) (S : S2x2048x1024.Idx → EReal) (M L A : S2048x128.Idx → EReal) (Q : PUnit → sProp 𝕄) :
    iprop(ownsTc c vc fullShare VC ∗ bufs S M L A c s p mx lx ax) ⊢ iprop((iprop(ownsTc c vc fullShare VC ∗ bufs S (nM (topC S) M) (nL (topC S) (wtsC S M) M L)
        (nA (topC S) (wtsC S M) (fun x y => VC (ix3 0 x y)) M A) c s p mx lx ax) -∗ Q ⟨⟩)
      -∗ WP defs c (chunkC vc s p hp mx lx ax) Q) := by
  unfold bufs chunkC
  iintro ⟨HV, HS, ⟨%P, HP⟩, HM, HL, HA⟩ K
  rw [WP_bind]; iapply (wp_ld (c := c) (defs := defs) VC _) $$ HV; iintro HV
  rw [WP_bind]
  iapply (wp_rows (c := c) (defs := defs) _ (fun r => half 256 r S 0 (by decide) (topC S) P M L A c s p mx lx ax)
    (fun r hr Q => wp_blockC r hr S P M L A s p hp mx lx ax Q) 32 0 _ _) $$ [HS HP HM HL HA]
  · rw [half_zero]
    isplitl [HS]; · iexact HS
    isplitl [HP]; · iexact HP
    isplitl [HM]; · iexact HM
    isplitl [HL]; · iexact HL
    iexact HA
  rw [half_all]
  iintro ⟨HS, HP, HM, HL, HA⟩
  rw [WP_bind]; iapply (wp_ld (c := c) (defs := defs) _ _) $$ HP; iintro HP
  unfold addPV
  rw [WP_bind]; iapply (wp_addTo (c := c) (defs := defs) ax _ _ _) $$ HA; iintro HA
  iapply (wp_addTo (c := c) (defs := defs) lx _ _ _) $$ HL; iintro HL
  rw [plus_eq (nX (topC S) M A) _ (fun i => ∑ x, wtsC S M (i 0) x * VC (ix3 0 x (i 1))) ?ha,
    plus_eq (nX (topC S) M L) _ (fun i => ∑ x, wtsC S M (i 0) x) ?hl]
  · iapply K
    isplitl [HV]; · iexact HV
    isplitl [HS]; · iexact HS
    isplitl [HP]; · iexists _; iexact HP
    isplitl [HM]; · iexact HM
    isplitl [HL]; · iexact HL
    iexact HA
  case ha =>
    intro a b
    refine (pvC_apply _ _ a b).trans (Finset.sum_congr rfl fun x _ => congrArg₂ (· * ·) ?_ ?_)
    · exact wts_read 256 S 0 _ _ P M a _ x.isLt _ (first_cols a x)
    · exact (castVC_apply _ x b).trans (congrArg VC (emb_whole (sh := S1x256x128) zero3 _ _))
  case hl =>
    intro a b
    refine (p1C_apply _ _ a b).trans (Finset.sum_congr rfl fun x _ => ?_)
    exact wts_read 256 S 0 _ _ P M a _ x.isLt _ (first_cols a x)

end Cert.KernelIdeal.Attn

end
-- ==== Proof.Attn.Ends.lean ====
/-
The steps before and after the chunks: the queries copied, the weights' blocks rounded, the result.
-/
module

public import proofs.«01_k».proof.Proof.Attn.Chunk

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Shapes1.Facts₀ Shapes2.Facts₀

/-- The scale of the queries. -/
def scale : EReal := (Named.named κ "qscale" 0x3E0293EE#32 : Ideal .f32)

/-- The scaled queries: row `512 g + i` is head `g` of row `i`. -/
def qs (Q : S1x512x512.Idx → EReal) : S2048x128.Idx → EReal :=
  fun i => Q (ix3 0 ⟨(i 0).val % 512, Nat.mod_lt _ (by decide)⟩ ⟨128 * ((i 0).val / 512) + (i 1).val, by
    have : (i 0).val < 2048 := (i 0).isLt; have : (i 1).val < 128 := (i 1).isLt; omega⟩) * scale

/-- The query scratch with the rows of the first `g` heads replaced. -/
def mixQ (g : Nat) (new old : S2048x128.Idx → EReal) : S2048x128.Idx → EReal :=
  fun i => if (i 0).val < 512 * g then new i else old i

/-- The result: the sums of weighted values times the reciprocals of the sums of weights. -/
def outOf (L A : S2048x128.Idx → EReal) : S1x512x512.Idx → EReal :=
  fun i => (fun j : S2048x128.Idx => A j * Ideal.div 1 (L j)) (ix2 ⟨512 * ((i 2).val / 128) + (i 1).val, by
    have : (i 1).val < 512 := (i 1).isLt; have : (i 2).val < 512 := (i 2).isLt; omega⟩ ⟨(i 2).val % 128, Nat.mod_lt _ (by decide)⟩)

/-- The result's block with the columns of the first `g` heads replaced. -/
def mixO (g : Nat) (new old : S1x512x512.Idx → EReal) : S1x512x512.Idx → EReal :=
  fun i => if (i 2).val < 128 * g then new i else old i

theorem mixQ_zero (new old : S2048x128.Idx → EReal) : mixQ 0 new old = old := by
  funext i; exact if_neg (by omega)

theorem mixQ_all (new old : S2048x128.Idx → EReal) : mixQ 4 new old = new := by
  funext i
  have h : (i 0).val < 2048 := (i 0).isLt
  exact if_pos (by omega)

theorem mixO_zero (new old : S1x512x512.Idx → EReal) : mixO 0 new old = old := by
  funext i; exact if_neg (by omega)

theorem mixO_all (new old : S1x512x512.Idx → EReal) : mixO 4 new old = new := by
  funext i
  have h : (i 2).val < 512 := (i 2).isLt
  exact if_pos (by omega)

theorem mixQ_step (g : Nat) (hg : g < 4) (new old : S2048x128.Idx → EReal) (w : S512x128.Idx → EReal)
    (hw : ∀ (a : Fin 512) (b : Fin 128), w (ix2 a b) = new (ix2 ⟨512 * g + a.val, by omega⟩ b)) :
    (Rect.unit (s := S2048x128) ![512 * g, 0] S512x128.size (inbQ g hg)).overlay (mixQ g new old) w = mixQ (g + 1) new old := by
  funext i
  have h1 : (i 1).val < 128 := (i 1).isLt
  by_cases h : 512 * g ≤ (i 0).val ∧ (i 0).val < 512 * g + 512
  · refine (overlay_unit_mem (sh := S2048x128) (off := ![512 * g, 0]) (size := S512x128.size) _ _ i (ix2 (⟨(i 0).val - 512 * g, by omega⟩ : Fin 512) (i 1 : Fin 128)) ?_).trans ?_
    · intro a
      match a with
      | ⟨0, _⟩ => show (i 0).val = 512 * g + ((i 0).val - 512 * g); omega
      | ⟨1, _⟩ => show (i 1).val = 0 + (i 1).val; omega
    · refine (hw _ _).trans ?_
      unfold mixQ
      rw [if_pos (by omega)]
      refine congrArg new (funext fun a => Fin.ext ?_)
      match a with
      | ⟨0, _⟩ => show 512 * g + ((i 0).val - 512 * g) = (i 0).val; omega
      | ⟨1, _⟩ => rfl
  · rw [overlay_unit_not_mem _ _ i 0 (by show (i 0).val < 512 * g ∨ 512 * g + 512 ≤ (i 0).val; omega)]
    unfold mixQ
    exact if_congr (by omega) rfl rfl

theorem mixO_step (g : Nat) (hg : g < 4) (new old : S1x512x512.Idx → EReal) (w : S1x512x128.Idx → EReal)
    (hw : ∀ (a : Fin 512) (b : Fin 128), w (ix3 (0 : Fin 1) a b) = new (ix3 0 a ⟨128 * g + b.val, by omega⟩)) :
    (Rect.unit (s := S1x512x512) ![0, 0, 128 * g] S1x512x128.size (inbG g hg)).overlay (mixO g new old) w = mixO (g + 1) new old := by
  funext i
  have h0 : (i 0).val < 1 := (i 0).isLt
  have h1 : (i 1).val < 512 := (i 1).isLt
  by_cases h : 128 * g ≤ (i 2).val ∧ (i 2).val < 128 * g + 128
  · refine (overlay_unit_mem (sh := S1x512x512) (off := ![0, 0, 128 * g]) (size := S1x512x128.size) _ _ i (ix3 (0 : Fin 1) (i 1 : Fin 512) (⟨(i 2).val - 128 * g, by omega⟩ : Fin 128)) ?_).trans ?_
    · intro a
      match a with
      | ⟨0, _⟩ => show (i 0).val = 0 + 0; omega
      | ⟨1, _⟩ => show (i 1).val = 0 + (i 1).val; omega
      | ⟨2, _⟩ => show (i 2).val = 128 * g + ((i 2).val - 128 * g); omega
    · refine (hw _ _).trans ?_
      unfold mixO
      rw [if_pos (by omega)]
      refine congrArg new (funext fun a => Fin.ext ?_)
      match a with
      | ⟨0, _⟩ => show 0 = (i 0).val; omega
      | ⟨1, _⟩ => rfl
      | ⟨2, _⟩ => show 128 * g + ((i 2).val - 128 * g) = (i 2).val; omega
  · rw [overlay_unit_not_mem _ _ i 2 (by show (i 2).val < 128 * g ∨ 128 * g + 128 ≤ (i 2).val; omega)]
    unfold mixO
    exact if_congr (by omega) rfl rfl

theorem cut_apply (X : S1x32x5632.Idx → EReal) (a : Fin 32) (b : Fin 5632) :
    truncf (F := Ideal) (φ := .f32) .bf16 (shapeCast S32x5632 X shapeCasts_S1x32x5632_S32x5632) bitsLt_bf16_f32 (ix2 a b) = X (ix3 0 a b) := by
  pointwise

theorem cutD_apply (X : S1x176x2048.Idx → EReal) (a : Fin 176) (b : Fin 2048) :
    truncf (F := Ideal) (φ := .f32) .bf16 (shapeCast S176x2048 X shapeCasts_S1x176x2048_S176x2048) bitsLt_bf16_f32 (ix2 a b) = X (ix3 0 a b) := by
  pointwise

theorem cutO_apply (X : S1x32x2048.Idx → EReal) (a : Fin 32) (b : Fin 2048) :
    truncf (F := Ideal) (φ := .f32) .bf16 (shapeCast S32x2048 X shapeCasts_S1x32x2048_S32x2048) bitsLt_bf16_f32 (ix2 a b) = X (ix3 0 a b) := by
  pointwise

/-! ## Triples -/

variable {nD : Nat} {τ : Topo} {sig : RefSig} {Λ : Labels}

local notation "𝕄" => MT nD τ sig Unit (Elt Ideal) ℕ (UR sig nD τ) ℕ
local notation "ℚ'" => Memref sig Kind.tc CoreSpace.vmem S2048x128 EltTy.bf16
local notation "𝕏" => Memref sig Kind.tc CoreSpace.vmem S2048x128 EltTy.f32

variable {defs : Defs nD τ sig (Elt Ideal) Λ} {c : Dev nD}

theorem wp_copyQ (g : Nat) (hg : g < 4) (q : Memref sig Kind.tc CoreSpace.vmem S1x512x512 EltTy.f32) (r : ℚ') (hr : r.IsWhole)
    (X : S1x512x512.Idx → EReal) (old : S2048x128.Idx → EReal) (Q : PUnit → sProp 𝕄) :
    iprop(ownsTc c q fullShare X ∗ ownsTc c r fullShare (mixQ g (qs X) old)) ⊢
      iprop((iprop(ownsTc c q fullShare X ∗ ownsTc c r fullShare (mixQ (g + 1) (qs X) old)) -∗ Q ⟨⟩) -∗ WP defs c (copyQ (F := Ideal) g hg q r hr) Q) := by
  unfold copyQ
  iintro ⟨HQ, HR⟩ K
  rw [WP_bind]; iapply (wp_ld (c := c) (defs := defs) X _) $$ HQ; iintro HQ
  rw [WP_bind]; iapply (wp_ld (c := c) (defs := defs) (mixQ g (qs X) old) _) $$ HR; iintro HR
  iapply (wp_st (c := c) (defs := defs) (mixQ g (qs X) old) _) $$ HR
  rw [mixQ_step g hg (qs X) old _ ?_]
  · iintro HR
    iapply K
    isplitl [HQ]; · iexact HQ
    iexact HR
  · intro a b
    refine (scaled_apply _ a b).trans ?_
    refine congrArg (fun x : EReal => x * scale) (congrArg X (funext fun x => Fin.ext ?_))
    match x with
    | ⟨0, _⟩ => rfl
    | ⟨1, _⟩ => show 0 + 1 * a.val = (512 * g + a.val) % 512; omega
    | ⟨2, _⟩ => show 128 * g + 1 * b.val = 128 * ((512 * g + a.val) / 512) + b.val; omega

theorem wp_finish (g : Nat) (hg : g < 4) (o : Memref sig Kind.tc CoreSpace.vmem S1x512x512 EltTy.bf16) (ho : o.IsWhole) (lx ax : 𝕏)
    (L A : S2048x128.Idx → EReal) (old : S1x512x512.Idx → EReal) (Q : PUnit → sProp 𝕄) :
    iprop(ownsTc c o fullShare (mixO g (outOf L A) old) ∗ ownsTc c lx fullShare L ∗ ownsTc c ax fullShare A) ⊢
      iprop((iprop(ownsTc c o fullShare (mixO (g + 1) (outOf L A) old) ∗ ownsTc c lx fullShare L ∗ ownsTc c ax fullShare A) -∗ Q ⟨⟩) -∗ WP defs c (finish (F := Ideal) g hg o ho lx ax) Q) := by
  unfold finish
  iintro ⟨HO, HL, HA⟩ K
  rw [WP_bind]; iapply (wp_ld (c := c) (defs := defs) A _) $$ HA; iintro HA
  rw [WP_bind]; iapply (wp_ld (c := c) (defs := defs) L _) $$ HL; iintro HL
  rw [WP_bind]; iapply (wp_ld (c := c) (defs := defs) (mixO g (outOf L A) old) _) $$ HO; iintro HO
  iapply (wp_st (c := c) (defs := defs) (mixO g (outOf L A) old) _) $$ HO
  rw [mixO_step g hg (outOf L A) old _ ?_]
  · iintro HO
    iapply K
    isplitl [HO]; · iexact HO
    isplitl [HL]; · iexact HL
    iexact HA
  · intro a b
    refine (ratio_apply _ _ a b).trans ?_
    refine congrArg (fun j : S2048x128.Idx => A j * Ideal.div 1 (L j)) (funext fun x => Fin.ext ?_)
    match x with
    | ⟨0, _⟩ => show 512 * g + 1 * a.val = 512 * ((128 * g + b.val) / 128) + a.val; omega
    | ⟨1, _⟩ => show 0 + 1 * b.val = (128 * g + b.val) % 128; omega

theorem wp_castW (x : Memref sig Kind.tc CoreSpace.vmem S1x32x5632 EltTy.f32) (y : Memref sig Kind.tc CoreSpace.vmem S32x5632 EltTy.bf16) (hy : y.IsWhole)
    (X : S1x32x5632.Idx → EReal) (Y : S32x5632.Idx → EReal) (Q : PUnit → sProp 𝕄) :
    iprop(ownsTc c x fullShare X ∗ ownsTc c y fullShare Y) ⊢
      iprop((iprop(ownsTc c x fullShare X ∗ ownsTc c y fullShare (fun i => X (ix3 0 (i 0) (i 1)))) -∗ Q ⟨⟩) -∗ WP defs c (castW (F := Ideal) x y hy) Q) := by
  unfold castW
  iintro ⟨HX, HY⟩ K
  rw [WP_bind]; iapply (wp_ld (c := c) (defs := defs) X _) $$ HX; iintro HX
  rw [WP_bind]; iapply (wp_ld (c := c) (defs := defs) Y _) $$ HY; iintro HY
  iapply (wp_st (c := c) (defs := defs) Y _) $$ HY
  rw [whole_store (sh := S32x5632) (Y := fun i => X (ix3 0 (i 0) (i 1))) zero2 _ Y _ ?_]
  · iintro HY
    iapply K
    isplitl [HX]; · iexact HX
    iexact HY
  · intro i
    obtain ⟨a, b, rfl⟩ : ∃ (a : Fin 32) (b : Fin 5632), i = ix2 a b := ⟨i 0, i 1, eq_ix2 i⟩
    exact (cut_apply _ a b).trans (congrArg X (emb_whole (sh := S1x32x5632) zero3 _ _))

theorem wp_castD (x : Memref sig Kind.tc CoreSpace.vmem S1x176x2048 EltTy.f32) (y : Memref sig Kind.tc CoreSpace.vmem S176x2048 EltTy.bf16) (hy : y.IsWhole)
    (X : S1x176x2048.Idx → EReal) (Y : S176x2048.Idx → EReal) (Q : PUnit → sProp 𝕄) :
    iprop(ownsTc c x fullShare X ∗ ownsTc c y fullShare Y) ⊢
      iprop((iprop(ownsTc c x fullShare X ∗ ownsTc c y fullShare (fun i => X (ix3 0 (i 0) (i 1)))) -∗ Q ⟨⟩) -∗ WP defs c (castD (F := Ideal) x y hy) Q) := by
  unfold castD
  iintro ⟨HX, HY⟩ K
  rw [WP_bind]; iapply (wp_ld (c := c) (defs := defs) X _) $$ HX; iintro HX
  rw [WP_bind]; iapply (wp_ld (c := c) (defs := defs) Y _) $$ HY; iintro HY
  iapply (wp_st (c := c) (defs := defs) Y _) $$ HY
  rw [whole_store (sh := S176x2048) (Y := fun i => X (ix3 0 (i 0) (i 1))) zero2 _ Y _ ?_]
  · iintro HY
    iapply K
    isplitl [HX]; · iexact HX
    iexact HY
  · intro i
    obtain ⟨a, b, rfl⟩ : ∃ (a : Fin 176) (b : Fin 2048), i = ix2 a b := ⟨i 0, i 1, eq_ix2 i⟩
    exact (cutD_apply _ a b).trans (congrArg X (emb_whole (sh := S1x176x2048) zero3 _ _))

theorem wp_castO (x : Memref sig Kind.tc CoreSpace.vmem S1x32x2048 EltTy.f32) (y : Memref sig Kind.tc CoreSpace.vmem S32x2048 EltTy.bf16) (hy : y.IsWhole)
    (X : S1x32x2048.Idx → EReal) (Y : S32x2048.Idx → EReal) (Q : PUnit → sProp 𝕄) :
    iprop(ownsTc c x fullShare X ∗ ownsTc c y fullShare Y) ⊢
      iprop((iprop(ownsTc c x fullShare X ∗ ownsTc c y fullShare (fun i => X (ix3 0 (i 0) (i 1)))) -∗ Q ⟨⟩) -∗ WP defs c (castO (F := Ideal) x y hy) Q) := by
  unfold castO
  iintro ⟨HX, HY⟩ K
  rw [WP_bind]; iapply (wp_ld (c := c) (defs := defs) X _) $$ HX; iintro HX
  rw [WP_bind]; iapply (wp_ld (c := c) (defs := defs) Y _) $$ HY; iintro HY
  iapply (wp_st (c := c) (defs := defs) Y _) $$ HY
  rw [whole_store (sh := S32x2048) (Y := fun i => X (ix3 0 (i 0) (i 1))) zero2 _ Y _ ?_]
  · iintro HY
    iapply K
    isplitl [HX]; · iexact HX
    iexact HY
  · intro i
    obtain ⟨a, b, rfl⟩ : ∃ (a : Fin 32) (b : Fin 2048), i = ix2 a b := ⟨i 0, i 1, eq_ix2 i⟩
    exact (cutO_apply _ a b).trans (congrArg X (emb_whole (sh := S1x32x2048) zero3 _ _))

end Cert.KernelIdeal.Attn

end
-- ==== Proof.Attn.Row.lean ====
/-
The running softmax of one row: its statistics after every chunk are those of all the keys seen, so its result
is the whole softmax's.
-/
module

public import Idealize.ShloMosaic.PureOps.Ideal

@[expose] public section

noncomputable section

namespace Cert.KernelIdeal.Attn

open Idealize.ShloMosaic

/-- A row's running statistics: the largest score, the sum of the weights, the sums of the weighted values. -/
structure St where
  m : EReal
  l : EReal
  a : Fin 128 → EReal

/-- A chunk with the scores `f` and the values `v` taken in. -/
def stepRow {n : Nat} (f : Fin n → EReal) (v : Fin n → Fin 128 → EReal) (st : St) : St where
  m := max st.m (Finset.univ.sup f)
  l := Ideal.exp2 (st.m - max st.m (Finset.univ.sup f)) * st.l + ∑ x, Ideal.exp2 (f x - max st.m (Finset.univ.sup f))
  a d := Ideal.exp2 (st.m - max st.m (Finset.univ.sup f)) * st.a d + ∑ x, Ideal.exp2 (f x - max st.m (Finset.univ.sup f)) * v x d

/-- The statistics before the first chunk. -/
def st0 : St := ⟨⊥, 0, fun _ => 0⟩

theorem exp2_sub (a b : ℝ) : Ideal.exp2 ((a : EReal) - (b : EReal)) = ((Real.rpow 2 (a - b) : ℝ) : EReal) := by
  rw [← EReal.coe_sub]; rfl

theorem exp_sub (a b : ℝ) : Ideal.exp ((a : EReal) - (b : EReal)) = ((Real.exp (a - b) : ℝ) : EReal) := by
  rw [← EReal.coe_sub]; rfl

theorem mul_sum_real {K : Type} (s : Finset K) (c : ℝ) (hc : 0 ≤ c) (w : K → EReal) : (c : EReal) * ∑ k ∈ s, w k = ∑ k ∈ s, (c : EReal) * w k := by
  classical
  induction s using Finset.induction_on with
  | empty => simp
  | insert k s hk ih =>
    rw [Finset.sum_insert hk, Finset.sum_insert hk, ← ih]
    exact EReal.left_distrib_of_nonneg_of_ne_top (EReal.coe_nonneg.mpr hc) (EReal.coe_ne_top c) _ _

theorem sum_real {K : Type} (s : Finset K) (w : K → ℝ) : ∑ k ∈ s, ((w k : ℝ) : EReal) = ((∑ k ∈ s, w k : ℝ) : EReal) := by
  classical
  induction s using Finset.induction_on with
  | empty => simp
  | insert k s hk ih => rw [Finset.sum_insert hk, Finset.sum_insert hk, ih, EReal.coe_add]

variable {K : Type} [DecidableEq K]

/-- The statistics are those of the keys `s`. -/
structure Seen (s : Finset K) (F : K → ℝ) (V : K → Fin 128 → EReal) (st : St) : Prop where
  m : st.m = s.sup fun k => (F k : EReal)
  l : st.l = ∑ k ∈ s, Ideal.exp2 (F k - st.m)
  a : ∀ d, st.a d = ∑ k ∈ s, Ideal.exp2 (F k - st.m) * V k d

theorem seen_empty (F : K → ℝ) (V : K → Fin 128 → EReal) : Seen ∅ F V st0 :=
  ⟨by simp [st0], by simp [st0], fun d => by simp [st0]⟩

theorem sup_real (s : Finset K) (hs : s.Nonempty) (F : K → ℝ) : ∃ r : ℝ, (s.sup fun k => (F k : EReal)) = r := by
  obtain ⟨i, _, h⟩ := Finset.exists_mem_eq_sup s hs fun k => (F k : EReal)
  exact ⟨F i, h⟩

/-- Rescaling a sum of weights from one maximum to another. -/
theorem rescaled (s : Finset K) (F : K → ℝ) (w : K → EReal) (μ' : ℝ) :
    Ideal.exp2 ((s.sup fun k => (F k : EReal)) - μ') * ∑ k ∈ s, Ideal.exp2 (F k - s.sup fun k => (F k : EReal)) * w k = ∑ k ∈ s, Ideal.exp2 (F k - μ') * w k := by
  rcases s.eq_empty_or_nonempty with rfl | hs
  · simp
  · obtain ⟨μ, hμ⟩ := sup_real s hs F
    rw [hμ, exp2_sub, mul_sum_real s (Real.rpow 2 (μ - μ')) (Real.rpow_nonneg (by norm_num) _)]
    refine Finset.sum_congr rfl fun k _ => ?_
    rw [exp2_sub, exp2_sub, ← mul_assoc, ← EReal.coe_mul]
    refine congrArg (fun r : ℝ => (r : EReal) * w k) ?_
    show (2 : ℝ) ^ (μ - μ') * (2 : ℝ) ^ (F k - μ) = (2 : ℝ) ^ (F k - μ')
    rw [← Real.rpow_add (by norm_num)]
    exact congrArg _ (by ring)

theorem Seen.step {n : Nat} (hn : 0 < n) {s : Finset K} {F : K → ℝ} {V : K → Fin 128 → EReal} {st : St} (h : Seen s F V st)
    (e : Fin n ↪ K) (hd : Disjoint s (Finset.univ.map e)) (f : Fin n → EReal) (v : Fin n → Fin 128 → EReal)
    (hf : ∀ x, f x = F (e x)) (hv : ∀ x, v x = V (e x)) : Seen (s ∪ Finset.univ.map e) F V (stepRow f v st) := by
  obtain rfl : f = fun x => (F (e x) : EReal) := funext hf
  obtain rfl : v = fun x => V (e x) := funext hv
  have hm : max st.m (Finset.univ.sup fun x => (F (e x) : EReal)) = (s ∪ Finset.univ.map e).sup fun k => (F k : EReal) := by
    rw [Finset.sup_union, Finset.sup_map, h.m]; rfl
  obtain ⟨μ, hμ⟩ := sup_real (s ∪ Finset.univ.map e) ⟨e ⟨0, hn⟩, Finset.mem_union_right _ (Finset.mem_map_of_mem _ (Finset.mem_univ _))⟩ F
  rw [hμ] at hm
  have hl := rescaled s F (fun _ => 1) μ
  simp only [mul_one] at hl
  refine ⟨hm.trans hμ.symm, ?_, fun d => ?_⟩
  · show _ = ∑ k ∈ s ∪ Finset.univ.map e, Ideal.exp2 (F k - max st.m _)
    rw [Finset.sum_union hd, Finset.sum_map, hm, ← hl]
    show Ideal.exp2 (st.m - max st.m _) * st.l + ∑ x, Ideal.exp2 (F (e x) - max st.m _) = _
    rw [hm, h.l, h.m]
  · show _ = ∑ k ∈ s ∪ Finset.univ.map e, Ideal.exp2 (F k - max st.m _) * V k d
    rw [Finset.sum_union hd, Finset.sum_map, hm, ← rescaled s F (fun k => V k d) μ]
    show Ideal.exp2 (st.m - max st.m _) * st.a d + ∑ x, Ideal.exp2 (F (e x) - max st.m _) * V (e x) d = _
    rw [hm, h.a d, h.m]

/-- The softmax of the scores, in the natural base, over the values. -/
def soft [Fintype K] (S : K → EReal) (v : K → EReal) : EReal :=
  ∑ k, v k * Ideal.div (Ideal.exp (S k - Finset.univ.sup S)) (∑ j, Ideal.exp (S j - Finset.univ.sup S))

theorem Seen.result [Fintype K] [Nonempty K] {F : K → ℝ} {V : K → Fin 128 → EReal} {st : St} (h : Seen Finset.univ F V st) (S : K → EReal)
    (hS : ∀ k, S k = ((F k * Real.log 2 : ℝ) : EReal)) (d : Fin 128) : st.a d * Ideal.div 1 st.l = soft S fun k => V k d := by
  obtain ⟨i, _, hi⟩ := Finset.exists_mem_eq_sup Finset.univ Finset.univ_nonempty fun k => (F k : EReal)
  have hle : ∀ k, F k ≤ F i := fun k => EReal.coe_le_coe_iff.mp (hi ▸ Finset.le_sup (f := fun k => (F k : EReal)) (Finset.mem_univ k))
  have hM : Finset.univ.sup S = ((F i * Real.log 2 : ℝ) : EReal) := by
    refine le_antisymm (Finset.sup_le fun k _ => ?_) ((hS i) ▸ Finset.le_sup (Finset.mem_univ i))
    rw [hS k]
    exact EReal.coe_le_coe_iff.mpr (mul_le_mul_of_nonneg_right (hle k) (Real.log_nonneg (by norm_num)))
  have hm : st.m = (F i : EReal) := h.m.trans hi
  have hw : ∀ k, Ideal.exp2 (F k - st.m) = ((Real.exp ((F k - F i) * Real.log 2) : ℝ) : EReal) := fun k => by
    rw [hm, exp2_sub]
    refine congrArg _ ?_
    show (2 : ℝ) ^ (F k - F i) = _
    rw [Real.rpow_def_of_pos (by norm_num), mul_comm]
  have hx : ∀ k, Ideal.exp (S k - Finset.univ.sup S) = ((Real.exp ((F k - F i) * Real.log 2) : ℝ) : EReal) := fun k => by
    rw [hM, hS k, exp_sub, sub_mul]
  have hp : 0 < ∑ k, Real.exp ((F k - F i) * Real.log 2) := Finset.sum_pos (fun k _ => Real.exp_pos _) Finset.univ_nonempty
  have hdiv : ∀ x : ℝ, Ideal.div (x : EReal) ((∑ k, Real.exp ((F k - F i) * Real.log 2) : ℝ) : EReal) = ((x * (∑ k, Real.exp ((F k - F i) * Real.log 2))⁻¹ : ℝ) : EReal) := fun x => by
    unfold Ideal.div
    rw [if_neg (by exact_mod_cast hp.ne'), EReal.coe_mul, EReal.coe_inv]
  unfold soft
  rw [h.l, h.a d]
  simp only [hw, hx]
  rw [sum_real, ← EReal.coe_one, hdiv, mul_comm, mul_sum_real _ _ (by positivity)]
  refine Finset.sum_congr rfl fun k _ => ?_
  rw [hdiv, ← mul_assoc, ← EReal.coe_mul, mul_comm (V k d), one_mul, mul_comm (_⁻¹)]

end Cert.KernelIdeal.Attn

end
-- ==== Proof.Attn.Body.lean ====
/-
The body's triple: from the blocks of the inputs to the result's block, each row's statistics the running
softmax's, and the rounded blocks of the weights.
-/
module

public import proofs.«01_k».proof.Proof.Attn.Ends
public import proofs.«01_k».proof.Proof.Attn.Row

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Shapes1.Facts₀ Shapes2.Facts₀

/-! ## The statistics of the rows -/

/-- The rows' maxima, on every lane. -/
def mA (st : Fin 2048 → St) : S2048x128.Idx → EReal := fun i => (st (i 0)).m

/-- The rows' sums of weights, on every lane. -/
def lA (st : Fin 2048 → St) : S2048x128.Idx → EReal := fun i => (st (i 0)).l

/-- The rows' sums of weighted values. -/
def aA (st : Fin 2048 → St) : S2048x128.Idx → EReal := fun i => (st (i 0)).a (i 1)

/-- A chunk taken in by every row. -/
def stepAll {n : Nat} (f : Fin 2048 → Fin n → EReal) (v : Fin n → Fin 128 → EReal) (st : Fin 2048 → St) : Fin 2048 → St :=
  fun i => stepRow (f i) v (st i)

theorem top_eq (S : S2x2048x1024.Idx → EReal) (sl : Nat) (hs : sl < 2) (i : Fin 2048) :
    top S sl hs i = Finset.univ.sup fun x : Fin 1024 => S (ix3 ⟨sl, hs⟩ i x) := by
  have hc : ∀ (j : Nat) (hj : j < 8) (l : Fin 128), col S sl hs i j hj l ≤ Finset.univ.sup fun x : Fin 1024 => S (ix3 ⟨sl, hs⟩ i x) :=
    fun j hj l => Finset.le_sup (f := fun x : Fin 1024 => S (ix3 ⟨sl, hs⟩ i x)) (Finset.mem_univ _)
  unfold top
  refine le_antisymm ((Finset.fold_max_le _).mpr ⟨bot_le, fun l _ => ?_⟩) (Finset.sup_le fun x _ => (Finset.le_fold_max _).mpr (.inr ⟨⟨x.val % 128, Nat.mod_lt _ (by decide)⟩, Finset.mem_univ _, ?_⟩))
  · exact max_le (max_le (max_le (max_le (max_le (max_le (max_le (hc _ _ l) (hc _ _ l)) (hc _ _ l)) (hc _ _ l)) (hc _ _ l)) (hc _ _ l)) (hc _ _ l)) (hc _ _ l)
  · have e : ∃ (j : Nat) (hj : j < 8), S (ix3 ⟨sl, hs⟩ i x) = col S sl hs i j hj ⟨x.val % 128, Nat.mod_lt _ (by decide)⟩ := by
      refine ⟨x.val / 128, by omega, congrArg S (congrArg (ix3 ⟨sl, hs⟩ i) (Fin.ext ?_))⟩
      show x.val = 128 * (x.val / 128) + x.val % 128
      omega
    obtain ⟨j, hj, e⟩ := e
    rw [e]
    interval_cases j <;> simp only [le_max_iff, le_refl, true_or, or_true]

theorem topC_eq (S : S2x2048x1024.Idx → EReal) (i : Fin 2048) :
    topC S i = Finset.univ.sup fun x : Fin 256 => S (ix3 0 i ⟨x.val, by omega⟩) := by
  have hc : ∀ (j : Nat) (hj : j < 2) (l : Fin 128), col S 0 (by decide) i j (by omega) l ≤ Finset.univ.sup fun x : Fin 256 => S (ix3 0 i ⟨x.val, by omega⟩) :=
    fun j hj l => Finset.le_sup (f := fun x : Fin 256 => S (ix3 0 i ⟨x.val, by omega⟩)) (Finset.mem_univ (⟨128 * j + l.val, by omega⟩ : Fin 256))
  unfold topC
  refine le_antisymm ((Finset.fold_max_le _).mpr ⟨bot_le, fun l _ => ?_⟩) (Finset.sup_le fun x _ => (Finset.le_fold_max _).mpr (.inr ⟨⟨x.val % 128, Nat.mod_lt _ (by decide)⟩, Finset.mem_univ _, ?_⟩))
  · exact max_le (hc _ (by decide) l) (hc _ (by decide) l)
  · have e : ∃ (j : Nat) (hj : j < 2), S (ix3 0 i ⟨x.val, by omega⟩) = col S 0 (by decide) i j (by omega) ⟨x.val % 128, Nat.mod_lt _ (by decide)⟩ := by
      refine ⟨x.val / 128, by omega, congrArg S (congrArg (ix3 0 i) (Fin.ext ?_))⟩
      show x.val = 128 * (x.val / 128) + x.val % 128
      omega
    obtain ⟨j, hj, e⟩ := e
    rw [e]
    interval_cases j <;> simp only [le_max_iff, le_refl, true_or, or_true]

section
variable {n : Nat} {f : Fin 2048 → Fin n → EReal} (v : Fin n → Fin 128 → EReal) (st : Fin 2048 → St) (T : Fin 2048 → EReal) (P : Fin 2048 → Fin n → EReal)

theorem nM_rows (hT : ∀ i, T i = Finset.univ.sup (f i)) : nM T (mA st) = mA (stepAll f v st) := by
  funext i
  exact congrArg (max _) (hT (i 0))

theorem nL_rows (hT : ∀ i, T i = Finset.univ.sup (f i)) (hP : ∀ i x, P i x = Ideal.exp2 (f i x - max (st i).m (Finset.univ.sup (f i)))) :
    nL T P (mA st) (lA st) = lA (stepAll f v st) := by
  funext i
  exact congrArg₂ (fun (t : EReal) (p : Fin n → EReal) => Ideal.exp2 ((st (i 0)).m - max (st (i 0)).m t) * (st (i 0)).l + ∑ x, p x) (hT (i 0)) (funext (hP (i 0)))

theorem nA_rows (hT : ∀ i, T i = Finset.univ.sup (f i)) (hP : ∀ i x, P i x = Ideal.exp2 (f i x - max (st i).m (Finset.univ.sup (f i)))) :
    nA T P v (mA st) (aA st) = aA (stepAll f v st) := by
  funext i
  exact congrArg₂ (fun (t : EReal) (p : Fin n → EReal) => Ideal.exp2 ((st (i 0)).m - max (st (i 0)).m t) * (st (i 0)).a (i 1) + ∑ x, p x * v x (i 1)) (hT (i 0)) (funext (hP (i 0)))

end

/-! ## The scores -/

/-- The scores of a latent chunk. -/
def sL (QS : S2048x128.Idx → EReal) (KL : S1x4096x128.Idx → EReal) (j : Nat) (hj : j < 4) (i : Fin 2048) (x : Fin 1024) : EReal :=
  ∑ d : Fin 128, QS (ix2 i d) * KL (ix3 0 ⟨1024 * j + x.val, by omega⟩ d)

/-- The scores of the context. -/
def sC (QS : S2048x128.Idx → EReal) (KC : S1x256x128.Idx → EReal) (i : Fin 2048) (x : Fin 256) : EReal :=
  ∑ d : Fin 128, QS (ix2 i d) * KC (ix3 0 x d)

/-- The rows' statistics when the five chunks have been taken in. -/
def fin (QS : S2048x128.Idx → EReal) (KC VC : S1x256x128.Idx → EReal) (KL VL : S1x4096x128.Idx → EReal) : Fin 2048 → St :=
  stepAll (sC QS KC) (fun x d => VC (ix3 0 x d)) (stepAll (sL QS KL 3 (by decide)) (fun x d => vals 3 (by decide) VL (ix2 x d))
    (stepAll (sL QS KL 2 (by decide)) (fun x d => vals 2 (by decide) VL (ix2 x d)) (stepAll (sL QS KL 1 (by decide)) (fun x d => vals 1 (by decide) VL (ix2 x d))
      (stepAll (sL QS KL 0 (by decide)) (fun x d => vals 0 (by decide) VL (ix2 x d)) fun _ => st0))))

/-- The result's block. -/
def out (Q : S1x512x512.Idx → EReal) (KC VC : S1x256x128.Idx → EReal) (KL VL : S1x4096x128.Idx → EReal) : S1x512x512.Idx → EReal :=
  outOf (lA (fin (qs Q) KC VC KL VL)) (aA (fin (qs Q) KC VC KL VL))

theorem slot_same (j sl : Nat) (hj : j < 4) (hs : sl < 2) (KL : S1x4096x128.Idx → EReal) (QS : S2048x128.Idx → EReal) (S : S2x2048x1024.Idx → EReal) (i : Fin 2048) (x : Fin 1024) :
    slot j sl hj KL QS S (ix3 ⟨sl, hs⟩ i x) = sL QS KL j hj i x := if_pos rfl

theorem slot_other (j sl sl' : Nat) (hj : j < 4) (hs : sl' < 2) (h : sl' ≠ sl) (KL : S1x4096x128.Idx → EReal) (QS : S2048x128.Idx → EReal) (S : S2x2048x1024.Idx → EReal) (i : Fin 2048) (x : Fin 1024) :
    slot j sl hj KL QS S (ix3 ⟨sl', hs⟩ i x) = S (ix3 ⟨sl', hs⟩ i x) := if_neg h

theorem slotC_same (KC : S1x256x128.Idx → EReal) (QS : S2048x128.Idx → EReal) (S : S2x2048x1024.Idx → EReal) (i : Fin 2048) (x : Fin 256) :
    slotC KC QS S (ix3 0 i ⟨x.val, by omega⟩) = sC QS KC i x := dif_pos ⟨rfl, x.isLt⟩

theorem slotC_other (KC : S1x256x128.Idx → EReal) (QS : S2048x128.Idx → EReal) (S : S2x2048x1024.Idx → EReal) (i : Fin 2048) (x : Fin 1024) :
    slotC KC QS S (ix3 1 i x) = S (ix3 1 i x) := dif_neg fun h => absurd h.1 (by show ¬ (1 : Nat) = 0; decide)

/-! ## Triples -/

variable {nD : Nat} {τ : Topo} {sig : RefSig} {Λ : Labels}

local notation "𝕄" => MT nD τ sig Unit (Elt Ideal) ℕ (UR sig nD τ) ℕ
local notation "𝕊" => Memref sig Kind.tc CoreSpace.vmem S2x2048x1024 EltTy.f32
local notation "ℚ'" => Memref sig Kind.tc CoreSpace.vmem S2048x128 EltTy.bf16
local notation "ℙ'" => Memref sig Kind.tc CoreSpace.vmem S2048x1024 EltTy.bf16
local notation "𝕏" => Memref sig Kind.tc CoreSpace.vmem S2048x128 EltTy.f32

variable {defs : Defs nD τ sig (Elt Ideal) Λ} {c : Dev nD}

theorem wp_chunkR (sl : Nat) (hs : sl < 2) (v : FVec Ideal S1024x128 .bf16) (s : 𝕊) (p : ℙ') (hp : p.IsWhole) (mx lx ax : 𝕏)
    (S : S2x2048x1024.Idx → EReal) (f : Fin 2048 → Fin 1024 → EReal) (hS : ∀ i x, S (ix3 ⟨sl, hs⟩ i x) = f i x) (st : Fin 2048 → St) (Q : PUnit → sProp 𝕄) :
    bufs S (mA st) (lA st) (aA st) c s p mx lx ax ⊢ iprop((bufs S (mA (stepAll f (fun x d => v (ix2 x d)) st)) (lA (stepAll f (fun x d => v (ix2 x d)) st))
        (aA (stepAll f (fun x d => v (ix2 x d)) st)) c s p mx lx ax -∗ Q ⟨⟩)
      -∗ WP defs c (chunk sl hs v s p hp mx lx ax) Q) := by
  have hT : ∀ i, top S sl hs i = Finset.univ.sup (f i) := fun i => (top_eq S sl hs i).trans (congrArg _ (funext (hS i)))
  have hP : ∀ i x, wts S sl hs (top S sl hs) (mA st) i x = Ideal.exp2 (f i x - max (st i).m (Finset.univ.sup (f i))) := fun i x => by
    show Ideal.exp2 (S (ix3 ⟨sl, hs⟩ i x) - max (st i).m (top S sl hs i)) = _
    rw [hS, hT]
  have h := wp_chunk (c := c) (defs := defs) sl hs v s p hp mx lx ax S (mA st) (lA st) (aA st) Q
  rw [nM_rows (f := f) (fun x d => v (ix2 x d)) st _ hT, nL_rows (f := f) (fun x d => v (ix2 x d)) st _ _ hT hP, nA_rows (f := f) (fun x d => v (ix2 x d)) st _ _ hT hP] at h
  exact h

theorem wp_chunkCR (vc : Memref sig Kind.tc CoreSpace.vmem S1x256x128 EltTy.bf16) (s : 𝕊) (p : ℙ') (hp : p.IsWhole) (mx lx ax : 𝕏)
    (VC : S1x256x128.Idx → EReal) (S : S2x2048x1024.Idx → EReal) (f : Fin 2048 → Fin 256 → EReal) (hS : ∀ i x, S (ix3 0 i ⟨x.val, by omega⟩) = f i x) (st : Fin 2048 → St) (Q : PUnit → sProp 𝕄) :
    iprop(ownsTc c vc fullShare VC ∗ bufs S (mA st) (lA st) (aA st) c s p mx lx ax) ⊢ iprop((iprop(ownsTc c vc fullShare VC ∗ bufs S (mA (stepAll f (fun x d => VC (ix3 0 x d)) st))
        (lA (stepAll f (fun x d => VC (ix3 0 x d)) st)) (aA (stepAll f (fun x d => VC (ix3 0 x d)) st)) c s p mx lx ax) -∗ Q ⟨⟩)
      -∗ WP defs c (chunkC vc s p hp mx lx ax) Q) := by
  have hT : ∀ i, topC S i = Finset.univ.sup (f i) := fun i => (topC_eq S i).trans (congrArg _ (funext (hS i)))
  have hP : ∀ i x, wtsC S (mA st) i x = Ideal.exp2 (f i x - max (st i).m (Finset.univ.sup (f i))) := fun i x => by
    show Ideal.exp2 (S (ix3 0 i ⟨x.val, _⟩) - max (st i).m (topC S i)) = _
    rw [hS, hT]
  have h := wp_chunkC (c := c) (defs := defs) vc s p hp mx lx ax VC S (mA st) (lA st) (aA st) Q
  rw [nM_rows (f := f) (fun x d => VC (ix3 0 x d)) st _ hT, nL_rows (f := f) (fun x d => VC (ix3 0 x d)) st _ _ hT hP, nA_rows (f := f) (fun x d => VC (ix3 0 x d)) st _ _ hT hP] at h
  exact h

theorem fill_bot : (fun _ => Ideal.ofBits .f32 0xFF800000#32 : S2048x128.Idx → EReal) = mA fun _ => st0 := funext fun _ => ofBits_bot

theorem ofBits_zero : Ideal.ofBits .f32 0x00000000#32 = 0 := by
  simp [Ideal.ofBits, Ideal.ieee]

theorem fill_l : (fun _ => Ideal.ofBits .f32 0x00000000#32 : S2048x128.Idx → EReal) = lA fun _ => st0 := funext fun _ => ofBits_zero

theorem fill_a : (fun _ => Ideal.ofBits .f32 0x00000000#32 : S2048x128.Idx → EReal) = aA fun _ => st0 := funext fun _ => ofBits_zero

/-- The query scratch, the scores and the statistics, at some contents. -/
def scratch (c : Dev nD) (r : ℚ') (s : 𝕊) (p : ℙ') (mx lx ax : 𝕏) : sProp 𝕄 :=
  iprop((∃ X, ownsTc c r fullShare X) ∗ (∃ X, ownsTc c s fullShare X) ∗ (∃ X, ownsTc c p fullShare X)
    ∗ (∃ X, ownsTc c mx fullShare X) ∗ (∃ X, ownsTc c lx fullShare X) ∗ (∃ X, ownsTc c ax fullShare X))

/-- The blocks of the inputs. -/
def ins (c : Dev nD) (q : Memref sig Kind.tc CoreSpace.vmem S1x512x512 EltTy.f32) (kc vc : Memref sig Kind.tc CoreSpace.vmem S1x256x128 EltTy.bf16)
    (kl vl : Memref sig Kind.tc CoreSpace.vmem S1x4096x128 EltTy.bf16) (w0 w1 : Memref sig Kind.tc CoreSpace.vmem S1x32x5632 EltTy.f32)
    (w2 : Memref sig Kind.tc CoreSpace.vmem S1x176x2048 EltTy.f32) (w3 : Memref sig Kind.tc CoreSpace.vmem S1x32x2048 EltTy.f32)
    (X : S1x512x512.Idx → EReal) (KC VC : S1x256x128.Idx → EReal) (KL VL : S1x4096x128.Idx → EReal) (W0 W1 : S1x32x5632.Idx → EReal)
    (W2 : S1x176x2048.Idx → EReal) (W3 : S1x32x2048.Idx → EReal) : sProp 𝕄 :=
  iprop(ownsTc c q fullShare X ∗ ownsTc c kc fullShare KC ∗ ownsTc c vc fullShare VC ∗ ownsTc c kl fullShare KL ∗ ownsTc c vl fullShare VL
    ∗ ownsTc c w0 fullShare W0 ∗ ownsTc c w1 fullShare W1 ∗ ownsTc c w2 fullShare W2 ∗ ownsTc c w3 fullShare W3)

/-- The blocks of the results. -/
def outs (c : Dev nD) (o : Memref sig Kind.tc CoreSpace.vmem S1x512x512 EltTy.bf16) (y0 y1 : Memref sig Kind.tc CoreSpace.vmem S32x5632 EltTy.bf16)
    (y2 : Memref sig Kind.tc CoreSpace.vmem S176x2048 EltTy.bf16) (y3 : Memref sig Kind.tc CoreSpace.vmem S32x2048 EltTy.bf16)
    (O : S1x512x512.Idx → EReal) (Y0 Y1 : S32x5632.Idx → EReal) (Y2 : S176x2048.Idx → EReal) (Y3 : S32x2048.Idx → EReal) : sProp 𝕄 :=
  iprop(ownsTc c o fullShare O ∗ ownsTc c y0 fullShare Y0 ∗ ownsTc c y1 fullShare Y1 ∗ ownsTc c y2 fullShare Y2 ∗ ownsTc c y3 fullShare Y3)

theorem wp_body (q : Memref sig Kind.tc CoreSpace.vmem S1x512x512 EltTy.f32) (kc vc : Memref sig Kind.tc CoreSpace.vmem S1x256x128 EltTy.bf16)
    (kl vl : Memref sig Kind.tc CoreSpace.vmem S1x4096x128 EltTy.bf16) (w0 w1 : Memref sig Kind.tc CoreSpace.vmem S1x32x5632 EltTy.f32)
    (w2 : Memref sig Kind.tc CoreSpace.vmem S1x176x2048 EltTy.f32) (w3 : Memref sig Kind.tc CoreSpace.vmem S1x32x2048 EltTy.f32)
    (o : Memref sig Kind.tc CoreSpace.vmem S1x512x512 EltTy.bf16) (ho : o.IsWhole)
    (y0 : Memref sig Kind.tc CoreSpace.vmem S32x5632 EltTy.bf16) (hy0 : y0.IsWhole) (y1 : Memref sig Kind.tc CoreSpace.vmem S32x5632 EltTy.bf16) (hy1 : y1.IsWhole)
    (y2 : Memref sig Kind.tc CoreSpace.vmem S176x2048 EltTy.bf16) (hy2 : y2.IsWhole) (y3 : Memref sig Kind.tc CoreSpace.vmem S32x2048 EltTy.bf16) (hy3 : y3.IsWhole)
    (r : ℚ') (hr : r.IsWhole) (s : 𝕊) (p : ℙ') (hp : p.IsWhole) (mx lx ax : 𝕏)
    (X : S1x512x512.Idx → EReal) (KC VC : S1x256x128.Idx → EReal) (KL VL : S1x4096x128.Idx → EReal) (W0 W1 : S1x32x5632.Idx → EReal)
    (W2 : S1x176x2048.Idx → EReal) (W3 : S1x32x2048.Idx → EReal)
    (O : S1x512x512.Idx → EReal) (Y0 Y1 : S32x5632.Idx → EReal) (Y2 : S176x2048.Idx → EReal) (Y3 : S32x2048.Idx → EReal) (Q : PUnit → sProp 𝕄) :
    iprop(ins c q kc vc kl vl w0 w1 w2 w3 X KC VC KL VL W0 W1 W2 W3 ∗ outs c o y0 y1 y2 y3 O Y0 Y1 Y2 Y3 ∗ scratch c r s p mx lx ax) ⊢
      iprop((iprop(ins c q kc vc kl vl w0 w1 w2 w3 X KC VC KL VL W0 W1 W2 W3
          ∗ outs c o y0 y1 y2 y3 (out X KC VC KL VL) (fun i => W0 (ix3 0 (i 0) (i 1))) (fun i => W1 (ix3 0 (i 0) (i 1))) (fun i => W2 (ix3 0 (i 0) (i 1))) (fun i => W3 (ix3 0 (i 0) (i 1)))
          ∗ scratch c r s p mx lx ax) -∗ Q ⟨⟩)
        -∗ WP defs c (body (F := Ideal) q kc vc kl vl w0 w1 w2 w3 o ho y0 hy0 y1 hy1 y2 hy2 y3 hy3 r hr s p hp mx lx ax) Q) := by
  unfold ins outs scratch body
  iintro ⟨⟨HQ, HKC, HVC, HKL, HVL, HW0, HW1, HW2, HW3⟩, ⟨HO, HY0, HY1, HY2, HY3⟩, ⟨%R, HR⟩, ⟨%S, HS⟩, ⟨%P, HP⟩, ⟨%M, HM⟩, ⟨%L, HL⟩, ⟨%A, HA⟩⟩ K
  rw [WP_bind]; iapply (wp_castW (c := c) (defs := defs) w0 y0 hy0 W0 Y0 _) $$ [HW0 HY0]
  · isplitl [HW0]; · iexact HW0
    iexact HY0
  iintro ⟨HW0, HY0⟩
  rw [WP_bind]; iapply (wp_castW (c := c) (defs := defs) w1 y1 hy1 W1 Y1 _) $$ [HW1 HY1]
  · isplitl [HW1]; · iexact HW1
    iexact HY1
  iintro ⟨HW1, HY1⟩
  rw [WP_bind]; iapply (wp_castD (c := c) (defs := defs) w2 y2 hy2 W2 Y2 _) $$ [HW2 HY2]
  · isplitl [HW2]; · iexact HW2
    iexact HY2
  iintro ⟨HW2, HY2⟩
  rw [WP_bind]; iapply (wp_castO (c := c) (defs := defs) w3 y3 hy3 W3 Y3 _) $$ [HW3 HY3]
  · isplitl [HW3]; · iexact HW3
    iexact HY3
  iintro ⟨HW3, HY3⟩
  rw [WP_bind]; iapply (wp_copyQ (c := c) (defs := defs) 0 _ q r hr X R _) $$ [HQ HR]
  · rw [mixQ_zero]
    isplitl [HQ]; · iexact HQ
    iexact HR
  iintro H
  rw [WP_bind]; iapply (wp_copyQ (c := c) (defs := defs) 1 _ q r hr X R _) $$ H
  iintro H
  rw [WP_bind]; iapply (wp_copyQ (c := c) (defs := defs) 2 _ q r hr X R _) $$ H
  iintro H
  rw [WP_bind]; iapply (wp_copyQ (c := c) (defs := defs) 3 _ q r hr X R _) $$ H
  rw [mixQ_all]
  iintro ⟨HQ, HR⟩
  rw [WP_bind]; iapply (wp_fill (c := c) (defs := defs) mx _ M _) $$ HM
  rw [fill_bot]
  iintro HM
  rw [WP_bind]; iapply (wp_fill (c := c) (defs := defs) lx _ L _) $$ HL
  rw [fill_l]
  iintro HL
  rw [WP_bind]; iapply (wp_fill (c := c) (defs := defs) ax _ A _) $$ HA
  rw [fill_a]
  iintro HA
  rw [WP_bind]; iapply (wp_scores (c := c) (defs := defs) 0 0 _ _ kl r s KL (qs X) S _) $$ [HKL HR HS]
  · isplitl [HKL]; · iexact HKL
    isplitl [HR]; · iexact HR
    iexact HS
  iintro H
  rw [WP_bind]; iapply (wp_scores (c := c) (defs := defs) 1 1 _ _ kl r s KL (qs X) _ _) $$ H
  iintro ⟨HKL, HR, HS⟩
  rw [WP_bind]; iapply (wp_values (c := c) (defs := defs) 0 _ vl VL _) $$ HVL
  iintro HVL
  rw [WP_bind]; iapply (wp_chunkR (c := c) (defs := defs) 0 _ _ s p hp mx lx ax _ (sL (qs X) KL 0 (by decide))
    (fun i x => (slot_other 1 1 0 _ (by decide) (by decide) KL (qs X) _ i x).trans (slot_same 0 0 _ (by decide) KL (qs X) S i x)) (fun _ => st0) _) $$ [HS HP HM HL HA]
  · unfold bufs
    isplitl [HS]; · iexact HS
    isplitl [HP]; · iexists _; iexact HP
    isplitl [HM]; · iexact HM
    isplitl [HL]; · iexact HL
    iexact HA
  unfold bufs
  iintro ⟨HS, HB⟩
  rw [WP_bind]; iapply (wp_scores (c := c) (defs := defs) 2 0 _ _ kl r s KL (qs X) _ _) $$ [HKL HR HS]
  · isplitl [HKL]; · iexact HKL
    isplitl [HR]; · iexact HR
    iexact HS
  iintro ⟨HKL, HR, HS⟩
  rw [WP_bind]; iapply (wp_values (c := c) (defs := defs) 1 _ vl VL _) $$ HVL
  iintro HVL
  rw [WP_bind]; iapply (wp_chunkR (c := c) (defs := defs) 1 _ _ s p hp mx lx ax _ (sL (qs X) KL 1 (by decide))
    (fun i x => (slot_other 2 0 1 _ (by decide) (by decide) KL (qs X) _ i x).trans (slot_same 1 1 _ (by decide) KL (qs X) _ i x)) _ _) $$ [HS HB]
  · unfold bufs
    isplitl [HS]; · iexact HS
    iexact HB
  unfold bufs
  iintro ⟨HS, HB⟩
  rw [WP_bind]; iapply (wp_scores (c := c) (defs := defs) 3 1 _ _ kl r s KL (qs X) _ _) $$ [HKL HR HS]
  · isplitl [HKL]; · iexact HKL
    isplitl [HR]; · iexact HR
    iexact HS
  iintro ⟨HKL, HR, HS⟩
  rw [WP_bind]; iapply (wp_values (c := c) (defs := defs) 2 _ vl VL _) $$ HVL
  iintro HVL
  rw [WP_bind]; iapply (wp_chunkR (c := c) (defs := defs) 0 _ _ s p hp mx lx ax _ (sL (qs X) KL 2 (by decide))
    (fun i x => (slot_other 3 1 0 _ (by decide) (by decide) KL (qs X) _ i x).trans (slot_same 2 0 _ (by decide) KL (qs X) _ i x)) _ _) $$ [HS HB]
  · unfold bufs
    isplitl [HS]; · iexact HS
    iexact HB
  unfold bufs
  iintro ⟨HS, HB⟩
  rw [WP_bind]; iapply (wp_scoresC (c := c) (defs := defs) kc r s KC (qs X) _ _) $$ [HKC HR HS]
  · isplitl [HKC]; · iexact HKC
    isplitl [HR]; · iexact HR
    iexact HS
  iintro ⟨HKC, HR, HS⟩
  rw [WP_bind]; iapply (wp_values (c := c) (defs := defs) 3 _ vl VL _) $$ HVL
  iintro HVL
  rw [WP_bind]; iapply (wp_chunkR (c := c) (defs := defs) 1 _ _ s p hp mx lx ax _ (sL (qs X) KL 3 (by decide))
    (fun i x => (slotC_other KC (qs X) _ i x).trans (slot_same 3 1 _ (by decide) KL (qs X) _ i x)) _ _) $$ [HS HB]
  · unfold bufs
    isplitl [HS]; · iexact HS
    iexact HB
  unfold bufs
  iintro ⟨HS, HB⟩
  rw [WP_bind]; iapply (wp_chunkCR (c := c) (defs := defs) vc s p hp mx lx ax VC _ (sC (qs X) KC) (fun i x => slotC_same KC (qs X) _ i x) _ _) $$ [HVC HS HB]
  · unfold bufs
    isplitl [HVC]; · iexact HVC
    isplitl [HS]; · iexact HS
    iexact HB
  unfold bufs
  iintro ⟨HVC, HS, ⟨%P', HP⟩, HM, HL, HA⟩
  rw [WP_bind]; iapply (wp_finish (c := c) (defs := defs) 0 _ o ho lx ax (lA (fin (qs X) KC VC KL VL)) (aA (fin (qs X) KC VC KL VL)) O _) $$ [HO HL HA]
  · rw [mixO_zero]
    isplitl [HO]; · iexact HO
    isplitl [HL]; · iexact HL
    iexact HA
  iintro H
  rw [WP_bind]; iapply (wp_finish (c := c) (defs := defs) 1 _ o ho lx ax _ _ O _) $$ H
  iintro H
  rw [WP_bind]; iapply (wp_finish (c := c) (defs := defs) 2 _ o ho lx ax _ _ O _) $$ H
  iintro H
  iapply (wp_finish (c := c) (defs := defs) 3 _ o ho lx ax _ _ O _) $$ H
  rw [mixO_all]
  iintro ⟨HO, HL, HA⟩
  iapply K
  isplitl [HQ HKC HVC HKL HVL HW0 HW1 HW2 HW3]
  · isplitl [HQ]; · iexact HQ
    isplitl [HKC]; · iexact HKC
    isplitl [HVC]; · iexact HVC
    isplitl [HKL]; · iexact HKL
    isplitl [HVL]; · iexact HVL
    isplitl [HW0]; · iexact HW0
    isplitl [HW1]; · iexact HW1
    isplitl [HW2]; · iexact HW2
    iexact HW3
  isplitl [HO HY0 HY1 HY2 HY3]
  · isplitl [HO]; · iexact HO
    isplitl [HY0]; · iexact HY0
    isplitl [HY1]; · iexact HY1
    isplitl [HY2]; · iexact HY2
    iexact HY3
  isplitl [HR]; · iexists _; iexact HR
  isplitl [HS]; · iexists _; iexact HS
  isplitl [HP]; · iexists _; iexact HP
  isplitl [HM]; · iexists _; iexact HM
  isplitl [HL]; · iexists _; iexact HL
  iexists _; iexact HA

end Cert.KernelIdeal.Attn

end
-- ==== Proof.Attn.Run.lean ====
/-
The launch of the attention kernel with the values its body leaves: the body's triple in place of the pieces a
covering run would give, and from it the launch's final state.
-/
module

public import proofs.«01_k».proof.Proof.Gen.KernelIdeal.Frame.Runs
public import proofs.«01_k».proof.Proof.Attn.Eq
public import proofs.«01_k».proof.Proof.Attn.Body
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg) (c : Dev nD)

/-- The block of the attention's result that point `t` leaves. -/
def oBlk (t : Fin cfg0.N) : S1x512x512.Idx → EReal := out (iblk m c 0 t) (iblk m c 1 t) (iblk m c 2 t) (iblk m c 3 t) (iblk m c 4 t)

/-- The blocks of the four rounded weights that point `t` leaves. -/
def w0Blk (t : Fin cfg0.N) : S32x5632.Idx → EReal := fun i => (iblk m c 5 t : S1x32x5632.Idx → EReal) (ix3 0 (i 0) (i 1))
def w1Blk (t : Fin cfg0.N) : S32x5632.Idx → EReal := fun i => (iblk m c 6 t : S1x32x5632.Idx → EReal) (ix3 0 (i 0) (i 1))
def w2Blk (t : Fin cfg0.N) : S176x2048.Idx → EReal := fun i => (iblk m c 7 t : S1x176x2048.Idx → EReal) (ix3 0 (i 0) (i 1))
def w3Blk (t : Fin cfg0.N) : S32x2048.Idx → EReal := fun i => (iblk m c 8 t : S1x32x2048.Idx → EReal) (ix3 0 (i 0) (i 1))

/-- The launch's data: every input's block stays, the results' blocks are the values above. -/
def vals₀ (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => oBlk m c t
    | ⟨10, _⟩ => w0Blk m c t
    | ⟨11, _⟩ => w1Blk m c t
    | ⟨12, _⟩ => w2Blk m c t
    | ⟨13, _⟩ => w3Blk m c t
  Φ _ := Pipeline.ΦA spec0 c
  q _ := fullShare
  owed _ := 0

theorem arr_eq (w : Fin cfg0.W) : (vals₀ m 0 c).A w = V m c (Pipeline.arrRef spec0 w) := by dsimp only [vals₀]

section
variable (t : Fin cfg0.N)

theorem left_0 : (vals₀ m 0 c).after 0 t = iblk m c 0 t := by dsimp only [vals₀]
theorem left_1 : (vals₀ m 0 c).after 1 t = iblk m c 1 t := by dsimp only [vals₀]
theorem left_2 : (vals₀ m 0 c).after 2 t = iblk m c 2 t := by dsimp only [vals₀]
theorem left_3 : (vals₀ m 0 c).after 3 t = iblk m c 3 t := by dsimp only [vals₀]
theorem left_4 : (vals₀ m 0 c).after 4 t = iblk m c 4 t := by dsimp only [vals₀]
theorem left_5 : (vals₀ m 0 c).after 5 t = iblk m c 5 t := by dsimp only [vals₀]
theorem left_6 : (vals₀ m 0 c).after 6 t = iblk m c 6 t := by dsimp only [vals₀]
theorem left_7 : (vals₀ m 0 c).after 7 t = iblk m c 7 t := by dsimp only [vals₀]
theorem left_8 : (vals₀ m 0 c).after 8 t = iblk m c 8 t := by dsimp only [vals₀]
theorem left_9 : (vals₀ m 0 c).after 9 t = oBlk m c t := by dsimp only [vals₀]
theorem left_10 : (vals₀ m 0 c).after 10 t = w0Blk m c t := by dsimp only [vals₀]
theorem left_11 : (vals₀ m 0 c).after 11 t = w1Blk m c t := by dsimp only [vals₀]
theorem left_12 : (vals₀ m 0 c).after 12 t = w2Blk m c t := by dsimp only [vals₀]
theorem left_13 : (vals₀ m 0 c).after 13 t = w3Blk m c t := by dsimp only [vals₀]

theorem held_0 (d) : (vals₀ m 0 c).before 0 t d = iblk m c 0 t := before0_0_of m (vals₀ m 0 c) (arr_eq m c 0) (left_0 m c) t d
theorem held_1 (d) : (vals₀ m 0 c).before 1 t d = iblk m c 1 t := before0_1_of m (vals₀ m 0 c) (arr_eq m c 1) (left_1 m c) t d
theorem held_2 (d) : (vals₀ m 0 c).before 2 t d = iblk m c 2 t := before0_2_of m (vals₀ m 0 c) (arr_eq m c 2) (left_2 m c) t d
theorem held_3 (d) : (vals₀ m 0 c).before 3 t d = iblk m c 3 t := before0_3_of m (vals₀ m 0 c) (arr_eq m c 3) (left_3 m c) t d
theorem held_4 (d) : (vals₀ m 0 c).before 4 t d = iblk m c 4 t := before0_4_of m (vals₀ m 0 c) (arr_eq m c 4) (left_4 m c) t d
theorem held_5 (d) : (vals₀ m 0 c).before 5 t d = iblk m c 5 t := before0_5_of m (vals₀ m 0 c) (arr_eq m c 5) (left_5 m c) t d
theorem held_6 (d) : (vals₀ m 0 c).before 6 t d = iblk m c 6 t := before0_6_of m (vals₀ m 0 c) (arr_eq m c 6) (left_6 m c) t d
theorem held_7 (d) : (vals₀ m 0 c).before 7 t d = iblk m c 7 t := before0_7_of m (vals₀ m 0 c) (arr_eq m c 7) (left_7 m c) t d
theorem held_8 (d) : (vals₀ m 0 c).before 8 t d = iblk m c 8 t := before0_8_of m (vals₀ m 0 c) (arr_eq m c 8) (left_8 m c) t d

/-- What the body starts from at point `t`, window by window, and what it returns. -/
def pre : sProp 𝕄 :=
  iprop((vals₀ m 0 c).Φ t.castSucc ∗ (vals₀ m 0 c).owesAt () t.castSucc
    ∗ (∃ d, owns (c : Thread nD τ) (ms0_0 t) fullShare ((vals₀ m 0 c).before 0 t d))
    ∗ (∃ d, owns (c : Thread nD τ) (ms0_1 t) fullShare ((vals₀ m 0 c).before 1 t d))
    ∗ (∃ d, owns (c : Thread nD τ) (ms0_2 t) fullShare ((vals₀ m 0 c).before 2 t d))
    ∗ (∃ d, owns (c : Thread nD τ) (ms0_3 t) fullShare ((vals₀ m 0 c).before 3 t d))
    ∗ (∃ d, owns (c : Thread nD τ) (ms0_4 t) fullShare ((vals₀ m 0 c).before 4 t d))
    ∗ (∃ d, owns (c : Thread nD τ) (ms0_5 t) fullShare ((vals₀ m 0 c).before 5 t d))
    ∗ (∃ d, owns (c : Thread nD τ) (ms0_6 t) fullShare ((vals₀ m 0 c).before 6 t d))
    ∗ (∃ d, owns (c : Thread nD τ) (ms0_7 t) fullShare ((vals₀ m 0 c).before 7 t d))
    ∗ (∃ d, owns (c : Thread nD τ) (ms0_8 t) fullShare ((vals₀ m 0 c).before 8 t d))
    ∗ (∃ d, owns (c : Thread nD τ) (ms0_9 t) fullShare ((vals₀ m 0 c).before 9 t d))
    ∗ (∃ d, owns (c : Thread nD τ) (ms0_10 t) fullShare ((vals₀ m 0 c).before 10 t d))
    ∗ (∃ d, owns (c : Thread nD τ) (ms0_11 t) fullShare ((vals₀ m 0 c).before 11 t d))
    ∗ (∃ d, owns (c : Thread nD τ) (ms0_12 t) fullShare ((vals₀ m 0 c).before 12 t d))
    ∗ (∃ d, owns (c : Thread nD τ) (ms0_13 t) fullShare ((vals₀ m 0 c).before 13 t d)))

def post : sProp 𝕄 :=
  iprop((vals₀ m 0 c).Φ t.succ ∗ (vals₀ m 0 c).owesAt () t.succ
    ∗ owns (c : Thread nD τ) (ms0_0 t) fullShare ((vals₀ m 0 c).after 0 t)
    ∗ owns (c : Thread nD τ) (ms0_1 t) fullShare ((vals₀ m 0 c).after 1 t)
    ∗ owns (c : Thread nD τ) (ms0_2 t) fullShare ((vals₀ m 0 c).after 2 t)
    ∗ owns (c : Thread nD τ) (ms0_3 t) fullShare ((vals₀ m 0 c).after 3 t)
    ∗ owns (c : Thread nD τ) (ms0_4 t) fullShare ((vals₀ m 0 c).after 4 t)
    ∗ owns (c : Thread nD τ) (ms0_5 t) fullShare ((vals₀ m 0 c).after 5 t)
    ∗ owns (c : Thread nD τ) (ms0_6 t) fullShare ((vals₀ m 0 c).after 6 t)
    ∗ owns (c : Thread nD τ) (ms0_7 t) fullShare ((vals₀ m 0 c).after 7 t)
    ∗ owns (c : Thread nD τ) (ms0_8 t) fullShare ((vals₀ m 0 c).after 8 t)
    ∗ owns (c : Thread nD τ) (ms0_9 t) fullShare ((vals₀ m 0 c).after 9 t)
    ∗ owns (c : Thread nD τ) (ms0_10 t) fullShare ((vals₀ m 0 c).after 10 t)
    ∗ owns (c : Thread nD τ) (ms0_11 t) fullShare ((vals₀ m 0 c).after 11 t)
    ∗ owns (c : Thread nD τ) (ms0_12 t) fullShare ((vals₀ m 0 c).after 12 t)
    ∗ owns (c : Thread nD τ) (ms0_13 t) fullShare ((vals₀ m 0 c).after 13 t))

set_option maxHeartbeats 2000000 in
theorem triple : pre m c t ⊢ wp frame (wpE (defs₀ (F := Ideal)) Variants.none c none) Set.univ (bodyAt0 t) (fun _ => post m c t) := by
  unfold pre post bodyAt0
  simp only [held_0, held_1, held_2, held_3, held_4, held_5, held_6, held_7, held_8]
  rw [show (vals₀ m 0 c).Φ t.succ = (vals₀ m 0 c).Φ t.castSucc from rfl,
    show (vals₀ m 0 c).owesAt () t.succ = (vals₀ m 0 c).owesAt () t.castSucc from rfl,
    left_0, left_1, left_2, left_3, left_4, left_5, left_6, left_7, left_8, left_9, left_10, left_11, left_12, left_13]
  rw [show (vals₀ m 0 c).Φ t.castSucc = Pipeline.ΦA spec0 c from rfl, PhiA0_eq, body_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (wp_body (c := c) (defs := defs₀) (ms0_0 t) (ms0_1 t) (ms0_2 t) (ms0_3 t) (ms0_4 t) (ms0_5 t) (ms0_6 t) (ms0_7 t) (ms0_8 t)
    (ms0_9 t) _ (ms0_10 t) _ (ms0_11 t) _ (ms0_12 t) _ (ms0_13 t) _ scM0_0 _ scM0_1 scM0_2 _ scM0_3 scM0_4 scM0_5
    (iblk m c 0 t) (iblk m c 1 t) (iblk m c 2 t) (iblk m c 3 t) (iblk m c 4 t) (iblk m c 5 t) (iblk m c 6 t) (iblk m c 7 t) (iblk m c 8 t) _ _ _ _ _ _) $$ [HS H0 H1 H2 H3 H4 H5 H6 H7 H8 H9 H10 H11 H12 H13]
  · unfold ins outs scratch ownsTc
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9 H10 H11 H12 H13]
    · isplitl [H9]; · iexact H9
      isplitl [H10]; · iexact H10
      isplitl [H11]; · iexact H11
      isplitl [H12]; · iexact H12
      iexact H13
    iexact HS
  unfold ins outs scratch ownsTc
  iintro ⟨⟨H0, H1, H2, H3, H4, H5, H6, H7, H8⟩, ⟨H9, H10, H11, H12, H13⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem row : defs₀ (F := Ideal) .tc cfg0.body (cfg0.bodyArgs t (cfg0.slots t)) = bodyAt0 t := by
  unfold defs₀; rw [Defs.onTc_tc]

end

theorem obligation : BodyObligation (vals₀ m 0 c) (defs₀ (F := Ideal)) Variants.none () Set.univ := fun t => by
  rw [bigSep_W0, bigSep_W0, row]
  exact triple_restated (triple m c t) rfl .rfl fun _ => .rfl

set_option backward.isDefEq.respectTransparency.types false in
/-- The launch ends, with every counter at zero and every array at what the blocks left make of it. -/
theorem launched : θ_run defs (onTc (τ := τ) (main (F := Ideal))) (s₀ m ρ) (fun r => (Pipeline.FramePost cfgs (vals₀ m) 0 (V m)) r ∧ r.2.sem = fun _ => 0) :=
  Pipeline.θ_run_frame (Q' := _) cfgs (vals₀ m) (0 : Fin 1) launch0 defs₀ Variants.none m ρ main
    (hbody := fun c => (obligation m c).loose) (hshare := fun c => (vals₀ m 0 c).share_full fun _ => rfl)
    (howed := fun _ _ => rfl) (V := V m) (hmain := hmain m Variants.none) (hA := fun c w => arr_eq m c w) (hΦ := fun _ _ => rfl)

end Cert.KernelIdeal.Attn

end
-- ==== Proof.Attn.Keys.lean ====
/-
One row over all its keys: the context's 256 first, then the 4096 latent ones. The five chunks the body takes in
cover them once each, so the row's result is its softmax over the whole.
-/
module

public import proofs.«01_k».proof.Proof.Attn.Body

@[expose] public section

set_option maxRecDepth 16384

noncomputable section

namespace Cert.KernelIdeal.Attn

open Idealize.ShloMosaic

/-- The keys of latent chunk `j`, and those of the context, among all. -/
def latE (j : Nat) (hj : j < 4) : Fin 1024 ↪ Fin 4352 :=
  ⟨fun x => ⟨256 + 1024 * j + x.val, by omega⟩, fun x y h => Fin.ext (by have := congrArg Fin.val h; dsimp only at this; omega)⟩
def ctxE : Fin 256 ↪ Fin 4352 := ⟨fun x => ⟨x.val, by omega⟩, fun x y h => Fin.ext (Fin.mk.inj h)⟩

/-- A latent key among all. -/
def latK (x : Fin 4096) : Fin 4352 := ⟨256 + x.val, by omega⟩

theorem mem_lat (j : Nat) (hj : j < 4) (k : Fin 4352) : k ∈ Finset.univ.map (latE j hj) ↔ 256 + 1024 * j ≤ k.val ∧ k.val < 256 + 1024 * (j + 1) := by
  rw [Finset.mem_map]
  constructor
  · rintro ⟨x, -, rfl⟩
    show 256 + 1024 * j ≤ 256 + 1024 * j + x.val ∧ 256 + 1024 * j + x.val < _
    omega
  · rintro ⟨h, h'⟩
    exact ⟨⟨k.val - (256 + 1024 * j), by omega⟩, Finset.mem_univ _, Fin.ext (by show 256 + 1024 * j + (k.val - (256 + 1024 * j)) = k.val; omega)⟩

theorem mem_ctx (k : Fin 4352) : k ∈ Finset.univ.map ctxE ↔ k.val < 256 := by
  rw [Finset.mem_map]
  constructor
  · rintro ⟨x, -, rfl⟩
    exact x.isLt
  · intro h
    exact ⟨⟨k.val, h⟩, Finset.mem_univ _, rfl⟩

/-- The keys of the first `n` latent chunks. -/
def lats : Nat → Finset (Fin 4352)
  | 0 => ∅
  | n + 1 => lats n ∪ if h : n < 4 then Finset.univ.map (latE n h) else ∅

theorem mem_lats (n : Nat) (hn : n ≤ 4) (k : Fin 4352) : k ∈ lats n ↔ 256 ≤ k.val ∧ k.val < 256 + 1024 * n := by
  induction n with
  | zero => exact iff_of_false (Finset.notMem_empty _) (by omega)
  | succ n ih =>
    rw [lats, dif_pos (show n < 4 by omega), Finset.mem_union, ih (by omega), mem_lat]
    omega

/-- The real scale of the queries. -/
def sc : ℝ := ((Real.log 2) * (Real.sqrt 128))⁻¹

theorem scale_eq : scale = (sc : EReal) := rfl

/-- A row's score at a key, in the kernel's units. -/
def Fr (q : Fin 128 → ℝ) (K : Fin 4352 → Fin 128 → ℝ) (k : Fin 4352) : ℝ := ∑ d, q d * sc * K k d

theorem Fr_log (q : Fin 128 → ℝ) (K : Fin 4352 → Fin 128 → ℝ) (k : Fin 4352) : Fr q K k * Real.log 2 = (∑ d, K k d * q d) / Real.sqrt 128 := by
  have h2 : Real.log 2 ≠ 0 := (Real.log_pos (by norm_num)).ne'
  have h1 : Real.sqrt 128 ≠ 0 := (Real.sqrt_pos.mpr (by norm_num)).ne'
  unfold Fr sc
  rw [Finset.sum_mul, Finset.sum_div]
  refine Finset.sum_congr rfl fun d _ => ?_
  field_simp

section
variable (q : Fin 128 → ℝ) (K : Fin 4352 → Fin 128 → ℝ) (V : Fin 4352 → Fin 128 → EReal)
  (QS : S2048x128.Idx → EReal) (KC VC : S1x256x128.Idx → EReal) (KL VL : S1x4096x128.Idx → EReal) (i : Fin 2048)
  (hq : ∀ d, QS (ix2 i d) = ((q d * sc : ℝ) : EReal))
  (hkc : ∀ (x : Fin 256) d, KC (ix3 0 x d) = ((K (ctxE x) d : ℝ) : EReal))
  (hkl : ∀ (x : Fin 4096) d, KL (ix3 0 x d) = ((K (latK x) d : ℝ) : EReal))
  (hvc : ∀ (x : Fin 256) d, VC (ix3 0 x d) = V (ctxE x) d)
  (hvl : ∀ (x : Fin 4096) d, VL (ix3 0 x d) = V (latK x) d)

include hq hkl in
theorem sL_real (j : Nat) (hj : j < 4) (x : Fin 1024) : sL QS KL j hj i x = (Fr q K (latE j hj x) : EReal) := by
  unfold sL Fr
  rw [← sum_real]
  refine Finset.sum_congr rfl fun d _ => ?_
  rw [hq, hkl, EReal.coe_mul (q d * sc)]
  refine congrArg (fun k => ((q d * sc : ℝ) : EReal) * ((K k d : ℝ) : EReal)) (Fin.ext ?_)
  show 256 + (1024 * j + x.val) = 256 + 1024 * j + x.val
  omega

include hq hkc in
theorem sC_real (x : Fin 256) : sC QS KC i x = (Fr q K (ctxE x) : EReal) := by
  unfold sC Fr
  rw [← sum_real]
  refine Finset.sum_congr rfl fun d _ => ?_
  rw [hq, hkc, EReal.coe_mul (q d * sc)]

include hq hkl hvl in
/-- One more latent chunk. -/
theorem seen_lat (n : Nat) (hn : n < 4) (st : Fin 2048 → St) (h : Seen (lats n) (Fr q K) V (st i)) :
    Seen (lats (n + 1)) (Fr q K) V (stepAll (sL QS KL n hn) (fun x d => vals n hn VL (ix2 x d)) st i) := by
  rw [lats, dif_pos hn]
  refine Seen.step (by decide) h (latE n hn) ?_ _ _ (sL_real q K QS KL i hq hkl n hn) fun x => funext fun d => ?_
  · rw [Finset.disjoint_left]
    intro k hk hk'
    rw [mem_lats n (by omega)] at hk
    rw [mem_lat] at hk'
    omega
  · refine (hvl ⟨1024 * n + x.val, by omega⟩ d).trans ?_
    refine congrArg (fun k => V k d) (Fin.ext ?_)
    show 256 + (1024 * n + x.val) = 256 + 1024 * n + x.val
    omega

include hq hkc hkl hvc hvl in
/-- The row's result is its softmax over all keys. -/
theorem row_value (S : Fin 4352 → EReal) (hS : ∀ k, S k = (((∑ d, K k d * q d) / Real.sqrt 128 : ℝ) : EReal)) (d : Fin 128) :
    (fin QS KC VC KL VL i).a d * Ideal.div 1 (fin QS KC VC KL VL i).l = soft S fun k => V k d := by
  have step := seen_lat q K V QS KL VL i hq hkl hvl
  have h4 := step 3 (by decide) _ (step 2 (by decide) _ (step 1 (by decide) _ (step 0 (by decide) (fun _ => st0) (seen_empty _ _))))
  have h5 := Seen.step (by decide) h4 ctxE (by
    rw [Finset.disjoint_left]
    intro k hk hk'
    rw [mem_lats 4 (by decide)] at hk
    rw [mem_ctx] at hk'
    omega) (sC QS KC i) (fun x d => VC (ix3 0 x d)) (sC_real q K QS KC i hq hkc) (fun x => funext fun d => hvc x d)
  have hu : lats 4 ∪ Finset.univ.map ctxE = Finset.univ := by
    ext k
    rw [Finset.mem_union, mem_lats 4 (by decide), mem_ctx]
    exact iff_of_true (by omega) (Finset.mem_univ _)
  rw [hu] at h5
  exact h5.result S (fun k => (hS k).trans (congrArg _ (Fr_log q K k).symm)) d

end

end Cert.KernelIdeal.Attn

end
-- ==== Proof.Attn.Spec.lean ====
/-
The attention both programs compute, as a function of the arguments' entries.
-/
module

public import proofs.«01_k».proof.Proof.Attn.Row

@[expose] public section

noncomputable section

namespace Cert.KernelIdeal.Attn

open Idealize.ShloMosaic

/-- A key's (or a value's) entry: the first 256 are the context's. -/
def entry (A : Fin 4 → Fin 256 → Fin 2 → Fin 128 → EReal) (B : Fin 4 → Fin 4096 → Fin 2 → Fin 128 → EReal) (b : Fin 4) (k : Fin 4352) (h : Fin 2) (d : Fin 128) : EReal :=
  if hk : k.val < 256 then A b ⟨k.val, hk⟩ h d else B b ⟨k.val - 256, by omega⟩ h d

/-- The scaled score of head `g` of group `h` at a key. -/
def score (Q : Fin 4 → Fin 4096 → Fin 8 → Fin 128 → EReal) (K : Fin 4 → Fin 4352 → Fin 2 → Fin 128 → EReal) (b : Fin 4) (r : Fin 4096) (h : Fin 2) (g : Fin 4) (k : Fin 4352) : EReal :=
  Ideal.div (∑ d : Fin 128, K b k h d * Q b r ⟨h.val * 4 + g.val, by omega⟩ d) ((Real.sqrt 128 : ℝ) : EReal)

/-- An entry of the attention's result. -/
def attend (Q : Fin 4 → Fin 4096 → Fin 8 → Fin 128 → EReal) (K V : Fin 4 → Fin 4352 → Fin 2 → Fin 128 → EReal) (b : Fin 4) (r : Fin 4096) (h : Fin 2) (g : Fin 4) (d : Fin 128) : EReal :=
  soft (score Q K b r h g) fun k => V b k h d

end Cert.KernelIdeal.Attn

end
-- ==== Proof.Attn.Final.lean ====
/-
The arrays after the launch: the blocks the points leave, put together; and the blocks of the inputs as entries of
the arguments.
-/
module

public import proofs.«01_k».proof.Proof.Attn.Run
public import proofs.«01_k».proof.Proof.Attn.Keys
public import proofs.«01_k».proof.Proof.Attn.Spec
public import Idealize.ShloMosaic.Lib.Pointwise
public import Idealize.ShloMosaic.Lib.StableHlo.ReadAt
public import Idealize.ShloMosaic.Lib.Tactic
public import Idealize.ShloMosaic.Lib.Pipeline.Value
public import Idealize.ShloMosaic.Lib.Pipeline.ValueKit.Basic

@[expose] public section

set_option maxRecDepth 16384

noncomputable section

namespace Cert.KernelIdeal.Attn

open Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The arguments as launched. -/
abbrev aQ : Vec Ideal S4x4096x8x128 .f32 := m ((c.tc : Thread nD τ).loc main_arg0)
abbrev aKC : Vec Ideal S4x256x2x128 .f32 := m ((c.tc : Thread nD τ).loc main_arg1)
abbrev aVC : Vec Ideal S4x256x2x128 .f32 := m ((c.tc : Thread nD τ).loc main_arg2)
abbrev aKL : Vec Ideal S4x4096x2x128 .f32 := m ((c.tc : Thread nD τ).loc main_arg3)
abbrev aVL : Vec Ideal S4x4096x2x128 .f32 := m ((c.tc : Thread nD τ).loc main_arg4)
abbrev aW0 : Vec Ideal S2x2048x5632 .f32 := m ((c.tc : Thread nD τ).loc main_arg5)
abbrev aW1 : Vec Ideal S2x2048x5632 .f32 := m ((c.tc : Thread nD τ).loc main_arg6)
abbrev aW2 : Vec Ideal S2x5632x2048 .f32 := m ((c.tc : Thread nD τ).loc main_arg7)
abbrev aW3 : Vec Ideal S2x2048x2048 .f32 := m ((c.tc : Thread nD τ).loc main_arg8)

/-- The blocks' places, decided over the grid. -/
theorem places : ∀ t : Fin cfg0.N, (win0_0.index t = ![t.val / 16, t.val % 8, t.val / 8 % 2] ∧ win0_1.index t = ![t.val / 16, 0, t.val / 8 % 2]
    ∧ win0_2.index t = ![t.val / 16, 0, t.val / 8 % 2] ∧ win0_3.index t = ![t.val / 16, 0, t.val / 8 % 2] ∧ win0_4.index t = ![t.val / 16, 0, t.val / 8 % 2])
    ∧ (win0_5.index t = ![0, t.val, 0] ∧ win0_6.index t = ![0, t.val, 0] ∧ win0_7.index t = ![0, t.val / 2, 0] ∧ win0_8.index t = ![0, t.val, 0])
    ∧ win0_9.index t = ![t.val / 16, t.val % 8, t.val / 8 % 2] ∧ win0_10.index t = ![t.val, 0] ∧ win0_11.index t = ![t.val, 0]
    ∧ win0_12.index t = ![t.val / 2, 0] ∧ win0_13.index t = ![t.val, 0] :=
  (by decide +kernel : ∀ t : Fin grid0.N, _)

theorem lt_N (t : Fin cfg0.N) : t.val < 64 := lt_of_lt_of_eq t.isLt N_0

/-! ## The inputs' blocks -/

theorem V0_apply (b : Fin 4) (r : Fin 4096) (k : Fin 1024) :
    V m c main_v0 (ix3 b r k) = aQ m c (ix4 b r ⟨k.val / 128, by omega⟩ ⟨k.val % 128, by omega⟩) := by
  unfold V
  after_reads_at

theorem V2_apply (b : Fin 4) (r : Fin 256) (k : Fin 256) :
    V m c main_v2 (ix3 b r k) = aKC m c (ix4 b r ⟨k.val / 128, by omega⟩ ⟨k.val % 128, by omega⟩) := by
  unfold V
  after_reads_at

theorem V4_apply (b : Fin 4) (r : Fin 256) (k : Fin 256) :
    V m c main_v4 (ix3 b r k) = aVC m c (ix4 b r ⟨k.val / 128, by omega⟩ ⟨k.val % 128, by omega⟩) := by
  unfold V
  after_reads_at

theorem V6_apply (b : Fin 4) (r : Fin 4096) (k : Fin 256) :
    V m c main_v6 (ix3 b r k) = aKL m c (ix4 b r ⟨k.val / 128, by omega⟩ ⟨k.val % 128, by omega⟩) := by
  unfold V
  after_reads_at

theorem V8_apply (b : Fin 4) (r : Fin 4096) (k : Fin 256) :
    V m c main_v8 (ix3 b r k) = aVL m c (ix4 b r ⟨k.val / 128, by omega⟩ ⟨k.val % 128, by omega⟩) := by
  unfold V
  after_reads_at

theorem blkQ (t : Fin cfg0.N) (r k : Fin 512) : (iblk m c 0 t : S1x512x512.Idx → EReal) (ix3 0 r k)
    = aQ m c (ix4 (⟨t.val / 16, by have := lt_N t; omega⟩ : Fin 4) (⟨512 * (t.val % 8) + r.val, by omega⟩ : Fin 4096)
        (⟨4 * (t.val / 8 % 2) + k.val / 128, by omega⟩ : Fin 8) (⟨k.val % 128, by omega⟩ : Fin 128)) := by
  have e := (places t).1.1
  have h : (iblk m c 0 t : S1x512x512.Idx → EReal) (ix3 0 r k) = V m c main_v0 (ix3 (⟨t.val / 16, by have := lt_N t; omega⟩ : Fin 4) (⟨512 * (t.val % 8) + r.val, by omega⟩ : Fin 4096)
      (⟨512 * (t.val / 8 % 2) + k.val, by omega⟩ : Fin 1024)) := by
    unfold iblk
    refine congrArg (V m c main_v0) (funext fun a => Fin.ext ?_)
    match a with
    | ⟨0, _⟩ => show win0_0.index t (0 : Fin 3) * 1 + 1 * 0 = t.val / 16; rw [e]; simp
    | ⟨1, _⟩ => show win0_0.index t (1 : Fin 3) * 512 + 1 * r.val = 512 * (t.val % 8) + r.val; rw [e]; simp; omega
    | ⟨2, _⟩ => show win0_0.index t (2 : Fin 3) * 512 + 1 * k.val = 512 * (t.val / 8 % 2) + k.val; rw [e]; simp; omega
  rw [h, V0_apply]
  refine congrArg (aQ m c) (congrArg₂ (ix4 _ _) (Fin.ext ?_) (Fin.ext ?_))
  · show (512 * (t.val / 8 % 2) + k.val) / 128 = 4 * (t.val / 8 % 2) + k.val / 128; omega
  · show (512 * (t.val / 8 % 2) + k.val) % 128 = k.val % 128; omega

/-- The place of a key's or value's entry: the group's columns are 128 wide. -/
theorem group_at {R : Nat} (X : (Shape.mk 4 ![4, R, 2, 128]).Idx → EReal) (b : Fin 4) (r : Fin R) (h : Nat) (hh : h < 2) (k : Fin 128) :
    X (ix4 b r ⟨(128 * h + k.val) / 128, by omega⟩ ⟨(128 * h + k.val) % 128, by omega⟩) = X (ix4 b r ⟨h, hh⟩ k) :=
  congrArg X (congrArg₂ (ix4 _ _) (Fin.ext (by show (128 * h + k.val) / 128 = h; omega)) (Fin.ext (by show (128 * h + k.val) % 128 = k.val; omega)))

theorem blkKC (t : Fin cfg0.N) (r : Fin 256) (k : Fin 128) : (iblk m c 1 t : S1x256x128.Idx → EReal) (ix3 0 r k)
    = aKC m c (ix4 (⟨t.val / 16, by have := lt_N t; omega⟩ : Fin 4) r (⟨t.val / 8 % 2, by omega⟩ : Fin 2) k) := by
  have e := (places t).1.2.1
  have h : (iblk m c 1 t : S1x256x128.Idx → EReal) (ix3 0 r k) = V m c main_v2 (ix3 (⟨t.val / 16, by have := lt_N t; omega⟩ : Fin 4) r
      (⟨128 * (t.val / 8 % 2) + k.val, by omega⟩ : Fin 256)) := by
    unfold iblk
    refine congrArg (V m c main_v2) (funext fun a => Fin.ext ?_)
    match a with
    | ⟨0, _⟩ => show win0_1.index t (0 : Fin 3) * 1 + 1 * 0 = t.val / 16; rw [e]; simp
    | ⟨1, _⟩ => show win0_1.index t (1 : Fin 3) * 256 + 1 * r.val = r.val; rw [e]; simp
    | ⟨2, _⟩ => show win0_1.index t (2 : Fin 3) * 128 + 1 * k.val = 128 * (t.val / 8 % 2) + k.val; rw [e]; simp; omega
  rw [h, V2_apply]
  exact group_at (aKC m c) _ r _ _ k

theorem blkVC (t : Fin cfg0.N) (r : Fin 256) (k : Fin 128) : (iblk m c 2 t : S1x256x128.Idx → EReal) (ix3 0 r k)
    = aVC m c (ix4 (⟨t.val / 16, by have := lt_N t; omega⟩ : Fin 4) r (⟨t.val / 8 % 2, by omega⟩ : Fin 2) k) := by
  have e := (places t).1.2.2.1
  have h : (iblk m c 2 t : S1x256x128.Idx → EReal) (ix3 0 r k) = V m c main_v4 (ix3 (⟨t.val / 16, by have := lt_N t; omega⟩ : Fin 4) r
      (⟨128 * (t.val / 8 % 2) + k.val, by omega⟩ : Fin 256)) := by
    unfold iblk
    refine congrArg (V m c main_v4) (funext fun a => Fin.ext ?_)
    match a with
    | ⟨0, _⟩ => show win0_2.index t (0 : Fin 3) * 1 + 1 * 0 = t.val / 16; rw [e]; simp
    | ⟨1, _⟩ => show win0_2.index t (1 : Fin 3) * 256 + 1 * r.val = r.val; rw [e]; simp
    | ⟨2, _⟩ => show win0_2.index t (2 : Fin 3) * 128 + 1 * k.val = 128 * (t.val / 8 % 2) + k.val; rw [e]; simp; omega
  rw [h, V4_apply]
  exact group_at (aVC m c) _ r _ _ k

theorem blkKL (t : Fin cfg0.N) (r : Fin 4096) (k : Fin 128) : (iblk m c 3 t : S1x4096x128.Idx → EReal) (ix3 0 r k)
    = aKL m c (ix4 (⟨t.val / 16, by have := lt_N t; omega⟩ : Fin 4) r (⟨t.val / 8 % 2, by omega⟩ : Fin 2) k) := by
  have e := (places t).1.2.2.2.1
  have h : (iblk m c 3 t : S1x4096x128.Idx → EReal) (ix3 0 r k) = V m c main_v6 (ix3 (⟨t.val / 16, by have := lt_N t; omega⟩ : Fin 4) r
      (⟨128 * (t.val / 8 % 2) + k.val, by omega⟩ : Fin 256)) := by
    unfold iblk
    refine congrArg (V m c main_v6) (funext fun a => Fin.ext ?_)
    match a with
    | ⟨0, _⟩ => show win0_3.index t (0 : Fin 3) * 1 + 1 * 0 = t.val / 16; rw [e]; simp
    | ⟨1, _⟩ => show win0_3.index t (1 : Fin 3) * 4096 + 1 * r.val = r.val; rw [e]; simp
    | ⟨2, _⟩ => show win0_3.index t (2 : Fin 3) * 128 + 1 * k.val = 128 * (t.val / 8 % 2) + k.val; rw [e]; simp; omega
  rw [h, V6_apply]
  exact group_at (aKL m c) _ r _ _ k

theorem blkVL (t : Fin cfg0.N) (r : Fin 4096) (k : Fin 128) : (iblk m c 4 t : S1x4096x128.Idx → EReal) (ix3 0 r k)
    = aVL m c (ix4 (⟨t.val / 16, by have := lt_N t; omega⟩ : Fin 4) r (⟨t.val / 8 % 2, by omega⟩ : Fin 2) k) := by
  have e := (places t).1.2.2.2.2
  have h : (iblk m c 4 t : S1x4096x128.Idx → EReal) (ix3 0 r k) = V m c main_v8 (ix3 (⟨t.val / 16, by have := lt_N t; omega⟩ : Fin 4) r
      (⟨128 * (t.val / 8 % 2) + k.val, by omega⟩ : Fin 256)) := by
    unfold iblk
    refine congrArg (V m c main_v8) (funext fun a => Fin.ext ?_)
    match a with
    | ⟨0, _⟩ => show win0_4.index t (0 : Fin 3) * 1 + 1 * 0 = t.val / 16; rw [e]; simp
    | ⟨1, _⟩ => show win0_4.index t (1 : Fin 3) * 4096 + 1 * r.val = r.val; rw [e]; simp
    | ⟨2, _⟩ => show win0_4.index t (2 : Fin 3) * 128 + 1 * k.val = 128 * (t.val / 8 % 2) + k.val; rw [e]; simp; omega
  rw [h, V8_apply]
  exact group_at (aVL m c) _ r _ _ k

/-! ## The results' arrays -/

/-- The rounded first layer of `main_arg5`. -/
def G10 : Buf (Elt Ideal) ((c : Thread nD τ).loc main_v9_1) := fun i : S2048x5632.Idx => aW0 m c (ix3 0 (i 0) (i 1))

theorem flushed_10 (t : Fin cfg0.N) : (vals₀ m 0 c).flushed 10 t = ((cfg0.win 10).blk t).view.read (Elt Ideal) (G10 m c) := by
  show (cfg0.win 10).cut (grid0.coords t) ((vals₀ m 0 c).after 10 t) = _
  rw [left_10]
  have e := (places t).2.1.1
  have e' := (places t).2.2.2.1
  funext y
  show V m c main_arg5 (((cfg0.win 5).blk t).view.emb (ix3 0 (y 0) (y 1))) = G10 m c (((cfg0.win 10).blk t).view.emb y)
  rw [V_main_arg5]
  unfold G10
  refine congrArg (aW0 m c) (funext fun a => Fin.ext ?_)
  match a with
  | ⟨0, _⟩ => show win0_5.index t (0 : Fin 3) * 1 + 1 * 0 = 0; rw [e]; simp
  | ⟨1, _⟩ => show win0_5.index t (1 : Fin 3) * 32 + 1 * (y 0).val = win0_10.index t (0 : Fin 2) * 32 + 1 * (y 0).val; rw [e, e']; simp
  | ⟨2, _⟩ => show win0_5.index t (2 : Fin 3) * 5632 + 1 * (y 1).val = win0_10.index t (1 : Fin 2) * 5632 + 1 * (y 1).val; rw [e, e']; simp

theorem final_10 : (vals₀ m 0 c).arrAt 10 cfg0.N = G10 m c := by
  refine (vals₀ m 0 c).arrAt_eq_of_cover 10 _ (fun t _ => flushed_10 m c t) fun (i : S2048x5632.Idx) => ?_
  have h0 : (i 0).val < 2048 := (i 0).isLt
  have h1 : (i 1).val < 5632 := (i 1).isLt
  obtain ⟨t, ht⟩ : ∃ t : Fin cfg0.N, t.val = (i 0).val / 32 := ⟨⟨(i 0).val / 32, lt_of_lt_of_eq (by omega) N_0.symm⟩, rfl⟩
  have e := (places t).2.2.2.1
  refine ⟨t, flush0_10 t, ?_⟩
  show i ∈ ((View.whole main_v9_1).slice (win0_10.rect t)).set
  rw [View.set_slice_whole, Rect.mem_set_unit]
  intro a
  match a with
  | ⟨0, _⟩ => show win0_10.index t (0 : Fin 2) * 32 ≤ (i 0).val ∧ (i 0).val < win0_10.index t (0 : Fin 2) * 32 + 32; rw [e]; show t.val * 32 ≤ _ ∧ _ < t.val * 32 + 32; omega
  | ⟨1, _⟩ => show win0_10.index t (1 : Fin 2) * 5632 ≤ (i 1).val ∧ (i 1).val < win0_10.index t (1 : Fin 2) * 5632 + 5632; rw [e]; show 0 * 5632 ≤ _ ∧ _ < 0 * 5632 + 5632; omega

/-- The rounded first layer of `main_arg6`. -/
def G11 : Buf (Elt Ideal) ((c : Thread nD τ).loc main_v9_2) := fun i : S2048x5632.Idx => aW1 m c (ix3 0 (i 0) (i 1))

theorem flushed_11 (t : Fin cfg0.N) : (vals₀ m 0 c).flushed 11 t = ((cfg0.win 11).blk t).view.read (Elt Ideal) (G11 m c) := by
  show (cfg0.win 11).cut (grid0.coords t) ((vals₀ m 0 c).after 11 t) = _
  rw [left_11]
  have e := (places t).2.1.2.1
  have e' := (places t).2.2.2.2.1
  funext y
  show V m c main_arg6 (((cfg0.win 6).blk t).view.emb (ix3 0 (y 0) (y 1))) = G11 m c (((cfg0.win 11).blk t).view.emb y)
  rw [V_main_arg6]
  unfold G11
  refine congrArg (aW1 m c) (funext fun a => Fin.ext ?_)
  match a with
  | ⟨0, _⟩ => show win0_6.index t (0 : Fin 3) * 1 + 1 * 0 = 0; rw [e]; simp
  | ⟨1, _⟩ => show win0_6.index t (1 : Fin 3) * 32 + 1 * (y 0).val = win0_11.index t (0 : Fin 2) * 32 + 1 * (y 0).val; rw [e, e']; simp
  | ⟨2, _⟩ => show win0_6.index t (2 : Fin 3) * 5632 + 1 * (y 1).val = win0_11.index t (1 : Fin 2) * 5632 + 1 * (y 1).val; rw [e, e']; simp

theorem final_11 : (vals₀ m 0 c).arrAt 11 cfg0.N = G11 m c := by
  refine (vals₀ m 0 c).arrAt_eq_of_cover 11 _ (fun t _ => flushed_11 m c t) fun (i : S2048x5632.Idx) => ?_
  have h0 : (i 0).val < 2048 := (i 0).isLt
  have h1 : (i 1).val < 5632 := (i 1).isLt
  obtain ⟨t, ht⟩ : ∃ t : Fin cfg0.N, t.val = (i 0).val / 32 := ⟨⟨(i 0).val / 32, lt_of_lt_of_eq (by omega) N_0.symm⟩, rfl⟩
  have e := (places t).2.2.2.2.1
  refine ⟨t, flush0_11 t, ?_⟩
  show i ∈ ((View.whole main_v9_2).slice (win0_11.rect t)).set
  rw [View.set_slice_whole, Rect.mem_set_unit]
  intro a
  match a with
  | ⟨0, _⟩ => show win0_11.index t (0 : Fin 2) * 32 ≤ (i 0).val ∧ (i 0).val < win0_11.index t (0 : Fin 2) * 32 + 32; rw [e]; show t.val * 32 ≤ _ ∧ _ < t.val * 32 + 32; omega
  | ⟨1, _⟩ => show win0_11.index t (1 : Fin 2) * 5632 ≤ (i 1).val ∧ (i 1).val < win0_11.index t (1 : Fin 2) * 5632 + 5632; rw [e]; show 0 * 5632 ≤ _ ∧ _ < 0 * 5632 + 5632; omega

/-- The rounded first layer of `main_arg7`. -/
def G12 : Buf (Elt Ideal) ((c : Thread nD τ).loc main_v9_3) := fun i : S5632x2048.Idx => aW2 m c (ix3 0 (i 0) (i 1))

theorem flushed_12 (t : Fin cfg0.N) : (vals₀ m 0 c).flushed 12 t = ((cfg0.win 12).blk t).view.read (Elt Ideal) (G12 m c) := by
  show (cfg0.win 12).cut (grid0.coords t) ((vals₀ m 0 c).after 12 t) = _
  rw [left_12]
  have e := (places t).2.1.2.2.1
  have e' := (places t).2.2.2.2.2.1
  funext y
  show V m c main_arg7 (((cfg0.win 7).blk t).view.emb (ix3 0 (y 0) (y 1))) = G12 m c (((cfg0.win 12).blk t).view.emb y)
  rw [V_main_arg7]
  unfold G12
  refine congrArg (aW2 m c) (funext fun a => Fin.ext ?_)
  match a with
  | ⟨0, _⟩ => show win0_7.index t (0 : Fin 3) * 1 + 1 * 0 = 0; rw [e]; simp
  | ⟨1, _⟩ => show win0_7.index t (1 : Fin 3) * 176 + 1 * (y 0).val = win0_12.index t (0 : Fin 2) * 176 + 1 * (y 0).val; rw [e, e']; simp
  | ⟨2, _⟩ => show win0_7.index t (2 : Fin 3) * 2048 + 1 * (y 1).val = win0_12.index t (1 : Fin 2) * 2048 + 1 * (y 1).val; rw [e, e']; simp

theorem final_12 : (vals₀ m 0 c).arrAt 12 cfg0.N = G12 m c := by
  refine (vals₀ m 0 c).arrAt_eq_of_cover 12 _ (fun t _ => flushed_12 m c t) fun (i : S5632x2048.Idx) => ?_
  have h0 : (i 0).val < 5632 := (i 0).isLt
  have h1 : (i 1).val < 2048 := (i 1).isLt
  obtain ⟨t, ht⟩ : ∃ t : Fin cfg0.N, t.val = 2 * ((i 0).val / 176) + 1 := ⟨⟨2 * ((i 0).val / 176) + 1, lt_of_lt_of_eq (by omega) N_0.symm⟩, rfl⟩
  have e := (places t).2.2.2.2.2.1
  refine ⟨t, (flush0_12 t).mpr (by omega), ?_⟩
  show i ∈ ((View.whole main_v9_3).slice (win0_12.rect t)).set
  rw [View.set_slice_whole, Rect.mem_set_unit]
  intro a
  match a with
  | ⟨0, _⟩ => show win0_12.index t (0 : Fin 2) * 176 ≤ (i 0).val ∧ (i 0).val < win0_12.index t (0 : Fin 2) * 176 + 176; rw [e]; show t.val / 2 * 176 ≤ _ ∧ _ < t.val / 2 * 176 + 176; omega
  | ⟨1, _⟩ => show win0_12.index t (1 : Fin 2) * 2048 ≤ (i 1).val ∧ (i 1).val < win0_12.index t (1 : Fin 2) * 2048 + 2048; rw [e]; show 0 * 2048 ≤ _ ∧ _ < 0 * 2048 + 2048; omega

/-- The rounded first layer of `main_arg8`. -/
def G13 : Buf (Elt Ideal) ((c : Thread nD τ).loc main_v9_4) := fun i : S2048x2048.Idx => aW3 m c (ix3 0 (i 0) (i 1))

theorem flushed_13 (t : Fin cfg0.N) : (vals₀ m 0 c).flushed 13 t = ((cfg0.win 13).blk t).view.read (Elt Ideal) (G13 m c) := by
  show (cfg0.win 13).cut (grid0.coords t) ((vals₀ m 0 c).after 13 t) = _
  rw [left_13]
  have e := (places t).2.1.2.2.2
  have e' := (places t).2.2.2.2.2.2
  funext y
  show V m c main_arg8 (((cfg0.win 8).blk t).view.emb (ix3 0 (y 0) (y 1))) = G13 m c (((cfg0.win 13).blk t).view.emb y)
  rw [V_main_arg8]
  unfold G13
  refine congrArg (aW3 m c) (funext fun a => Fin.ext ?_)
  match a with
  | ⟨0, _⟩ => show win0_8.index t (0 : Fin 3) * 1 + 1 * 0 = 0; rw [e]; simp
  | ⟨1, _⟩ => show win0_8.index t (1 : Fin 3) * 32 + 1 * (y 0).val = win0_13.index t (0 : Fin 2) * 32 + 1 * (y 0).val; rw [e, e']; simp
  | ⟨2, _⟩ => show win0_8.index t (2 : Fin 3) * 2048 + 1 * (y 1).val = win0_13.index t (1 : Fin 2) * 2048 + 1 * (y 1).val; rw [e, e']; simp

theorem final_13 : (vals₀ m 0 c).arrAt 13 cfg0.N = G13 m c := by
  refine (vals₀ m 0 c).arrAt_eq_of_cover 13 _ (fun t _ => flushed_13 m c t) fun (i : S2048x2048.Idx) => ?_
  have h0 : (i 0).val < 2048 := (i 0).isLt
  have h1 : (i 1).val < 2048 := (i 1).isLt
  obtain ⟨t, ht⟩ : ∃ t : Fin cfg0.N, t.val = (i 0).val / 32 := ⟨⟨(i 0).val / 32, lt_of_lt_of_eq (by omega) N_0.symm⟩, rfl⟩
  have e := (places t).2.2.2.2.2.2
  refine ⟨t, flush0_13 t, ?_⟩
  show i ∈ ((View.whole main_v9_4).slice (win0_13.rect t)).set
  rw [View.set_slice_whole, Rect.mem_set_unit]
  intro a
  match a with
  | ⟨0, _⟩ => show win0_13.index t (0 : Fin 2) * 32 ≤ (i 0).val ∧ (i 0).val < win0_13.index t (0 : Fin 2) * 32 + 32; rw [e]; show t.val * 32 ≤ _ ∧ _ < t.val * 32 + 32; omega
  | ⟨1, _⟩ => show win0_13.index t (1 : Fin 2) * 2048 ≤ (i 1).val ∧ (i 1).val < win0_13.index t (1 : Fin 2) * 2048 + 2048; rw [e]; show 0 * 2048 ≤ _ ∧ _ < 0 * 2048 + 2048; omega

/-- The attention of the launched arguments. -/
def attn : Fin 4 → Fin 4096 → Fin 2 → Fin 4 → Fin 128 → EReal :=
  attend (fun b r n d => aQ m c (ix4 b r n d)) (entry (fun b k h d => aKC m c (ix4 b k h d)) fun b k h d => aKL m c (ix4 b k h d))
    (entry (fun b k h d => aVC m c (ix4 b k h d)) fun b k h d => aVL m c (ix4 b k h d))

/-- The queries and keys are numbers. -/
structure Real_ : Prop where
  q : ∀ i, ∃ x : ℝ, aQ m c i = x
  kc : ∀ i, ∃ x : ℝ, aKC m c i = x
  kl : ∀ i, ∃ x : ℝ, aKL m c i = x

theorem div_real (a b : ℝ) (hb : b ≠ 0) : ((a / b : ℝ) : EReal) = Ideal.div a b := by
  unfold Ideal.div
  rw [if_neg (by exact_mod_cast hb), ← EReal.coe_inv, ← EReal.coe_mul, div_eq_mul_inv]

/-- A block's entry of the attention. -/
theorem oBlk_apply (h : Real_ m c) (t : Fin cfg0.N) (r : Fin 512) (g : Fin 4) (d : Fin 128) :
    oBlk m c t (ix3 0 r ⟨128 * g.val + d.val, by omega⟩)
      = attn m c ⟨t.val / 16, by have := lt_N t; omega⟩ ⟨512 * (t.val % 8) + r.val, by omega⟩ ⟨t.val / 8 % 2, by omega⟩ g d := by
  obtain ⟨hQ, hKC, hKL⟩ := h
  choose q hq using hQ
  choose kc hkc using hKC
  choose kl hkl using hKL
  have hN := lt_N t
  have hl : t.val / 16 < 4 := by omega
  unfold oBlk out outOf lA aA attn attend
  have hi : (⟨512 * ((128 * g.val + d.val) / 128) + r.val, by omega⟩ : Fin 2048) = ⟨512 * g.val + r.val, by omega⟩ := Fin.ext (by show 512 * ((128 * g.val + d.val) / 128) + r.val = 512 * g.val + r.val; omega)
  have hd : (⟨(128 * g.val + d.val) % 128, Nat.mod_lt _ (by decide)⟩ : Fin 128) = d := Fin.ext (by show (128 * g.val + d.val) % 128 = d.val; omega)
  show (fin _ _ _ _ _ ⟨512 * ((128 * g.val + d.val) / 128) + r.val, _⟩).a ⟨(128 * g.val + d.val) % 128, _⟩ * Ideal.div 1 (fin _ _ _ _ _ ⟨512 * ((128 * g.val + d.val) / 128) + r.val, _⟩).l = _
  rw [hi, hd]
  refine row_value (fun d => q (ix4 ⟨t.val / 16, hl⟩ ⟨512 * (t.val % 8) + r.val, by omega⟩ ⟨t.val / 8 % 2 * 4 + g.val, by omega⟩ d))
    (fun k d => if hk : k.val < 256 then kc (ix4 ⟨t.val / 16, hl⟩ ⟨k.val, hk⟩ ⟨t.val / 8 % 2, by omega⟩ d) else kl (ix4 ⟨t.val / 16, hl⟩ ⟨k.val - 256, by omega⟩ ⟨t.val / 8 % 2, by omega⟩ d))
    (fun k d => entry (fun b k h d => aVC m c (ix4 b k h d)) (fun b k h d => aVL m c (ix4 b k h d)) ⟨t.val / 16, hl⟩ k ⟨t.val / 8 % 2, by omega⟩ d)
    _ _ _ _ _ _ ?_ ?_ ?_ ?_ ?_ _ ?_ d
  · intro d
    unfold qs
    rw [scale_eq, EReal.coe_mul, ← hq]
    refine congrArg (· * (sc : EReal)) ?_
    show (iblk m c 0 t : S1x512x512.Idx → EReal) (ix3 0 ⟨(512 * g.val + r.val) % 512, _⟩ ⟨128 * ((512 * g.val + r.val) / 512) + d.val, _⟩) = _
    refine (blkQ m c t _ _).trans (congrArg (aQ m c) (congr (congrArg₂ (ix4 _) (Fin.ext ?_) (Fin.ext ?_)) (Fin.ext ?_)))
    · show 512 * (t.val % 8) + (512 * g.val + r.val) % 512 = 512 * (t.val % 8) + r.val
      omega
    · show 4 * (t.val / 8 % 2) + (128 * ((512 * g.val + r.val) / 512) + d.val) / 128 = t.val / 8 % 2 * 4 + g.val
      omega
    · show (128 * ((512 * g.val + r.val) / 512) + d.val) % 128 = d.val
      omega
  · intro x d
    rw [dif_pos (by exact x.isLt)]
    exact (blkKC m c t x d).trans (hkc _)
  · intro x d
    rw [dif_neg (by show ¬ 256 + x.val < 256; omega)]
    refine (blkKL m c t x d).trans ((hkl _).trans ?_)
    refine congrArg (fun x => ((kl (ix4 _ x _ d) : ℝ) : EReal)) (Fin.ext ?_)
    show x.val = 256 + x.val - 256
    omega
  · intro x d
    unfold entry
    rw [dif_pos (by exact x.isLt)]
    exact blkVC m c t x d
  · intro x d
    unfold entry
    rw [dif_neg (by show ¬ 256 + x.val < 256; omega)]
    refine (blkVL m c t x d).trans ?_
    refine congrArg (fun x => aVL m c (ix4 _ x _ d)) (Fin.ext ?_)
    show x.val = 256 + x.val - 256
    omega
  · intro k
    unfold score
    have hne : Real.sqrt 128 ≠ 0 := (Real.sqrt_pos.mpr (by norm_num)).ne'
    rw [div_real _ _ hne, ← sum_real]
    refine congrArg (fun x => Ideal.div x _) (Finset.sum_congr rfl fun d _ => ?_)
    rw [EReal.coe_mul, ← hq]
    refine congrArg (· * _) ?_
    unfold entry
    split
    · exact hkc _
    · exact hkl _

/-- The attention's array. -/
def G9 : Buf (Elt Ideal) ((c : Thread nD τ).loc main_v9_0) := fun i : S4x4096x1024.Idx =>
  attn m c (i 0) (i 1) ⟨(i 2).val / 512, by have : (i 2).val < 1024 := (i 2).isLt; omega⟩ ⟨(i 2).val / 128 % 4, by omega⟩ ⟨(i 2).val % 128, by omega⟩

theorem attn_congr {b b' : Fin 4} {r r' : Fin 4096} {h h' : Fin 2} {g g' : Fin 4} {d d' : Fin 128} (hb : b.val = b'.val) (hr : r.val = r'.val) (hh : h.val = h'.val)
    (hg : g.val = g'.val) (hd : d.val = d'.val) : attn m c b r h g d = attn m c b' r' h' g' d' := by
  rw [Fin.ext hb, Fin.ext hr, Fin.ext hh, Fin.ext hg, Fin.ext hd]

theorem G9_apply (b : Fin 4) (r : Fin 4096) (h : Fin 2) (g : Fin 4) (d : Fin 128) :
    (G9 m c : S4x4096x1024.Idx → EReal) (ix3 b r ⟨512 * h.val + 128 * g.val + d.val, by omega⟩) = attn m c b r h g d := by
  refine attn_congr m c rfl rfl ?_ ?_ ?_
  · show (512 * h.val + 128 * g.val + d.val) / 512 = h.val; omega
  · show (512 * h.val + 128 * g.val + d.val) / 128 % 4 = g.val; omega
  · show (512 * h.val + 128 * g.val + d.val) % 128 = d.val; omega

theorem flushed_9 (h : Real_ m c) (t : Fin cfg0.N) : (vals₀ m 0 c).flushed 9 t = ((cfg0.win 9).blk t).view.read (Elt Ideal) (G9 m c) := by
  show (cfg0.win 9).cut (grid0.coords t) ((vals₀ m 0 c).after 9 t) = _
  rw [left_9]
  have e := (places t).2.2.1
  funext y
  have h0 : (y 0).val < 1 := (y 0).isLt
  have h1 : (y 1).val < 512 := (y 1).isLt
  have h2 : (y 2).val < 512 := (y 2).isLt
  have hy : (cfg0.win 9).xinj (grid0.coords t) y = ix3 0 (⟨(y 1).val, h1⟩ : Fin 512) (⟨128 * ((y 2).val / 128) + (y 2).val % 128, by omega⟩ : Fin 512) := by
    funext a; apply Fin.ext
    match a with
    | ⟨0, _⟩ => show (y 0).val = 0; omega
    | ⟨1, _⟩ => rfl
    | ⟨2, _⟩ => show (y 2).val = 128 * ((y 2).val / 128) + (y 2).val % 128; omega
  show oBlk m c t ((cfg0.win 9).xinj (grid0.coords t) y) = G9 m c (((cfg0.win 9).blk t).view.emb y)
  rw [hy]
  refine (oBlk_apply m c h t ⟨(y 1).val, h1⟩ ⟨(y 2).val / 128, by omega⟩ ⟨(y 2).val % 128, by omega⟩).trans (attn_congr m c ?_ ?_ ?_ ?_ ?_)
  · show t.val / 16 = win0_9.index t (0 : Fin 3) * 1 + 1 * (y 0).val
    rw [e]; show t.val / 16 = t.val / 16 * 1 + 1 * (y 0).val; omega
  · show 512 * (t.val % 8) + (y 1).val = win0_9.index t (1 : Fin 3) * 512 + 1 * (y 1).val
    rw [e]; show 512 * (t.val % 8) + (y 1).val = t.val % 8 * 512 + 1 * (y 1).val; omega
  · show t.val / 8 % 2 = (win0_9.index t (2 : Fin 3) * 512 + 1 * (y 2).val) / 512
    rw [e]; show t.val / 8 % 2 = (t.val / 8 % 2 * 512 + 1 * (y 2).val) / 512; omega
  · show (y 2).val / 128 = (win0_9.index t (2 : Fin 3) * 512 + 1 * (y 2).val) / 128 % 4
    rw [e]; show (y 2).val / 128 = (t.val / 8 % 2 * 512 + 1 * (y 2).val) / 128 % 4; omega
  · show (y 2).val % 128 = (win0_9.index t (2 : Fin 3) * 512 + 1 * (y 2).val) % 128
    rw [e]; show (y 2).val % 128 = (t.val / 8 % 2 * 512 + 1 * (y 2).val) % 128; omega

theorem final_9 (h : Real_ m c) : (vals₀ m 0 c).arrAt 9 cfg0.N = G9 m c := by
  refine (vals₀ m 0 c).arrAt_eq_of_cover 9 _ (fun t _ => flushed_9 m c h t) fun (i : S4x4096x1024.Idx) => ?_
  have h0 : (i 0).val < 4 := (i 0).isLt
  have h1 : (i 1).val < 4096 := (i 1).isLt
  have h2 : (i 2).val < 1024 := (i 2).isLt
  obtain ⟨t, ht⟩ : ∃ t : Fin cfg0.N, t.val = 16 * (i 0).val + 8 * ((i 2).val / 512) + (i 1).val / 512 := ⟨⟨16 * (i 0).val + 8 * ((i 2).val / 512) + (i 1).val / 512, lt_of_lt_of_eq (by omega) N_0.symm⟩, rfl⟩
  have e := (places t).2.2.1
  refine ⟨t, flush0_9 t, ?_⟩
  show i ∈ ((View.whole main_v9_0).slice (win0_9.rect t)).set
  rw [View.set_slice_whole, Rect.mem_set_unit]
  intro a
  match a with
  | ⟨0, _⟩ => show win0_9.index t (0 : Fin 3) * 1 ≤ (i 0).val ∧ (i 0).val < win0_9.index t (0 : Fin 3) * 1 + 1; rw [e]; show t.val / 16 * 1 ≤ _ ∧ _ < t.val / 16 * 1 + 1; omega
  | ⟨1, _⟩ => show win0_9.index t (1 : Fin 3) * 512 ≤ (i 1).val ∧ (i 1).val < win0_9.index t (1 : Fin 3) * 512 + 512; rw [e]; show t.val % 8 * 512 ≤ _ ∧ _ < t.val % 8 * 512 + 512; omega
  | ⟨2, _⟩ => show win0_9.index t (2 : Fin 3) * 512 ≤ (i 2).val ∧ (i 2).val < win0_9.index t (2 : Fin 3) * 512 + 512; rw [e]; show t.val / 8 % 2 * 512 ≤ _ ∧ _ < t.val / 8 % 2 * 512 + 512; omega

/-- The launch, its arrays read. -/
theorem run (h : ∀ c, Real_ m c) : θ_run defs (onTc (τ := τ) (main (F := Ideal))) ⟨m, fun _ => 0, ρ⟩ fun r => (∀ c : Dev nD,
      (r.2.mem ((c : Thread nD τ).loc main_v9_0) = G9 m c
      ∧ r.2.mem ((c : Thread nD τ).loc main_v9_1) = G10 m c
      ∧ r.2.mem ((c : Thread nD τ).loc main_v9_2) = G11 m c
      ∧ r.2.mem ((c : Thread nD τ).loc main_v9_3) = G12 m c
      ∧ r.2.mem ((c : Thread nD τ).loc main_v9_4) = G13 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) ∧ r.2.sem = fun _ => 0 := by
  refine (θ_run defs _ _).mono (fun r hr => ?_) (θ_run_and (launched m ρ)
    (frame_of m ρ (vals₀ m) (fun c w => arr_eq m c w) ((θ_run defs _ _).mono (fun _ h => h.1) (launched m ρ))))
  exact ⟨fun c => ⟨⟨((hr.1.1 c).1 9).trans (final_9 m c (h c)), ((hr.1.1 c).1 10).trans (final_10 m c), ((hr.1.1 c).1 11).trans (final_11 m c),
    ((hr.1.1 c).1 12).trans (final_12 m c), ((hr.1.1 c).1 13).trans (final_13 m c)⟩, hr.2 c⟩, hr.1.2⟩

end Cert.KernelIdeal.Attn

end
-- ==== Proof.Attn.Ref.lean ====
/-
The reference's results, entry by entry: each head's softmax of the scaled scores over all keys, applied to the
values; and the rounded layers of the weights.
-/
module

public import proofs.«01_k».proof.Proof.Attn.Spec
public import Idealize.ShloMosaic.Lib.Pointwise
public import Idealize.ShloMosaic.Lib.IdealHost
public import proofs.«01_k».proof.Proof.Gen.ReferenceIdeal.Run

@[expose] public section

set_option maxRecDepth 16384

noncomputable section

namespace Cert.ReferenceIdeal.Attn

open Cert.ReferenceIdeal Cert.ReferenceIdeal.Value Idealize.ShloMosaic Idealize.ShloMosaic.TcCoe Idealize.SL.Sem
open Cert.ReferenceIdeal.Gen
open Cert.KernelIdeal.Attn (soft entry score attend)

/-- The keys, or the values, of the context and the latents together. -/
def both (A : FVec Ideal S4x256x2x128 .f32) (B : FVec Ideal S4x4096x2x128 .f32) : FVec Ideal S4x4352x2x128 .f32 :=
  concatenate S4x4352x2x128 1 [⟨S4x256x2x128, A⟩, ⟨S4x4096x2x128, B⟩] concatenates_S4x256x2x128_S4x4096x2x128_S4x4352x2x128_d1

theorem both_apply (A : FVec Ideal S4x256x2x128 .f32) (B : FVec Ideal S4x4096x2x128 .f32) (b : Fin 4) (k : Fin 4352) (h : Fin 2) (d : Fin 128) :
    both A B (ix4 b k h d) = if hk : k.val < 256 then A (ix4 b ⟨k.val, hk⟩ h d) else B (ix4 b ⟨k.val - 256, by omega⟩ h d) := by
  pointwise [both]

/-- The scaled scores. -/
def scores (Q : FVec Ideal S4x4096x8x128 .f32) (K : FVec Ideal S4x4352x2x128 .f32) : FVec Ideal S4x2x4x4096x4352 .f32 :=
  Host.divf (transpose S4x2x4x4096x4352 [0, 1, 4, 3, 2] (Host.dotGeneral dot_S4x4352x2x128_S4x4096x2x4x128_S4x2x4352x4096x4_3_4_1_13_02_02 none K
    (shapeCast _ Q shapeCasts_S4x4096x8x128_S4x4096x2x4x128)) transposes_S4x2x4352x4096x4_S4x2x4x4096x4352_0_1_4_3_2)
    (broadcastInDim S4x2x4x4096x4352 ![] bcast_S_S4x2x4x4096x4352 (Host.sqrt (constant S_ .f32 0x43000000#32)))

theorem scores_apply (Q : FVec Ideal S4x4096x8x128 .f32) (K : FVec Ideal S4x4352x2x128 .f32) (b : Fin 4) (h : Fin 2) (g : Fin 4) (r : Fin 4096) (k : Fin 4352) :
    scores Q K (ix5 b h g r k) = Ideal.div (∑ d : Fin 128, K (ix4 b k h d) * Q (ix4 b r ⟨h.val * 4 + g.val, by omega⟩ d)) (Ideal.sqrt (Ideal.ofBits .f32 0x43000000#32)) := by
  pointwise [scores]

/-- The rows' largest scores. -/
def tops (X : FVec Ideal S4x2x4x4096x4352 .f32) : FVec Ideal S4x2x4x4096 .f32 :=
  Host.reduce FloatOps.maximumf X (constant S_ .f32 0xFF800000#32) reducesTo_S4x2x4x4096x4352_S4x2x4x4096_d4 h_S_

theorem tops_apply (X : FVec Ideal S4x2x4x4096x4352 .f32) (b : Fin 4) (h : Fin 2) (g : Fin 4) (r : Fin 4096) :
    tops X (ix4 b h g r) = Finset.univ.fold max (Ideal.ofBits .f32 0xFF800000#32) fun x => X (ix5 b h g r x) := by
  pointwise [tops]

/-- A row's value at every key. -/
def spread (T : FVec Ideal S4x2x4x4096 .f32) : FVec Ideal S4x2x4x4096x4352 .f32 :=
  broadcastInDim S4x2x4x4096x4352 ![0, 1, 2, 3, 4] bcast_S4x2x4x4096x1_S4x2x4x4096x4352_0_1_2_3_4
    (broadcastInDim S4x2x4x4096x1 ![0, 1, 2, 3] bcast_S4x2x4x4096_S4x2x4x4096x1_0_1_2_3 T)

theorem spread_apply (T : FVec Ideal S4x2x4x4096 .f32) (b : Fin 4) (h : Fin 2) (g : Fin 4) (r : Fin 4096) (k : Fin 4352) :
    spread T (ix5 b h g r k) = T (ix4 b h g r) := by
  pointwise [spread]

/-- The weights before they are normalised. -/
def powers (X : FVec Ideal S4x2x4x4096x4352 .f32) (T : FVec Ideal S4x2x4x4096 .f32) : FVec Ideal S4x2x4x4096x4352 .f32 :=
  Host.exp (subf X (spread (maximumf (broadcastInDim S4x2x4x4096 ![] bcast_S_S4x2x4x4096 (constant S_ .f32 0xFF800000#32)) T)))

theorem powers_apply (X : FVec Ideal S4x2x4x4096x4352 .f32) (T : FVec Ideal S4x2x4x4096 .f32) (b : Fin 4) (h : Fin 2) (g : Fin 4) (r : Fin 4096) (k : Fin 4352) :
    powers X T (ix5 b h g r k) = Ideal.exp (X (ix5 b h g r k) - max (Ideal.ofBits .f32 0xFF800000#32) (T (ix4 b h g r))) := by
  pointwise [powers, spread]

/-- The rows' sums. -/
def totals (E : FVec Ideal S4x2x4x4096x4352 .f32) : FVec Ideal S4x2x4x4096 .f32 :=
  Host.reduceAdd E (constant S_ .f32 0x00000000#32) reducesTo_S4x2x4x4096x4352_S4x2x4x4096_d4 h_S_

theorem totals_apply (E : FVec Ideal S4x2x4x4096x4352 .f32) (b : Fin 4) (h : Fin 2) (g : Fin 4) (r : Fin 4096) :
    totals E (ix4 b h g r) = ∑ k, E (ix5 b h g r k) := by
  pointwise [totals]

/-- The weights. -/
def weights (X : FVec Ideal S4x2x4x4096x4352 .f32) : FVec Ideal S4x2x4x4096x4352 .f32 :=
  Host.divf (powers X (tops X)) (spread (totals (powers X (tops X))))

theorem ratio (A B : FVec Ideal S4x2x4x4096x4352 .f32) (i : S4x2x4x4096x4352.Idx) : Host.divf A B i = Ideal.div (A i) (B i) := rfl

/-- The values under the weights, the heads side by side. -/
def applied (V : FVec Ideal S4x4352x2x128 .f32) (P : FVec Ideal S4x2x4x4096x4352 .f32) : FVec Ideal S4x4096x1024 .bf16 :=
  truncf .bf16 (shapeCast _ (transpose S4x4096x2x4x128 [0, 4, 1, 3, 2] (Host.dotGeneral dot_S4x4352x2x128_S4x2x4x4096x4352_S4x2x128x4x4096_1_4_3_23_02_01 none V P)
    transposes_S4x2x128x4x4096_S4x4096x2x4x128_0_4_1_3_2) shapeCasts_S4x4096x2x4x128_S4x4096x1024) bitsLt_bf16_f32

theorem applied_apply (V : FVec Ideal S4x4352x2x128 .f32) (P : FVec Ideal S4x2x4x4096x4352 .f32) (b : Fin 4) (r : Fin 4096) (h : Fin 2) (g : Fin 4) (d : Fin 128) :
    applied V P (ix3 b r ⟨512 * h.val + 128 * g.val + d.val, by omega⟩) = ∑ k, V (ix4 b k h d) * P (ix5 b h g r k) := by
  pointwise [applied]

variable (m : (ℓ : Loc nD τ sig) → Buf (Elt Ideal) ℓ) (c : Dev nD)

theorem res_eq : res_main_v22 m c = applied (both (m ((c.tc : Thread nD τ).loc main_arg2)) (m ((c.tc : Thread nD τ).loc main_arg4)))
    (weights (scores (m ((c.tc : Thread nD τ).loc main_arg0)) (both (m ((c.tc : Thread nD τ).loc main_arg1)) (m ((c.tc : Thread nD τ).loc main_arg3))))) := rfl

theorem ofBits_bot : Ideal.ofBits FTy.f32 0xFF800000#32 = ⊥ := by
  simp [Ideal.ofBits, Ideal.ieee]

theorem root : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee, -EReal.coe_mul]; norm_num
  rw [e]
  exact if_neg (by norm_num)

theorem weights_apply (X : FVec Ideal S4x2x4x4096x4352 .f32) (b : Fin 4) (h : Fin 2) (g : Fin 4) (r : Fin 4096) (k : Fin 4352) :
    weights X (ix5 b h g r k) = Ideal.div (Ideal.exp (X (ix5 b h g r k) - Finset.univ.sup fun x => X (ix5 b h g r x)))
      (∑ j, Ideal.exp (X (ix5 b h g r j) - Finset.univ.sup fun x => X (ix5 b h g r x))) := by
  have e : ∀ j, powers X (tops X) (ix5 b h g r j) = Ideal.exp (X (ix5 b h g r j) - Finset.univ.sup fun x => X (ix5 b h g r x)) := by
    intro j
    rw [powers_apply, tops_apply, ofBits_bot, max_eq_right bot_le]
    rfl
  unfold weights
  rw [ratio, spread_apply, totals_apply, e]
  simp only [e]

/-- The reference's first result. -/
theorem result (b : Fin 4) (r : Fin 4096) (h : Fin 2) (g : Fin 4) (d : Fin 128) : res_main_v22 m c (ix3 b r ⟨512 * h.val + 128 * g.val + d.val, by omega⟩)
    = attend (fun b r n d => m ((c.tc : Thread nD τ).loc main_arg0) (ix4 b r n d))
        (entry (fun b k h d => m ((c.tc : Thread nD τ).loc main_arg1) (ix4 b k h d)) fun b k h d => m ((c.tc : Thread nD τ).loc main_arg3) (ix4 b k h d))
        (entry (fun b k h d => m ((c.tc : Thread nD τ).loc main_arg2) (ix4 b k h d)) fun b k h d => m ((c.tc : Thread nD τ).loc main_arg4) (ix4 b k h d)) b r h g d := by
  rw [res_eq, applied_apply]
  unfold attend soft
  simp only [weights_apply, scores_apply, both_apply, root]
  rfl

variable (X : FVec Ideal S2x2048x5632 .f32) (Y : FVec Ideal S2x5632x2048 .f32) (Z : FVec Ideal S2x2048x2048 .f32)

/-- The rounded first layers of the weights. -/
theorem first_X (i : S2048x5632.Idx) : (truncf .bf16 (shapeCast S2048x5632 (extractStridedSlice S1x2048x5632 ![0, 0, 0] X slices_S2x2048x5632_S1x2048x5632_0_0_0)
    shapeCasts_S1x2048x5632_S2048x5632) bitsLt_bf16_f32 : FVec Ideal S2048x5632 .bf16) i = X (ix3 0 (i 0) (i 1)) := by
  obtain ⟨a, b, rfl⟩ : ∃ (a : Fin 2048) (b : Fin 5632), i = ix2 a b := ⟨i 0, i 1, eq_ix2 i⟩
  pointwise

theorem first_Y (i : S5632x2048.Idx) : (truncf .bf16 (shapeCast S5632x2048 (extractStridedSlice S1x5632x2048 ![0, 0, 0] Y slices_S2x5632x2048_S1x5632x2048_0_0_0)
    shapeCasts_S1x5632x2048_S5632x2048) bitsLt_bf16_f32 : FVec Ideal S5632x2048 .bf16) i = Y (ix3 0 (i 0) (i 1)) := by
  obtain ⟨a, b, rfl⟩ : ∃ (a : Fin 5632) (b : Fin 2048), i = ix2 a b := ⟨i 0, i 1, eq_ix2 i⟩
  pointwise

theorem first_Z (i : S2048x2048.Idx) : (truncf .bf16 (shapeCast S2048x2048 (extractStridedSlice S1x2048x2048 ![0, 0, 0] Z slices_S2x2048x2048_S1x2048x2048_0_0_0)
    shapeCasts_S1x2048x2048_S2048x2048) bitsLt_bf16_f32 : FVec Ideal S2048x2048 .bf16) i = Z (ix3 0 (i 0) (i 1)) := by
  obtain ⟨a, b, rfl⟩ : ∃ (a : Fin 2048) (b : Fin 2048), i = ix2 a b := ⟨i 0, i 1, eq_ix2 i⟩
  pointwise

end Cert.ReferenceIdeal.Attn

end
-- ==== Proof.Attn.Claim.lean ====
/-
The attention's call and its reference end with the same results, where the queries and the keys are finite numbers.
-/
module

public import proofs.«01_k».proof.Defs
public import proofs.«01_k».proof.Proof.Attn.Final
public import proofs.«01_k».proof.Proof.Attn.Ref

@[expose] public section

set_option maxRecDepth 16384

noncomputable section

namespace Cert.Attn

open Idealize.ShloMosaic Idealize.SL.Sem
open Cert.KernelIdeal.Attn

/-- The broadcasts of the condition's bound. -/
theorem bounds : Cert.Pre_finite.Facts := ⟨by decide, by decide, by decide⟩

theorem ofBits_top : Ideal.ofBits FTy.f32 0x7F800000#32 = ⊤ := by
  simp [Ideal.ofBits, Ideal.ieee]

/-- A number whose absolute value lies under the infinity is a real. -/
theorem real_of_lt (x : EReal) (h : Ideal.cmp .olt (max x (-x)) (Ideal.ofBits FTy.f32 0x7F800000#32) = 1#1) : ∃ y : ℝ, x = y := by
  rw [ofBits_top] at h
  induction x with
  | bot => simp [Ideal.cmp] at h
  | top => simp [Ideal.cmp] at h
  | coe y => exact ⟨y, rfl⟩

/-- The condition, read: the queries and the keys are reals. -/
theorem reals (m : (ℓ : Loc Cert.KernelIdeal.nD Cert.KernelIdeal.τ Cert.KernelIdeal.sig) → Buf (Elt Ideal) ℓ)
    (h : Cert.Pre_KernelIdeal_finite (hPre_finite := bounds) m) (c : Dev Cert.KernelIdeal.nD) : Real_ m c :=
  ⟨fun i => real_of_lt _ (congrFun (h c).1 i), fun i => real_of_lt _ (congrFun (h c).2.1 i), fun i => real_of_lt _ (congrFun (h c).2.2 i)⟩

/-- Every place in the attention's array is one of a key head, a query head and a dimension. -/
theorem place (k : Fin 1024) : ∃ (h : Fin 2) (g : Fin 4) (d : Fin 128), k = ⟨512 * h.val + 128 * g.val + d.val, by omega⟩ :=
  ⟨⟨k.val / 512, by omega⟩, ⟨k.val / 128 % 4, by omega⟩, ⟨k.val % 128, by omega⟩, Fin.ext (by show k.val = 512 * (k.val / 512) + 128 * (k.val / 128 % 4) + k.val % 128; omega)⟩

/-- The attention's call and its reference end with the same five results. -/
theorem algebraic : Cert.algebraic_KernelIdeal_ReferenceIdeal_pre_finite (hKernelIdeal := Cert.KernelIdeal.Gen.facts)
    (hReferenceIdeal := Cert.ReferenceIdeal.Gen.facts) (hPre_finite := bounds) := by
  intro m g m' g' hp h
  refine ⟨fun c => G9 m c, fun c => G10 m c, fun c => G11 m c, fun c => G12 m c, fun c => G13 m c, ?_, ?_⟩
  · refine (θ_run _ _ _).mono (fun r hr c => ?_) (run m g (reals m hp))
    obtain ⟨⟨r9, r10, r11, r12, r13⟩, ra⟩ := hr.1 c
    exact ⟨r9, r10, r11, r12, r13, ra⟩
  · refine (θ_run _ _ _).mono (fun r hr c => ?_) (Cert.ReferenceIdeal.Value.run m' g')
    obtain ⟨e0, e1, e2, e3, e4, e5, e6, e7, e8⟩ := h c
    obtain ⟨r9, r10, r11, r12, r13, ra⟩ := hr c
    refine ⟨r9.trans ?_, r10.trans ?_, r11.trans ?_, r12.trans ?_, r13.trans ?_, ra⟩
    · funext j
      obtain ⟨b, r, k, rfl⟩ : ∃ (b : Fin 4) (r : Fin 4096) (k : Fin 1024), j = ix3 b r k := ⟨j 0, j 1, j 2, eq_ix3 j⟩
      obtain ⟨h, g, d, rfl⟩ := place k
      refine (Cert.ReferenceIdeal.Attn.result m' c b r h g d).trans ?_
      refine Eq.trans ?_ (G9_apply m c b r h g d).symm
      rw [e0, e1, e2, e3, e4]
      rfl
    · rw [e5]; funext j; exact Cert.ReferenceIdeal.Attn.first_X _ j
    · rw [e6]; funext j; exact Cert.ReferenceIdeal.Attn.first_X _ j
    · rw [e7]; funext j; exact Cert.ReferenceIdeal.Attn.first_Y _ j
    · rw [e8]; funext j; exact Cert.ReferenceIdeal.Attn.first_Z _ j

end Cert.Attn

end
-- ==== Proof.Merge.Cases.lean ====
/-
  What one grid point of the output projection's call leaves in its output block, as a function of the point's input
  blocks: the scratch holds the three branches' outputs side by side, written in six pieces; its rows are multiplied by
  the weights, scaled by the gate and added to the input rows.
-/
module

public import proofs.«01_k».proof.Proof.Gen.MergeIdeal.Value
public import Idealize.ShloMosaic.Lib.Tactic
public import Idealize.ShloMosaic.Lib.Pipeline.Value
public import Idealize.ShloMosaic.Lib.Pipeline.ValueKit.Basic

@[expose] public section

noncomputable section

namespace Cert.MergeIdeal.Layer

open Cert.MergeIdeal Cert.MergeIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Row 2 of the modulation block (the gate). -/
abbrev row2 (x7 : Vec F S1x6x2048 .f32) : Vec F S1x1x2048 .f32 :=
  View.ld x7 (Rect.unit (s := S1x6x2048) ![0, 2, 0] S1x1x2048.size inb_S1x6x2048_S1x1x2048_0_2_0)

/-- The six pieces of the scratch, the last one written first in the list. -/
abbrev pieces (x0 : Vec F S1x512x1024 .bf16) (x1 : Vec F S1x512x512 .bf16) (x2 : Vec F S2x1x512x512 .f32) (x3 : Vec F S1x512x512 .f32)
    (x4 : Vec F S1x1x128 .f32) : List (View.Piece (Elt F) S512x2048 .bf16) :=
  [⟨Rect.unit (s := S512x2048) ![0, 1920] S512x128.size inb_S512x2048_S512x128_0_1920,
      k0_pay12 (View.ld x2 (Rect.unit (s := S2x1x512x512) ![0, 0, 0, 384] S1x1x512x128.size inb_S2x1x512x512_S1x1x512x128_0_0_0_384))
        (View.ld x2 (Rect.unit (s := S2x1x512x512) ![1, 0, 0, 384] S1x1x512x128.size inb_S2x1x512x512_S1x1x512x128_1_0_0_384)) x4
        (View.ld x3 (Rect.unit (s := S1x512x512) ![0, 0, 384] S1x512x128.size inb_S1x512x512_S1x512x128_0_0_384))⟩,
    ⟨Rect.unit (s := S512x2048) ![0, 1792] S512x128.size inb_S512x2048_S512x128_0_1792,
      k0_pay11 (k0_pay10 (View.ld x2 (Rect.unit (s := S2x1x512x512) ![0, 0, 0, 256] S1x1x512x128.size inb_S2x1x512x512_S1x1x512x128_0_0_0_256))
        (View.ld x2 (Rect.unit (s := S2x1x512x512) ![1, 0, 0, 256] S1x1x512x128.size inb_S2x1x512x512_S1x1x512x128_1_0_0_256)) x4
        (View.ld x3 (Rect.unit (s := S1x512x512) ![0, 0, 256] S1x512x128.size inb_S1x512x512_S1x512x128_0_0_256)))⟩,
    ⟨Rect.unit (s := S512x2048) ![0, 1664] S512x128.size inb_S512x2048_S512x128_0_1664,
      k0_pay9 (k0_pay6 (View.ld x2 (Rect.unit (s := S2x1x512x512) ![0, 0, 0, 128] S1x1x512x128.size inb_S2x1x512x512_S1x1x512x128_0_0_0_128))
          (View.ld x2 (Rect.unit (s := S2x1x512x512) ![1, 0, 0, 128] S1x1x512x128.size inb_S2x1x512x512_S1x1x512x128_1_0_0_128)) x4)
        (k0_pay7 (View.ld x3 (Rect.unit (s := S1x512x512) ![0, 0, 128] S1x512x128.size inb_S1x512x512_S1x512x128_0_0_128)))
        (k0_pay8 (View.ld x3 (Rect.unit (s := S1x512x512) ![0, 0, 128] S1x512x128.size inb_S1x512x512_S1x512x128_0_0_128)))⟩,
    ⟨Rect.unit (s := S512x2048) ![0, 1536] S512x128.size inb_S512x2048_S512x128_0_1536,
      k0_pay5 (k0_pay4 (View.ld x2 (Rect.unit (s := S2x1x512x512) ![0, 0, 0, 0] S1x1x512x128.size inb_S2x1x512x512_S1x1x512x128_0_0_0_0))
          (View.ld x2 (Rect.unit (s := S2x1x512x512) ![1, 0, 0, 0] S1x1x512x128.size inb_S2x1x512x512_S1x1x512x128_1_0_0_0)) x4)
        (View.ld x3 (Rect.unit (s := S1x512x512) ![0, 0, 0] S1x512x128.size inb_S1x512x512_S1x512x128_0_0_0))⟩,
    ⟨Rect.unit (s := S512x2048) ![0, 1024] S512x512.size inb_S512x2048_S512x512_0_1024, k0_pay3 x1⟩,
    ⟨Rect.unit (s := S512x2048) ![0, 0] S512x1024.size inb_S512x2048_S512x1024_0_0, k0_pay2 x0⟩]

/-- The scratch that the pieces fill. -/
abbrev scr (x0 : Vec F S1x512x1024 .bf16) (x1 : Vec F S1x512x512 .bf16) (x2 : Vec F S2x1x512x512 .f32) (x3 : Vec F S1x512x512 .f32)
    (x4 : Vec F S1x1x128 .f32) : Vec F S512x2048 .bf16 :=
  View.canon (pieces x0 x1 x2 x3 x4)

section Cases
variable (c : Dev nD) (i : grid0.Coords)
  (a2 : Memref sig .tc .vmem S1x512x1024 .bf16) (h2 : a2.IsWhole) (a3 : Memref sig .tc .vmem S1x512x512 .bf16) (h3 : a3.IsWhole)
  (a4 : Memref sig .tc .vmem S2x1x512x512 .f32) (h4 : a4.IsWhole) (a5 : Memref sig .tc .vmem S1x512x512 .f32) (h5 : a5.IsWhole)
  (a6 : Memref sig .tc .vmem S1x1x128 .f32) (h6 : a6.IsWhole) (a7 : Memref sig .tc .vmem S2048x2048 .bf16) (h7 : a7.IsWhole)
  (a8 : Memref sig .tc .vmem S1x512x2048 .f32) (h8 : a8.IsWhole) (a9 : Memref sig .tc .vmem S1x6x2048 .f32) (h9 : a9.IsWhole)
  (a10 : Memref sig .tc .vmem S1x512x2048 .f32) (h10 : a10.IsWhole) (a11 : Memref sig .tc .vmem S512x2048 .bf16) (h11 : a11.IsWhole)
  (x0 : Vec F S1x512x1024 .bf16) (x1 : Vec F S1x512x512 .bf16) (x2 : Vec F S2x1x512x512 .f32) (x3 : Vec F S1x512x512 .f32)
  (x4 : Vec F S1x1x128 .f32) (x5 : Vec F S2048x2048 .bf16) (x6 : Vec F S1x512x2048 .f32) (x7 : Vec F S1x6x2048 .f32)

/-- The output block after a point. -/
theorem out_A : out0_A_8 c i a2 h2 a3 h3 a4 h4 a5 h5 a6 h6 a7 h7 a8 h8 a9 h9 a10 h10 a11 h11 x0 x1 x2 x3 x4 x5 x6 x7
    = k0_pay1 (scr x0 x1 x2 x3 x4) x5 x6 (row2 x7) := by
  unfold out0_A_8
  rw [View.read_writes_eq_canon _ _ _ (cover0_A_8 c i a2 h2 a3 h3 a4 h4 a5 h5 a6 h6 a7 h7 a8 h8 a9 h9 a10 h10 a11 h11 x0 x1 x2 x3 x4 x5 x6 x7)]
  unfold kernelRun0_A
  dsimp only
  sl_unfold_words
  rw [View.canon_unit_zero (S := S1x512x2048) hz3]
  simp only [View.readAt_eq_ld, h2.read_unread, h3.read_unread, h4.read_unread, h5.read_unread, h6.read_unread, h7.read_unread, h8.read_unread, h9.read_unread,
    View.ld_unit_zero (S := S1x512x2048) hz3, View.ld_unit_zero (S := S1x512x1024) hz3, View.ld_unit_zero (S := S1x512x512) hz3,
    View.ld_unit_zero (S := S1x1x128) hz3, View.ld_unit_zero (S := S2048x2048) hz2]
  rw [View.readCov_eq_canon']
  refine congrArg (fun z => k0_pay1 z x5 x6 (row2 x7)) (funext fun j => congrArg (View.canon _) (funext fun a => Fin.ext ?_))
  match a with
  | ⟨0, _⟩ => show 0 + 1 * (j 0 : Nat) = j 0; omega
  | ⟨1, _⟩ => show 0 + 1 * (j 1 : Nat) = j 1; omega

end Cases

end Cert.MergeIdeal.Layer

end
-- ==== Proof.Merge.Rows.lean ====
/-
  The output block entry by entry: each of the scratch's pieces is the matching part of one row
  (first branch, second branch, normalised and gated heads of the third branch), and the block is that row times the
  weights, scaled by the gate and added to the input row.
-/
module

public import proofs.«01_k».proof.Proof.Merge.Cases
public import Idealize.ShloMosaic.Lib.Pointwise
public import Idealize.ShloMosaic.Lib.Pipeline.ReadBack

@[expose] public section

noncomputable section

namespace Cert.MergeIdeal.Layer

open Cert.MergeIdeal Cert.MergeIdeal.Gen Idealize.ShloMosaic Idealize.ShloMosaic.TcCoe Idealize.SL.Sem

/-- An entry of a head of the third branch: the summed scan outputs `u`, normalised over the head and scaled by `g`,
    times the gate `s` through `silu`. -/
def hd (u g : Fin 128 → EReal) (s : EReal) (j : Fin 128) : EReal :=
  u j * Ideal.rsqrt (Ideal.div (∑ x, u x * u x) (Ideal.ofBits FTy.f32 1124073472#32) + Ideal.ofBits FTy.f32 897988541#32) * g j
    * Ideal.div s (1 + Ideal.exp (0 - s))

/-- A row of the three branches side by side. -/
def zrow (A : Fin 1024 → EReal) (B : Fin 512 → EReal) (C : Fin 4 → Fin 128 → EReal) (k : Fin 2048) : EReal :=
  if h : k.val < 1024 then A ⟨k.val, h⟩
  else if h' : k.val < 1536 then B ⟨k.val - 1024, by omega⟩
  else C ⟨(k.val - 1536) / 128, by omega⟩ ⟨(k.val - 1536) % 128, by omega⟩

theorem zrow_A (A : Fin 1024 → EReal) (B : Fin 512 → EReal) (C : Fin 4 → Fin 128 → EReal) (k : Fin 2048) (j : Fin 1024) (h : k.val = j.val) :
    zrow A B C k = A j := by
  unfold zrow
  rw [dif_pos (by omega)]
  exact congrArg A (Fin.ext h)

theorem zrow_B (A : Fin 1024 → EReal) (B : Fin 512 → EReal) (C : Fin 4 → Fin 128 → EReal) (k : Fin 2048) (j : Fin 512) (h : k.val = 1024 + j.val) :
    zrow A B C k = B j := by
  unfold zrow
  rw [dif_neg (by omega), dif_pos (by omega)]
  exact congrArg B (Fin.ext (by show k.val - 1024 = j.val; omega))

theorem zrow_C (A : Fin 1024 → EReal) (B : Fin 512 → EReal) (C : Fin 4 → Fin 128 → EReal) (k : Fin 2048) (h : Fin 4) (j : Fin 128)
    (e : k.val = 1536 + 128 * h.val + j.val) : zrow A B C k = C h j := by
  unfold zrow
  rw [dif_neg (by omega), dif_neg (by omega)]
  exact congrArg₂ C (Fin.ext (by show (k.val - 1536) / 128 = h.val; omega)) (Fin.ext (by show (k.val - 1536) % 128 = j.val; omega))

section Block
variable (x0 : Vec Ideal S1x512x1024 .bf16) (x1 : Vec Ideal S1x512x512 .bf16) (x2 : Vec Ideal S2x1x512x512 .f32) (x3 : Vec Ideal S1x512x512 .f32)
  (x4 : Vec Ideal S1x1x128 .f32)

/-- A row of the scratch, from the point's blocks. -/
def zblk (r : Fin 512) (k : Fin 2048) : EReal :=
  zrow (fun j => x0 (ix3 0 r j)) (fun j => x1 (ix3 0 r j))
    (fun h j => hd (fun x => x2 (ix4 0 0 r ⟨128 * h.val + x.val, by omega⟩) + x2 (ix4 1 0 r ⟨128 * h.val + x.val, by omega⟩))
      (fun x => x4 (ix3 0 0 x)) (x3 (ix3 0 r ⟨128 * h.val + j.val, by omega⟩)) j) k

section Heads
variable (v w : Vec Ideal S1x1x512x128 .f32) (g : Vec Ideal S1x1x128 .f32) (s : Vec Ideal S1x512x128 .f32) (r : Fin 512) (j : Fin 128)

theorem head0 : k0_pay5 (k0_pay4 v w g) s (ix2 r j)
    = hd (fun x => v (ix4 0 0 r x) + w (ix4 0 0 r x)) (fun x => g (ix3 0 0 x)) (s (ix3 0 r j)) j := by
  unfold hd
  pointwise [k0_pay5, k0_pay4]

theorem head1 : k0_pay9 (k0_pay6 v w g) (k0_pay7 s) (k0_pay8 s) (ix2 r j)
    = hd (fun x => v (ix4 0 0 r x) + w (ix4 0 0 r x)) (fun x => g (ix3 0 0 x)) (s (ix3 0 r j)) j := by
  unfold hd
  pointwise [k0_pay9, k0_pay6, k0_pay7, k0_pay8]

theorem head2 : k0_pay11 (k0_pay10 v w g s) (ix2 r j)
    = hd (fun x => v (ix4 0 0 r x) + w (ix4 0 0 r x)) (fun x => g (ix3 0 0 x)) (s (ix3 0 r j)) j := by
  unfold hd
  pointwise [k0_pay11, k0_pay10]

theorem head3 : k0_pay12 v w g s (ix2 r j)
    = hd (fun x => v (ix4 0 0 r x) + w (ix4 0 0 r x)) (fun x => g (ix3 0 0 x)) (s (ix3 0 r j)) j := by
  unfold hd
  pointwise [k0_pay12]

end Heads

theorem pay2_apply (r : Fin 512) (j : Fin 1024) : k0_pay2 x0 (ix2 r j) = x0 (ix3 0 r j) := by
  pointwise [k0_pay2]

theorem pay3_apply (r : Fin 512) (j : Fin 512) : k0_pay3 x1 (ix2 r j) = x1 (ix3 0 r j) := by
  pointwise [k0_pay3]

theorem pay1_apply (z : Vec Ideal S512x2048 .bf16) (w : Vec Ideal S2048x2048 .bf16) (x : Vec Ideal S1x512x2048 .f32) (x7 : Vec Ideal S1x6x2048 .f32) (r : Fin 512) (k : Fin 2048) :
    k0_pay1 z w x (row2 x7) (ix3 0 r k) = x (ix3 0 r k) + x7 (ix3 0 2 k) * ∑ q, z (ix2 r q) * w (ix2 q k) := by
  unfold row2
  pointwise [k0_pay1]

/-- Reading 128 columns of the summed branch's block. -/
theorem ld2 (d : Fin 2) (o : Nat) (inb) (r : Fin 512) (x : Fin 128) (q : Fin 512) (e : q.val = o + x.val) :
    View.ld x2 (Rect.unit (s := S2x1x512x512) ![d.val, 0, 0, o] S1x1x512x128.size inb) (ix4 0 0 r x) = x2 (ix4 d 0 r q) := by
  refine congrArg x2 (funext fun a => Fin.ext ?_)
  match a with
  | ⟨0, _⟩ => show d.val + 1 * 0 = d.val; omega
  | ⟨1, _⟩ => rfl
  | ⟨2, _⟩ => show 0 + 1 * r.val = r.val; omega
  | ⟨3, _⟩ => show o + 1 * x.val = q.val; omega

/-- Reading 128 columns of the gates' block. -/
theorem ld3 (o : Nat) (inb) (r : Fin 512) (x : Fin 128) (q : Fin 512) (e : q.val = o + x.val) :
    View.ld x3 (Rect.unit (s := S1x512x512) ![0, 0, o] S1x512x128.size inb) (ix3 0 r x) = x3 (ix3 0 r q) := by
  refine congrArg x3 (funext fun a => Fin.ext ?_)
  match a with
  | ⟨0, _⟩ => rfl
  | ⟨1, _⟩ => show 0 + 1 * r.val = r.val; omega
  | ⟨2, _⟩ => show o + 1 * x.val = q.val; omega

/-- A head's entry is the row's entry at the head's columns. -/
theorem zblk_head (h : Fin 4) (v w : Vec Ideal S1x1x512x128 .f32) (s : Vec Ideal S1x512x128 .f32) (r r' : Fin 512) (j : Fin 128) (k : Fin 2048)
    (ev : ∀ x : Fin 128, v (ix4 0 0 r x) = x2 (ix4 0 0 r ⟨128 * h.val + x.val, by omega⟩))
    (ew : ∀ x : Fin 128, w (ix4 0 0 r x) = x2 (ix4 1 0 r ⟨128 * h.val + x.val, by omega⟩))
    (es : s (ix3 0 r j) = x3 (ix3 0 r ⟨128 * h.val + j.val, by omega⟩)) (er : r' = r) (ek : k.val = 1536 + 128 * h.val + j.val) :
    hd (fun x => v (ix4 0 0 r x) + w (ix4 0 0 r x)) (fun x => x4 (ix3 0 0 x)) (s (ix3 0 r j)) j = zblk x0 x1 x2 x3 x4 r' k := by
  subst er
  unfold zblk
  rw [zrow_C _ _ _ k h j ek, es]
  exact congrArg (fun u => hd u _ _ j) (funext fun x => congrArg₂ (· + ·) (ev x) (ew x))

/-- The scratch holds the row. -/
theorem scr_apply (r : Fin 512) (k : Fin 2048) : scr x0 x1 x2 x3 x4 (ix2 r k) = zblk x0 x1 x2 x3 x4 r k := by
  have hp : View.PiecesOf (fun y : S512x2048.Idx => (zblk x0 x1 x2 x3 x4 (y 0) (y 1) : EReal)) (pieces x0 x1 x2 x3 x4) := by
    refine ⟨fun y => ?_, fun y => ?_, fun y => ?_, fun y => ?_, fun y => ?_, fun y => ?_, trivial⟩
    · obtain ⟨r, j, rfl⟩ : ∃ (r : Fin 512) (j : Fin 128), y = ix2 r j := ⟨y 0, y 1, eq_ix2 y⟩
      refine (head3 _ _ _ _ r j).trans (zblk_head x0 x1 x2 x3 x4 3 _ _ _ r _ j _ (fun x => ?_) (fun x => ?_) ?_ (Fin.ext ?_) ?_)
      · exact ld2 x2 0 384 _ r x _ rfl
      · exact ld2 x2 1 384 _ r x _ rfl
      · exact ld3 x3 384 _ r j _ rfl
      · show 0 + 1 * r.val = r.val; omega
      · show 1920 + 1 * j.val = 1536 + 128 * 3 + j.val; omega
    · obtain ⟨r, j, rfl⟩ : ∃ (r : Fin 512) (j : Fin 128), y = ix2 r j := ⟨y 0, y 1, eq_ix2 y⟩
      refine (head2 _ _ _ _ r j).trans (zblk_head x0 x1 x2 x3 x4 2 _ _ _ r _ j _ (fun x => ?_) (fun x => ?_) ?_ (Fin.ext ?_) ?_)
      · exact ld2 x2 0 256 _ r x _ rfl
      · exact ld2 x2 1 256 _ r x _ rfl
      · exact ld3 x3 256 _ r j _ rfl
      · show 0 + 1 * r.val = r.val; omega
      · show 1792 + 1 * j.val = 1536 + 128 * 2 + j.val; omega
    · obtain ⟨r, j, rfl⟩ : ∃ (r : Fin 512) (j : Fin 128), y = ix2 r j := ⟨y 0, y 1, eq_ix2 y⟩
      refine (head1 _ _ _ _ r j).trans (zblk_head x0 x1 x2 x3 x4 1 _ _ _ r _ j _ (fun x => ?_) (fun x => ?_) ?_ (Fin.ext ?_) ?_)
      · exact ld2 x2 0 128 _ r x _ rfl
      · exact ld2 x2 1 128 _ r x _ rfl
      · exact ld3 x3 128 _ r j _ rfl
      · show 0 + 1 * r.val = r.val; omega
      · show 1664 + 1 * j.val = 1536 + 128 * 1 + j.val; omega
    · obtain ⟨r, j, rfl⟩ : ∃ (r : Fin 512) (j : Fin 128), y = ix2 r j := ⟨y 0, y 1, eq_ix2 y⟩
      refine (head0 _ _ _ _ r j).trans (zblk_head x0 x1 x2 x3 x4 0 _ _ _ r _ j _ (fun x => ?_) (fun x => ?_) ?_ (Fin.ext ?_) ?_)
      · exact ld2 x2 0 0 _ r x _ (by show 128 * 0 + x.val = _; omega)
      · exact ld2 x2 1 0 _ r x _ (by show 128 * 0 + x.val = _; omega)
      · exact ld3 x3 0 _ r j _ (by show 128 * 0 + j.val = _; omega)
      · show 0 + 1 * r.val = r.val; omega
      · show 1536 + 1 * j.val = 1536 + 128 * 0 + j.val; omega
    · obtain ⟨r, j, rfl⟩ : ∃ (r : Fin 512) (j : Fin 512), y = ix2 r j := ⟨y 0, y 1, eq_ix2 y⟩
      refine (pay3_apply x1 r j).trans (Eq.trans ?_ (zrow_B _ _ _ _ j ?_).symm)
      · exact congrArg (fun q => x1 (ix3 0 q j)) (Fin.ext (by show r.val = 0 + 1 * r.val; omega))
      · show 1024 + 1 * j.val = 1024 + j.val; omega
    · obtain ⟨r, j, rfl⟩ : ∃ (r : Fin 512) (j : Fin 1024), y = ix2 r j := ⟨y 0, y 1, eq_ix2 y⟩
      refine (pay2_apply x0 r j).trans (Eq.trans ?_ (zrow_A _ _ _ _ j ?_).symm)
      · exact congrArg (fun q => x0 (ix3 0 q j)) (Fin.ext (by show r.val = 0 + 1 * r.val; omega))
      · show 0 + 1 * j.val = j.val; omega
  have hc : ∃ p ∈ pieces x0 x1 x2 x3 x4, (ix2 r k : S512x2048.Idx) ∈ p.1.set := by
    have in_piece : ∀ (o n : Nat) (inb), o ≤ k.val → k.val < o + n →
        (ix2 r k : S512x2048.Idx) ∈ (Rect.unit (s := S512x2048) ![0, o] ![512, n] inb).set := fun o n inb h h' =>
      Rect.mem_set_unit.mpr fun a => match a with
        | ⟨0, _⟩ => ⟨Nat.zero_le _, by show r.val < 0 + 512; omega⟩
        | ⟨1, _⟩ => ⟨h, h'⟩
    by_cases h0 : k.val < 1024
    · exact ⟨_, .tail _ (.tail _ (.tail _ (.tail _ (.tail _ (.head _))))), in_piece 0 1024 inb_S512x2048_S512x1024_0_0 (Nat.zero_le _) (by omega)⟩
    by_cases h1 : k.val < 1536
    · exact ⟨_, .tail _ (.tail _ (.tail _ (.tail _ (.head _)))), in_piece 1024 512 inb_S512x2048_S512x512_0_1024 (by omega) (by omega)⟩
    by_cases h2 : k.val < 1664
    · exact ⟨_, .tail _ (.tail _ (.tail _ (.head _))), in_piece 1536 128 inb_S512x2048_S512x128_0_1536 (by omega) (by omega)⟩
    by_cases h3 : k.val < 1792
    · exact ⟨_, .tail _ (.tail _ (.head _)), in_piece 1664 128 inb_S512x2048_S512x128_0_1664 (by omega) (by omega)⟩
    by_cases h4 : k.val < 1920
    · exact ⟨_, .tail _ (.head _), in_piece 1792 128 inb_S512x2048_S512x128_0_1792 (by omega) (by omega)⟩
    · exact ⟨_, .head _, in_piece 1920 128 inb_S512x2048_S512x128_0_1920 (by omega) (by omega)⟩
  exact View.canon_apply_of_pieces (fun y : S512x2048.Idx => (zblk x0 x1 x2 x3 x4 (y 0) (y 1) : EReal)) _ hp.mem _ hc

end Block

end Cert.MergeIdeal.Layer

end
-- ==== Proof.Merge.Final.lean ====
/-
  The output array after the launch: the blocks that the points leave, put together, with the inputs' blocks read as
  entries of the arguments.
-/
module

public import proofs.«01_k».proof.Proof.Merge.Rows
public import Idealize.ShloMosaic.Lib.StableHlo.ReadAt

@[expose] public section

set_option maxRecDepth 16384

noncomputable section

namespace Cert.MergeIdeal.Layer

open Cert.MergeIdeal Cert.MergeIdeal.Gen Idealize.ShloMosaic Idealize.ShloMosaic.TcCoe Idealize.SL.Sem

/-- A row of the three branches side by side, from the arguments: two branches' outputs as they are, the third
    branch's two scans summed, normalised over each head and gated. -/
def row (a : Vec Ideal S4x4096x8x128 .f32) (b f e : Vec Ideal S4x4096x4x128 .f32) (g : Vec Ideal S4x4096x512 .f32) (n : Vec Ideal S128 .f32)
    (d : Fin 4) (r : Fin 4096) (k : Fin 2048) : EReal :=
  zrow (fun j => a (ix4 d r ⟨j.val / 128, by omega⟩ ⟨j.val % 128, by omega⟩)) (fun j => b (ix4 d r ⟨j.val / 128, by omega⟩ ⟨j.val % 128, by omega⟩))
    (fun h j => hd (fun x => f (ix4 d r h x) + e (ix4 d r h x)) (fun x => n (ix1 x)) (g (ix3 d r ⟨128 * h.val + j.val, by omega⟩)) j) k

/-- The call's result. -/
def merged (a : Vec Ideal S4x4096x8x128 .f32) (b f e : Vec Ideal S4x4096x4x128 .f32) (g : Vec Ideal S4x4096x512 .f32) (n : Vec Ideal S128 .f32)
    (w : Vec Ideal S2048x2048 .f32) (x : Vec Ideal S4x4096x2048 .f32) (s : Vec Ideal S4x1x12288 .f32) (d : Fin 4) (r : Fin 4096) (k : Fin 2048) : EReal :=
  x (ix3 d r k) + s (ix3 d 0 ⟨4096 + k.val, by omega⟩) * ∑ q, row a b f e g n d r q * w (ix2 q k)

variable (m : (ℓ : Loc nD τ sig) → Buf (Elt Ideal) ℓ) (ρ : Dev nD → PrngReg) (c : Dev nD)

/-- The arguments as launched. -/
abbrev arA : Vec Ideal S4x4096x8x128 .f32 := m ((c.tc : Thread nD τ).loc main_arg0)
abbrev arB : Vec Ideal S4x4096x4x128 .f32 := m ((c.tc : Thread nD τ).loc main_arg1)
abbrev arF : Vec Ideal S4x4096x4x128 .f32 := m ((c.tc : Thread nD τ).loc main_arg2)
abbrev arE : Vec Ideal S4x4096x4x128 .f32 := m ((c.tc : Thread nD τ).loc main_arg3)
abbrev arG : Vec Ideal S4x4096x512 .f32 := m ((c.tc : Thread nD τ).loc main_arg4)
abbrev arN : Vec Ideal S128 .f32 := m ((c.tc : Thread nD τ).loc main_arg5)
abbrev arW : Vec Ideal S2048x2048 .f32 := m ((c.tc : Thread nD τ).loc main_arg6)
abbrev arX : Vec Ideal S4x4096x2048 .f32 := m ((c.tc : Thread nD τ).loc main_arg7)
abbrev arS : Vec Ideal S4x1x12288 .f32 := m ((c.tc : Thread nD τ).loc main_arg8)

/-! ## The arrays that the launch finds -/

theorem V1_apply (b : Fin 4) (r : Fin 4096) (k : Fin 1024) :
    V m c main_v1 (ix3 b r k) = arA m c (ix4 b r ⟨k.val / 128, by omega⟩ ⟨k.val % 128, by omega⟩) := by
  unfold V
  after_reads_at

theorem V3_apply (b : Fin 4) (r : Fin 4096) (k : Fin 512) :
    V m c main_v3 (ix3 b r k) = arB m c (ix4 b r ⟨k.val / 128, by omega⟩ ⟨k.val % 128, by omega⟩) := by
  unfold V
  after_reads_at

theorem V6_apply_F (b : Fin 4) (r : Fin 4096) (k : Fin 512) :
    V m c main_v6 (ix4 0 b r k) = arF m c (ix4 b r ⟨k.val / 128, by omega⟩ ⟨k.val % 128, by omega⟩) := by
  unfold V
  after_reads_at

theorem V6_apply_E (b : Fin 4) (r : Fin 4096) (k : Fin 512) :
    V m c main_v6 (ix4 1 b r k) = arE m c (ix4 b r ⟨k.val / 128, by omega⟩ ⟨k.val % 128, by omega⟩) := by
  unfold V
  after_reads_at

theorem V8_apply (b : Fin 4) (k : Fin 12288) :
    StableHlo.upto hostOps0 (fun b => m (c, b)) 12 (Proc.tc.devRef main_v8) (ix2 b k) = arS m c (ix3 b 0 k) := by
  after_reads_at

theorem V11_apply (b : Fin 4) (j : Fin 6) (k : Fin 2048) :
    V m c main_v11 (ix3 (⟨b.val + 1, by omega⟩ : Fin 8) j k) = arS m c (ix3 b 0 ⟨j.val * 2048 + k.val, by omega⟩) := by
  unfold V
  after_reads_at
  rw [dif_neg (by omega), dif_pos (by omega)]
  exact V8_apply m c _ _

theorem V12_apply (k : Fin 128) : V m c main_v12 (ix3 0 0 k) = arN m c (ix1 k) := by
  unfold V
  after_reads_at

theorem V13_apply (q k : Fin 2048) : V m c main_v13 (ix2 q k) = arW m c (ix2 q k) := by
  unfold V
  after_reads_at

/-- The blocks' places, decided over the grid. -/
theorem places : ∀ t : Fin cfg0.N, (win0_0.index t = ![t.val / 8, t.val % 8, 0] ∧ win0_1.index t = ![t.val / 8, t.val % 8, 0]
    ∧ win0_2.index t = ![0, t.val / 8, t.val % 8, 0] ∧ win0_3.index t = ![t.val / 8, t.val % 8, 0] ∧ win0_4.index t = ![0, 0, 0])
    ∧ win0_5.index t = ![0, 0] ∧ win0_6.index t = ![t.val / 8, t.val % 8, 0] ∧ win0_7.index t = ![t.val / 8 + 1, 0, 0]
    ∧ win0_8.index t = ![t.val / 8, t.val % 8, 0] :=
  (by decide +kernel : ∀ t : Fin grid0.N, _)

theorem lt_N (t : Fin cfg0.N) : t.val < 32 := lt_of_lt_of_eq t.isLt N_0

/-- The batch of a point, and the row of the arrays at a row of its blocks. -/
abbrev bat (t : Fin cfg0.N) : Fin 4 := ⟨t.val / 8, by have := lt_N t; omega⟩
abbrev ro (t : Fin cfg0.N) (r : Fin 512) : Fin 4096 := ⟨512 * (t.val % 8) + r.val, by omega⟩

/-! ## The inputs' blocks -/

theorem blk0 (t : Fin cfg0.N) (r : Fin 512) (k : Fin 1024) : (iblk m c 0 t : S1x512x1024.Idx → EReal) (ix3 0 r k)
    = arA m c (ix4 (bat t) (ro t r) ⟨k.val / 128, by omega⟩ ⟨k.val % 128, by omega⟩) := by
  have e := (places t).1.1
  refine Eq.trans ?_ (V1_apply m c _ _ k)
  unfold iblk
  refine congrArg (V m c main_v1) (funext fun a => Fin.ext ?_)
  match a with
  | ⟨0, _⟩ => show win0_0.index t (0 : Fin 3) * 1 + 1 * 0 = t.val / 8; rw [e]; simp
  | ⟨1, _⟩ => show win0_0.index t (1 : Fin 3) * 512 + 1 * r.val = 512 * (t.val % 8) + r.val; rw [e]; simp; omega
  | ⟨2, _⟩ => show win0_0.index t (2 : Fin 3) * 1024 + 1 * k.val = k.val; rw [e]; simp

theorem blk1 (t : Fin cfg0.N) (r k : Fin 512) : (iblk m c 1 t : S1x512x512.Idx → EReal) (ix3 0 r k)
    = arB m c (ix4 (bat t) (ro t r) ⟨k.val / 128, by omega⟩ ⟨k.val % 128, by omega⟩) := by
  have e := (places t).1.2.1
  refine Eq.trans ?_ (V3_apply m c _ _ k)
  unfold iblk
  refine congrArg (V m c main_v3) (funext fun a => Fin.ext ?_)
  match a with
  | ⟨0, _⟩ => show win0_1.index t (0 : Fin 3) * 1 + 1 * 0 = t.val / 8; rw [e]; simp
  | ⟨1, _⟩ => show win0_1.index t (1 : Fin 3) * 512 + 1 * r.val = 512 * (t.val % 8) + r.val; rw [e]; simp; omega
  | ⟨2, _⟩ => show win0_1.index t (2 : Fin 3) * 512 + 1 * k.val = k.val; rw [e]; simp

theorem blk2 (t : Fin cfg0.N) (d : Fin 2) (r k : Fin 512) : (iblk m c 2 t : S2x1x512x512.Idx → EReal) (ix4 d 0 r k)
    = V m c main_v6 (ix4 d (bat t) (ro t r) k) := by
  have e := (places t).1.2.2.1
  unfold iblk
  refine congrArg (V m c main_v6) (funext fun a => Fin.ext ?_)
  match a with
  | ⟨0, _⟩ => show win0_2.index t (0 : Fin 4) * 2 + 1 * d.val = d.val; rw [e]; simp
  | ⟨1, _⟩ => show win0_2.index t (1 : Fin 4) * 1 + 1 * 0 = t.val / 8; rw [e]; simp
  | ⟨2, _⟩ => show win0_2.index t (2 : Fin 4) * 512 + 1 * r.val = 512 * (t.val % 8) + r.val; rw [e]; simp; omega
  | ⟨3, _⟩ => show win0_2.index t (3 : Fin 4) * 512 + 1 * k.val = k.val; rw [e]; simp

theorem blk3 (t : Fin cfg0.N) (r k : Fin 512) : (iblk m c 3 t : S1x512x512.Idx → EReal) (ix3 0 r k) = arG m c (ix3 (bat t) (ro t r) k) := by
  have e := (places t).1.2.2.2.1
  refine Eq.trans ?_ (congrFun (V_main_arg4 m c) _)
  unfold iblk
  refine congrArg (V m c main_arg4) (funext fun a => Fin.ext ?_)
  match a with
  | ⟨0, _⟩ => show win0_3.index t (0 : Fin 3) * 1 + 1 * 0 = t.val / 8; rw [e]; simp
  | ⟨1, _⟩ => show win0_3.index t (1 : Fin 3) * 512 + 1 * r.val = 512 * (t.val % 8) + r.val; rw [e]; simp; omega
  | ⟨2, _⟩ => show win0_3.index t (2 : Fin 3) * 512 + 1 * k.val = k.val; rw [e]; simp

theorem blk4 (t : Fin cfg0.N) (k : Fin 128) : (iblk m c 4 t : S1x1x128.Idx → EReal) (ix3 0 0 k) = arN m c (ix1 k) := by
  have e := (places t).1.2.2.2.2
  refine Eq.trans ?_ (V12_apply m c k)
  unfold iblk
  refine congrArg (V m c main_v12) (funext fun a => Fin.ext ?_)
  match a with
  | ⟨0, _⟩ => show win0_4.index t (0 : Fin 3) * 1 + 1 * 0 = 0; rw [e]; simp
  | ⟨1, _⟩ => show win0_4.index t (1 : Fin 3) * 1 + 1 * 0 = 0; rw [e]; simp
  | ⟨2, _⟩ => show win0_4.index t (2 : Fin 3) * 128 + 1 * k.val = k.val; rw [e]; simp

theorem blk5 (t : Fin cfg0.N) (q k : Fin 2048) : (iblk m c 5 t : S2048x2048.Idx → EReal) (ix2 q k) = arW m c (ix2 q k) := by
  have e := (places t).2.1
  refine Eq.trans ?_ (V13_apply m c q k)
  unfold iblk
  refine congrArg (V m c main_v13) (funext fun a => Fin.ext ?_)
  match a with
  | ⟨0, _⟩ => show win0_5.index t (0 : Fin 2) * 2048 + 1 * q.val = q.val; rw [e]; simp
  | ⟨1, _⟩ => show win0_5.index t (1 : Fin 2) * 2048 + 1 * k.val = k.val; rw [e]; simp

theorem blk6 (t : Fin cfg0.N) (r : Fin 512) (k : Fin 2048) : (iblk m c 6 t : S1x512x2048.Idx → EReal) (ix3 0 r k) = arX m c (ix3 (bat t) (ro t r) k) := by
  have e := (places t).2.2.1
  refine Eq.trans ?_ (congrFun (V_main_arg7 m c) _)
  unfold iblk
  refine congrArg (V m c main_arg7) (funext fun a => Fin.ext ?_)
  match a with
  | ⟨0, _⟩ => show win0_6.index t (0 : Fin 3) * 1 + 1 * 0 = t.val / 8; rw [e]; simp
  | ⟨1, _⟩ => show win0_6.index t (1 : Fin 3) * 512 + 1 * r.val = 512 * (t.val % 8) + r.val; rw [e]; simp; omega
  | ⟨2, _⟩ => show win0_6.index t (2 : Fin 3) * 2048 + 1 * k.val = k.val; rw [e]; simp

theorem blk7 (t : Fin cfg0.N) (j : Fin 6) (k : Fin 2048) : (iblk m c 7 t : S1x6x2048.Idx → EReal) (ix3 0 j k)
    = arS m c (ix3 (bat t) 0 ⟨j.val * 2048 + k.val, by omega⟩) := by
  have e := (places t).2.2.2.1
  refine Eq.trans ?_ (V11_apply m c (bat t) j k)
  unfold iblk
  refine congrArg (V m c main_v11) (funext fun a => Fin.ext ?_)
  match a with
  | ⟨0, _⟩ => show win0_7.index t (0 : Fin 3) * 1 + 1 * 0 = t.val / 8 + 1; rw [e]; simp
  | ⟨1, _⟩ => show win0_7.index t (1 : Fin 3) * 6 + 1 * j.val = j.val; rw [e]; simp
  | ⟨2, _⟩ => show win0_7.index t (2 : Fin 3) * 2048 + 1 * k.val = k.val; rw [e]; simp

/-! ## The output's blocks -/

/-- Reading a head's column through the array of the two scans. -/
theorem head_at (X : Vec Ideal S4x4096x4x128 .f32) (b : Fin 4) (r : Fin 4096) (h : Fin 4) (j : Fin 128) :
    X (ix4 b r ⟨(128 * h.val + j.val) / 128, by omega⟩ ⟨(128 * h.val + j.val) % 128, by omega⟩) = X (ix4 b r h j) :=
  congrArg X (congrArg₂ (ix4 _ _) (Fin.ext (by show (128 * h.val + j.val) / 128 = h.val; omega)) (Fin.ext (by show (128 * h.val + j.val) % 128 = j.val; omega)))

/-- A row of the scratch is the arguments' row, where the blocks hold the arguments' entries. -/
theorem zblk_of (x0 : Vec Ideal S1x512x1024 .bf16) (x1 : Vec Ideal S1x512x512 .bf16) (x2 : Vec Ideal S2x1x512x512 .f32) (x3 : Vec Ideal S1x512x512 .f32)
    (x4 : Vec Ideal S1x1x128 .f32) (a : Vec Ideal S4x4096x8x128 .f32) (b f e : Vec Ideal S4x4096x4x128 .f32) (g : Vec Ideal S4x4096x512 .f32)
    (n : Vec Ideal S128 .f32) (d : Fin 4) (r : Fin 512) (r' : Fin 4096) (k : Fin 2048)
    (h0 : ∀ j : Fin 1024, x0 (ix3 0 r j) = a (ix4 d r' ⟨j.val / 128, by omega⟩ ⟨j.val % 128, by omega⟩))
    (h1 : ∀ j : Fin 512, x1 (ix3 0 r j) = b (ix4 d r' ⟨j.val / 128, by omega⟩ ⟨j.val % 128, by omega⟩))
    (hf : ∀ (h : Fin 4) (x : Fin 128), x2 (ix4 0 0 r ⟨128 * h.val + x.val, by omega⟩) = f (ix4 d r' h x))
    (he : ∀ (h : Fin 4) (x : Fin 128), x2 (ix4 1 0 r ⟨128 * h.val + x.val, by omega⟩) = e (ix4 d r' h x))
    (hg : ∀ j : Fin 512, x3 (ix3 0 r j) = g (ix3 d r' j)) (hn : ∀ x : Fin 128, x4 (ix3 0 0 x) = n (ix1 x)) :
    zblk x0 x1 x2 x3 x4 r k = row a b f e g n d r' k := by
  unfold zblk row
  simp only [h0, h1, hf, he, hg, hn]

/-- The scratch's row, from the arguments. -/
theorem zblk_row (t : Fin cfg0.N) (r : Fin 512) (k : Fin 2048) :
    zblk (iblk m c 0 t) (iblk m c 1 t) (iblk m c 2 t) (iblk m c 3 t) (iblk m c 4 t) r k
      = row (arA m c) (arB m c) (arF m c) (arE m c) (arG m c) (arN m c) (bat t) (ro t r) k :=
  zblk_of _ _ _ _ _ _ _ _ _ _ _ (bat t) r (ro t r) k (fun j => blk0 m c t r j) (fun j => blk1 m c t r j)
    (fun h x => ((blk2 m c t 0 r _).trans (V6_apply_F m c _ _ _)).trans (head_at (arF m c) _ _ h x))
    (fun h x => ((blk2 m c t 1 r _).trans (V6_apply_E m c _ _ _)).trans (head_at (arE m c) _ _ h x))
    (fun j => blk3 m c t r j) (fun x => blk4 m c t x)

/-- The array that the launch leaves. -/
def G8 : Vec Ideal S4x4096x2048 .f32 := fun i =>
  merged (arA m c) (arB m c) (arF m c) (arE m c) (arG m c) (arN m c) (arW m c) (arX m c) (arS m c) (i 0) (i 1) (i 2)

/-- The block that a point leaves. -/
abbrev oBlk (t : Fin cfg0.N) : Vec Ideal S1x512x2048 .f32 :=
  k0_pay1 (scr (iblk m c 0 t) (iblk m c 1 t) (iblk m c 2 t) (iblk m c 3 t) (iblk m c 4 t)) (iblk m c 5 t) (iblk m c 6 t) (row2 (iblk m c 7 t))

theorem oBlk_apply (t : Fin cfg0.N) (r : Fin 512) (k : Fin 2048) : oBlk m c t (ix3 0 r k)
      = merged (arA m c) (arB m c) (arF m c) (arE m c) (arG m c) (arN m c) (arW m c) (arX m c) (arS m c) (bat t) (ro t r) k := by
  refine (pay1_apply _ _ _ _ r k).trans ?_
  unfold merged
  refine congrArg₂ (· + ·) (blk6 m c t r k) (congrArg₂ (· * ·) (blk7 m c t 2 k) (Finset.sum_congr rfl fun q _ => congrArg₂ (· * ·) ?_ (blk5 m c t q k)))
  exact (scr_apply _ _ _ _ _ r q).trans (zblk_row m c t r q)

theorem flushed_8 (t : Fin cfg0.N) : (dats m 0 c).flushed 8 t = ((cfg0.win 8).blk t).view.read (Elt Ideal) (G8 m c) := by
  rw [Value.flushed8_A, out_A]
  have e := (places t).2.2.2.2
  funext y
  have h0 : (y 0).val < 1 := (y 0).isLt
  have h1 : (y 1).val < 512 := (y 1).isLt
  have h2 : (y 2).val < 2048 := (y 2).isLt
  have hy : (cfg0.win 8).xinj (grid0.coords t) y = ix3 0 (⟨(y 1).val, h1⟩ : Fin 512) (⟨(y 2).val, h2⟩ : Fin 2048) := by
    funext a; apply Fin.ext
    match a with
    | ⟨0, _⟩ => show (y 0).val = 0; omega
    | ⟨1, _⟩ => rfl
    | ⟨2, _⟩ => rfl
  show oBlk m c t ((cfg0.win 8).xinj (grid0.coords t) y) = G8 m c (((cfg0.win 8).blk t).view.emb y)
  rw [hy, oBlk_apply]
  have e0 : bat t = ((cfg0.win 8).blk t).view.emb y 0 := Fin.ext (by
    show t.val / 8 = win0_8.index t (0 : Fin 3) * 1 + 1 * (y 0).val
    rw [e]; show t.val / 8 = t.val / 8 * 1 + 1 * (y 0).val; omega)
  have e1 : ro t ⟨(y 1).val, h1⟩ = ((cfg0.win 8).blk t).view.emb y 1 := Fin.ext (by
    show 512 * (t.val % 8) + (y 1).val = win0_8.index t (1 : Fin 3) * 512 + 1 * (y 1).val
    rw [e]; show 512 * (t.val % 8) + (y 1).val = t.val % 8 * 512 + 1 * (y 1).val; omega)
  have e2 : (⟨(y 2).val, h2⟩ : Fin 2048) = ((cfg0.win 8).blk t).view.emb y 2 := Fin.ext (by
    show (y 2).val = win0_8.index t (2 : Fin 3) * 2048 + 1 * (y 2).val
    rw [e]; show (y 2).val = 0 * 2048 + 1 * (y 2).val; omega)
  rw [e0, e1, e2]
  rfl

theorem final_8 : (dats m 0 c).arrAt 8 cfg0.N = G8 m c := by
  refine (dats m 0 c).arrAt_eq_of_cover 8 _ (fun t _ => flushed_8 m c t) fun (i : S4x4096x2048.Idx) => ?_
  have h0 : (i 0).val < 4 := (i 0).isLt
  have h1 : (i 1).val < 4096 := (i 1).isLt
  have h2 : (i 2).val < 2048 := (i 2).isLt
  obtain ⟨t, ht⟩ : ∃ t : Fin cfg0.N, t.val = 8 * (i 0).val + (i 1).val / 512 := ⟨⟨8 * (i 0).val + (i 1).val / 512, lt_of_lt_of_eq (by omega) N_0.symm⟩, rfl⟩
  have e := (places t).2.2.2.2
  refine ⟨t, flush0_8 t, ?_⟩
  show i ∈ ((View.whole main_v14).slice (win0_8.rect t)).set
  rw [View.set_slice_whole, Rect.mem_set_unit]
  intro a
  match a with
  | ⟨0, _⟩ => show win0_8.index t (0 : Fin 3) * 1 ≤ (i 0).val ∧ (i 0).val < win0_8.index t (0 : Fin 3) * 1 + 1; rw [e]; show t.val / 8 * 1 ≤ _ ∧ _ < t.val / 8 * 1 + 1; omega
  | ⟨1, _⟩ => show win0_8.index t (1 : Fin 3) * 512 ≤ (i 1).val ∧ (i 1).val < win0_8.index t (1 : Fin 3) * 512 + 512; rw [e]; show t.val % 8 * 512 ≤ _ ∧ _ < t.val % 8 * 512 + 512; omega
  | ⟨2, _⟩ => show win0_8.index t (2 : Fin 3) * 2048 ≤ (i 2).val ∧ (i 2).val < win0_8.index t (2 : Fin 3) * 2048 + 2048; rw [e]; show 0 * 2048 ≤ _ ∧ _ < 0 * 2048 + 2048; omega

end Cert.MergeIdeal.Layer

end
-- ==== Proof.Merge.Ref.lean ====
/-
  The reference's result, entry by entry: the same row times the same weights, scaled and added.
-/
module

public import proofs.«01_k».proof.Proof.Merge.Final
public import proofs.«01_k».proof.Proof.Ffn.Ref
public import proofs.«01_k».proof.Proof.Gen.MergeReferenceIdeal.Run

@[expose] public section

noncomputable section

namespace Cert.MergeReferenceIdeal.Layer

open Cert.MergeReferenceIdeal Cert.MergeReferenceIdeal.Gen Cert.MergeReferenceIdeal.Value Idealize.ShloMosaic Idealize.ShloMosaic.TcCoe Idealize.SL.Sem
open Cert.MergeIdeal.Layer (row zrow hd merged zrow_A zrow_B zrow_C)
open Cert.FfnReferenceIdeal.Layer (silu)

variable (a : FVec Ideal S4x4096x8x128 .f32) (b f e : FVec Ideal S4x4096x4x128 .f32) (g : FVec Ideal S4x4096x512 .f32) (n : FVec Ideal S128 .f32)
  (w : FVec Ideal S2048x2048 .f32) (x : FVec Ideal S4x4096x2048 .f32) (s : FVec Ideal S4x1x12288 .f32)

/-- The third branch: the two scans summed, normalised over each head, scaled and gated. -/
def third : FVec Ideal S4x4096x4x128 .f32 :=
  mulf (mulf (mulf (addf f e) (broadcastInDim S4x4096x4x128 ![0, 1, 2, 3] bcast_S4x4096x4x1_S4x4096x4x128_0_1_2_3
      (Host.rsqrt (addf (Host.divf (broadcastInDim S4x4096x4x1 ![0, 1, 2] bcast_S4x4096x4_S4x4096x4x1_0_1_2
          (Host.reduceAdd (mulf (addf f e) (addf f e)) (constant S_ .f32 0x00000000#32) reducesTo_S4x4096x4x128_S4x4096x4_d3 h_S_))
        (broadcastInDim S4x4096x4x1 ![] bcast_S_S4x4096x4x1 (constant S_ .f32 0x43000000#32)))
        (broadcastInDim S4x4096x4x1 ![] bcast_S_S4x4096x4x1 (constant S_ .f32 0x358637BD#32))))))
      (broadcastInDim S4x4096x4x128 ![0, 1, 2, 3] bcast_S1x1x1x128_S4x4096x4x128_0_1_2_3 (broadcastInDim S1x1x1x128 ![3] bcast_S128_S1x1x1x128_3 n)))
    (mulf (shapeCast _ g shapeCasts_S4x4096x512_S4x4096x4x128)
      (Host.divf (broadcastInDim S4x4096x4x128 ![] bcast_S_S4x4096x4x128 (constant S_ .f32 0x3F800000#32))
        (addf (broadcastInDim S4x4096x4x128 ![] bcast_S_S4x4096x4x128 (constant S_ .f32 0x3F800000#32))
          (Host.exp (Host.negf (shapeCast _ g shapeCasts_S4x4096x512_S4x4096x4x128))))))

/-- The branches side by side. -/
def beside : FVec Ideal S4x4096x2048 .f32 :=
  concatenate S4x4096x2048 2 [⟨S4x4096x1024, (shapeCast _ a shapeCasts_S4x4096x8x128_S4x4096x1024 : FVec Ideal S4x4096x1024 .f32)⟩,
    ⟨S4x4096x512, (shapeCast _ b shapeCasts_S4x4096x4x128_S4x4096x512 : FVec Ideal S4x4096x512 .f32)⟩,
    ⟨S4x4096x512, (shapeCast _ (third f e g n) shapeCasts_S4x4096x4x128_S4x4096x512 : FVec Ideal S4x4096x512 .f32)⟩]
    concatenates_S4x4096x1024_S4x4096x512_S4x4096x512_S4x4096x2048_d2

/-- The reference's result as one term of the arguments. -/
def out : FVec Ideal S4x4096x2048 .f32 :=
  addf x (mulf (broadcastInDim S4x4096x2048 ![0, 1, 2] bcast_S4x1x2048_S4x4096x2048_0_1_2 (extractStridedSlice S4x1x2048 ![0, 0, 4096] s slices_S4x1x12288_S4x1x2048_0_0_4096))
    (Host.dotGeneral dot_S4x4096x2048_S2048x2048_S4x4096x2048_2_0_01_1_n_n none (beside a b f e g n) w))

theorem third_apply (d : Fin 4) (r : Fin 4096) (h : Fin 4) (j : Fin 128) : third f e g n (ix4 d r h j)
    = hd (fun x => f (ix4 d r h x) + e (ix4 d r h x)) (fun x => n (ix1 x)) (g (ix3 d r ⟨128 * h.val + j.val, by omega⟩)) j := by
  unfold third hd
  pointwise
  simp only [silu, Nat.mul_comm h.val 128]

theorem beside_apply (d : Fin 4) (r : Fin 4096) (k : Fin 2048) : beside a b f e g n (ix3 d r k) = row a b f e g n d r k := by
  unfold beside row
  pointwise
  by_cases h0 : k.val < 1024
  · rw [dif_pos h0, zrow_A _ _ _ k ⟨k.val, h0⟩ rfl]
  by_cases h1 : k.val < 1536
  · rw [dif_neg h0, dif_pos (by omega), zrow_B _ _ _ k ⟨k.val - 1024, by omega⟩ (by show k.val = 1024 + (k.val - 1024); omega)]
  · rw [dif_neg h0, dif_neg (by omega), third_apply, zrow_C _ _ _ k ⟨(k.val - 1024 - 512) / 128, by omega⟩ ⟨(k.val - 1024 - 512) % 128, by omega⟩
      (by show k.val = 1536 + 128 * ((k.val - 1024 - 512) / 128) + (k.val - 1024 - 512) % 128; omega)]

theorem result (d : Fin 4) (r : Fin 4096) (k : Fin 2048) : out a b f e g n w x s (ix3 d r k) = merged a b f e g n w x s d r k := by
  unfold out merged
  pointwise
  simp only [beside_apply]

end Cert.MergeReferenceIdeal.Layer
end
-- ==== Proof.Merge.Claim.lean ====
/-
  The output projection's call and its reference end with the same result.
-/
module

public import proofs.«01_k».proof.Defs
public import proofs.«01_k».proof.Proof.Merge.Final
public import proofs.«01_k».proof.Proof.Merge.Ref

@[expose] public section

noncomputable section

namespace Cert.Merge

open Idealize.ShloMosaic Idealize.SL.Sem

/-- The call and its reference end with the same result. -/
theorem algebraic : Cert.algebraic_MergeIdeal_MergeReferenceIdeal (hMergeIdeal := Cert.MergeIdeal.Gen.facts) (hMergeReferenceIdeal := Cert.MergeReferenceIdeal.Gen.facts) := by
  intro m g m' g' _ h
  refine ⟨fun c => Cert.MergeIdeal.Layer.G8 m c, ?_, ?_⟩
  · exact (θ_run _ _ _).mono (fun r hr c => ⟨(hr c).1.trans (Cert.MergeIdeal.Layer.final_8 m c), (hr c).2⟩) (Cert.MergeIdeal.Value.run_blocks m g)
  · refine (θ_run _ _ _).mono (fun r hr c => ⟨(hr c).1.trans ?_, (hr c).2⟩) (Cert.MergeReferenceIdeal.Value.run m' g')
    obtain ⟨e0, e1, e2, e3, e4, e5, e6, e7, e8⟩ := h c
    rw [e0, e1, e2, e3, e4, e5, e6, e7, e8]
    funext j
    obtain ⟨b, r, k, rfl⟩ : ∃ (b : Fin 4) (r : Fin 4096) (k : Fin 2048), j = ix3 b r k := ⟨j 0, j 1, j 2, eq_ix3 j⟩
    exact Cert.MergeReferenceIdeal.Layer.result _ _ _ _ _ _ _ _ _ b r k

end Cert.Merge

end
-- ==== Proof.Latent.Prog.lean ====
/-
The attention kernel's body written with its loops: five chunks of keys (four of 1024 and the context's
256), each in blocks of 64 rows.  The printed body is this program with every loop unrolled.
-/
module

public import proofs.«01_k».proof.Proof.Gen.LatentIdeal

@[expose] public section

set_option maxRecDepth 16384

noncomputable section

namespace Cert.LatentIdeal.Attn

open Idealize.ShloMosaic Idealize.SL.Sem
open Facts₀

variable {nD : Nat} {τ : Topo} {sig : RefSig} {Λ : Labels} {F : FTy → Type} [FloatOps F]

local notation "ℙ" => Prog (TpuEff nD τ sig (Elt F) Λ Proc.tc)
local notation "𝕊" => Memref sig Kind.tc CoreSpace.vmem S2x1024x1024 EltTy.f32
local notation "ℚ'" => Memref sig Kind.tc CoreSpace.vmem S1024x256 EltTy.bf16
local notation "ℙ'" => Memref sig Kind.tc CoreSpace.vmem S1024x1024 EltTy.bf16
local notation "𝕏" => Memref sig Kind.tc CoreSpace.vmem S1024x128 EltTy.f32

/-! ## Where the blocks lie -/

theorem inbS (sl r j : Nat) (hs : sl < 2) (hr : r < 16) (hj : j < 8) :
    ∀ a, (![sl, 64 * r, 128 * j] : Fin 3 → Nat) a + S1x64x128.size a ≤ S2x1024x1024.size a := by
  intro a; fin_cases a
  · show sl + 1 ≤ 2; omega
  · show 64 * r + 64 ≤ 1024; omega
  · show 128 * j + 128 ≤ 1024; omega

theorem inbSlot (sl : Nat) (hs : sl < 2) :
    ∀ a, (![sl, 0, 0] : Fin 3 → Nat) a + S1x1024x1024.size a ≤ S2x1024x1024.size a := by
  intro a; fin_cases a
  · show sl + 1 ≤ 2; omega
  · show 0 + 1024 ≤ 1024; omega
  · show 0 + 1024 ≤ 1024; omega

theorem inbK (j : Nat) (hj : j < 4) :
    ∀ a, (![0, 1024 * j, 0] : Fin 3 → Nat) a + S1x1024x256.size a ≤ S1x4096x256.size a := by
  intro a; fin_cases a
  · show 0 + 1 ≤ 1; omega
  · show 1024 * j + 1024 ≤ 4096; omega
  · show 0 + 256 ≤ 256; omega

theorem inbKV (j : Nat) (hj : j < 4) :
    ∀ a, (![0, 1024 * j, 0] : Fin 3 → Nat) a + S1x1024x128.size a ≤ S1x4096x128.size a := by
  intro a; fin_cases a
  · show 0 + 1 ≤ 1; omega
  · show 1024 * j + 1024 ≤ 4096; omega
  · show 0 + 128 ≤ 128; omega

theorem inbM (r : Nat) (hr : r < 16) :
    ∀ a, (![64 * r, 0] : Fin 2 → Nat) a + S64x128.size a ≤ S1024x128.size a := by
  intro a; fin_cases a
  · show 64 * r + 64 ≤ 1024; omega
  · show 0 + 128 ≤ 128; omega

theorem inbP (r j : Nat) (hr : r < 16) (hj : j < 8) :
    ∀ a, (![64 * r, 128 * j] : Fin 2 → Nat) a + S64x128.size a ≤ S1024x1024.size a := by
  intro a; fin_cases a
  · show 64 * r + 64 ≤ 1024; omega
  · show 128 * j + 128 ≤ 1024; omega

theorem packP (r j : Nat) (hr : r < 16) (hj : j < 8) :
    (Rect.unit (s := S1024x1024) ![64 * r, 128 * j] S64x128.size (inbP r j hr hj)).PackedRows (EltTy.packing .bf16) := by
  refine .inr ⟨by decide, rfl, .inl ⟨?_, ?_⟩⟩
  · show 2 ∣ 64 * r; exact ⟨32 * r, by omega⟩
  · show 2 ∣ 64; decide

/-! ## The steps of a block -/

/-- Rows `64 r …` and columns `128 j …` of a slot of the scores. -/
def ldS (sl r j : Nat) (hs : sl < 2) (hr : r < 16) (hj : j < 8) (s : 𝕊) : ℙ (FVec F S64x128 .f32) := do
  let v ← Prog.lift (.load s (Rect.unit (s := S2x1024x1024) ![sl, 64 * r, 128 * j] S1x64x128.size (inbS sl r j hs hr hj)).toLoadRect (View.loadsAt_vmem h_S1x64x128))
  pure (shapeCast S64x128 v shapeCasts_S1x64x128_S64x128)

/-- Rows `64 r …` of a running statistic. -/
def ldM (r : Nat) (hr : r < 16) (m : 𝕏) : ℙ (Vec F S64x128 .f32) :=
  Prog.lift (.load m (Rect.unit (s := S1024x128) ![64 * r, 0] S64x128.size (inbM r hr)).toLoadRect (View.loadsAt_vmem h_S64x128))

/-- Rows `64 r …` of a running statistic read and written. -/
def stM (r : Nat) (hr : r < 16) (m : 𝕏) (x : FVec F S64x128 .f32) : ℙ PUnit := do
  let _ ← Prog.lift (.load m (Rect.unit (s := S1024x128) ![64 * r, 0] S64x128.size (inbM r hr)).toLoadRect (View.loadsAt_vmem h_S64x128))
  Prog.lift (.store m (Rect.unit (s := S1024x128) ![64 * r, 0] S64x128.size (inbM r hr)) (shapeCast S64x128 x shapeCasts_S64x128_S64x128) Finset.univ (View.stores_vmem_bits_univ h_S64x128 rfl) (.inl rfl))

/-- One column group of a block's weights read and written. -/
def stP (r j : Nat) (hr : r < 16) (hj : j < 8) (m : ℙ') (hm : m.IsWhole) (x : FVec F S64x128 .f32) : ℙ PUnit := do
  let _ ← Prog.lift (.load m (Rect.unit (s := S1024x1024) ![64 * r, 128 * j] S64x128.size (inbP r j hr hj)).toLoadRect (View.loadsAt_vmem h_S64x128))
  Prog.lift (.store m (Rect.unit (s := S1024x1024) ![64 * r, 128 * j] S64x128.size (inbP r j hr hj)) (shapeCast S64x128 (truncf .bf16 x bitsLt_bf16_f32) shapeCasts_S64x128_S64x128) Finset.univ (View.stores_vmem h_S64x128 (hm.storeExact_slice rfl _ (packP r j hr hj)) (fun _ => rfl)) (.inl rfl))

/-- The rows' new maximum, on every lane: the old one and the largest of the lanes of `x`. -/
def newMax (x m : FVec F S64x128 .f32) : FVec F S64x128 .f32 :=
  maximumf m (broadcastTo S64x128 (shapeCast S64x1 (multiReduction .maximumf [1] S64 x 0xFF800000#32 reduces_S64x128_S64 (.inl rfl) rfl) shapeCasts_S64_S64x1) broadcasts_S64x1_S64x128)

/-- The rows' running sum, maximum and output rescaled to the new maximum `m'`. -/
def rescale (r : Nat) (hr : r < 16) (m' m : FVec F S64x128 .f32) (mx lx ax : 𝕏) : ℙ PUnit := do
  let l ← ldM r hr lx
  stM r hr lx (mulf (exp2 (subf m m')) l)
  stM r hr mx m'
  let acc ← ldM r hr ax
  stM r hr ax (mulf (exp2 (subf m m')) acc)

/-- A block of 64 rows against 1024 keys. -/
def block (sl r : Nat) (hs : sl < 2) (hr : r < 16) (s : 𝕊) (p : ℙ') (hp : p.IsWhole) (mx lx ax : 𝕏) : ℙ PUnit := do
  let s0 ← ldS sl r 0 hs hr (by decide) s
  let s1 ← ldS sl r 1 hs hr (by decide) s
  let s2 ← ldS sl r 2 hs hr (by decide) s
  let s3 ← ldS sl r 3 hs hr (by decide) s
  let s4 ← ldS sl r 4 hs hr (by decide) s
  let s5 ← ldS sl r 5 hs hr (by decide) s
  let s6 ← ldS sl r 6 hs hr (by decide) s
  let s7 ← ldS sl r 7 hs hr (by decide) s
  let m ← ldM r hr mx
  let m' := newMax (maximumf (maximumf (maximumf (maximumf (maximumf (maximumf (maximumf s0 s1) s2) s3) s4) s5) s6) s7) m
  rescale r hr m' m mx lx ax
  stP r 0 hr (by decide) p hp (exp2 (subf s0 m'))
  stP r 1 hr (by decide) p hp (exp2 (subf s1 m'))
  stP r 2 hr (by decide) p hp (exp2 (subf s2 m'))
  stP r 3 hr (by decide) p hp (exp2 (subf s3 m'))
  stP r 4 hr (by decide) p hp (exp2 (subf s4 m'))
  stP r 5 hr (by decide) p hp (exp2 (subf s5 m'))
  stP r 6 hr (by decide) p hp (exp2 (subf s6 m'))
  stP r 7 hr (by decide) p hp (exp2 (subf s7 m'))

/-- A block of 64 rows against the context's 256 keys. -/
def blockC (r : Nat) (hr : r < 16) (s : 𝕊) (p : ℙ') (hp : p.IsWhole) (mx lx ax : 𝕏) : ℙ PUnit := do
  let s0 ← ldS 0 r 0 (by decide) hr (by decide) s
  let s1 ← ldS 0 r 1 (by decide) hr (by decide) s
  let m ← ldM r hr mx
  let m' := newMax (maximumf s0 s1) m
  rescale r hr m' m mx lx ax
  stP r 0 hr (by decide) p hp (exp2 (subf s0 m'))
  stP r 1 hr (by decide) p hp (exp2 (subf s1 m'))

/-- `n` blocks from the `r`-th on. -/
def rows (b : (r : Nat) → r < 16 → ℙ PUnit) : (n r : Nat) → r + n ≤ 16 → ℙ PUnit
  | 0, _, _ => pure ⟨⟩
  | n + 1, r, h => do
    b r (by omega)
    rows b n (r + 1) (by omega)

/-! ## The steps of a chunk -/

/-- The scores of a latent chunk's keys, into a slot. -/
def scores (j sl : Nat) (hj : j < 4) (hs : sl < 2) (kl : Memref sig Kind.tc CoreSpace.vmem S1x4096x256 EltTy.bf16) (q : ℚ') (s : 𝕊) : ℙ PUnit := do
  let k ← Prog.lift (.load kl (Rect.unit (s := S1x4096x256) ![0, 1024 * j, 0] S1x1024x256.size (inbK j hj)).toLoadRect (View.loadsAt_vmem h_S1x1024x256))
  let qv ← Prog.lift (.load q (Rect.unit (s := S1024x256) ![0, 0] S1024x256.size inb_S1024x256_S1024x256_0_0).toLoadRect (View.loadsAt_vmem h_S1024x256))
  let _ ← Prog.lift (.load s (Rect.unit (s := S2x1024x1024) ![sl, 0, 0] S1x1024x1024.size (inbSlot sl hs)).toLoadRect (View.loadsAt_vmem h_S1x1024x1024))
  Prog.lift (.store s (Rect.unit (s := S2x1024x1024) ![sl, 0, 0] S1x1024x1024.size (inbSlot sl hs))
    (shapeCast S1x1024x1024 (matmul dot_S1024x256_S1024x256_S1024x1024_1_1_0_0_n_n none (qv : Vec F S1024x256 .bf16) (shapeCast S1024x256 (k : Vec F S1x1024x256 .bf16) shapeCasts_S1x1024x256_S1024x256) (constant S1024x1024 .f32 0x00000000#32)) shapeCasts_S1024x1024_S1x1024x1024)
    Finset.univ (View.stores_vmem_bits_univ h_S1x1024x1024 rfl) (.inl rfl))

/-- The scores of the context's keys, into the first columns of slot 0. -/
def scoresC (kc : Memref sig Kind.tc CoreSpace.vmem S1x256x256 EltTy.bf16) (q : ℚ') (s : 𝕊) : ℙ PUnit := do
  let k ← Prog.lift (.load kc (Rect.unit (s := S1x256x256) ![0, 0, 0] S1x256x256.size inb_S1x256x256_S1x256x256_0_0_0).toLoadRect (View.loadsAt_vmem h_S1x256x256))
  let qv ← Prog.lift (.load q (Rect.unit (s := S1024x256) ![0, 0] S1024x256.size inb_S1024x256_S1024x256_0_0).toLoadRect (View.loadsAt_vmem h_S1024x256))
  let _ ← Prog.lift (.load s (Rect.unit (s := S2x1024x1024) ![0, 0, 0] S1x1024x256.size inb_S2x1024x1024_S1x1024x256_0_0_0).toLoadRect (View.loadsAt_vmem h_S1x1024x256))
  Prog.lift (.store s (Rect.unit (s := S2x1024x1024) ![0, 0, 0] S1x1024x256.size inb_S2x1024x1024_S1x1024x256_0_0_0)
    (shapeCast S1x1024x256 (matmul dot_S1024x256_S256x256_S1024x256_1_1_0_0_n_n none (qv : Vec F S1024x256 .bf16) (shapeCast S256x256 (k : Vec F S1x256x256 .bf16) shapeCasts_S1x256x256_S256x256) (constant S1024x256 .f32 0x00000000#32)) shapeCasts_S1024x256_S1x1024x256)
    Finset.univ (View.stores_vmem_bits_univ h_S1x1024x256 rfl) (.inl rfl))

/-- The values of a latent chunk. -/
def values (j : Nat) (hj : j < 4) (vl : Memref sig Kind.tc CoreSpace.vmem S1x4096x128 EltTy.bf16) : ℙ (FVec F S1024x128 .bf16) := do
  let v ← Prog.lift (.load vl (Rect.unit (s := S1x4096x128) ![0, 1024 * j, 0] S1x1024x128.size (inbKV j hj)).toLoadRect (View.loadsAt_vmem h_S1x1024x128))
  pure (shapeCast S1024x128 v shapeCasts_S1x1024x128_S1024x128)

/-- A whole statistic read, added to and written. -/
def addTo (m : 𝕏) (x : FVec F S1024x128 .f32) : ℙ PUnit := do
  let y ← Prog.lift (.load m (Rect.unit (s := S1024x128) ![0, 0] S1024x128.size inb_S1024x128_S1024x128_0_0).toLoadRect (View.loadsAt_vmem h_S1024x128))
  let _ ← Prog.lift (.load m (Rect.unit (s := S1024x128) ![0, 0] S1024x128.size inb_S1024x128_S1024x128_0_0).toLoadRect (View.loadsAt_vmem h_S1024x128))
  Prog.lift (.store m (Rect.unit (s := S1024x128) ![0, 0] S1024x128.size inb_S1024x128_S1024x128_0_0) (shapeCast S1024x128 (addf y x) shapeCasts_S1024x128_S1024x128) Finset.univ (View.stores_vmem_bits_univ h_S1024x128 rfl) (.inl rfl))

/-- The two sums of a chunk's product, the weighted values' and the weights', added to the running ones. -/
def addPV (pv : FVec F S1024x256 .f32) (lx ax : 𝕏) : ℙ PUnit := do
  addTo ax (extractStridedSlice S1024x128 ![0, 0] pv slices_S1024x256_o0_0_S1024x128)
  addTo lx (extractStridedSlice S1024x128 ![0, 128] pv slices_S1024x256_o0_128_S1024x128)

/-- A latent chunk: its blocks, then its weights against its values and a block of ones. -/
def chunk (sl : Nat) (hs : sl < 2) (v : FVec F S1024x128 .bf16) (s : 𝕊) (p : ℙ') (hp : p.IsWhole) (mx lx ax : 𝕏) : ℙ PUnit := do
  rows (fun r hr => block sl r hs hr s p hp mx lx ax) 16 0 (by decide)
  let pw ← Prog.lift (.load p (Rect.unit (s := S1024x1024) ![0, 0] S1024x1024.size inb_S1024x1024_S1024x1024_0_0).toLoadRect (View.loadsAt_vmem h_S1024x1024))
  addPV (matmul dot_S1024x1024_S1024x256_S1024x256_1_0_0_1_n_n none (pw : Vec F S1024x1024 .bf16) (concatenate S1024x256 1 [⟨S1024x128, v⟩, ⟨S1024x128, broadcast S1024x128 (Scalar.ofBits .bf16 0x3F80#16 : F .bf16)⟩] concatenates_S1024x128_S1024x128_S1024x256_d1) (constant S1024x256 .f32 0x00000000#32)) lx ax

/-- The context's chunk. -/
def chunkC (vc : Memref sig Kind.tc CoreSpace.vmem S1x256x128 EltTy.bf16) (s : 𝕊) (p : ℙ') (hp : p.IsWhole) (mx lx ax : 𝕏) : ℙ PUnit := do
  let v ← Prog.lift (.load vc (Rect.unit (s := S1x256x128) ![0, 0, 0] S1x256x128.size inb_S1x256x128_S1x256x128_0_0_0).toLoadRect (View.loadsAt_vmem h_S1x256x128))
  rows (fun r hr => blockC r hr s p hp mx lx ax) 16 0 (by decide)
  let pw ← Prog.lift (.load p (Rect.unit (s := S1024x1024) ![0, 0] S1024x256.size inb_S1024x1024_S1024x256_0_0).toLoadRect (View.loadsAt_vmem h_S1024x256))
  addPV (matmul dot_S1024x256_S256x256_S1024x256_1_0_0_1_n_n none (pw : Vec F S1024x256 .bf16) (concatenate S256x256 1 [⟨S256x128, shapeCast S256x128 (v : Vec F S1x256x128 .bf16) shapeCasts_S1x256x128_S256x128⟩, ⟨S256x128, broadcast S256x128 (Scalar.ofBits .bf16 0x3F80#16 : F .bf16)⟩] concatenates_S256x128_S256x128_S256x256_d1) (constant S1024x256 .f32 0x00000000#32)) lx ax

/-! ## The beginning and the end -/

/-- The queries of the block's head, scaled and rounded, into the query scratch. -/
def copyQ [Named F] (q : Memref sig Kind.tc CoreSpace.vmem S1x1024x256 EltTy.f32) (qs : ℚ') (hqs : qs.IsWhole) : ℙ PUnit := do
  let x ← Prog.lift (.load q (Rect.unit (s := S1x1024x256) ![0, 0, 0] S1x1024x256.size inb_S1x1024x256_S1x1024x256_0_0_0).toLoadRect (View.loadsAt_vmem h_S1x1024x256))
  let _ ← Prog.lift (.load qs (Rect.unit (s := S1024x256) ![0, 0] S1024x256.size inb_S1024x256_S1024x256_0_0).toLoadRect (View.loadsAt_vmem h_S1024x256))
  Prog.lift (.store qs (Rect.unit (s := S1024x256) ![0, 0] S1024x256.size inb_S1024x256_S1024x256_0_0) (shapeCast S1024x256 (truncf .bf16 (mulf (shapeCast S1024x256 (x : Vec F S1x1024x256 .f32) shapeCasts_S1x1024x256_S1024x256) (broadcast S1024x256 (Named.named κ "lscale" 0x3DD53B95#32 : F .f32))) bitsLt_bf16_f32) shapeCasts_S1024x256_S1024x256) Finset.univ (View.stores_vmem h_S1024x256 (hqs.storeExact_slice rfl _ packedbf16_S1024x256_S1024x256_0_0) (fun _ => rfl)) (.inl rfl))

/-- A running statistic set to one number. -/
def fill (m : 𝕏) (b : BitVec 32) : ℙ PUnit := do
  let _ ← Prog.lift (.load m (Rect.unit (s := S1024x128) ![0, 0] S1024x128.size inb_S1024x128_S1024x128_0_0).toLoadRect (View.loadsAt_vmem h_S1024x128))
  Prog.lift (.store m (Rect.unit (s := S1024x128) ![0, 0] S1024x128.size inb_S1024x128_S1024x128_0_0) (shapeCast S1024x128 (broadcast S1024x128 (Scalar.ofBits .f32 b : F .f32)) shapeCasts_S1024x128_S1024x128) Finset.univ (View.stores_vmem_bits_univ h_S1024x128 rfl) (.inl rfl))

/-- The result: the rows' sums of weighted values over their sums of weights. -/
def finish (o : Memref sig Kind.tc CoreSpace.vmem S1x1024x128 EltTy.bf16) (ho : o.IsWhole) (lx ax : 𝕏) : ℙ PUnit := do
  let a ← Prog.lift (.load ax (Rect.unit (s := S1024x128) ![0, 0] S1024x128.size inb_S1024x128_S1024x128_0_0).toLoadRect (View.loadsAt_vmem h_S1024x128))
  let l ← Prog.lift (.load lx (Rect.unit (s := S1024x128) ![0, 0] S1024x128.size inb_S1024x128_S1024x128_0_0).toLoadRect (View.loadsAt_vmem h_S1024x128))
  let _ ← Prog.lift (.load o (Rect.unit (s := S1x1024x128) ![0, 0, 0] S1x1024x128.size inb_S1x1024x128_S1x1024x128_0_0_0).toLoadRect (View.loadsAt_vmem h_S1x1024x128))
  Prog.lift (.store o (Rect.unit (s := S1x1024x128) ![0, 0, 0] S1x1024x128.size inb_S1x1024x128_S1x1024x128_0_0_0) (shapeCast S1x1024x128 (truncf .bf16 (mulf (a : Vec F S1024x128 .f32) (divf (broadcast S1024x128 (Scalar.ofBits .f32 0x3F800000#32 : F .f32)) (l : Vec F S1024x128 .f32))) bitsLt_bf16_f32) shapeCasts_S1024x128_S1x1024x128) Finset.univ (View.stores_vmem h_S1x1024x128 (ho.storeExact_slice rfl _ packedbf16_S1x1024x128_S1x1024x128_0_0_0) (fun _ => rfl)) (.inl rfl))

/-- The body at a grid point: the queries copied, the statistics begun, the five chunks, the result. -/
def body [Named F] (q : Memref sig Kind.tc CoreSpace.vmem S1x1024x256 EltTy.f32)
    (kc : Memref sig Kind.tc CoreSpace.vmem S1x256x256 EltTy.bf16) (vc : Memref sig Kind.tc CoreSpace.vmem S1x256x128 EltTy.bf16)
    (kl : Memref sig Kind.tc CoreSpace.vmem S1x4096x256 EltTy.bf16) (vl : Memref sig Kind.tc CoreSpace.vmem S1x4096x128 EltTy.bf16)
    (o : Memref sig Kind.tc CoreSpace.vmem S1x1024x128 EltTy.bf16) (ho : o.IsWhole)
    (qs : ℚ') (hqs : qs.IsWhole) (s : 𝕊) (p : ℙ') (hp : p.IsWhole) (mx lx ax : 𝕏) : ℙ PUnit := do
  copyQ q qs hqs
  fill mx 0xFF800000#32
  fill lx 0x00000000#32
  fill ax 0x00000000#32
  scores 0 0 (by decide) (by decide) kl qs s
  scores 1 1 (by decide) (by decide) kl qs s
  let v0 ← values 0 (by decide) vl
  chunk 0 (by decide) v0 s p hp mx lx ax
  scores 2 0 (by decide) (by decide) kl qs s
  let v1 ← values 1 (by decide) vl
  chunk 1 (by decide) v1 s p hp mx lx ax
  scores 3 1 (by decide) (by decide) kl qs s
  let v2 ← values 2 (by decide) vl
  chunk 0 (by decide) v2 s p hp mx lx ax
  scoresC kc qs s
  let v3 ← values 3 (by decide) vl
  chunk 1 (by decide) v3 s p hp mx lx ax
  chunkC vc s p hp mx lx ax
  finish o ho lx ax

end Cert.LatentIdeal.Attn

end
-- ==== Proof.Latent.Eq.lean ====
module

public import proofs.«01_k».proof.Proof.Latent.Prog
public import Idealize.ShloMosaic.Lib.Exec
public import Idealize.ShloMosaic.Lib.Tactic

@[expose] public section

set_option maxRecDepth 16384

noncomputable section

namespace Cert.LatentIdeal.Attn

open Idealize.ShloMosaic Idealize.SL.Sem Idealize.ShloMosaic.Tactic

variable {F : FTy → Type} [FloatOps F] [Named F]

theorem body_eq (i : grid0.Coords) (arg3 : Memref sig .tc .vmem S1x1024x256 .f32) (harg3 : arg3.IsWhole) (arg4 : Memref sig .tc .vmem S1x256x256 .bf16) (harg4 : arg4.IsWhole) (arg5 : Memref sig .tc .vmem S1x256x128 .bf16) (harg5 : arg5.IsWhole) (arg6 : Memref sig .tc .vmem S1x4096x256 .bf16) (harg6 : arg6.IsWhole) (arg7 : Memref sig .tc .vmem S1x4096x128 .bf16) (harg7 : arg7.IsWhole) (arg8 : Memref sig .tc .vmem S1x1024x128 .bf16) (harg8 : arg8.IsWhole) (arg9 : Memref sig .tc .vmem S1024x256 .bf16) (harg9 : arg9.IsWhole) (arg10 : Memref sig .tc .vmem S2x1024x1024 .f32) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) :
    cc0_attention (F := F) i arg3 harg3 arg4 harg4 arg5 harg5 arg6 harg6 arg7 harg7 arg8 harg8 arg9 harg9 arg10 harg10 arg11 harg11 arg12 harg12 arg13 harg13 arg14 harg14 = body arg3 arg4 arg5 arg6 arg7 arg8 harg8 arg9 harg9 arg10 arg11 harg11 arg12 arg13 arg14 := by
  sl_kernel_rfl

end Cert.LatentIdeal.Attn

end
-- ==== Proof.Latent.Block.lean ====
/-
What a block of 64 rows does to the weights and to the rows' running statistics.
-/
module

public import proofs.«01_k».proof.Proof.Latent.Prog
public import proofs.«01_k».proof.Proof.Attn.Chunk
public import Idealize.ShloMosaic.Lib.Pointwise

@[expose] public section

set_option maxRecDepth 16384

noncomputable section

namespace Cert.LatentIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Attn (WP WP_bind WP_pure wp_ld wp_st overlay_unit_mem overlay_unit_not_mem overlay_whole whole_store emb_whole zero2 zero3 ofBits_bot)
open Facts₀

/-! ## Arrays in the middle of a chunk -/

/-- A statistic with its first `64 r` rows replaced. -/
def mixM (r : Nat) (new old : S1024x128.Idx → EReal) : S1024x128.Idx → EReal :=
  fun i => if (i 0).val < 64 * r then new i else old i

/-- The weights with their first `64 r` rows and, of the next 64, the first `k` column groups replaced, among
    the first `W` columns. -/
def mixP (W r k : Nat) (new old : S1024x1024.Idx → EReal) : S1024x1024.Idx → EReal :=
  fun i => if (i 1).val < W ∧ ((i 0).val < 64 * r ∨ ((i 0).val < 64 * (r + 1) ∧ (i 1).val < 128 * k)) then new i else old i

/-- Rows `64 r …` of an array. -/
def rdM (X : S1024x128.Idx → EReal) (r : Nat) (hr : r < 16) : FVec Ideal S64x128 .f32 :=
  fun i => X (ix2 ⟨64 * r + (i 0).val, by have : (i 0).val < 64 := (i 0).isLt; omega⟩ (i 1))

/-- Rows `64 r …` and columns `128 j …` of a slot of the scores. -/
def rdS (S : S2x1024x1024.Idx → EReal) (sl r j : Nat) (hs : sl < 2) (hr : r < 16) (hj : j < 8) : FVec Ideal S64x128 .f32 :=
  fun i => S (ix3 ⟨sl, hs⟩ ⟨64 * r + (i 0).val, by have : (i 0).val < 64 := (i 0).isLt; omega⟩ ⟨128 * j + (i 1).val, by have : (i 1).val < 128 := (i 1).isLt; omega⟩)

/-- The rows' new maximum, `T` the largest of each row's new scores. -/
def nM (T : Fin 1024 → EReal) (M : S1024x128.Idx → EReal) : S1024x128.Idx → EReal :=
  fun i => max (M i) (T (i 0))

/-- A running sum rescaled to the new maximum. -/
def nX (T : Fin 1024 → EReal) (M X : S1024x128.Idx → EReal) : S1024x128.Idx → EReal :=
  fun i => Ideal.exp2 (M i - nM T M i) * X i

/-- The new weights. -/
def nP (S : S2x1024x1024.Idx → EReal) (sl : Nat) (hs : sl < 2) (T : Fin 1024 → EReal) (M : S1024x128.Idx → EReal) : S1024x1024.Idx → EReal :=
  fun i => Ideal.exp2 (S (ix3 ⟨sl, hs⟩ (i 0) (i 1)) - nM T M (ix2 (i 0) ⟨(i 1).val % 128, Nat.mod_lt _ (by decide)⟩))

theorem rdM_mix (r : Nat) (hr : r < 16) (new old : S1024x128.Idx → EReal) : rdM (mixM r new old) r hr = rdM old r hr := by
  funext i
  unfold rdM mixM
  rw [if_neg]
  show ¬ 64 * r + (i 0).val < 64 * r
  omega

theorem mixM_step (r : Nat) (hr : r < 16) (new old : S1024x128.Idx → EReal) (x : FVec Ideal S64x128 .f32)
    (hx : ∀ (a : Fin 64) (b : Fin 128), x (ix2 a b) = new (ix2 ⟨64 * r + a.val, by omega⟩ b)) :
    (Rect.unit (s := S1024x128) ![64 * r, 0] S64x128.size (inbM r hr)).overlay (mixM r new old) (shapeCast S64x128 x shapeCasts_S64x128_S64x128) = mixM (r + 1) new old := by
  funext i
  have h1 : (i 1).val < 128 := (i 1).isLt
  by_cases h : 64 * r ≤ (i 0).val ∧ (i 0).val < 64 * r + 64
  · refine (overlay_unit_mem (sh := S1024x128) (off := ![64 * r, 0]) (size := S64x128.size) _ _ i (ix2 (⟨(i 0).val - 64 * r, by omega⟩ : Fin 64) (i 1 : Fin 128)) ?_).trans ?_
    · intro a
      match a with
      | ⟨0, _⟩ => show (i 0).val = 64 * r + ((i 0).val - 64 * r); omega
      | ⟨1, _⟩ => show (i 1).val = 0 + (i 1).val; omega
    · rw [shapeCast_self]
      refine (hx _ _).trans ?_
      unfold mixM
      rw [if_pos (by omega)]
      refine congrArg new (funext fun a => Fin.ext ?_)
      match a with
      | ⟨0, _⟩ => show 64 * r + ((i 0).val - 64 * r) = (i 0).val; omega
      | ⟨1, _⟩ => rfl
  · rw [overlay_unit_not_mem _ _ i 0 (by show (i 0).val < 64 * r ∨ 64 * r + 64 ≤ (i 0).val; omega)]
    unfold mixM
    by_cases h2 : (i 0).val < 64 * r
    · rw [if_pos h2, if_pos (by omega)]
    · rw [if_neg h2, if_neg (by omega)]

theorem mixP_step (W r k : Nat) (hr : r < 16) (hk : k < 8) (hW : 128 * (k + 1) ≤ W) (new old : S1024x1024.Idx → EReal) (x : FVec Ideal S64x128 .f32)
    (hx : ∀ (a : Fin 64) (b : Fin 128), x (ix2 a b) = new (ix2 ⟨64 * r + a.val, by omega⟩ ⟨128 * k + b.val, by omega⟩)) :
    (Rect.unit (s := S1024x1024) ![64 * r, 128 * k] S64x128.size (inbP r k hr hk)).overlay (mixP W r k new old)
      (shapeCast S64x128 (truncf .bf16 x bitsLt_bf16_f32) shapeCasts_S64x128_S64x128) = mixP W r (k + 1) new old := by
  funext i
  by_cases h : (64 * r ≤ (i 0).val ∧ (i 0).val < 64 * r + 64) ∧ (128 * k ≤ (i 1).val ∧ (i 1).val < 128 * k + 128)
  · refine (overlay_unit_mem (sh := S1024x1024) (off := ![64 * r, 128 * k]) (size := S64x128.size) _ _ i (ix2 (⟨(i 0).val - 64 * r, by omega⟩ : Fin 64) (⟨(i 1).val - 128 * k, by omega⟩ : Fin 128)) ?_).trans ?_
    · intro a
      match a with
      | ⟨0, _⟩ => show (i 0).val = 64 * r + ((i 0).val - 64 * r); omega
      | ⟨1, _⟩ => show (i 1).val = 128 * k + ((i 1).val - 128 * k); omega
    · rw [shapeCast_self]
      show x _ = _
      refine (hx _ _).trans ?_
      unfold mixP
      rw [if_pos (by omega)]
      refine congrArg new (funext fun a => Fin.ext ?_)
      match a with
      | ⟨0, _⟩ => show 64 * r + ((i 0).val - 64 * r) = (i 0).val; omega
      | ⟨1, _⟩ => show 128 * k + ((i 1).val - 128 * k) = (i 1).val; omega
  · have e : (Rect.unit (s := S1024x1024) ![64 * r, 128 * k] S64x128.size (inbP r k hr hk)).overlay (mixP W r k new old)
      (shapeCast S64x128 (truncf .bf16 x bitsLt_bf16_f32) shapeCasts_S64x128_S64x128) i = mixP W r k new old i := by
      by_cases h2 : 64 * r ≤ (i 0).val ∧ (i 0).val < 64 * r + 64
      · exact overlay_unit_not_mem _ _ i 1 (by show (i 1).val < 128 * k ∨ 128 * k + 128 ≤ (i 1).val; omega)
      · exact overlay_unit_not_mem _ _ i 0 (by show (i 0).val < 64 * r ∨ 64 * r + 64 ≤ (i 0).val; omega)
    rw [e]
    unfold mixP
    exact if_congr (by omega) rfl rfl

theorem mixP_row (W r k : Nat) (h : W ≤ 128 * k) (new old : S1024x1024.Idx → EReal) : mixP W r k new old = mixP W (r + 1) 0 new old := by
  funext i
  unfold mixP
  exact if_congr (by omega) rfl rfl

theorem newMax_apply (x M : FVec Ideal S64x128 .f32) (a : Fin 64) (b : Fin 128) :
    newMax x M (ix2 a b) = max (M (ix2 a b)) (Finset.univ.fold max ⊥ fun l : Fin 128 => x (ix2 a l)) := by
  pointwise [newMax]
  rw [ofBits_bot]

/-! ## The block's steps as triples -/

variable {nD : Nat} {τ : Topo} {sig : RefSig} {Λ : Labels}

local notation "𝕄" => MT nD τ sig Unit (Elt Ideal) ℕ (UR sig nD τ) ℕ
local notation "𝕊" => Memref sig Kind.tc CoreSpace.vmem S2x1024x1024 EltTy.f32
local notation "ℙ'" => Memref sig Kind.tc CoreSpace.vmem S1024x1024 EltTy.bf16
local notation "𝕏" => Memref sig Kind.tc CoreSpace.vmem S1024x128 EltTy.f32

variable {defs : Defs nD τ sig (Elt Ideal) Λ} {c : Dev nD}

theorem cast_apply (X : S1x64x128.Idx → EReal) (a : Fin 64) (b : Fin 128) :
    shapeCast S64x128 X shapeCasts_S1x64x128_S64x128 (ix2 a b) = X (ix3 0 a b) := by
  pointwise

theorem wp_ldS (sl r j : Nat) (hs : sl < 2) (hr : r < 16) (hj : j < 8) (s : 𝕊) (S : S2x1024x1024.Idx → EReal) (Q : FVec Ideal S64x128 .f32 → sProp 𝕄) :
    ownsTc c s fullShare S ⊢ iprop((ownsTc c s fullShare S -∗ Q (rdS S sl r j hs hr hj)) -∗ WP defs c (ldS (F := Ideal) sl r j hs hr hj s) Q) := by
  unfold ldS
  rw [WP_bind]
  iintro H K
  iapply (wp_ld (c := c) (defs := defs) S _) $$ H
  iintro H
  iapply (WP_pure (defs := defs) (c := c) _ Q)
  have e : shapeCast S64x128 (fun j' : (Rect.unit (s := S2x1024x1024) ![sl, 64 * r, 128 * j] S1x64x128.size (inbS sl r j hs hr hj)).shape.Idx => S ((Rect.unit (s := S2x1024x1024) ![sl, 64 * r, 128 * j] S1x64x128.size (inbS sl r j hs hr hj)).emb j')) shapeCasts_S1x64x128_S64x128
      = rdS S sl r j hs hr hj := by
    funext i
    obtain ⟨a, b, rfl⟩ : ∃ (a : Fin 64) (b : Fin 128), i = ix2 a b := ⟨i 0, i 1, eq_ix2 i⟩
    refine (cast_apply _ a b).trans (congrArg S (funext fun x => Fin.ext ?_))
    match x with
    | ⟨0, _⟩ => show sl + 1 * 0 = sl; omega
    | ⟨1, _⟩ => show 64 * r + 1 * a.val = 64 * r + a.val; omega
    | ⟨2, _⟩ => show 128 * j + 1 * b.val = 128 * j + b.val; omega
  rw [e]
  iapply K
  iexact H

theorem wp_ldM (r : Nat) (hr : r < 16) (m : 𝕏) (X : S1024x128.Idx → EReal) (Q : FVec Ideal S64x128 .f32 → sProp 𝕄) :
    ownsTc c m fullShare X ⊢ iprop((ownsTc c m fullShare X -∗ Q (rdM X r hr)) -∗ WP defs c (ldM (F := Ideal) r hr m) Q) := by
  unfold ldM
  iintro H K
  iapply (wp_ld (c := c) (defs := defs) X _) $$ H
  have e : (fun j' => X ((Rect.unit (s := S1024x128) ![64 * r, 0] S64x128.size (inbM r hr)).emb j')) = rdM X r hr := by
    funext i
    refine congrArg X (funext fun a => Fin.ext ?_)
    match a with
    | ⟨0, _⟩ => show 64 * r + 1 * (i 0).val = 64 * r + (i 0).val; omega
    | ⟨1, _⟩ => show 0 + 1 * (i 1).val = (i 1).val; omega
  rw [e]
  iexact K

theorem wp_stM (r : Nat) (hr : r < 16) (m : 𝕏) (x : FVec Ideal S64x128 .f32) (new old : S1024x128.Idx → EReal)
    (hx : ∀ (a : Fin 64) (b : Fin 128), x (ix2 a b) = new (ix2 ⟨64 * r + a.val, by omega⟩ b)) (Q : PUnit → sProp 𝕄) :
    ownsTc c m fullShare (mixM r new old) ⊢ iprop((ownsTc c m fullShare (mixM (r + 1) new old) -∗ Q ⟨⟩) -∗ WP defs c (stM r hr m x) Q) := by
  unfold stM
  rw [WP_bind]
  iintro H K
  iapply (wp_ld (c := c) (defs := defs) (mixM r new old) _) $$ H
  iintro H
  iapply (wp_st (c := c) (defs := defs) (mixM r new old) _) $$ H
  rw [mixM_step r hr new old x hx]
  iexact K

theorem wp_stP (W r k : Nat) (hr : r < 16) (hk : k < 8) (hW : 128 * (k + 1) ≤ W) (m : ℙ') (hm : m.IsWhole) (x : FVec Ideal S64x128 .f32) (new old : S1024x1024.Idx → EReal)
    (hx : ∀ (a : Fin 64) (b : Fin 128), x (ix2 a b) = new (ix2 ⟨64 * r + a.val, by omega⟩ ⟨128 * k + b.val, by omega⟩)) (Q : PUnit → sProp 𝕄) :
    ownsTc c m fullShare (mixP W r k new old) ⊢ iprop((ownsTc c m fullShare (mixP W r (k + 1) new old) -∗ Q ⟨⟩) -∗ WP defs c (stP r k hr hk m hm x) Q) := by
  unfold stP
  rw [WP_bind]
  iintro H K
  iapply (wp_ld (c := c) (defs := defs) (mixP W r k new old) _) $$ H
  iintro H
  iapply (wp_st (c := c) (defs := defs) (mixP W r k new old) _) $$ H
  rw [mixP_step W r k hr hk hW new old x hx]
  iexact K

theorem wp_rescale (r : Nat) (hr : r < 16) (T : Fin 1024 → EReal) (M L A : S1024x128.Idx → EReal) (m' : FVec Ideal S64x128 .f32)
    (hm : ∀ (a : Fin 64) (b : Fin 128), m' (ix2 a b) = nM T M (ix2 ⟨64 * r + a.val, by omega⟩ b)) (mx lx ax : 𝕏) (Q : PUnit → sProp 𝕄) :
    iprop(ownsTc c mx fullShare (mixM r (nM T M) M) ∗ ownsTc c lx fullShare (mixM r (nX T M L) L) ∗ ownsTc c ax fullShare (mixM r (nX T M A) A)) ⊢
      iprop((iprop(ownsTc c mx fullShare (mixM (r + 1) (nM T M) M) ∗ ownsTc c lx fullShare (mixM (r + 1) (nX T M L) L) ∗ ownsTc c ax fullShare (mixM (r + 1) (nX T M A) A)) -∗ Q ⟨⟩)
        -∗ WP defs c (rescale r hr m' (rdM M r hr) mx lx ax) Q) := by
  have hX : ∀ (X : S1024x128.Idx → EReal) (a : Fin 64) (b : Fin 128),
      (mulf (exp2 (subf (rdM M r hr) m')) (rdM X r hr)) (ix2 a b) = nX T M X (ix2 ⟨64 * r + a.val, by omega⟩ b) := by
    intro X a b
    show Ideal.exp2 (rdM M r hr (ix2 a b) - m' (ix2 a b)) * rdM X r hr (ix2 a b) = _
    rw [hm a b]
    rfl
  unfold rescale
  rw [WP_bind]
  iintro ⟨HM, HL, HA⟩ K
  iapply (wp_ldM (c := c) (defs := defs) r hr lx _ _) $$ HL
  iintro HL
  rw [WP_bind, rdM_mix]
  iapply (wp_stM (c := c) (defs := defs) r hr lx _ _ _ (hX L) _) $$ HL
  iintro HL
  rw [WP_bind]
  iapply (wp_stM (c := c) (defs := defs) r hr mx _ _ _ hm _) $$ HM
  iintro HM
  rw [WP_bind]
  iapply (wp_ldM (c := c) (defs := defs) r hr ax _ _) $$ HA
  iintro HA
  rw [rdM_mix]
  iapply (wp_stM (c := c) (defs := defs) r hr ax _ _ _ (hX A) _) $$ HA
  iintro HA
  iapply K
  isplitl [HM]; · iexact HM
  isplitl [HL]; · iexact HL
  iexact HA

/-- Column `l` of the `j`-th group of a row's scores. -/
def col (S : S2x1024x1024.Idx → EReal) (sl : Nat) (hs : sl < 2) (i : Fin 1024) (j : Nat) (hj : j < 8) (l : Fin 128) : EReal :=
  S (ix3 ⟨sl, hs⟩ i ⟨128 * j + l.val, by omega⟩)

/-- The largest of a row's 1024 scores, as a block takes it. -/
def top (S : S2x1024x1024.Idx → EReal) (sl : Nat) (hs : sl < 2) (i : Fin 1024) : EReal :=
  Finset.univ.fold max ⊥ fun l : Fin 128 => max (max (max (max (max (max (max (col S sl hs i 0 (by decide) l) (col S sl hs i 1 (by decide) l))
    (col S sl hs i 2 (by decide) l)) (col S sl hs i 3 (by decide) l)) (col S sl hs i 4 (by decide) l)) (col S sl hs i 5 (by decide) l)) (col S sl hs i 6 (by decide) l)) (col S sl hs i 7 (by decide) l)

/-- The largest of a row's first 256 scores. -/
def topC (S : S2x1024x1024.Idx → EReal) (i : Fin 1024) : EReal :=
  Finset.univ.fold max ⊥ fun l : Fin 128 => max (col S 0 (by decide) i 0 (by decide) l) (col S 0 (by decide) i 1 (by decide) l)

/-- What the buffers hold when the first `r` blocks of rows have been done. -/
def half (W r : Nat) (S : S2x1024x1024.Idx → EReal) (sl : Nat) (hs : sl < 2) (T : Fin 1024 → EReal) (P : S1024x1024.Idx → EReal) (M L A : S1024x128.Idx → EReal)
    (c : Dev nD) (s : 𝕊) (p : ℙ') (mx lx ax : 𝕏) : sProp 𝕄 :=
  iprop(ownsTc c s fullShare S ∗ ownsTc c p fullShare (mixP W r 0 (nP S sl hs T M) P) ∗ ownsTc c mx fullShare (mixM r (nM T M) M)
    ∗ ownsTc c lx fullShare (mixM r (nX T M L) L) ∗ ownsTc c ax fullShare (mixM r (nX T M A) A))

theorem weight_apply (sl r k : Nat) (hs : sl < 2) (hr : r < 16) (hk : k < 8) (S : S2x1024x1024.Idx → EReal) (T : Fin 1024 → EReal) (M : S1024x128.Idx → EReal) (m' : FVec Ideal S64x128 .f32)
    (hm : ∀ (a : Fin 64) (b : Fin 128), m' (ix2 a b) = nM T M (ix2 ⟨64 * r + a.val, by omega⟩ b)) (a : Fin 64) (b : Fin 128) :
    (exp2 (subf (rdS S sl r k hs hr hk) m')) (ix2 a b) = nP S sl hs T M (ix2 ⟨64 * r + a.val, by omega⟩ ⟨128 * k + b.val, by omega⟩) := by
  show Ideal.exp2 (rdS S sl r k hs hr hk (ix2 a b) - m' (ix2 a b)) = _
  rw [hm a b]
  have e : (⟨(128 * k + b.val) % 128, Nat.mod_lt _ (by decide)⟩ : Fin 128) = b := Fin.ext (by show (128 * k + b.val) % 128 = b.val; omega)
  show _ = Ideal.exp2 (_ - nM T M (ix2 _ (⟨(128 * k + b.val) % 128, Nat.mod_lt _ (by decide)⟩ : Fin 128)))
  rw [e]
  rfl

theorem wp_block (sl r : Nat) (hs : sl < 2) (hr : r < 16) (S : S2x1024x1024.Idx → EReal) (P : S1024x1024.Idx → EReal) (M L A : S1024x128.Idx → EReal)
    (s : 𝕊) (p : ℙ') (hp : p.IsWhole) (mx lx ax : 𝕏) (Q : PUnit → sProp 𝕄) :
    half 1024 r S sl hs (top S sl hs) P M L A c s p mx lx ax ⊢
      iprop((half 1024 (r + 1) S sl hs (top S sl hs) P M L A c s p mx lx ax -∗ Q ⟨⟩) -∗ WP defs c (block sl r hs hr s p hp mx lx ax) Q) := by
  unfold half block
  iintro ⟨HS, HP, HM, HL, HA⟩ K
  rw [WP_bind]; iapply (wp_ldS (c := c) (defs := defs) sl r 0 hs hr _ s S _) $$ HS; iintro HS
  rw [WP_bind]; iapply (wp_ldS (c := c) (defs := defs) sl r 1 hs hr _ s S _) $$ HS; iintro HS
  rw [WP_bind]; iapply (wp_ldS (c := c) (defs := defs) sl r 2 hs hr _ s S _) $$ HS; iintro HS
  rw [WP_bind]; iapply (wp_ldS (c := c) (defs := defs) sl r 3 hs hr _ s S _) $$ HS; iintro HS
  rw [WP_bind]; iapply (wp_ldS (c := c) (defs := defs) sl r 4 hs hr _ s S _) $$ HS; iintro HS
  rw [WP_bind]; iapply (wp_ldS (c := c) (defs := defs) sl r 5 hs hr _ s S _) $$ HS; iintro HS
  rw [WP_bind]; iapply (wp_ldS (c := c) (defs := defs) sl r 6 hs hr _ s S _) $$ HS; iintro HS
  rw [WP_bind]; iapply (wp_ldS (c := c) (defs := defs) sl r 7 hs hr _ s S _) $$ HS; iintro HS
  rw [WP_bind]; iapply (wp_ldM (c := c) (defs := defs) r hr mx _ _) $$ HM; iintro HM
  rw [rdM_mix]
  have hm : ∀ (a : Fin 64) (b : Fin 128), newMax (maximumf (maximumf (maximumf (maximumf (maximumf (maximumf (maximumf (rdS S sl r 0 hs hr (by decide)) (rdS S sl r 1 hs hr (by decide)))
      (rdS S sl r 2 hs hr (by decide))) (rdS S sl r 3 hs hr (by decide))) (rdS S sl r 4 hs hr (by decide))) (rdS S sl r 5 hs hr (by decide))) (rdS S sl r 6 hs hr (by decide))) (rdS S sl r 7 hs hr (by decide)))
      (rdM M r hr) (ix2 a b) = nM (top S sl hs) M (ix2 ⟨64 * r + a.val, by omega⟩ b) := fun a b => newMax_apply _ _ a b
  generalize newMax (maximumf (maximumf (maximumf (maximumf (maximumf (maximumf (maximumf (rdS S sl r 0 hs hr (by decide)) (rdS S sl r 1 hs hr (by decide)))
      (rdS S sl r 2 hs hr (by decide))) (rdS S sl r 3 hs hr (by decide))) (rdS S sl r 4 hs hr (by decide))) (rdS S sl r 5 hs hr (by decide))) (rdS S sl r 6 hs hr (by decide))) (rdS S sl r 7 hs hr (by decide)))
      (rdM M r hr) = m' at hm ⊢
  rw [WP_bind]
  iapply (wp_rescale (c := c) (defs := defs) r hr (top S sl hs) M L A m' hm mx lx ax _) $$ [HM HL HA]
  · isplitl [HM]; · iexact HM
    isplitl [HL]; · iexact HL
    iexact HA
  iintro ⟨HM, HL, HA⟩
  rw [WP_bind]; iapply (wp_stP (c := c) (defs := defs) 1024 r 0 hr _ (by decide) p hp _ _ P (weight_apply sl r 0 hs hr _ S (top S sl hs) M m' hm) _) $$ HP; iintro HP
  rw [WP_bind]; iapply (wp_stP (c := c) (defs := defs) 1024 r 1 hr _ (by decide) p hp _ _ P (weight_apply sl r 1 hs hr _ S (top S sl hs) M m' hm) _) $$ HP; iintro HP
  rw [WP_bind]; iapply (wp_stP (c := c) (defs := defs) 1024 r 2 hr _ (by decide) p hp _ _ P (weight_apply sl r 2 hs hr _ S (top S sl hs) M m' hm) _) $$ HP; iintro HP
  rw [WP_bind]; iapply (wp_stP (c := c) (defs := defs) 1024 r 3 hr _ (by decide) p hp _ _ P (weight_apply sl r 3 hs hr _ S (top S sl hs) M m' hm) _) $$ HP; iintro HP
  rw [WP_bind]; iapply (wp_stP (c := c) (defs := defs) 1024 r 4 hr _ (by decide) p hp _ _ P (weight_apply sl r 4 hs hr _ S (top S sl hs) M m' hm) _) $$ HP; iintro HP
  rw [WP_bind]; iapply (wp_stP (c := c) (defs := defs) 1024 r 5 hr _ (by decide) p hp _ _ P (weight_apply sl r 5 hs hr _ S (top S sl hs) M m' hm) _) $$ HP; iintro HP
  rw [WP_bind]; iapply (wp_stP (c := c) (defs := defs) 1024 r 6 hr _ (by decide) p hp _ _ P (weight_apply sl r 6 hs hr _ S (top S sl hs) M m' hm) _) $$ HP; iintro HP
  iapply (wp_stP (c := c) (defs := defs) 1024 r 7 hr _ (by decide) p hp _ _ P (weight_apply sl r 7 hs hr _ S (top S sl hs) M m' hm) _) $$ HP; iintro HP
  rw [mixP_row 1024 r 8 (by decide)]
  iapply K
  isplitl [HS]; · iexact HS
  isplitl [HP]; · iexact HP
  isplitl [HM]; · iexact HM
  isplitl [HL]; · iexact HL
  iexact HA

theorem wp_blockC (r : Nat) (hr : r < 16) (S : S2x1024x1024.Idx → EReal) (P : S1024x1024.Idx → EReal) (M L A : S1024x128.Idx → EReal)
    (s : 𝕊) (p : ℙ') (hp : p.IsWhole) (mx lx ax : 𝕏) (Q : PUnit → sProp 𝕄) :
    half 256 r S 0 (by decide) (topC S) P M L A c s p mx lx ax ⊢
      iprop((half 256 (r + 1) S 0 (by decide) (topC S) P M L A c s p mx lx ax -∗ Q ⟨⟩) -∗ WP defs c (blockC r hr s p hp mx lx ax) Q) := by
  unfold half blockC
  iintro ⟨HS, HP, HM, HL, HA⟩ K
  rw [WP_bind]; iapply (wp_ldS (c := c) (defs := defs) 0 r 0 _ hr _ s S _) $$ HS; iintro HS
  rw [WP_bind]; iapply (wp_ldS (c := c) (defs := defs) 0 r 1 _ hr _ s S _) $$ HS; iintro HS
  rw [WP_bind]; iapply (wp_ldM (c := c) (defs := defs) r hr mx _ _) $$ HM; iintro HM
  rw [rdM_mix]
  have hm : ∀ (a : Fin 64) (b : Fin 128), newMax (maximumf (rdS S 0 r 0 (by decide) hr (by decide)) (rdS S 0 r 1 (by decide) hr (by decide)))
      (rdM M r hr) (ix2 a b) = nM (topC S) M (ix2 ⟨64 * r + a.val, by omega⟩ b) := fun a b => newMax_apply _ _ a b
  generalize newMax (maximumf (rdS S 0 r 0 (by decide) hr (by decide)) (rdS S 0 r 1 (by decide) hr (by decide))) (rdM M r hr) = m' at hm ⊢
  rw [WP_bind]
  iapply (wp_rescale (c := c) (defs := defs) r hr (topC S) M L A m' hm mx lx ax _) $$ [HM HL HA]
  · isplitl [HM]; · iexact HM
    isplitl [HL]; · iexact HL
    iexact HA
  iintro ⟨HM, HL, HA⟩
  rw [WP_bind]; iapply (wp_stP (c := c) (defs := defs) 256 r 0 hr _ (by decide) p hp _ _ P (weight_apply 0 r 0 _ hr _ S (topC S) M m' hm) _) $$ HP; iintro HP
  iapply (wp_stP (c := c) (defs := defs) 256 r 1 hr _ (by decide) p hp _ _ P (weight_apply 0 r 1 _ hr _ S (topC S) M m' hm) _) $$ HP; iintro HP
  rw [mixP_row 256 r 2 (by decide)]
  iapply K
  isplitl [HS]; · iexact HS
  isplitl [HP]; · iexact HP
  isplitl [HM]; · iexact HM
  isplitl [HL]; · iexact HL
  iexact HA

end Cert.LatentIdeal.Attn

end
-- ==== Proof.Latent.Chunk.lean ====
/-
What a chunk of keys does to the buffers, and the steps before and after the chunks.
-/
module

public import proofs.«01_k».proof.Proof.Latent.Block

@[expose] public section

set_option maxRecDepth 16384

noncomputable section

namespace Cert.LatentIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Attn (WP WP_bind WP_pure wp_ld wp_st overlay_unit_mem overlay_unit_not_mem overlay_whole whole_store emb_whole zero2 zero3 ofBits_bot)
open Facts₀

/-! ## Whole arrays read and written -/

/-! ## Entries -/

theorem pv_apply (P : FVec Ideal S1024x1024 .bf16) (v : FVec Ideal S1024x128 .bf16) (a : Fin 1024) (b : Fin 128) :
    (extractStridedSlice S1024x128 ![0, 0] (matmul dot_S1024x1024_S1024x256_S1024x256_1_0_0_1_n_n none P
      (concatenate S1024x256 1 [⟨S1024x128, v⟩, ⟨S1024x128, broadcast S1024x128 (Scalar.ofBits .bf16 0x3F80#16 : Ideal .bf16)⟩] concatenates_S1024x128_S1024x128_S1024x256_d1)
      (constant S1024x256 .f32 0x00000000#32)) slices_S1024x256_o0_0_S1024x128 : FVec Ideal S1024x128 .f32) (ix2 a b) = ∑ x, P (ix2 a x) * v (ix2 x b) := by
  pointwise

theorem p1_apply (P : FVec Ideal S1024x1024 .bf16) (v : FVec Ideal S1024x128 .bf16) (a : Fin 1024) (b : Fin 128) :
    (extractStridedSlice S1024x128 ![0, 128] (matmul dot_S1024x1024_S1024x256_S1024x256_1_0_0_1_n_n none P
      (concatenate S1024x256 1 [⟨S1024x128, v⟩, ⟨S1024x128, broadcast S1024x128 (Scalar.ofBits .bf16 0x3F80#16 : Ideal .bf16)⟩] concatenates_S1024x128_S1024x128_S1024x256_d1)
      (constant S1024x256 .f32 0x00000000#32)) slices_S1024x256_o0_128_S1024x128 : FVec Ideal S1024x128 .f32) (ix2 a b) = ∑ x, P (ix2 a x) := by
  pointwise

theorem pvC_apply (P : FVec Ideal S1024x256 .bf16) (v : FVec Ideal S256x128 .bf16) (a : Fin 1024) (b : Fin 128) :
    (extractStridedSlice S1024x128 ![0, 0] (matmul dot_S1024x256_S256x256_S1024x256_1_0_0_1_n_n none P
      (concatenate S256x256 1 [⟨S256x128, v⟩, ⟨S256x128, broadcast S256x128 (Scalar.ofBits .bf16 0x3F80#16 : Ideal .bf16)⟩] concatenates_S256x128_S256x128_S256x256_d1)
      (constant S1024x256 .f32 0x00000000#32)) slices_S1024x256_o0_0_S1024x128 : FVec Ideal S1024x128 .f32) (ix2 a b) = ∑ x, P (ix2 a x) * v (ix2 x b) := by
  pointwise

theorem p1C_apply (P : FVec Ideal S1024x256 .bf16) (v : FVec Ideal S256x128 .bf16) (a : Fin 1024) (b : Fin 128) :
    (extractStridedSlice S1024x128 ![0, 128] (matmul dot_S1024x256_S256x256_S1024x256_1_0_0_1_n_n none P
      (concatenate S256x256 1 [⟨S256x128, v⟩, ⟨S256x128, broadcast S256x128 (Scalar.ofBits .bf16 0x3F80#16 : Ideal .bf16)⟩] concatenates_S256x128_S256x128_S256x256_d1)
      (constant S1024x256 .f32 0x00000000#32)) slices_S1024x256_o0_128_S1024x128 : FVec Ideal S1024x128 .f32) (ix2 a b) = ∑ x, P (ix2 a x) := by
  pointwise

theorem qk_apply (q : FVec Ideal S1024x256 .bf16) (k : S1x1024x256.Idx → EReal) (a : Fin 1024) (b : Fin 1024) :
    (shapeCast S1x1024x1024 (matmul dot_S1024x256_S1024x256_S1024x1024_1_1_0_0_n_n none q (shapeCast S1024x256 (k : Vec Ideal S1x1024x256 .bf16) shapeCasts_S1x1024x256_S1024x256 : FVec Ideal S1024x256 .bf16)
      (constant S1024x1024 .f32 0x00000000#32)) shapeCasts_S1024x1024_S1x1024x1024 : Vec Ideal S1x1024x1024 .f32) (ix3 0 a b) = ∑ x, q (ix2 a x) * k (ix3 0 b x) := by
  pointwise

theorem qkC_apply (q : FVec Ideal S1024x256 .bf16) (k : S1x256x256.Idx → EReal) (a : Fin 1024) (b : Fin 256) :
    (shapeCast S1x1024x256 (matmul dot_S1024x256_S256x256_S1024x256_1_1_0_0_n_n none q (shapeCast S256x256 (k : Vec Ideal S1x256x256 .bf16) shapeCasts_S1x256x256_S256x256 : FVec Ideal S256x256 .bf16)
      (constant S1024x256 .f32 0x00000000#32)) shapeCasts_S1024x256_S1x1024x256 : Vec Ideal S1x1024x256 .f32) (ix3 0 a b) = ∑ x, q (ix2 a x) * k (ix3 0 b x) := by
  pointwise

/-! ## Triples -/

variable {nD : Nat} {τ : Topo} {sig : RefSig} {Λ : Labels}

local notation "𝕄" => MT nD τ sig Unit (Elt Ideal) ℕ (UR sig nD τ) ℕ
local notation "ℙ" => Prog (TpuEff nD τ sig (Elt Ideal) Λ Proc.tc)
local notation "𝕊" => Memref sig Kind.tc CoreSpace.vmem S2x1024x1024 EltTy.f32
local notation "ℚ'" => Memref sig Kind.tc CoreSpace.vmem S1024x256 EltTy.bf16
local notation "ℙ'" => Memref sig Kind.tc CoreSpace.vmem S1024x1024 EltTy.bf16
local notation "𝕏" => Memref sig Kind.tc CoreSpace.vmem S1024x128 EltTy.f32

variable {defs : Defs nD τ sig (Elt Ideal) Λ} {c : Dev nD}

theorem wp_rows (b : (r : Nat) → r < 16 → ℙ PUnit) (I : Nat → sProp 𝕄)
    (hb : ∀ (r : Nat) (hr : r < 16) (Q : PUnit → sProp 𝕄), I r ⊢ iprop((I (r + 1) -∗ Q ⟨⟩) -∗ WP defs c (b r hr) Q)) :
    ∀ (n r : Nat) (h : r + n ≤ 16) (Q : PUnit → sProp 𝕄), I r ⊢ iprop((I (r + n) -∗ Q ⟨⟩) -∗ WP defs c (rows b n r h) Q)
  | 0, r, h, Q => by
    unfold rows
    iintro H K
    iapply (WP_pure (defs := defs) (c := c) _ Q)
    iapply K
    iexact H
  | n + 1, r, h, Q => by
    unfold rows
    rw [WP_bind, show r + (n + 1) = r + 1 + n by omega]
    iintro H K
    iapply (hb r _ _) $$ H
    iintro H
    iapply (wp_rows b I hb n (r + 1) _ Q) $$ H
    iexact K

/-- A whole statistic with an array added. -/
def plus (X x : S1024x128.Idx → EReal) : S1024x128.Idx → EReal := fun i => X i + x i

theorem wp_addTo (m : 𝕏) (x : FVec Ideal S1024x128 .f32) (X : S1024x128.Idx → EReal) (Q : PUnit → sProp 𝕄) :
    ownsTc c m fullShare X ⊢ iprop((ownsTc c m fullShare (plus X x) -∗ Q ⟨⟩) -∗ WP defs c (addTo m x) Q) := by
  unfold addTo
  iintro H K
  rw [WP_bind]; iapply (wp_ld (c := c) (defs := defs) X _) $$ H; iintro H
  rw [WP_bind]; iapply (wp_ld (c := c) (defs := defs) X _) $$ H; iintro H
  iapply (wp_st (c := c) (defs := defs) X _) $$ H
  rw [whole_store (Y := plus X x) zero2 _ X _ ?_]
  · iexact K
  · intro i
    refine (congrFun (shapeCast_self _ _) i).trans ?_
    show X _ + x i = X i + x i
    rw [emb_whole (sh := S1024x128) zero2]

theorem wp_fill (m : 𝕏) (b : BitVec 32) (X : S1024x128.Idx → EReal) (Q : PUnit → sProp 𝕄) :
    ownsTc c m fullShare X ⊢ iprop((ownsTc c m fullShare (fun _ => Ideal.ofBits .f32 b) -∗ Q ⟨⟩) -∗ WP defs c (fill (F := Ideal) m b) Q) := by
  unfold fill
  iintro H K
  rw [WP_bind]; iapply (wp_ld (c := c) (defs := defs) X _) $$ H; iintro H
  iapply (wp_st (c := c) (defs := defs) X _) $$ H
  have e : (Rect.unit (s := S1024x128) ![0, 0] S1024x128.size inb_S1024x128_S1024x128_0_0).overlay X
      (shapeCast S1024x128 (broadcast S1024x128 (Scalar.ofBits .f32 b : Ideal .f32)) shapeCasts_S1024x128_S1024x128)
      = fun _ => Ideal.ofBits .f32 b := by
    refine (overlay_whole (sh := S1024x128) zero2 _ X _).trans ?_
    rw [shapeCast_self]
    rfl
  rw [e]
  iexact K

/-- The products of the queries with a chunk's keys, in their slot. -/
def slot (j sl : Nat) (hj : j < 4) (KL : S1x4096x256.Idx → EReal) (QS : S1024x256.Idx → EReal) (S : S2x1024x1024.Idx → EReal) : S2x1024x1024.Idx → EReal :=
  fun i => if (i 0).val = sl then ∑ d : Fin 256, QS (ix2 (i 1) d) * KL (ix3 0 ⟨1024 * j + (i 2).val, by have : (i 2).val < 1024 := (i 2).isLt; omega⟩ d) else S i

/-- The products of the queries with the context's keys, in the first slot's first columns. -/
def slotC (KC : S1x256x256.Idx → EReal) (QS : S1024x256.Idx → EReal) (S : S2x1024x1024.Idx → EReal) : S2x1024x1024.Idx → EReal :=
  fun i => if h : (i 0).val = 0 ∧ (i 2).val < 256 then ∑ d : Fin 256, QS (ix2 (i 1) d) * KC (ix3 0 ⟨(i 2).val, h.2⟩ d) else S i

theorem slot_store (j sl : Nat) (hj : j < 4) (hs : sl < 2) (KL : S1x4096x256.Idx → EReal) (QS : S1024x256.Idx → EReal) (S : S2x1024x1024.Idx → EReal) (w : S1x1024x1024.Idx → EReal)
    (hw : ∀ (a : Fin 1024) (b : Fin 1024), w (ix3 (0 : Fin 1) a b) = ∑ d : Fin 256, QS (ix2 a d) * KL (ix3 0 ⟨1024 * j + b.val, by omega⟩ d)) :
    (Rect.unit (s := S2x1024x1024) ![sl, 0, 0] S1x1024x1024.size (inbSlot sl hs)).overlay S w = slot j sl hj KL QS S := by
  funext i
  unfold slot
  have h1 : (i 1).val < 1024 := (i 1).isLt
  have h2 : (i 2).val < 1024 := (i 2).isLt
  by_cases h : (i 0).val = sl
  · rw [if_pos h]
    refine (overlay_unit_mem (sh := S2x1024x1024) (off := ![sl, 0, 0]) (size := S1x1024x1024.size) _ _ i (ix3 (0 : Fin 1) (⟨(i 1).val, h1⟩ : Fin 1024) (⟨(i 2).val, h2⟩ : Fin 1024)) ?_).trans (hw _ _)
    intro a
    match a with
    | ⟨0, _⟩ => exact h
    | ⟨1, _⟩ => exact (Nat.zero_add _).symm
    | ⟨2, _⟩ => exact (Nat.zero_add _).symm
  · rw [if_neg h]
    exact overlay_unit_not_mem (sh := S2x1024x1024) _ _ i 0 (by show (i 0).val < sl ∨ sl + 1 ≤ (i 0).val; omega)

theorem slotC_store (KC : S1x256x256.Idx → EReal) (QS : S1024x256.Idx → EReal) (S : S2x1024x1024.Idx → EReal) (w : S1x1024x256.Idx → EReal)
    (hw : ∀ (a : Fin 1024) (b : Fin 256), w (ix3 (0 : Fin 1) a b) = ∑ d : Fin 256, QS (ix2 a d) * KC (ix3 0 b d)) :
    (Rect.unit (s := S2x1024x1024) ![0, 0, 0] S1x1024x256.size inb_S2x1024x1024_S1x1024x256_0_0_0).overlay S w = slotC KC QS S := by
  funext i
  unfold slotC
  have h0 : (i 0).val < 2 := (i 0).isLt
  have h1 : (i 1).val < 1024 := (i 1).isLt
  by_cases h : (i 0).val = 0 ∧ (i 2).val < 256
  · rw [dif_pos h]
    refine (overlay_unit_mem (sh := S2x1024x1024) (off := ![0, 0, 0]) (size := S1x1024x256.size) _ _ i (ix3 (0 : Fin 1) (⟨(i 1).val, h1⟩ : Fin 1024) (⟨(i 2).val, h.2⟩ : Fin 256)) ?_).trans (hw _ _)
    intro a
    match a with
    | ⟨0, _⟩ => exact h.1
    | ⟨1, _⟩ => exact (Nat.zero_add _).symm
    | ⟨2, _⟩ => exact (Nat.zero_add _).symm
  · rw [dif_neg h]
    by_cases h2 : (i 0).val = 0
    · exact overlay_unit_not_mem (sh := S2x1024x1024) _ _ i 2 (by show (i 2).val < 0 ∨ 0 + 256 ≤ (i 2).val; omega)
    · exact overlay_unit_not_mem (sh := S2x1024x1024) _ _ i 0 (by show (i 0).val < 0 ∨ 0 + 1 ≤ (i 0).val; omega)

theorem wp_scores (j sl : Nat) (hj : j < 4) (hs : sl < 2) (kl : Memref sig Kind.tc CoreSpace.vmem S1x4096x256 EltTy.bf16) (q : ℚ') (s : 𝕊)
    (KL : S1x4096x256.Idx → EReal) (QS : S1024x256.Idx → EReal) (S : S2x1024x1024.Idx → EReal) (Q : PUnit → sProp 𝕄) :
    iprop(ownsTc c kl fullShare KL ∗ ownsTc c q fullShare QS ∗ ownsTc c s fullShare S) ⊢
      iprop((iprop(ownsTc c kl fullShare KL ∗ ownsTc c q fullShare QS ∗ ownsTc c s fullShare (slot j sl hj KL QS S)) -∗ Q ⟨⟩) -∗ WP defs c (scores (F := Ideal) j sl hj hs kl q s) Q) := by
  unfold scores
  iintro ⟨HK, HQ, HS⟩ K
  rw [WP_bind]; iapply (wp_ld (c := c) (defs := defs) KL _) $$ HK; iintro HK
  rw [WP_bind]; iapply (wp_ld (c := c) (defs := defs) QS _) $$ HQ; iintro HQ
  rw [WP_bind]; iapply (wp_ld (c := c) (defs := defs) S _) $$ HS; iintro HS
  iapply (wp_st (c := c) (defs := defs) S _) $$ HS
  rw [slot_store j sl hj hs KL QS S _ ?_]
  · iintro HS
    iapply K
    isplitl [HK]; · iexact HK
    isplitl [HQ]; · iexact HQ
    iexact HS
  · intro a b
    refine (qk_apply _ _ _ _).trans (Finset.sum_congr rfl fun d _ => ?_)
    refine congrArg₂ (· * ·) (congrArg QS (emb_whole (sh := S1024x256) zero2 _ _)) (congrArg KL (funext fun x => Fin.ext ?_))
    match x with
    | ⟨0, _⟩ => rfl
    | ⟨1, _⟩ => show 1024 * j + 1 * b.val = 1024 * j + b.val; omega
    | ⟨2, _⟩ => show 0 + 1 * d.val = d.val; omega

theorem wp_scoresC (kc : Memref sig Kind.tc CoreSpace.vmem S1x256x256 EltTy.bf16) (q : ℚ') (s : 𝕊)
    (KC : S1x256x256.Idx → EReal) (QS : S1024x256.Idx → EReal) (S : S2x1024x1024.Idx → EReal) (Q : PUnit → sProp 𝕄) :
    iprop(ownsTc c kc fullShare KC ∗ ownsTc c q fullShare QS ∗ ownsTc c s fullShare S) ⊢
      iprop((iprop(ownsTc c kc fullShare KC ∗ ownsTc c q fullShare QS ∗ ownsTc c s fullShare (slotC KC QS S)) -∗ Q ⟨⟩) -∗ WP defs c (scoresC (F := Ideal) kc q s) Q) := by
  unfold scoresC
  iintro ⟨HK, HQ, HS⟩ K
  rw [WP_bind]; iapply (wp_ld (c := c) (defs := defs) KC _) $$ HK; iintro HK
  rw [WP_bind]; iapply (wp_ld (c := c) (defs := defs) QS _) $$ HQ; iintro HQ
  rw [WP_bind]; iapply (wp_ld (c := c) (defs := defs) S _) $$ HS; iintro HS
  iapply (wp_st (c := c) (defs := defs) S _) $$ HS
  rw [slotC_store KC QS S _ ?_]
  · iintro HS
    iapply K
    isplitl [HK]; · iexact HK
    isplitl [HQ]; · iexact HQ
    iexact HS
  · intro a b
    refine (qkC_apply _ _ _ _).trans (Finset.sum_congr rfl fun d _ => ?_)
    exact congrArg₂ (· * ·) (congrArg QS (emb_whole (sh := S1024x256) zero2 _ _)) (congrArg KC (emb_whole (sh := S1x256x256) zero3 _ _))

/-- The values of a latent chunk. -/
def vals (j : Nat) (hj : j < 4) (VL : S1x4096x128.Idx → EReal) : FVec Ideal S1024x128 .bf16 :=
  fun i => VL (ix3 0 ⟨1024 * j + (i 0).val, by have : (i 0).val < 1024 := (i 0).isLt; omega⟩ (i 1))

theorem castV_apply (X : S1x1024x128.Idx → EReal) (a : Fin 1024) (b : Fin 128) :
    shapeCast S1024x128 X shapeCasts_S1x1024x128_S1024x128 (ix2 a b) = X (ix3 0 a b) := by
  pointwise

theorem wp_values (j : Nat) (hj : j < 4) (vl : Memref sig Kind.tc CoreSpace.vmem S1x4096x128 EltTy.bf16) (VL : S1x4096x128.Idx → EReal) (Q : FVec Ideal S1024x128 .bf16 → sProp 𝕄) :
    ownsTc c vl fullShare VL ⊢ iprop((ownsTc c vl fullShare VL -∗ Q (vals j hj VL)) -∗ WP defs c (values (F := Ideal) j hj vl) Q) := by
  unfold values
  rw [WP_bind]
  iintro H K
  iapply (wp_ld (c := c) (defs := defs) VL _) $$ H
  iintro H
  iapply (WP_pure (defs := defs) (c := c) _ Q)
  have e : shapeCast S1024x128 (fun j' : (Rect.unit (s := S1x4096x128) ![0, 1024 * j, 0] S1x1024x128.size (inbKV j hj)).shape.Idx => VL ((Rect.unit (s := S1x4096x128) ![0, 1024 * j, 0] S1x1024x128.size (inbKV j hj)).emb j')) shapeCasts_S1x1024x128_S1024x128
      = vals j hj VL := by
    funext i
    obtain ⟨a, b, rfl⟩ : ∃ (a : Fin 1024) (b : Fin 128), i = ix2 a b := ⟨i 0, i 1, eq_ix2 i⟩
    refine (castV_apply _ a b).trans (congrArg VL (funext fun x => Fin.ext ?_))
    match x with
    | ⟨0, _⟩ => rfl
    | ⟨1, _⟩ => show 1024 * j + 1 * a.val = 1024 * j + a.val; omega
    | ⟨2, _⟩ => show 0 + 1 * b.val = b.val; omega
  rw [e]
  iapply K
  iexact H

/-! ## A chunk -/

/-- A statistic after a chunk with the weights `P`: rescaled, then the weighted sum of the values added. -/
def nA {n : Nat} (T : Fin 1024 → EReal) (P : Fin 1024 → Fin n → EReal) (v : Fin n → Fin 128 → EReal) (M A : S1024x128.Idx → EReal) : S1024x128.Idx → EReal :=
  plus (nX T M A) fun i => ∑ x, P (i 0) x * v x (i 1)

/-- The running sum of the weights after a chunk. -/
def nL {n : Nat} (T : Fin 1024 → EReal) (P : Fin 1024 → Fin n → EReal) (M L : S1024x128.Idx → EReal) : S1024x128.Idx → EReal :=
  plus (nX T M L) fun i => ∑ x, P (i 0) x

theorem mixM_zero (new old : S1024x128.Idx → EReal) : mixM 0 new old = old := by
  funext i; exact if_neg (by omega)

theorem mixM_all (new old : S1024x128.Idx → EReal) : mixM 16 new old = new := by
  funext i
  have h : (i 0).val < 1024 := (i 0).isLt
  exact if_pos (by omega)

theorem mixP_zero (W : Nat) (new old : S1024x1024.Idx → EReal) : mixP W 0 0 new old = old := by
  funext i; exact if_neg (by omega)

theorem mixP_all (W : Nat) (new old : S1024x1024.Idx → EReal) (i : S1024x1024.Idx) (hi : (i 1).val < W) : mixP W 16 0 new old i = new i := by
  have h : (i 0).val < 1024 := (i 0).isLt
  exact if_pos (by omega)

theorem half_zero (W : Nat) (S : S2x1024x1024.Idx → EReal) (sl : Nat) (hs : sl < 2) (T : Fin 1024 → EReal) (P : S1024x1024.Idx → EReal) (M L A : S1024x128.Idx → EReal)
    (s : 𝕊) (p : ℙ') (mx lx ax : 𝕏) : half (τ := τ) W 0 S sl hs T P M L A c s p mx lx ax
      = (iprop(ownsTc c s fullShare S ∗ ownsTc c p fullShare P ∗ ownsTc c mx fullShare M ∗ ownsTc c lx fullShare L ∗ ownsTc c ax fullShare A) : sProp 𝕄) := by
  unfold half; rw [mixM_zero, mixM_zero, mixM_zero, mixP_zero]

theorem half_all (W : Nat) (S : S2x1024x1024.Idx → EReal) (sl : Nat) (hs : sl < 2) (T : Fin 1024 → EReal) (P : S1024x1024.Idx → EReal) (M L A : S1024x128.Idx → EReal)
    (s : 𝕊) (p : ℙ') (mx lx ax : 𝕏) : half (τ := τ) W (0 + 16) S sl hs T P M L A c s p mx lx ax
      = (iprop(ownsTc c s fullShare S ∗ ownsTc c p fullShare (mixP W 16 0 (nP S sl hs T M) P) ∗ ownsTc c mx fullShare (nM T M) ∗ ownsTc c lx fullShare (nX T M L) ∗ ownsTc c ax fullShare (nX T M A)) : sProp 𝕄) := by
  unfold half; rw [mixM_all, mixM_all, mixM_all]

/-- The buffers a chunk works on. -/
def bufs (S : S2x1024x1024.Idx → EReal) (M L A : S1024x128.Idx → EReal) (c : Dev nD) (s : 𝕊) (p : ℙ') (mx lx ax : 𝕏) : sProp 𝕄 :=
  iprop(ownsTc c s fullShare S ∗ (∃ P, ownsTc c p fullShare P) ∗ ownsTc c mx fullShare M ∗ ownsTc c lx fullShare L ∗ ownsTc c ax fullShare A)

/-- The weights of a chunk. -/
def wts (S : S2x1024x1024.Idx → EReal) (sl : Nat) (hs : sl < 2) (T : Fin 1024 → EReal) (M : S1024x128.Idx → EReal) (i : Fin 1024) (x : Fin 1024) : EReal :=
  nP S sl hs T M (ix2 i x)

theorem wts_read (W : Nat) (S : S2x1024x1024.Idx → EReal) (sl : Nat) (hs : sl < 2) (T : Fin 1024 → EReal) (P : S1024x1024.Idx → EReal) (M : S1024x128.Idx → EReal) (a : Fin 1024) (x : Fin 1024)
    (hx : x.val < W) (i : S1024x1024.Idx) (hi : i = ix2 a x) : mixP W 16 0 (nP S sl hs T M) P i = wts S sl hs T M a x := by
  rw [hi]
  exact mixP_all W _ _ _ hx

theorem plus_eq (X : S1024x128.Idx → EReal) (x y : S1024x128.Idx → EReal) (h : ∀ (a : Fin 1024) (b : Fin 128), x (ix2 a b) = y (ix2 a b)) : plus X x = plus X y := by
  have e : x = y := by
    funext i
    obtain ⟨a, b, rfl⟩ : ∃ (a : Fin 1024) (b : Fin 128), i = ix2 a b := ⟨i 0, i 1, eq_ix2 i⟩
    exact h a b
  rw [e]

theorem wp_chunk (sl : Nat) (hs : sl < 2) (v : FVec Ideal S1024x128 .bf16) (s : 𝕊) (p : ℙ') (hp : p.IsWhole) (mx lx ax : 𝕏)
    (S : S2x1024x1024.Idx → EReal) (M L A : S1024x128.Idx → EReal) (Q : PUnit → sProp 𝕄) :
    bufs S M L A c s p mx lx ax ⊢ iprop((bufs S (nM (top S sl hs) M) (nL (top S sl hs) (wts S sl hs (top S sl hs) M) M L)
        (nA (top S sl hs) (wts S sl hs (top S sl hs) M) (fun x y => v (ix2 x y)) M A) c s p mx lx ax -∗ Q ⟨⟩)
      -∗ WP defs c (chunk sl hs v s p hp mx lx ax) Q) := by
  unfold bufs chunk
  iintro ⟨HS, ⟨%P, HP⟩, HM, HL, HA⟩ K
  rw [WP_bind]
  iapply (wp_rows (c := c) (defs := defs) _ (fun r => half 1024 r S sl hs (top S sl hs) P M L A c s p mx lx ax)
    (fun r hr Q => wp_block sl r hs hr S P M L A s p hp mx lx ax Q) 16 0 _ _) $$ [HS HP HM HL HA]
  · rw [half_zero]
    isplitl [HS]; · iexact HS
    isplitl [HP]; · iexact HP
    isplitl [HM]; · iexact HM
    isplitl [HL]; · iexact HL
    iexact HA
  rw [half_all]
  iintro ⟨HS, HP, HM, HL, HA⟩
  rw [WP_bind]; iapply (wp_ld (c := c) (defs := defs) _ _) $$ HP; iintro HP
  unfold addPV
  rw [WP_bind]; iapply (wp_addTo (c := c) (defs := defs) ax _ _ _) $$ HA; iintro HA
  iapply (wp_addTo (c := c) (defs := defs) lx _ _ _) $$ HL; iintro HL
  rw [plus_eq (nX (top S sl hs) M A) _ (fun i => ∑ x, wts S sl hs (top S sl hs) M (i 0) x * v (ix2 x (i 1))) ?ha,
    plus_eq (nX (top S sl hs) M L) _ (fun i => ∑ x, wts S sl hs (top S sl hs) M (i 0) x) ?hl]
  · iapply K
    isplitl [HS]; · iexact HS
    isplitl [HP]; · iexists _; iexact HP
    isplitl [HM]; · iexact HM
    isplitl [HL]; · iexact HL
    iexact HA
  case ha =>
    intro a b
    refine (pv_apply _ _ a b).trans (Finset.sum_congr rfl fun x _ => congrArg (· * v (ix2 x b)) ?_)
    exact wts_read 1024 S sl hs _ P M a x x.isLt _ (emb_whole (sh := S1024x1024) zero2 _ _)
  case hl =>
    intro a b
    refine (p1_apply _ _ a b).trans (Finset.sum_congr rfl fun x _ => ?_)
    exact wts_read 1024 S sl hs _ P M a x x.isLt _ (emb_whole (sh := S1024x1024) zero2 _ _)

theorem first_cols (a : Fin 1024) (x : Fin 256) :
    (Rect.unit (s := S1024x1024) ![0, 0] S1024x256.size inb_S1024x1024_S1024x256_0_0).emb (ix2 a x) = ix2 a (⟨x.val, by omega⟩ : Fin 1024) := by
  funext d
  refine Fin.ext ?_
  match d with
  | ⟨0, _⟩ => show 0 + 1 * a.val = a.val; omega
  | ⟨1, _⟩ => show 0 + 1 * x.val = x.val; omega

/-- The weights of the context's chunk. -/
def wtsC (S : S2x1024x1024.Idx → EReal) (M : S1024x128.Idx → EReal) (i : Fin 1024) (x : Fin 256) : EReal :=
  wts S 0 (by decide) (topC S) M i ⟨x.val, by omega⟩

theorem castVC_apply (X : S1x256x128.Idx → EReal) (a : Fin 256) (b : Fin 128) :
    shapeCast S256x128 X shapeCasts_S1x256x128_S256x128 (ix2 a b) = X (ix3 0 a b) := by
  pointwise

theorem wp_chunkC (vc : Memref sig Kind.tc CoreSpace.vmem S1x256x128 EltTy.bf16) (s : 𝕊) (p : ℙ') (hp : p.IsWhole) (mx lx ax : 𝕏)
    (VC : S1x256x128.Idx → EReal) (S : S2x1024x1024.Idx → EReal) (M L A : S1024x128.Idx → EReal) (Q : PUnit → sProp 𝕄) :
    iprop(ownsTc c vc fullShare VC ∗ bufs S M L A c s p mx lx ax) ⊢ iprop((iprop(ownsTc c vc fullShare VC ∗ bufs S (nM (topC S) M) (nL (topC S) (wtsC S M) M L)
        (nA (topC S) (wtsC S M) (fun x y => VC (ix3 0 x y)) M A) c s p mx lx ax) -∗ Q ⟨⟩)
      -∗ WP defs c (chunkC vc s p hp mx lx ax) Q) := by
  unfold bufs chunkC
  iintro ⟨HV, HS, ⟨%P, HP⟩, HM, HL, HA⟩ K
  rw [WP_bind]; iapply (wp_ld (c := c) (defs := defs) VC _) $$ HV; iintro HV
  rw [WP_bind]
  iapply (wp_rows (c := c) (defs := defs) _ (fun r => half 256 r S 0 (by decide) (topC S) P M L A c s p mx lx ax)
    (fun r hr Q => wp_blockC r hr S P M L A s p hp mx lx ax Q) 16 0 _ _) $$ [HS HP HM HL HA]
  · rw [half_zero]
    isplitl [HS]; · iexact HS
    isplitl [HP]; · iexact HP
    isplitl [HM]; · iexact HM
    isplitl [HL]; · iexact HL
    iexact HA
  rw [half_all]
  iintro ⟨HS, HP, HM, HL, HA⟩
  rw [WP_bind]; iapply (wp_ld (c := c) (defs := defs) _ _) $$ HP; iintro HP
  unfold addPV
  rw [WP_bind]; iapply (wp_addTo (c := c) (defs := defs) ax _ _ _) $$ HA; iintro HA
  iapply (wp_addTo (c := c) (defs := defs) lx _ _ _) $$ HL; iintro HL
  rw [plus_eq (nX (topC S) M A) _ (fun i => ∑ x, wtsC S M (i 0) x * VC (ix3 0 x (i 1))) ?ha,
    plus_eq (nX (topC S) M L) _ (fun i => ∑ x, wtsC S M (i 0) x) ?hl]
  · iapply K
    isplitl [HV]; · iexact HV
    isplitl [HS]; · iexact HS
    isplitl [HP]; · iexists _; iexact HP
    isplitl [HM]; · iexact HM
    isplitl [HL]; · iexact HL
    iexact HA
  case ha =>
    intro a b
    refine (pvC_apply _ _ a b).trans (Finset.sum_congr rfl fun x _ => congrArg₂ (· * ·) ?_ ?_)
    · exact wts_read 256 S 0 _ _ P M a _ x.isLt _ (first_cols a x)
    · exact (castVC_apply _ x b).trans (congrArg VC (emb_whole (sh := S1x256x128) zero3 _ _))
  case hl =>
    intro a b
    refine (p1C_apply _ _ a b).trans (Finset.sum_congr rfl fun x _ => ?_)
    exact wts_read 256 S 0 _ _ P M a _ x.isLt _ (first_cols a x)

end Cert.LatentIdeal.Attn

end
-- ==== Proof.Latent.Ends.lean ====
/-
The steps before and after the chunks: the queries copied, the result.
-/
module

public import proofs.«01_k».proof.Proof.Latent.Chunk

@[expose] public section

set_option maxRecDepth 16384

noncomputable section

namespace Cert.LatentIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Attn (WP WP_bind WP_pure wp_ld wp_st overlay_unit_mem overlay_unit_not_mem overlay_whole whole_store emb_whole zero2 zero3 ofBits_bot)
open Facts₀

/-- The scale of the queries. -/
def scale : EReal := (Named.named κ "lscale" 0x3DD53B95#32 : Ideal .f32)

/-- The scaled queries. -/
def qs (Q : S1x1024x256.Idx → EReal) : S1024x256.Idx → EReal := fun i => Q (ix3 0 (i 0) (i 1)) * scale

/-- The result: the sums of weighted values times the reciprocals of the sums of weights. -/
def outOf (L A : S1024x128.Idx → EReal) : S1x1024x128.Idx → EReal :=
  fun i => A (ix2 (i 1) (i 2)) * Ideal.div 1 (L (ix2 (i 1) (i 2)))

theorem scaled_apply (x : S1x1024x256.Idx → EReal) (a : Fin 1024) (b : Fin 256) :
    shapeCast S1024x256 (truncf (F := Ideal) .bf16 (mulf (F := Ideal) (φ := .f32) (shapeCast S1024x256 x shapeCasts_S1x1024x256_S1024x256)
      (broadcast S1024x256 (Named.named κ "lscale" 0x3DD53B95#32 : Ideal .f32))) bitsLt_bf16_f32) shapeCasts_S1024x256_S1024x256 (ix2 a b) = x (ix3 0 a b) * scale := by
  pointwise [scale]

theorem ratio_apply (A L : FVec Ideal S1024x128 .f32) (a : Fin 1024) (b : Fin 128) :
    shapeCast S1x1024x128 (truncf (F := Ideal) (φ := .f32) .bf16 (mulf A (divf (broadcast S1024x128 (Scalar.ofBits .f32 0x3F800000#32 : Ideal .f32)) L))
      bitsLt_bf16_f32) shapeCasts_S1024x128_S1x1024x128 (ix3 (0 : Fin 1) a b) = A (ix2 a b) * Ideal.div 1 (L (ix2 a b)) := by
  pointwise

/-! ## Triples -/

variable {nD : Nat} {τ : Topo} {sig : RefSig} {Λ : Labels}

local notation "𝕄" => MT nD τ sig Unit (Elt Ideal) ℕ (UR sig nD τ) ℕ
local notation "ℚ'" => Memref sig Kind.tc CoreSpace.vmem S1024x256 EltTy.bf16
local notation "𝕏" => Memref sig Kind.tc CoreSpace.vmem S1024x128 EltTy.f32

variable {defs : Defs nD τ sig (Elt Ideal) Λ} {c : Dev nD}

theorem wp_copyQ (q : Memref sig Kind.tc CoreSpace.vmem S1x1024x256 EltTy.f32) (r : ℚ') (hr : r.IsWhole)
    (X : S1x1024x256.Idx → EReal) (R : S1024x256.Idx → EReal) (Q : PUnit → sProp 𝕄) :
    iprop(ownsTc c q fullShare X ∗ ownsTc c r fullShare R) ⊢
      iprop((iprop(ownsTc c q fullShare X ∗ ownsTc c r fullShare (qs X)) -∗ Q ⟨⟩) -∗ WP defs c (copyQ (F := Ideal) q r hr) Q) := by
  unfold copyQ
  iintro ⟨HQ, HR⟩ K
  rw [WP_bind]; iapply (wp_ld (c := c) (defs := defs) X _) $$ HQ; iintro HQ
  rw [WP_bind]; iapply (wp_ld (c := c) (defs := defs) R _) $$ HR; iintro HR
  iapply (wp_st (c := c) (defs := defs) R _) $$ HR
  rw [whole_store (sh := S1024x256) (Y := qs X) zero2 _ R _ ?_]
  · iintro HR
    iapply K
    isplitl [HQ]; · iexact HQ
    iexact HR
  · intro i
    obtain ⟨a, b, rfl⟩ : ∃ (a : Fin 1024) (b : Fin 256), i = ix2 a b := ⟨i 0, i 1, eq_ix2 i⟩
    exact (scaled_apply _ a b).trans (congrArg (· * scale) (congrArg X (emb_whole (sh := S1x1024x256) zero3 _ _)))

theorem wp_finish (o : Memref sig Kind.tc CoreSpace.vmem S1x1024x128 EltTy.bf16) (ho : o.IsWhole) (lx ax : 𝕏)
    (L A : S1024x128.Idx → EReal) (O : S1x1024x128.Idx → EReal) (Q : PUnit → sProp 𝕄) :
    iprop(ownsTc c o fullShare O ∗ ownsTc c lx fullShare L ∗ ownsTc c ax fullShare A) ⊢
      iprop((iprop(ownsTc c o fullShare (outOf L A) ∗ ownsTc c lx fullShare L ∗ ownsTc c ax fullShare A) -∗ Q ⟨⟩) -∗ WP defs c (finish (F := Ideal) o ho lx ax) Q) := by
  unfold finish
  iintro ⟨HO, HL, HA⟩ K
  rw [WP_bind]; iapply (wp_ld (c := c) (defs := defs) A _) $$ HA; iintro HA
  rw [WP_bind]; iapply (wp_ld (c := c) (defs := defs) L _) $$ HL; iintro HL
  rw [WP_bind]; iapply (wp_ld (c := c) (defs := defs) O _) $$ HO; iintro HO
  iapply (wp_st (c := c) (defs := defs) O _) $$ HO
  rw [whole_store (sh := S1x1024x128) (Y := outOf L A) zero3 _ O _ ?_]
  · iintro HO
    iapply K
    isplitl [HO]; · iexact HO
    isplitl [HL]; · iexact HL
    iexact HA
  · intro i
    obtain ⟨z, a, b, rfl⟩ : ∃ (z : Fin 1) (a : Fin 1024) (b : Fin 128), i = ix3 z a b := ⟨i 0, i 1, i 2, eq_ix3 i⟩
    obtain rfl : z = 0 := Subsingleton.elim _ _
    refine (ratio_apply _ _ a b).trans ?_
    exact congrArg (fun j : S1024x128.Idx => A j * Ideal.div 1 (L j)) (emb_whole (sh := S1024x128) zero2 _ _)

end Cert.LatentIdeal.Attn

end
-- ==== Proof.Latent.Body.lean ====
/-
The body's triple: from the blocks of the inputs to the result's block, each row's statistics the running
softmax's.
-/
module

public import proofs.«01_k».proof.Proof.Latent.Ends
public import proofs.«01_k».proof.Proof.Attn.Body

@[expose] public section

set_option maxRecDepth 16384

noncomputable section

namespace Cert.LatentIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Attn (WP WP_bind WP_pure wp_ld wp_st overlay_unit_mem overlay_unit_not_mem overlay_whole whole_store emb_whole zero2 zero3 ofBits_bot ofBits_zero St st0 stepRow Seen seen_empty soft)
open Facts₀

/-! ## The statistics of the rows -/

/-- The rows' maxima, on every lane. -/
def mA (st : Fin 1024 → St) : S1024x128.Idx → EReal := fun i => (st (i 0)).m

/-- The rows' sums of weights, on every lane. -/
def lA (st : Fin 1024 → St) : S1024x128.Idx → EReal := fun i => (st (i 0)).l

/-- The rows' sums of weighted values. -/
def aA (st : Fin 1024 → St) : S1024x128.Idx → EReal := fun i => (st (i 0)).a (i 1)

/-- A chunk taken in by every row. -/
def stepAll {n : Nat} (f : Fin 1024 → Fin n → EReal) (v : Fin n → Fin 128 → EReal) (st : Fin 1024 → St) : Fin 1024 → St :=
  fun i => stepRow (f i) v (st i)

theorem top_eq (S : S2x1024x1024.Idx → EReal) (sl : Nat) (hs : sl < 2) (i : Fin 1024) :
    top S sl hs i = Finset.univ.sup fun x : Fin 1024 => S (ix3 ⟨sl, hs⟩ i x) := by
  have hc : ∀ (j : Nat) (hj : j < 8) (l : Fin 128), col S sl hs i j hj l ≤ Finset.univ.sup fun x : Fin 1024 => S (ix3 ⟨sl, hs⟩ i x) :=
    fun j hj l => Finset.le_sup (f := fun x : Fin 1024 => S (ix3 ⟨sl, hs⟩ i x)) (Finset.mem_univ _)
  unfold top
  refine le_antisymm ((Finset.fold_max_le _).mpr ⟨bot_le, fun l _ => ?_⟩) (Finset.sup_le fun x _ => (Finset.le_fold_max _).mpr (.inr ⟨⟨x.val % 128, Nat.mod_lt _ (by decide)⟩, Finset.mem_univ _, ?_⟩))
  · exact max_le (max_le (max_le (max_le (max_le (max_le (max_le (hc _ _ l) (hc _ _ l)) (hc _ _ l)) (hc _ _ l)) (hc _ _ l)) (hc _ _ l)) (hc _ _ l)) (hc _ _ l)
  · have e : ∃ (j : Nat) (hj : j < 8), S (ix3 ⟨sl, hs⟩ i x) = col S sl hs i j hj ⟨x.val % 128, Nat.mod_lt _ (by decide)⟩ := by
      refine ⟨x.val / 128, by omega, congrArg S (congrArg (ix3 ⟨sl, hs⟩ i) (Fin.ext ?_))⟩
      show x.val = 128 * (x.val / 128) + x.val % 128
      omega
    obtain ⟨j, hj, e⟩ := e
    rw [e]
    interval_cases j <;> simp only [le_max_iff, le_refl, true_or, or_true]

theorem topC_eq (S : S2x1024x1024.Idx → EReal) (i : Fin 1024) :
    topC S i = Finset.univ.sup fun x : Fin 256 => S (ix3 0 i ⟨x.val, by omega⟩) := by
  have hc : ∀ (j : Nat) (hj : j < 2) (l : Fin 128), col S 0 (by decide) i j (by omega) l ≤ Finset.univ.sup fun x : Fin 256 => S (ix3 0 i ⟨x.val, by omega⟩) :=
    fun j hj l => Finset.le_sup (f := fun x : Fin 256 => S (ix3 0 i ⟨x.val, by omega⟩)) (Finset.mem_univ (⟨128 * j + l.val, by omega⟩ : Fin 256))
  unfold topC
  refine le_antisymm ((Finset.fold_max_le _).mpr ⟨bot_le, fun l _ => ?_⟩) (Finset.sup_le fun x _ => (Finset.le_fold_max _).mpr (.inr ⟨⟨x.val % 128, Nat.mod_lt _ (by decide)⟩, Finset.mem_univ _, ?_⟩))
  · exact max_le (hc _ (by decide) l) (hc _ (by decide) l)
  · have e : ∃ (j : Nat) (hj : j < 2), S (ix3 0 i ⟨x.val, by omega⟩) = col S 0 (by decide) i j (by omega) ⟨x.val % 128, Nat.mod_lt _ (by decide)⟩ := by
      refine ⟨x.val / 128, by omega, congrArg S (congrArg (ix3 0 i) (Fin.ext ?_))⟩
      show x.val = 128 * (x.val / 128) + x.val % 128
      omega
    obtain ⟨j, hj, e⟩ := e
    rw [e]
    interval_cases j <;> simp only [le_max_iff, le_refl, true_or, or_true]

section
variable {n : Nat} {f : Fin 1024 → Fin n → EReal} (v : Fin n → Fin 128 → EReal) (st : Fin 1024 → St) (T : Fin 1024 → EReal) (P : Fin 1024 → Fin n → EReal)

theorem nM_rows (hT : ∀ i, T i = Finset.univ.sup (f i)) : nM T (mA st) = mA (stepAll f v st) := by
  funext i
  exact congrArg (max _) (hT (i 0))

theorem nL_rows (hT : ∀ i, T i = Finset.univ.sup (f i)) (hP : ∀ i x, P i x = Ideal.exp2 (f i x - max (st i).m (Finset.univ.sup (f i)))) :
    nL T P (mA st) (lA st) = lA (stepAll f v st) := by
  funext i
  exact congrArg₂ (fun (t : EReal) (p : Fin n → EReal) => Ideal.exp2 ((st (i 0)).m - max (st (i 0)).m t) * (st (i 0)).l + ∑ x, p x) (hT (i 0)) (funext (hP (i 0)))

theorem nA_rows (hT : ∀ i, T i = Finset.univ.sup (f i)) (hP : ∀ i x, P i x = Ideal.exp2 (f i x - max (st i).m (Finset.univ.sup (f i)))) :
    nA T P v (mA st) (aA st) = aA (stepAll f v st) := by
  funext i
  exact congrArg₂ (fun (t : EReal) (p : Fin n → EReal) => Ideal.exp2 ((st (i 0)).m - max (st (i 0)).m t) * (st (i 0)).a (i 1) + ∑ x, p x * v x (i 1)) (hT (i 0)) (funext (hP (i 0)))

end

/-! ## The scores -/

/-- The scores of a latent chunk. -/
def sL (QS : S1024x256.Idx → EReal) (KL : S1x4096x256.Idx → EReal) (j : Nat) (hj : j < 4) (i : Fin 1024) (x : Fin 1024) : EReal :=
  ∑ d : Fin 256, QS (ix2 i d) * KL (ix3 0 ⟨1024 * j + x.val, by omega⟩ d)

/-- The scores of the context. -/
def sC (QS : S1024x256.Idx → EReal) (KC : S1x256x256.Idx → EReal) (i : Fin 1024) (x : Fin 256) : EReal :=
  ∑ d : Fin 256, QS (ix2 i d) * KC (ix3 0 x d)

/-- The rows' statistics when the five chunks have been taken in. -/
def fin (QS : S1024x256.Idx → EReal) (KC : S1x256x256.Idx → EReal) (VC : S1x256x128.Idx → EReal) (KL : S1x4096x256.Idx → EReal) (VL : S1x4096x128.Idx → EReal) : Fin 1024 → St :=
  stepAll (sC QS KC) (fun x d => VC (ix3 0 x d)) (stepAll (sL QS KL 3 (by decide)) (fun x d => vals 3 (by decide) VL (ix2 x d))
    (stepAll (sL QS KL 2 (by decide)) (fun x d => vals 2 (by decide) VL (ix2 x d)) (stepAll (sL QS KL 1 (by decide)) (fun x d => vals 1 (by decide) VL (ix2 x d))
      (stepAll (sL QS KL 0 (by decide)) (fun x d => vals 0 (by decide) VL (ix2 x d)) fun _ => st0))))

/-- The result's block. -/
def out (Q : S1x1024x256.Idx → EReal) (KC : S1x256x256.Idx → EReal) (VC : S1x256x128.Idx → EReal) (KL : S1x4096x256.Idx → EReal) (VL : S1x4096x128.Idx → EReal) : S1x1024x128.Idx → EReal :=
  outOf (lA (fin (qs Q) KC VC KL VL)) (aA (fin (qs Q) KC VC KL VL))

theorem slot_same (j sl : Nat) (hj : j < 4) (hs : sl < 2) (KL : S1x4096x256.Idx → EReal) (QS : S1024x256.Idx → EReal) (S : S2x1024x1024.Idx → EReal) (i : Fin 1024) (x : Fin 1024) :
    slot j sl hj KL QS S (ix3 ⟨sl, hs⟩ i x) = sL QS KL j hj i x := if_pos rfl

theorem slot_other (j sl sl' : Nat) (hj : j < 4) (hs : sl' < 2) (h : sl' ≠ sl) (KL : S1x4096x256.Idx → EReal) (QS : S1024x256.Idx → EReal) (S : S2x1024x1024.Idx → EReal) (i : Fin 1024) (x : Fin 1024) :
    slot j sl hj KL QS S (ix3 ⟨sl', hs⟩ i x) = S (ix3 ⟨sl', hs⟩ i x) := if_neg h

theorem slotC_same (KC : S1x256x256.Idx → EReal) (QS : S1024x256.Idx → EReal) (S : S2x1024x1024.Idx → EReal) (i : Fin 1024) (x : Fin 256) :
    slotC KC QS S (ix3 0 i ⟨x.val, by omega⟩) = sC QS KC i x := dif_pos ⟨rfl, x.isLt⟩

theorem slotC_other (KC : S1x256x256.Idx → EReal) (QS : S1024x256.Idx → EReal) (S : S2x1024x1024.Idx → EReal) (i : Fin 1024) (x : Fin 1024) :
    slotC KC QS S (ix3 1 i x) = S (ix3 1 i x) := dif_neg fun h => absurd h.1 (by show ¬ (1 : Nat) = 0; decide)

/-! ## Triples -/

variable {nD : Nat} {τ : Topo} {sig : RefSig} {Λ : Labels}

local notation "𝕄" => MT nD τ sig Unit (Elt Ideal) ℕ (UR sig nD τ) ℕ
local notation "𝕊" => Memref sig Kind.tc CoreSpace.vmem S2x1024x1024 EltTy.f32
local notation "ℚ'" => Memref sig Kind.tc CoreSpace.vmem S1024x256 EltTy.bf16
local notation "ℙ'" => Memref sig Kind.tc CoreSpace.vmem S1024x1024 EltTy.bf16
local notation "𝕏" => Memref sig Kind.tc CoreSpace.vmem S1024x128 EltTy.f32

variable {defs : Defs nD τ sig (Elt Ideal) Λ} {c : Dev nD}

theorem wp_chunkR (sl : Nat) (hs : sl < 2) (v : FVec Ideal S1024x128 .bf16) (s : 𝕊) (p : ℙ') (hp : p.IsWhole) (mx lx ax : 𝕏)
    (S : S2x1024x1024.Idx → EReal) (f : Fin 1024 → Fin 1024 → EReal) (hS : ∀ i x, S (ix3 ⟨sl, hs⟩ i x) = f i x) (st : Fin 1024 → St) (Q : PUnit → sProp 𝕄) :
    bufs S (mA st) (lA st) (aA st) c s p mx lx ax ⊢ iprop((bufs S (mA (stepAll f (fun x d => v (ix2 x d)) st)) (lA (stepAll f (fun x d => v (ix2 x d)) st))
        (aA (stepAll f (fun x d => v (ix2 x d)) st)) c s p mx lx ax -∗ Q ⟨⟩)
      -∗ WP defs c (chunk sl hs v s p hp mx lx ax) Q) := by
  have hT : ∀ i, top S sl hs i = Finset.univ.sup (f i) := fun i => (top_eq S sl hs i).trans (congrArg _ (funext (hS i)))
  have hP : ∀ i x, wts S sl hs (top S sl hs) (mA st) i x = Ideal.exp2 (f i x - max (st i).m (Finset.univ.sup (f i))) := fun i x => by
    show Ideal.exp2 (S (ix3 ⟨sl, hs⟩ i x) - max (st i).m (top S sl hs i)) = _
    rw [hS, hT]
  have h := wp_chunk (c := c) (defs := defs) sl hs v s p hp mx lx ax S (mA st) (lA st) (aA st) Q
  rw [nM_rows (f := f) (fun x d => v (ix2 x d)) st _ hT, nL_rows (f := f) (fun x d => v (ix2 x d)) st _ _ hT hP, nA_rows (f := f) (fun x d => v (ix2 x d)) st _ _ hT hP] at h
  exact h

theorem wp_chunkCR (vc : Memref sig Kind.tc CoreSpace.vmem S1x256x128 EltTy.bf16) (s : 𝕊) (p : ℙ') (hp : p.IsWhole) (mx lx ax : 𝕏)
    (VC : S1x256x128.Idx → EReal) (S : S2x1024x1024.Idx → EReal) (f : Fin 1024 → Fin 256 → EReal) (hS : ∀ i x, S (ix3 0 i ⟨x.val, by omega⟩) = f i x) (st : Fin 1024 → St) (Q : PUnit → sProp 𝕄) :
    iprop(ownsTc c vc fullShare VC ∗ bufs S (mA st) (lA st) (aA st) c s p mx lx ax) ⊢ iprop((iprop(ownsTc c vc fullShare VC ∗ bufs S (mA (stepAll f (fun x d => VC (ix3 0 x d)) st))
        (lA (stepAll f (fun x d => VC (ix3 0 x d)) st)) (aA (stepAll f (fun x d => VC (ix3 0 x d)) st)) c s p mx lx ax) -∗ Q ⟨⟩)
      -∗ WP defs c (chunkC vc s p hp mx lx ax) Q) := by
  have hT : ∀ i, topC S i = Finset.univ.sup (f i) := fun i => (topC_eq S i).trans (congrArg _ (funext (hS i)))
  have hP : ∀ i x, wtsC S (mA st) i x = Ideal.exp2 (f i x - max (st i).m (Finset.univ.sup (f i))) := fun i x => by
    show Ideal.exp2 (S (ix3 0 i ⟨x.val, _⟩) - max (st i).m (topC S i)) = _
    rw [hS, hT]
  have h := wp_chunkC (c := c) (defs := defs) vc s p hp mx lx ax VC S (mA st) (lA st) (aA st) Q
  rw [nM_rows (f := f) (fun x d => VC (ix3 0 x d)) st _ hT, nL_rows (f := f) (fun x d => VC (ix3 0 x d)) st _ _ hT hP, nA_rows (f := f) (fun x d => VC (ix3 0 x d)) st _ _ hT hP] at h
  exact h

theorem fill_bot : (fun _ => Ideal.ofBits .f32 0xFF800000#32 : S1024x128.Idx → EReal) = mA fun _ => st0 := funext fun _ => ofBits_bot

theorem fill_l : (fun _ => Ideal.ofBits .f32 0x00000000#32 : S1024x128.Idx → EReal) = lA fun _ => st0 := funext fun _ => ofBits_zero

theorem fill_a : (fun _ => Ideal.ofBits .f32 0x00000000#32 : S1024x128.Idx → EReal) = aA fun _ => st0 := funext fun _ => ofBits_zero

/-- The query scratch, the scores and the statistics, at some contents. -/
def scratch (c : Dev nD) (r : ℚ') (s : 𝕊) (p : ℙ') (mx lx ax : 𝕏) : sProp 𝕄 :=
  iprop((∃ X, ownsTc c r fullShare X) ∗ (∃ X, ownsTc c s fullShare X) ∗ (∃ X, ownsTc c p fullShare X)
    ∗ (∃ X, ownsTc c mx fullShare X) ∗ (∃ X, ownsTc c lx fullShare X) ∗ (∃ X, ownsTc c ax fullShare X))

/-- The blocks of the inputs. -/
def ins (c : Dev nD) (q : Memref sig Kind.tc CoreSpace.vmem S1x1024x256 EltTy.f32) (kc : Memref sig Kind.tc CoreSpace.vmem S1x256x256 EltTy.bf16)
    (vc : Memref sig Kind.tc CoreSpace.vmem S1x256x128 EltTy.bf16) (kl : Memref sig Kind.tc CoreSpace.vmem S1x4096x256 EltTy.bf16) (vl : Memref sig Kind.tc CoreSpace.vmem S1x4096x128 EltTy.bf16)
    (X : S1x1024x256.Idx → EReal) (KC : S1x256x256.Idx → EReal) (VC : S1x256x128.Idx → EReal) (KL : S1x4096x256.Idx → EReal) (VL : S1x4096x128.Idx → EReal) : sProp 𝕄 :=
  iprop(ownsTc c q fullShare X ∗ ownsTc c kc fullShare KC ∗ ownsTc c vc fullShare VC ∗ ownsTc c kl fullShare KL ∗ ownsTc c vl fullShare VL)

theorem wp_body (q : Memref sig Kind.tc CoreSpace.vmem S1x1024x256 EltTy.f32) (kc : Memref sig Kind.tc CoreSpace.vmem S1x256x256 EltTy.bf16)
    (vc : Memref sig Kind.tc CoreSpace.vmem S1x256x128 EltTy.bf16) (kl : Memref sig Kind.tc CoreSpace.vmem S1x4096x256 EltTy.bf16) (vl : Memref sig Kind.tc CoreSpace.vmem S1x4096x128 EltTy.bf16)
    (o : Memref sig Kind.tc CoreSpace.vmem S1x1024x128 EltTy.bf16) (ho : o.IsWhole)
    (r : ℚ') (hr : r.IsWhole) (s : 𝕊) (p : ℙ') (hp : p.IsWhole) (mx lx ax : 𝕏)
    (X : S1x1024x256.Idx → EReal) (KC : S1x256x256.Idx → EReal) (VC : S1x256x128.Idx → EReal) (KL : S1x4096x256.Idx → EReal) (VL : S1x4096x128.Idx → EReal)
    (O : S1x1024x128.Idx → EReal) (Q : PUnit → sProp 𝕄) :
    iprop(ins c q kc vc kl vl X KC VC KL VL ∗ ownsTc c o fullShare O ∗ scratch c r s p mx lx ax) ⊢
      iprop((iprop(ins c q kc vc kl vl X KC VC KL VL
          ∗ ownsTc c o fullShare (out X KC VC KL VL)
          ∗ scratch c r s p mx lx ax) -∗ Q ⟨⟩)
        -∗ WP defs c (body (F := Ideal) q kc vc kl vl o ho r hr s p hp mx lx ax) Q) := by
  unfold ins scratch body
  iintro ⟨⟨HQ, HKC, HVC, HKL, HVL⟩, HO, ⟨%R, HR⟩, ⟨%S, HS⟩, ⟨%P, HP⟩, ⟨%M, HM⟩, ⟨%L, HL⟩, ⟨%A, HA⟩⟩ K
  rw [WP_bind]; iapply (wp_copyQ (c := c) (defs := defs) q r hr X R _) $$ [HQ HR]
  · isplitl [HQ]; · iexact HQ
    iexact HR
  iintro ⟨HQ, HR⟩
  rw [WP_bind]; iapply (wp_fill (c := c) (defs := defs) mx _ M _) $$ HM
  rw [fill_bot]
  iintro HM
  rw [WP_bind]; iapply (wp_fill (c := c) (defs := defs) lx _ L _) $$ HL
  rw [fill_l]
  iintro HL
  rw [WP_bind]; iapply (wp_fill (c := c) (defs := defs) ax _ A _) $$ HA
  rw [fill_a]
  iintro HA
  rw [WP_bind]; iapply (wp_scores (c := c) (defs := defs) 0 0 _ _ kl r s KL (qs X) S _) $$ [HKL HR HS]
  · isplitl [HKL]; · iexact HKL
    isplitl [HR]; · iexact HR
    iexact HS
  iintro H
  rw [WP_bind]; iapply (wp_scores (c := c) (defs := defs) 1 1 _ _ kl r s KL (qs X) _ _) $$ H
  iintro ⟨HKL, HR, HS⟩
  rw [WP_bind]; iapply (wp_values (c := c) (defs := defs) 0 _ vl VL _) $$ HVL
  iintro HVL
  rw [WP_bind]; iapply (wp_chunkR (c := c) (defs := defs) 0 _ _ s p hp mx lx ax _ (sL (qs X) KL 0 (by decide))
    (fun i x => (slot_other 1 1 0 _ (by decide) (by decide) KL (qs X) _ i x).trans (slot_same 0 0 _ (by decide) KL (qs X) S i x)) (fun _ => st0) _) $$ [HS HP HM HL HA]
  · unfold bufs
    isplitl [HS]; · iexact HS
    isplitl [HP]; · iexists _; iexact HP
    isplitl [HM]; · iexact HM
    isplitl [HL]; · iexact HL
    iexact HA
  unfold bufs
  iintro ⟨HS, HB⟩
  rw [WP_bind]; iapply (wp_scores (c := c) (defs := defs) 2 0 _ _ kl r s KL (qs X) _ _) $$ [HKL HR HS]
  · isplitl [HKL]; · iexact HKL
    isplitl [HR]; · iexact HR
    iexact HS
  iintro ⟨HKL, HR, HS⟩
  rw [WP_bind]; iapply (wp_values (c := c) (defs := defs) 1 _ vl VL _) $$ HVL
  iintro HVL
  rw [WP_bind]; iapply (wp_chunkR (c := c) (defs := defs) 1 _ _ s p hp mx lx ax _ (sL (qs X) KL 1 (by decide))
    (fun i x => (slot_other 2 0 1 _ (by decide) (by decide) KL (qs X) _ i x).trans (slot_same 1 1 _ (by decide) KL (qs X) _ i x)) _ _) $$ [HS HB]
  · unfold bufs
    isplitl [HS]; · iexact HS
    iexact HB
  unfold bufs
  iintro ⟨HS, HB⟩
  rw [WP_bind]; iapply (wp_scores (c := c) (defs := defs) 3 1 _ _ kl r s KL (qs X) _ _) $$ [HKL HR HS]
  · isplitl [HKL]; · iexact HKL
    isplitl [HR]; · iexact HR
    iexact HS
  iintro ⟨HKL, HR, HS⟩
  rw [WP_bind]; iapply (wp_values (c := c) (defs := defs) 2 _ vl VL _) $$ HVL
  iintro HVL
  rw [WP_bind]; iapply (wp_chunkR (c := c) (defs := defs) 0 _ _ s p hp mx lx ax _ (sL (qs X) KL 2 (by decide))
    (fun i x => (slot_other 3 1 0 _ (by decide) (by decide) KL (qs X) _ i x).trans (slot_same 2 0 _ (by decide) KL (qs X) _ i x)) _ _) $$ [HS HB]
  · unfold bufs
    isplitl [HS]; · iexact HS
    iexact HB
  unfold bufs
  iintro ⟨HS, HB⟩
  rw [WP_bind]; iapply (wp_scoresC (c := c) (defs := defs) kc r s KC (qs X) _ _) $$ [HKC HR HS]
  · isplitl [HKC]; · iexact HKC
    isplitl [HR]; · iexact HR
    iexact HS
  iintro ⟨HKC, HR, HS⟩
  rw [WP_bind]; iapply (wp_values (c := c) (defs := defs) 3 _ vl VL _) $$ HVL
  iintro HVL
  rw [WP_bind]; iapply (wp_chunkR (c := c) (defs := defs) 1 _ _ s p hp mx lx ax _ (sL (qs X) KL 3 (by decide))
    (fun i x => (slotC_other KC (qs X) _ i x).trans (slot_same 3 1 _ (by decide) KL (qs X) _ i x)) _ _) $$ [HS HB]
  · unfold bufs
    isplitl [HS]; · iexact HS
    iexact HB
  unfold bufs
  iintro ⟨HS, HB⟩
  rw [WP_bind]; iapply (wp_chunkCR (c := c) (defs := defs) vc s p hp mx lx ax VC _ (sC (qs X) KC) (fun i x => slotC_same KC (qs X) _ i x) _ _) $$ [HVC HS HB]
  · unfold bufs
    isplitl [HVC]; · iexact HVC
    isplitl [HS]; · iexact HS
    iexact HB
  unfold bufs
  iintro ⟨HVC, HS, ⟨%P', HP⟩, HM, HL, HA⟩
  iapply (wp_finish (c := c) (defs := defs) o ho lx ax (lA (fin (qs X) KC VC KL VL)) (aA (fin (qs X) KC VC KL VL)) O _) $$ [HO HL HA]
  · isplitl [HO]; · iexact HO
    isplitl [HL]; · iexact HL
    iexact HA
  iintro ⟨HO, HL, HA⟩
  iapply K
  isplitl [HQ HKC HVC HKL HVL]
  · isplitl [HQ]; · iexact HQ
    isplitl [HKC]; · iexact HKC
    isplitl [HVC]; · iexact HVC
    isplitl [HKL]; · iexact HKL
    iexact HVL
  isplitl [HO]; · iexact HO
  isplitl [HR]; · iexists _; iexact HR
  isplitl [HS]; · iexists _; iexact HS
  isplitl [HP]; · iexists _; iexact HP
  isplitl [HM]; · iexists _; iexact HM
  isplitl [HL]; · iexists _; iexact HL
  iexists _; iexact HA

end Cert.LatentIdeal.Attn

end
-- ==== Proof.Latent.Run.lean ====
/-
The launch of the second attention kernel with the values its body leaves: the body's triple in place of the pieces a
covering run would give, and from it the launch's final state.
-/
module

public import proofs.«01_k».proof.Proof.Gen.LatentIdeal.Frame.Runs
public import proofs.«01_k».proof.Proof.Latent.Eq
public import proofs.«01_k».proof.Proof.Latent.Body
public import Idealize.ShloMosaic.Lib.Claim

@[expose] public section

set_option maxRecDepth 16384

noncomputable section

namespace Cert.LatentIdeal.Attn

open Cert.LatentIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Attn (WP)
open Idealize.ShloMosaic.Rounds
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg) (c : Dev nD)

/-- The block of the attention's result that point `t` leaves. -/
def oBlk (t : Fin cfg0.N) : S1x1024x128.Idx → EReal := out (iblk m c 0 t) (iblk m c 1 t) (iblk m c 2 t) (iblk m c 3 t) (iblk m c 4 t)

/-- The launch's data: every input's block stays, the result's block is the value above. -/
def vals₀ (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oBlk m c t
  Φ _ := Pipeline.ΦA spec0 c
  q _ := fullShare
  owed _ := 0

theorem arr_eq (w : Fin cfg0.W) : (vals₀ m 0 c).A w = V m c (Pipeline.arrRef spec0 w) := by dsimp only [vals₀]

section
variable (t : Fin cfg0.N)

theorem left_0 : (vals₀ m 0 c).after 0 t = iblk m c 0 t := by dsimp only [vals₀]
theorem left_1 : (vals₀ m 0 c).after 1 t = iblk m c 1 t := by dsimp only [vals₀]
theorem left_2 : (vals₀ m 0 c).after 2 t = iblk m c 2 t := by dsimp only [vals₀]
theorem left_3 : (vals₀ m 0 c).after 3 t = iblk m c 3 t := by dsimp only [vals₀]
theorem left_4 : (vals₀ m 0 c).after 4 t = iblk m c 4 t := by dsimp only [vals₀]
theorem left_5 : (vals₀ m 0 c).after 5 t = oBlk m c t := by dsimp only [vals₀]

theorem held_0 (d) : (vals₀ m 0 c).before 0 t d = iblk m c 0 t := before0_0_of m (vals₀ m 0 c) (arr_eq m c 0) (left_0 m c) t d
theorem held_1 (d) : (vals₀ m 0 c).before 1 t d = iblk m c 1 t := before0_1_of m (vals₀ m 0 c) (arr_eq m c 1) (left_1 m c) t d
theorem held_2 (d) : (vals₀ m 0 c).before 2 t d = iblk m c 2 t := before0_2_of m (vals₀ m 0 c) (arr_eq m c 2) (left_2 m c) t d
theorem held_3 (d) : (vals₀ m 0 c).before 3 t d = iblk m c 3 t := before0_3_of m (vals₀ m 0 c) (arr_eq m c 3) (left_3 m c) t d
theorem held_4 (d) : (vals₀ m 0 c).before 4 t d = iblk m c 4 t := before0_4_of m (vals₀ m 0 c) (arr_eq m c 4) (left_4 m c) t d

/-- What the body starts from at point `t`, window by window, and what it returns. -/
def pre : sProp 𝕄 :=
  iprop((vals₀ m 0 c).Φ t.castSucc ∗ (vals₀ m 0 c).owesAt () t.castSucc
    ∗ (∃ d, owns (c : Thread nD τ) (ms0_0 t) fullShare ((vals₀ m 0 c).before 0 t d))
    ∗ (∃ d, owns (c : Thread nD τ) (ms0_1 t) fullShare ((vals₀ m 0 c).before 1 t d))
    ∗ (∃ d, owns (c : Thread nD τ) (ms0_2 t) fullShare ((vals₀ m 0 c).before 2 t d))
    ∗ (∃ d, owns (c : Thread nD τ) (ms0_3 t) fullShare ((vals₀ m 0 c).before 3 t d))
    ∗ (∃ d, owns (c : Thread nD τ) (ms0_4 t) fullShare ((vals₀ m 0 c).before 4 t d))
    ∗ (∃ d, owns (c : Thread nD τ) (ms0_5 t) fullShare ((vals₀ m 0 c).before 5 t d)))

def post : sProp 𝕄 :=
  iprop((vals₀ m 0 c).Φ t.succ ∗ (vals₀ m 0 c).owesAt () t.succ
    ∗ owns (c : Thread nD τ) (ms0_0 t) fullShare ((vals₀ m 0 c).after 0 t)
    ∗ owns (c : Thread nD τ) (ms0_1 t) fullShare ((vals₀ m 0 c).after 1 t)
    ∗ owns (c : Thread nD τ) (ms0_2 t) fullShare ((vals₀ m 0 c).after 2 t)
    ∗ owns (c : Thread nD τ) (ms0_3 t) fullShare ((vals₀ m 0 c).after 3 t)
    ∗ owns (c : Thread nD τ) (ms0_4 t) fullShare ((vals₀ m 0 c).after 4 t)
    ∗ owns (c : Thread nD τ) (ms0_5 t) fullShare ((vals₀ m 0 c).after 5 t))

set_option maxHeartbeats 2000000 in
theorem triple : pre m c t ⊢ wp frame (wpE (defs₀ (F := Ideal)) Variants.none c none) Set.univ (bodyAt0 t) (fun _ => post m c t) := by
  unfold pre post bodyAt0
  simp only [held_0, held_1, held_2, held_3, held_4]
  rw [show (vals₀ m 0 c).Φ t.succ = (vals₀ m 0 c).Φ t.castSucc from rfl,
    show (vals₀ m 0 c).owesAt () t.succ = (vals₀ m 0 c).owesAt () t.castSucc from rfl,
    left_0, left_1, left_2, left_3, left_4, left_5]
  rw [show (vals₀ m 0 c).Φ t.castSucc = Pipeline.ΦA spec0 c from rfl, PhiA0_eq, body_eq]
  iintro ⟨⟨HS, Hg⟩, Ho, ⟨%d0, H0⟩, ⟨%d1, H1⟩, ⟨%d2, H2⟩, ⟨%d3, H3⟩, ⟨%d4, H4⟩, ⟨%d5, H5⟩⟩
  iapply (wp_body (c := c) (defs := defs₀) (ms0_0 t) (ms0_1 t) (ms0_2 t) (ms0_3 t) (ms0_4 t) (ms0_5 t) _ scM0_0 _ scM0_1 scM0_2 _ scM0_3 scM0_4 scM0_5
    (iblk m c 0 t) (iblk m c 1 t) (iblk m c 2 t) (iblk m c 3 t) (iblk m c 4 t) _ _) $$ [HS H0 H1 H2 H3 H4 H5]
  · unfold ins scratch ownsTc
    isplitl [H0 H1 H2 H3 H4]
    · isplitl [H0]; · iexact H0
      isplitl [H1]; · iexact H1
      isplitl [H2]; · iexact H2
      isplitl [H3]; · iexact H3
      iexact H4
    isplitl [H5]; · iexact H5
    iexact HS
  unfold ins scratch ownsTc
  iintro ⟨⟨H0, H1, H2, H3, H4⟩, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem row : defs₀ (F := Ideal) .tc cfg0.body (cfg0.bodyArgs t (cfg0.slots t)) = bodyAt0 t := by
  unfold defs₀; rw [Defs.onTc_tc]

end

theorem obligation : BodyObligation (vals₀ m 0 c) (defs₀ (F := Ideal)) Variants.none () Set.univ := fun t => by
  rw [bigSep_W0, bigSep_W0, row]
  exact triple_restated (triple m c t) rfl .rfl fun _ => .rfl

set_option backward.isDefEq.respectTransparency.types false in
/-- The launch ends, with every counter at zero and every array at what the blocks left make of it. -/
theorem launched : θ_run defs (onTc (τ := τ) (main (F := Ideal))) (s₀ m ρ) (fun r => (Pipeline.FramePost cfgs (vals₀ m) 0 (V m)) r ∧ r.2.sem = fun _ => 0) :=
  Pipeline.θ_run_frame (Q' := _) cfgs (vals₀ m) (0 : Fin 1) launch0 defs₀ Variants.none m ρ main
    (hbody := fun c => (obligation m c).loose) (hshare := fun c => (vals₀ m 0 c).share_full fun _ => rfl)
    (howed := fun _ _ => rfl) (V := V m) (hmain := hmain m Variants.none) (hA := fun c w => arr_eq m c w) (hΦ := fun _ _ => rfl)

end Cert.LatentIdeal.Attn

end
-- ==== Proof.Latent.Inputs.lean ====
/-
The blocks of the inputs as entries of the arguments.
-/
module

public import proofs.«01_k».proof.Proof.Latent.Run
public import Idealize.ShloMosaic.Lib.Pointwise
public import Idealize.ShloMosaic.Lib.StableHlo.ReadAt
public import Idealize.ShloMosaic.Lib.Tactic
public import Idealize.ShloMosaic.Lib.Pipeline.Value
public import Idealize.ShloMosaic.Lib.Pipeline.ValueKit.Basic

@[expose] public section

set_option maxRecDepth 16384

noncomputable section

namespace Cert.LatentIdeal.Attn

open Cert.LatentIdeal.Gen
open Idealize.ShloMosaic Idealize.ShloMosaic.TcCoe Idealize.SL.Sem

variable (m : (ℓ : Loc nD τ sig) → Buf (Elt Ideal) ℓ) (ρ : Dev nD → PrngReg) (c : Dev nD)

/-- The arguments as launched. -/
abbrev aQ : Vec Ideal S4x4096x4x192 .f32 := m ((c.tc : Thread nD τ).loc main_arg0)
abbrev aKC : Vec Ideal S4x256x4x192 .f32 := m ((c.tc : Thread nD τ).loc main_arg1)
abbrev aVC : Vec Ideal S4x256x4x128 .f32 := m ((c.tc : Thread nD τ).loc main_arg2)
abbrev aKL : Vec Ideal S4x4096x4x192 .f32 := m ((c.tc : Thread nD τ).loc main_arg3)
abbrev aVL : Vec Ideal S4x4096x4x128 .f32 := m ((c.tc : Thread nD τ).loc main_arg4)

/-- The blocks' places, decided over the grid. -/
theorem places : ∀ t : Fin cfg0.N, win0_0.index t = ![t.val / 16, t.val % 4, t.val / 4 % 4] ∧ win0_1.index t = ![t.val / 16, 0, t.val / 4 % 4]
    ∧ win0_2.index t = ![t.val / 16, 0, t.val / 4 % 4] ∧ win0_3.index t = ![t.val / 16, 0, t.val / 4 % 4] ∧ win0_4.index t = ![t.val / 16, 0, t.val / 4 % 4]
    ∧ win0_5.index t = ![t.val / 16, t.val % 4, t.val / 4 % 4] :=
  (by decide +kernel : ∀ t : Fin grid0.N, _)

theorem lt_N (t : Fin cfg0.N) : t.val < 64 := lt_of_lt_of_eq t.isLt N_0

/-! ## The inputs' blocks -/

theorem V6_apply (b : Fin 4) (r : Fin 4096) (k : Fin 1024) :
    V m c main_v6 (ix3 b r k) = if h : k.val % 256 < 192 then aQ m c (ix4 b r ⟨k.val / 256, by omega⟩ ⟨k.val % 256, h⟩) else Ideal.ofBits .f32 0x00000000#32 := by
  unfold V
  after_reads_at
  split
  · after_reads_at
  · after_reads_at

theorem V8_apply (b : Fin 4) (r : Fin 256) (k : Fin 1024) :
    V m c main_v8 (ix3 b r k) = if h : k.val % 256 < 192 then aKC m c (ix4 b r ⟨k.val / 256, by omega⟩ ⟨k.val % 256, h⟩) else Ideal.ofBits .f32 0x00000000#32 := by
  unfold V
  after_reads_at
  split
  · after_reads_at
  · after_reads_at

theorem V12_apply (b : Fin 4) (r : Fin 256) (k : Fin 512) :
    V m c main_v12 (ix3 b r k) = aVC m c (ix4 b r ⟨k.val / 128, by omega⟩ ⟨k.val % 128, by omega⟩) := by
  unfold V
  after_reads_at

theorem V10_apply (b : Fin 4) (r : Fin 4096) (k : Fin 1024) :
    V m c main_v10 (ix3 b r k) = if h : k.val % 256 < 192 then aKL m c (ix4 b r ⟨k.val / 256, by omega⟩ ⟨k.val % 256, h⟩) else Ideal.ofBits .f32 0x00000000#32 := by
  unfold V
  after_reads_at
  split
  · after_reads_at
  · after_reads_at

theorem V14_apply (b : Fin 4) (r : Fin 4096) (k : Fin 512) :
    V m c main_v14 (ix3 b r k) = aVL m c (ix4 b r ⟨k.val / 128, by omega⟩ ⟨k.val % 128, by omega⟩) := by
  unfold V
  after_reads_at

/-- The place of a value's entry: a head's columns are 128 wide. -/
theorem head_at {R : Nat} (X : (Shape.mk 4 ![4, R, 4, 128]).Idx → EReal) (b : Fin 4) (r : Fin R) (h : Nat) (hh : h < 4) (k : Fin 128) :
    X (ix4 b r ⟨(128 * h + k.val) / 128, by omega⟩ ⟨(128 * h + k.val) % 128, by omega⟩) = X (ix4 b r ⟨h, hh⟩ k) :=
  congrArg X (congrArg₂ (ix4 _ _) (Fin.ext (by show (128 * h + k.val) / 128 = h; omega)) (Fin.ext (by show (128 * h + k.val) % 128 = k.val; omega)))

/-- The place of a query's or key's entry: a head's columns are 256 wide, the last 64 padding. -/
theorem padded_at (X : Fin 4 → Fin 192 → EReal) (h : Nat) (hh : h < 4) (k : Fin 256) {z : EReal} :
    (if hk : (256 * h + k.val) % 256 < 192 then X ⟨(256 * h + k.val) / 256, by omega⟩ ⟨(256 * h + k.val) % 256, hk⟩ else z)
      = if hk : k.val < 192 then X ⟨h, hh⟩ ⟨k.val, hk⟩ else z := by
  have e : (256 * h + k.val) % 256 = k.val := by omega
  by_cases hk : k.val < 192
  · rw [dif_pos hk, dif_pos (by omega)]
    exact congrArg₂ X (Fin.ext (by show (256 * h + k.val) / 256 = h; omega)) (Fin.ext e)
  · rw [dif_neg hk, dif_neg (by omega)]

theorem atQ (X : Buf (Elt Ideal) ((c : Thread nD τ).loc main_v6)) (t : Fin cfg0.N) (r : Fin 1024) (k : Fin 256) :
    (((cfg0.win 0).blk t).view.read (Elt Ideal) X : S1x1024x256.Idx → EReal) (ix3 0 r k) = X (ix3 (⟨t.val / 16, by have := lt_N t; omega⟩ : Fin 4) (⟨1024 * (t.val % 4) + r.val, by omega⟩ : Fin 4096)
      (⟨256 * (t.val / 4 % 4) + k.val, by omega⟩ : Fin 1024)) := by
  have e := (places t).1
  refine congrArg X (funext fun a => Fin.ext ?_)
  match a with
  | ⟨0, _⟩ => show win0_0.index t (0 : Fin 3) * 1 + 1 * 0 = t.val / 16; rw [e]; simp
  | ⟨1, _⟩ => show win0_0.index t (1 : Fin 3) * 1024 + 1 * r.val = 1024 * (t.val % 4) + r.val; rw [e]; simp; omega
  | ⟨2, _⟩ => show win0_0.index t (2 : Fin 3) * 256 + 1 * k.val = 256 * (t.val / 4 % 4) + k.val; rw [e]; simp; omega

theorem blkQ (t : Fin cfg0.N) (r : Fin 1024) (k : Fin 256) : (iblk m c 0 t : S1x1024x256.Idx → EReal) (ix3 0 r k)
    = if h : k.val < 192 then aQ m c (ix4 (⟨t.val / 16, by have := lt_N t; omega⟩ : Fin 4) (⟨1024 * (t.val % 4) + r.val, by omega⟩ : Fin 4096) (⟨t.val / 4 % 4, by omega⟩ : Fin 4) (⟨k.val, h⟩ : Fin 192)) else Ideal.ofBits .f32 0x00000000#32 := by
  refine (atQ c (V m c main_v6) t r k).trans ((V6_apply m c _ _ _).trans ?_)
  exact padded_at (fun n d => aQ m c (ix4 _ (⟨1024 * (t.val % 4) + r.val, by omega⟩ : Fin 4096) n d)) _ _ k

theorem atKC (X : Buf (Elt Ideal) ((c : Thread nD τ).loc main_v8)) (t : Fin cfg0.N) (r : Fin 256) (k : Fin 256) :
    (((cfg0.win 1).blk t).view.read (Elt Ideal) X : S1x256x256.Idx → EReal) (ix3 0 r k) = X (ix3 (⟨t.val / 16, by have := lt_N t; omega⟩ : Fin 4) r
      (⟨256 * (t.val / 4 % 4) + k.val, by omega⟩ : Fin 1024)) := by
  have e := (places t).2.1
  refine congrArg X (funext fun a => Fin.ext ?_)
  match a with
  | ⟨0, _⟩ => show win0_1.index t (0 : Fin 3) * 1 + 1 * 0 = t.val / 16; rw [e]; simp
  | ⟨1, _⟩ => show win0_1.index t (1 : Fin 3) * 256 + 1 * r.val = r.val; rw [e]; simp
  | ⟨2, _⟩ => show win0_1.index t (2 : Fin 3) * 256 + 1 * k.val = 256 * (t.val / 4 % 4) + k.val; rw [e]; simp; omega

theorem blkKC (t : Fin cfg0.N) (r : Fin 256) (k : Fin 256) : (iblk m c 1 t : S1x256x256.Idx → EReal) (ix3 0 r k)
    = if h : k.val < 192 then aKC m c (ix4 (⟨t.val / 16, by have := lt_N t; omega⟩ : Fin 4) r (⟨t.val / 4 % 4, by omega⟩ : Fin 4) (⟨k.val, h⟩ : Fin 192)) else Ideal.ofBits .f32 0x00000000#32 := by
  refine (atKC c (V m c main_v8) t r k).trans ((V8_apply m c _ _ _).trans ?_)
  exact padded_at (fun n d => aKC m c (ix4 _ r n d)) _ _ k

theorem atVC (X : Buf (Elt Ideal) ((c : Thread nD τ).loc main_v12)) (t : Fin cfg0.N) (r : Fin 256) (k : Fin 128) :
    (((cfg0.win 2).blk t).view.read (Elt Ideal) X : S1x256x128.Idx → EReal) (ix3 0 r k) = X (ix3 (⟨t.val / 16, by have := lt_N t; omega⟩ : Fin 4) r
      (⟨128 * (t.val / 4 % 4) + k.val, by omega⟩ : Fin 512)) := by
  have e := (places t).2.2.1
  refine congrArg X (funext fun a => Fin.ext ?_)
  match a with
  | ⟨0, _⟩ => show win0_2.index t (0 : Fin 3) * 1 + 1 * 0 = t.val / 16; rw [e]; simp
  | ⟨1, _⟩ => show win0_2.index t (1 : Fin 3) * 256 + 1 * r.val = r.val; rw [e]; simp
  | ⟨2, _⟩ => show win0_2.index t (2 : Fin 3) * 128 + 1 * k.val = 128 * (t.val / 4 % 4) + k.val; rw [e]; simp; omega

theorem blkVC (t : Fin cfg0.N) (r : Fin 256) (k : Fin 128) : (iblk m c 2 t : S1x256x128.Idx → EReal) (ix3 0 r k)
    = aVC m c (ix4 (⟨t.val / 16, by have := lt_N t; omega⟩ : Fin 4) r (⟨t.val / 4 % 4, by omega⟩ : Fin 4) k) := by
  refine (atVC c (V m c main_v12) t r k).trans ((V12_apply m c _ _ _).trans ?_)
  exact head_at (aVC m c) _ _ _ _ k

theorem atKL (X : Buf (Elt Ideal) ((c : Thread nD τ).loc main_v10)) (t : Fin cfg0.N) (r : Fin 4096) (k : Fin 256) :
    (((cfg0.win 3).blk t).view.read (Elt Ideal) X : S1x4096x256.Idx → EReal) (ix3 0 r k) = X (ix3 (⟨t.val / 16, by have := lt_N t; omega⟩ : Fin 4) r
      (⟨256 * (t.val / 4 % 4) + k.val, by omega⟩ : Fin 1024)) := by
  have e := (places t).2.2.2.1
  refine congrArg X (funext fun a => Fin.ext ?_)
  match a with
  | ⟨0, _⟩ => show win0_3.index t (0 : Fin 3) * 1 + 1 * 0 = t.val / 16; rw [e]; simp
  | ⟨1, _⟩ => show win0_3.index t (1 : Fin 3) * 4096 + 1 * r.val = r.val; rw [e]; simp
  | ⟨2, _⟩ => show win0_3.index t (2 : Fin 3) * 256 + 1 * k.val = 256 * (t.val / 4 % 4) + k.val; rw [e]; simp; omega

theorem blkKL (t : Fin cfg0.N) (r : Fin 4096) (k : Fin 256) : (iblk m c 3 t : S1x4096x256.Idx → EReal) (ix3 0 r k)
    = if h : k.val < 192 then aKL m c (ix4 (⟨t.val / 16, by have := lt_N t; omega⟩ : Fin 4) r (⟨t.val / 4 % 4, by omega⟩ : Fin 4) (⟨k.val, h⟩ : Fin 192)) else Ideal.ofBits .f32 0x00000000#32 := by
  refine (atKL c (V m c main_v10) t r k).trans ((V10_apply m c _ _ _).trans ?_)
  exact padded_at (fun n d => aKL m c (ix4 _ r n d)) _ _ k

theorem atVL (X : Buf (Elt Ideal) ((c : Thread nD τ).loc main_v14)) (t : Fin cfg0.N) (r : Fin 4096) (k : Fin 128) :
    (((cfg0.win 4).blk t).view.read (Elt Ideal) X : S1x4096x128.Idx → EReal) (ix3 0 r k) = X (ix3 (⟨t.val / 16, by have := lt_N t; omega⟩ : Fin 4) r
      (⟨128 * (t.val / 4 % 4) + k.val, by omega⟩ : Fin 512)) := by
  have e := (places t).2.2.2.2.1
  refine congrArg X (funext fun a => Fin.ext ?_)
  match a with
  | ⟨0, _⟩ => show win0_4.index t (0 : Fin 3) * 1 + 1 * 0 = t.val / 16; rw [e]; simp
  | ⟨1, _⟩ => show win0_4.index t (1 : Fin 3) * 4096 + 1 * r.val = r.val; rw [e]; simp
  | ⟨2, _⟩ => show win0_4.index t (2 : Fin 3) * 128 + 1 * k.val = 128 * (t.val / 4 % 4) + k.val; rw [e]; simp; omega

theorem blkVL (t : Fin cfg0.N) (r : Fin 4096) (k : Fin 128) : (iblk m c 4 t : S1x4096x128.Idx → EReal) (ix3 0 r k)
    = aVL m c (ix4 (⟨t.val / 16, by have := lt_N t; omega⟩ : Fin 4) r (⟨t.val / 4 % 4, by omega⟩ : Fin 4) k) := by
  refine (atVL c (V m c main_v14) t r k).trans ((V14_apply m c _ _ _).trans ?_)
  exact head_at (aVL m c) _ _ _ _ k

end Cert.LatentIdeal.Attn

end
-- ==== Proof.Latent.Keys.lean ====
/-
One row over all its keys: the context's 256 first, then the 4096 latent ones. The five chunks the body takes in
cover them once each, so the row's result is its softmax over the whole.
-/
module

public import proofs.«01_k».proof.Proof.Latent.Body
public import proofs.«01_k».proof.Proof.Attn.Keys

@[expose] public section

set_option maxRecDepth 16384

noncomputable section

namespace Cert.LatentIdeal.Attn

open Idealize.ShloMosaic
open Cert.KernelIdeal.Attn (St st0 Seen seen_empty soft sum_real latE ctxE latK mem_lat mem_ctx lats mem_lats)

/-- The real scale of the queries. -/
def sc : ℝ := ((Real.log 2) * (Real.sqrt 192))⁻¹

theorem scale_eq : scale = (sc : EReal) := rfl

/-- A row's score at a key, in the kernel's units. -/
def Fr (q : Fin 256 → ℝ) (K : Fin 4352 → Fin 256 → ℝ) (k : Fin 4352) : ℝ := ∑ d, q d * sc * K k d

theorem Fr_log (q : Fin 256 → ℝ) (K : Fin 4352 → Fin 256 → ℝ) (k : Fin 4352) : Fr q K k * Real.log 2 = (∑ d, q d * K k d) / Real.sqrt 192 := by
  have h2 : Real.log 2 ≠ 0 := (Real.log_pos (by norm_num)).ne'
  have h1 : Real.sqrt 192 ≠ 0 := (Real.sqrt_pos.mpr (by norm_num)).ne'
  unfold Fr sc
  rw [Finset.sum_mul, Finset.sum_div]
  refine Finset.sum_congr rfl fun d _ => ?_
  field_simp

/-- A head's 192 entries and the 64 zeros that pad them. -/
def pad (f : Fin 192 → ℝ) (d : Fin 256) : ℝ := if h : d.val < 192 then f ⟨d.val, h⟩ else 0

/-- The padding adds nothing to a product. -/
theorem sum_pad (f g : Fin 192 → ℝ) : ∑ d, pad f d * pad g d = ∑ d, f d * g d := by
  refine (Fin.sum_univ_add (a := 192) (b := 64) fun d => pad f d * pad g d).trans ?_
  rw [Finset.sum_eq_zero (s := (Finset.univ : Finset (Fin 64))), add_zero]
  · refine Finset.sum_congr rfl fun d _ => ?_
    unfold pad
    rw [dif_pos (show (Fin.castAdd 64 d).val < 192 from d.isLt), dif_pos (show (Fin.castAdd 64 d).val < 192 from d.isLt)]
    rfl
  · intro d _
    unfold pad
    rw [dif_neg (show ¬ (Fin.natAdd 192 d).val < 192 from Nat.not_lt.mpr (Nat.le_add_right 192 d.val)), zero_mul]

section
variable (q : Fin 256 → ℝ) (K : Fin 4352 → Fin 256 → ℝ) (V : Fin 4352 → Fin 128 → EReal)
  (QS : S1024x256.Idx → EReal) (KC : S1x256x256.Idx → EReal) (VC : S1x256x128.Idx → EReal) (KL : S1x4096x256.Idx → EReal) (VL : S1x4096x128.Idx → EReal) (i : Fin 1024)
  (hq : ∀ d, QS (ix2 i d) = ((q d * sc : ℝ) : EReal))
  (hkc : ∀ (x : Fin 256) d, KC (ix3 0 x d) = ((K (ctxE x) d : ℝ) : EReal))
  (hkl : ∀ (x : Fin 4096) d, KL (ix3 0 x d) = ((K (latK x) d : ℝ) : EReal))
  (hvc : ∀ (x : Fin 256) d, VC (ix3 0 x d) = V (ctxE x) d)
  (hvl : ∀ (x : Fin 4096) d, VL (ix3 0 x d) = V (latK x) d)

include hq hkl in
theorem sL_real (j : Nat) (hj : j < 4) (x : Fin 1024) : sL QS KL j hj i x = (Fr q K (latE j hj x) : EReal) := by
  unfold sL Fr
  rw [← sum_real]
  refine Finset.sum_congr rfl fun d _ => ?_
  rw [hq, hkl, EReal.coe_mul (q d * sc)]
  refine congrArg (fun k => ((q d * sc : ℝ) : EReal) * ((K k d : ℝ) : EReal)) (Fin.ext ?_)
  show 256 + (1024 * j + x.val) = 256 + 1024 * j + x.val
  omega

include hq hkc in
theorem sC_real (x : Fin 256) : sC QS KC i x = (Fr q K (ctxE x) : EReal) := by
  unfold sC Fr
  rw [← sum_real]
  refine Finset.sum_congr rfl fun d _ => ?_
  rw [hq, hkc, EReal.coe_mul (q d * sc)]

include hq hkl hvl in
/-- One more latent chunk. -/
theorem seen_lat (n : Nat) (hn : n < 4) (st : Fin 1024 → St) (h : Seen (lats n) (Fr q K) V (st i)) :
    Seen (lats (n + 1)) (Fr q K) V (stepAll (sL QS KL n hn) (fun x d => vals n hn VL (ix2 x d)) st i) := by
  rw [lats, dif_pos hn]
  refine Seen.step (by decide) h (latE n hn) ?_ _ _ (sL_real q K QS KL i hq hkl n hn) fun x => funext fun d => ?_
  · rw [Finset.disjoint_left]
    intro k hk hk'
    rw [mem_lats n (by omega)] at hk
    rw [mem_lat] at hk'
    omega
  · refine (hvl ⟨1024 * n + x.val, by omega⟩ d).trans ?_
    refine congrArg (fun k => V k d) (Fin.ext ?_)
    show 256 + (1024 * n + x.val) = 256 + 1024 * n + x.val
    omega

include hq hkc hkl hvc hvl in
/-- The row's result is its softmax over all keys. -/
theorem row_value (S : Fin 4352 → EReal) (hS : ∀ k, S k = (((∑ d, q d * K k d) / Real.sqrt 192 : ℝ) : EReal)) (d : Fin 128) :
    (fin QS KC VC KL VL i).a d * Ideal.div 1 (fin QS KC VC KL VL i).l = soft S fun k => V k d := by
  have step := seen_lat q K V QS KL VL i hq hkl hvl
  have h4 := step 3 (by decide) _ (step 2 (by decide) _ (step 1 (by decide) _ (step 0 (by decide) (fun _ => st0) (seen_empty _ _))))
  have h5 := Seen.step (by decide) h4 ctxE (by
    rw [Finset.disjoint_left]
    intro k hk hk'
    rw [mem_lats 4 (by decide)] at hk
    rw [mem_ctx] at hk'
    omega) (sC QS KC i) (fun x d => VC (ix3 0 x d)) (sC_real q K QS KC i hq hkc) (fun x => funext fun d => hvc x d)
  have hu : lats 4 ∪ Finset.univ.map ctxE = Finset.univ := by
    ext k
    rw [Finset.mem_union, mem_lats 4 (by decide), mem_ctx]
    exact iff_of_true (by omega) (Finset.mem_univ _)
  rw [hu] at h5
  exact h5.result S (fun k => (hS k).trans (congrArg _ (Fr_log q K k).symm)) d

end

end Cert.LatentIdeal.Attn

end
-- ==== Proof.Latent.Spec.lean ====
/-
The second attention both programs compute, as a function of the arguments' entries.
-/
module

public import proofs.«01_k».proof.Proof.Attn.Row

@[expose] public section

noncomputable section

namespace Cert.LatentIdeal.Attn

open Idealize.ShloMosaic
open Cert.KernelIdeal.Attn (soft)

/-- A key's (or a value's) entry: the first 256 are the context's. -/
def entry {D : Nat} (A : Fin 4 → Fin 256 → Fin 4 → Fin D → EReal) (B : Fin 4 → Fin 4096 → Fin 4 → Fin D → EReal) (b : Fin 4) (k : Fin 4352) (h : Fin 4) (d : Fin D) : EReal :=
  if hk : k.val < 256 then A b ⟨k.val, hk⟩ h d else B b ⟨k.val - 256, by omega⟩ h d

/-- The scaled score of a head at a key. -/
def score (Q : Fin 4 → Fin 4096 → Fin 4 → Fin 192 → EReal) (K : Fin 4 → Fin 4352 → Fin 4 → Fin 192 → EReal) (b : Fin 4) (r : Fin 4096) (h : Fin 4) (k : Fin 4352) : EReal :=
  Ideal.div (∑ d : Fin 192, Q b r h d * K b k h d) ((Real.sqrt 192 : ℝ) : EReal)

/-- An entry of the attention's result. -/
def attend (Q : Fin 4 → Fin 4096 → Fin 4 → Fin 192 → EReal) (K : Fin 4 → Fin 4352 → Fin 4 → Fin 192 → EReal) (V : Fin 4 → Fin 4352 → Fin 4 → Fin 128 → EReal)
    (b : Fin 4) (r : Fin 4096) (h : Fin 4) (d : Fin 128) : EReal :=
  soft (score Q K b r h) fun k => V b k h d

end Cert.LatentIdeal.Attn

end
-- ==== Proof.Latent.Final.lean ====
/-
The array after the launch: the blocks the points leave, put together.
-/
module

public import proofs.«01_k».proof.Proof.Latent.Inputs
public import proofs.«01_k».proof.Proof.Latent.Keys
public import proofs.«01_k».proof.Proof.Latent.Spec
public import proofs.«01_k».proof.Proof.Attn.Final
public import Idealize.ShloMosaic.Lib.Pointwise
public import Idealize.ShloMosaic.Lib.StableHlo.ReadAt
public import Idealize.ShloMosaic.Lib.Tactic
public import Idealize.ShloMosaic.Lib.Pipeline.Value
public import Idealize.ShloMosaic.Lib.Pipeline.ValueKit.Basic

@[expose] public section

set_option maxRecDepth 16384

noncomputable section

namespace Cert.LatentIdeal.Attn

open Cert.LatentIdeal.Gen
open Cert.KernelIdeal.Attn (soft sum_real div_real ofBits_zero ctxE latK)
open Idealize.ShloMosaic Idealize.ShloMosaic.TcCoe Idealize.SL.Sem

variable (m : (ℓ : Loc nD τ sig) → Buf (Elt Ideal) ℓ) (ρ : Dev nD → PrngReg) (c : Dev nD)

/-! ## The result's array -/

/-- The attention of the launched arguments. -/
def attn : Fin 4 → Fin 4096 → Fin 4 → Fin 128 → EReal :=
  attend (fun b r n d => aQ m c (ix4 b r n d)) (entry (fun b k h d => aKC m c (ix4 b k h d)) fun b k h d => aKL m c (ix4 b k h d))
    (entry (fun b k h d => aVC m c (ix4 b k h d)) fun b k h d => aVL m c (ix4 b k h d))

/-- The queries and keys are numbers. -/
structure Real_ : Prop where
  q : ∀ i, ∃ x : ℝ, aQ m c i = x
  kc : ∀ i, ∃ x : ℝ, aKC m c i = x
  kl : ∀ i, ∃ x : ℝ, aKL m c i = x

/-- Padded entries that are numbers. -/
theorem pad_real (X : Fin 192 → EReal) (f : Fin 192 → ℝ) (h : ∀ d, X d = f d) (d : Fin 256) :
    (if hd : d.val < 192 then X ⟨d.val, hd⟩ else Ideal.ofBits .f32 0x00000000#32) = ((pad f d : ℝ) : EReal) := by
  unfold pad
  split
  · exact h _
  · exact ofBits_zero

/-- A block's entry of the attention. -/
theorem oBlk_apply (h : Real_ m c) (t : Fin cfg0.N) (r : Fin 1024) (d : Fin 128) :
    oBlk m c t (ix3 0 r d) = attn m c ⟨t.val / 16, by have := lt_N t; omega⟩ ⟨1024 * (t.val % 4) + r.val, by omega⟩ ⟨t.val / 4 % 4, by omega⟩ d := by
  obtain ⟨hQ, hKC, hKL⟩ := h
  choose q hq using hQ
  choose kc hkc using hKC
  choose kl hkl using hKL
  have hN := lt_N t
  have hl : t.val / 16 < 4 := by omega
  unfold oBlk out outOf lA aA attn attend
  show (fin _ _ _ _ _ r).a d * Ideal.div 1 (fin _ _ _ _ _ r).l = _
  let qr : Fin 192 → ℝ := fun d => q (ix4 ⟨t.val / 16, hl⟩ ⟨1024 * (t.val % 4) + r.val, by omega⟩ ⟨t.val / 4 % 4, by omega⟩ d)
  let kr : Fin 4352 → Fin 192 → ℝ := fun k d => if hk : k.val < 256 then kc (ix4 ⟨t.val / 16, hl⟩ ⟨k.val, hk⟩ ⟨t.val / 4 % 4, by omega⟩ d)
    else kl (ix4 ⟨t.val / 16, hl⟩ ⟨k.val - 256, by omega⟩ ⟨t.val / 4 % 4, by omega⟩ d)
  refine row_value (pad qr) (fun k => pad (kr k))
    (fun k d => entry (fun b k h d => aVC m c (ix4 b k h d)) (fun b k h d => aVL m c (ix4 b k h d)) ⟨t.val / 16, hl⟩ k ⟨t.val / 4 % 4, by omega⟩ d)
    _ _ _ _ _ _ ?_ ?_ ?_ ?_ ?_ _ ?_ d
  · intro d
    unfold qs
    rw [scale_eq, EReal.coe_mul]
    refine congrArg (· * (sc : EReal)) ?_
    exact (blkQ m c t r d).trans (pad_real _ qr (fun d => hq _) d)
  · intro x d
    refine (blkKC m c t x d).trans (pad_real _ (kr (ctxE x)) (fun d => (hkc _).trans ?_) d)
    exact congrArg (fun y : ℝ => (y : EReal)) (show kr (ctxE x) d = kc (ix4 _ x _ d) from dif_pos (show (ctxE x).val < 256 from x.isLt)).symm
  · intro x d
    refine (blkKL m c t x d).trans (pad_real _ (kr (latK x)) (fun d => (hkl _).trans ?_) d)
    refine congrArg (fun y : ℝ => (y : EReal)) (Eq.trans ?_ (dif_neg (show ¬ 256 + x.val < 256 by omega)).symm)
    refine congrArg (fun x => kl (ix4 _ x _ d)) (Fin.ext ?_)
    show x.val = 256 + x.val - 256
    omega
  · intro x d
    unfold entry
    rw [dif_pos (by exact x.isLt)]
    exact blkVC m c t x d
  · intro x d
    unfold entry
    rw [dif_neg (by show ¬ 256 + x.val < 256; omega)]
    refine (blkVL m c t x d).trans ?_
    refine congrArg (fun x => aVL m c (ix4 _ x _ d)) (Fin.ext ?_)
    show x.val = 256 + x.val - 256
    omega
  · intro k
    unfold score
    have hne : Real.sqrt 192 ≠ 0 := (Real.sqrt_pos.mpr (by norm_num)).ne'
    rw [sum_pad, div_real _ _ hne, ← sum_real]
    refine congrArg (fun x => Ideal.div x _) (Finset.sum_congr rfl fun d _ => ?_)
    rw [EReal.coe_mul]
    refine congrArg₂ (· * ·) (hq _) ?_
    unfold entry
    by_cases hk : k.val < 256
    · rw [dif_pos hk, show kr k d = _ from dif_pos hk]; exact hkc _
    · rw [dif_neg hk, show kr k d = _ from dif_neg hk]; exact hkl _

/-- The attention's array. -/
def G5 : Buf (Elt Ideal) ((c : Thread nD τ).loc main_v15) := fun i : S4x4096x512.Idx =>
  attn m c (i 0) (i 1) ⟨(i 2).val / 128, by have : (i 2).val < 512 := (i 2).isLt; omega⟩ ⟨(i 2).val % 128, by omega⟩

theorem attn_congr {b b' : Fin 4} {r r' : Fin 4096} {h h' : Fin 4} {d d' : Fin 128} (hb : b.val = b'.val) (hr : r.val = r'.val) (hh : h.val = h'.val)
    (hd : d.val = d'.val) : attn m c b r h d = attn m c b' r' h' d' := by
  rw [Fin.ext hb, Fin.ext hr, Fin.ext hh, Fin.ext hd]

theorem G5_apply (b : Fin 4) (r : Fin 4096) (h : Fin 4) (d : Fin 128) :
    (G5 m c : S4x4096x512.Idx → EReal) (ix3 b r ⟨128 * h.val + d.val, by omega⟩) = attn m c b r h d := by
  refine attn_congr m c rfl rfl ?_ ?_
  · show (128 * h.val + d.val) / 128 = h.val; omega
  · show (128 * h.val + d.val) % 128 = d.val; omega

theorem flushed_5 (h : Real_ m c) (t : Fin cfg0.N) : (vals₀ m 0 c).flushed 5 t = ((cfg0.win 5).blk t).view.read (Elt Ideal) (G5 m c) := by
  show (cfg0.win 5).cut (grid0.coords t) ((vals₀ m 0 c).after 5 t) = _
  rw [left_5]
  have e := (places t).2.2.2.2.2
  funext y
  have h0 : (y 0).val < 1 := (y 0).isLt
  have h1 : (y 1).val < 1024 := (y 1).isLt
  have h2 : (y 2).val < 128 := (y 2).isLt
  have hy : (cfg0.win 5).xinj (grid0.coords t) y = ix3 0 (⟨(y 1).val, h1⟩ : Fin 1024) (⟨(y 2).val, h2⟩ : Fin 128) := by
    funext a; apply Fin.ext
    match a with
    | ⟨0, _⟩ => show (y 0).val = 0; omega
    | ⟨1, _⟩ => rfl
    | ⟨2, _⟩ => rfl
  show oBlk m c t ((cfg0.win 5).xinj (grid0.coords t) y) = G5 m c (((cfg0.win 5).blk t).view.emb y)
  rw [hy]
  refine (oBlk_apply m c h t ⟨(y 1).val, h1⟩ ⟨(y 2).val, h2⟩).trans (attn_congr m c ?_ ?_ ?_ ?_)
  · show t.val / 16 = win0_5.index t (0 : Fin 3) * 1 + 1 * (y 0).val
    rw [e]; show t.val / 16 = t.val / 16 * 1 + 1 * (y 0).val; omega
  · show 1024 * (t.val % 4) + (y 1).val = win0_5.index t (1 : Fin 3) * 1024 + 1 * (y 1).val
    rw [e]; show 1024 * (t.val % 4) + (y 1).val = t.val % 4 * 1024 + 1 * (y 1).val; omega
  · show t.val / 4 % 4 = (win0_5.index t (2 : Fin 3) * 128 + 1 * (y 2).val) / 128
    rw [e]; show t.val / 4 % 4 = (t.val / 4 % 4 * 128 + 1 * (y 2).val) / 128; omega
  · show (y 2).val = (win0_5.index t (2 : Fin 3) * 128 + 1 * (y 2).val) % 128
    rw [e]; show (y 2).val = (t.val / 4 % 4 * 128 + 1 * (y 2).val) % 128; omega

theorem final_5 (h : Real_ m c) : (vals₀ m 0 c).arrAt 5 cfg0.N = G5 m c := by
  refine (vals₀ m 0 c).arrAt_eq_of_cover 5 _ (fun t _ => flushed_5 m c h t) fun (i : S4x4096x512.Idx) => ?_
  have h0 : (i 0).val < 4 := (i 0).isLt
  have h1 : (i 1).val < 4096 := (i 1).isLt
  have h2 : (i 2).val < 512 := (i 2).isLt
  obtain ⟨t, ht⟩ : ∃ t : Fin cfg0.N, t.val = 16 * (i 0).val + 4 * ((i 2).val / 128) + (i 1).val / 1024 := ⟨⟨16 * (i 0).val + 4 * ((i 2).val / 128) + (i 1).val / 1024, lt_of_lt_of_eq (by omega) N_0.symm⟩, rfl⟩
  have e := (places t).2.2.2.2.2
  refine ⟨t, flush0_5 t, ?_⟩
  show i ∈ ((View.whole main_v15).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; rw [e]; show t.val / 16 * 1 ≤ _ ∧ _ < t.val / 16 * 1 + 1; omega
  | ⟨1, _⟩ => show win0_5.index t (1 : Fin 3) * 1024 ≤ (i 1).val ∧ (i 1).val < win0_5.index t (1 : Fin 3) * 1024 + 1024; rw [e]; show t.val % 4 * 1024 ≤ _ ∧ _ < t.val % 4 * 1024 + 1024; omega
  | ⟨2, _⟩ => show win0_5.index t (2 : Fin 3) * 128 ≤ (i 2).val ∧ (i 2).val < win0_5.index t (2 : Fin 3) * 128 + 128; rw [e]; show t.val / 4 % 4 * 128 ≤ _ ∧ _ < t.val / 4 % 4 * 128 + 128; omega

/-- The launch, its array read. -/
theorem run (h : ∀ c, Real_ m c) : θ_run defs (onTc (τ := τ) (main (F := Ideal))) ⟨m, fun _ => 0, ρ⟩ fun r => (∀ c : Dev nD,
      r.2.mem ((c : Thread nD τ).loc main_v15) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 := by
  refine (θ_run defs _ _).mono (fun r hr => ?_) (θ_run_and (launched m ρ)
    (frame_of m ρ (vals₀ m) (fun c w => arr_eq m c w) ((θ_run defs _ _).mono (fun _ h => h.1) (launched m ρ))))
  exact ⟨fun c => ⟨((hr.1.1 c).1 5).trans (final_5 m c (h c)), hr.2 c⟩, hr.1.2⟩

end Cert.LatentIdeal.Attn

end
-- ==== Proof.Latent.Ref.lean ====
/-
The reference's result, entry by entry: each head's softmax of the scaled scores over all keys, applied to the
values.
-/
module

public import proofs.«01_k».proof.Proof.Latent.Spec
public import Idealize.ShloMosaic.Lib.Pointwise
public import Idealize.ShloMosaic.Lib.IdealHost
public import proofs.«01_k».proof.Proof.Gen.LatentReferenceIdeal.Run

@[expose] public section

set_option maxRecDepth 16384

noncomputable section

namespace Cert.LatentReferenceIdeal.Attn

open Cert.LatentReferenceIdeal Cert.LatentReferenceIdeal.Value Idealize.ShloMosaic Idealize.ShloMosaic.TcCoe Idealize.SL.Sem
open Cert.LatentReferenceIdeal.Gen
open Cert.KernelIdeal.Attn (soft)
open Cert.LatentIdeal.Attn (entry score attend)

/-- The keys of the context and the latents together. -/
def keys (A : FVec Ideal S4x256x4x192 .f32) (B : FVec Ideal S4x4096x4x192 .f32) : FVec Ideal S4x4352x4x192 .f32 :=
  concatenate S4x4352x4x192 1 [⟨S4x256x4x192, A⟩, ⟨S4x4096x4x192, B⟩] concatenates_S4x256x4x192_S4x4096x4x192_S4x4352x4x192_d1

theorem keys_apply (A : FVec Ideal S4x256x4x192 .f32) (B : FVec Ideal S4x4096x4x192 .f32) (b : Fin 4) (k : Fin 4352) (h : Fin 4) (d : Fin 192) :
    keys A B (ix4 b k h d) = if hk : k.val < 256 then A (ix4 b ⟨k.val, hk⟩ h d) else B (ix4 b ⟨k.val - 256, by omega⟩ h d) := by
  pointwise [keys]

/-- The values of the context and the latents together. -/
def vals (A : FVec Ideal S4x256x4x128 .f32) (B : FVec Ideal S4x4096x4x128 .f32) : FVec Ideal S4x4352x4x128 .f32 :=
  concatenate S4x4352x4x128 1 [⟨S4x256x4x128, A⟩, ⟨S4x4096x4x128, B⟩] concatenates_S4x256x4x128_S4x4096x4x128_S4x4352x4x128_d1

theorem vals_apply (A : FVec Ideal S4x256x4x128 .f32) (B : FVec Ideal S4x4096x4x128 .f32) (b : Fin 4) (k : Fin 4352) (h : Fin 4) (d : Fin 128) :
    vals A B (ix4 b k h d) = if hk : k.val < 256 then A (ix4 b ⟨k.val, hk⟩ h d) else B (ix4 b ⟨k.val - 256, by omega⟩ h d) := by
  pointwise [vals]

/-- The scaled scores. -/
def scores (Q : FVec Ideal S4x4096x4x192 .f32) (K : FVec Ideal S4x4352x4x192 .f32) : FVec Ideal S4x4x4096x4352 .f32 :=
  Host.divf (Host.dotGeneral dot_S4x4096x4x192_S4x4352x4x192_S4x4x4096x4352_3_3_1_1_02_02 none Q K)
    (broadcastInDim S4x4x4096x4352 ![] bcast_S_S4x4x4096x4352 (Host.sqrt (constant S_ .f32 0x43400000#32)))

theorem scores_apply (Q : FVec Ideal S4x4096x4x192 .f32) (K : FVec Ideal S4x4352x4x192 .f32) (b : Fin 4) (h : Fin 4) (r : Fin 4096) (k : Fin 4352) :
    scores Q K (ix4 b h r k) = Ideal.div (∑ d : Fin 192, Q (ix4 b r h d) * K (ix4 b k h d)) (Ideal.sqrt (Ideal.ofBits .f32 0x43400000#32)) := by
  pointwise [scores]

/-- The rows' largest scores. -/
def tops (X : FVec Ideal S4x4x4096x4352 .f32) : FVec Ideal S4x4x4096 .f32 :=
  Host.reduce FloatOps.maximumf X (constant S_ .f32 0xFF800000#32) reducesTo_S4x4x4096x4352_S4x4x4096_d3 h_S_

theorem tops_apply (X : FVec Ideal S4x4x4096x4352 .f32) (b : Fin 4) (h : Fin 4) (r : Fin 4096) :
    tops X (ix3 b h r) = Finset.univ.fold max (Ideal.ofBits .f32 0xFF800000#32) fun x => X (ix4 b h r x) := by
  pointwise [tops]

/-- A row's value at every key. -/
def spread (T : FVec Ideal S4x4x4096 .f32) : FVec Ideal S4x4x4096x4352 .f32 :=
  broadcastInDim S4x4x4096x4352 ![0, 1, 2, 3] bcast_S4x4x4096x1_S4x4x4096x4352_0_1_2_3
    (broadcastInDim S4x4x4096x1 ![0, 1, 2] bcast_S4x4x4096_S4x4x4096x1_0_1_2 T)

theorem spread_apply (T : FVec Ideal S4x4x4096 .f32) (b : Fin 4) (h : Fin 4) (r : Fin 4096) (k : Fin 4352) :
    spread T (ix4 b h r k) = T (ix3 b h r) := by
  pointwise [spread]

/-- The weights before they are normalised. -/
def powers (X : FVec Ideal S4x4x4096x4352 .f32) (T : FVec Ideal S4x4x4096 .f32) : FVec Ideal S4x4x4096x4352 .f32 :=
  Host.exp (subf X (spread (maximumf (broadcastInDim S4x4x4096 ![] bcast_S_S4x4x4096 (constant S_ .f32 0xFF800000#32)) T)))

theorem powers_apply (X : FVec Ideal S4x4x4096x4352 .f32) (T : FVec Ideal S4x4x4096 .f32) (b : Fin 4) (h : Fin 4) (r : Fin 4096) (k : Fin 4352) :
    powers X T (ix4 b h r k) = Ideal.exp (X (ix4 b h r k) - max (Ideal.ofBits .f32 0xFF800000#32) (T (ix3 b h r))) := by
  pointwise [powers, spread]

/-- The rows' sums. -/
def totals (E : FVec Ideal S4x4x4096x4352 .f32) : FVec Ideal S4x4x4096 .f32 :=
  Host.reduceAdd E (constant S_ .f32 0x00000000#32) reducesTo_S4x4x4096x4352_S4x4x4096_d3 h_S_

theorem totals_apply (E : FVec Ideal S4x4x4096x4352 .f32) (b : Fin 4) (h : Fin 4) (r : Fin 4096) :
    totals E (ix3 b h r) = ∑ k, E (ix4 b h r k) := by
  pointwise [totals]

/-- The weights. -/
def weights (X : FVec Ideal S4x4x4096x4352 .f32) : FVec Ideal S4x4x4096x4352 .f32 :=
  Host.divf (powers X (tops X)) (spread (totals (powers X (tops X))))

theorem ratio (A B : FVec Ideal S4x4x4096x4352 .f32) (i : S4x4x4096x4352.Idx) : Host.divf A B i = Ideal.div (A i) (B i) := rfl

/-- The values under the weights, the heads side by side. -/
def applied (V : FVec Ideal S4x4352x4x128 .f32) (P : FVec Ideal S4x4x4096x4352 .f32) : FVec Ideal S4x4096x512 .bf16 :=
  truncf .bf16 (shapeCast _ (transpose S4x4096x4x128 [0, 3, 1, 2] (Host.dotGeneral dot_S4x4352x4x128_S4x4x4096x4352_S4x4x128x4096_1_3_3_2_02_01 none V P)
    transposes_S4x4x128x4096_S4x4096x4x128_0_3_1_2) shapeCasts_S4x4096x4x128_S4x4096x512) bitsLt_bf16_f32

theorem applied_apply (V : FVec Ideal S4x4352x4x128 .f32) (P : FVec Ideal S4x4x4096x4352 .f32) (b : Fin 4) (r : Fin 4096) (h : Fin 4) (d : Fin 128) :
    applied V P (ix3 b r ⟨128 * h.val + d.val, by omega⟩) = ∑ k, V (ix4 b k h d) * P (ix4 b h r k) := by
  pointwise [applied]

theorem ofBits_bot : Ideal.ofBits FTy.f32 0xFF800000#32 = ⊥ := by
  simp [Ideal.ofBits, Ideal.ieee]

theorem root : Ideal.sqrt (Ideal.ofBits .f32 0x43400000#32) = ((Real.sqrt 192 : ℝ) : EReal) := by
  have e : Ideal.ofBits .f32 0x43400000#32 = ((192 : ℝ) : EReal) := by
    simp [Ideal.ofBits, Ideal.ieee, -EReal.coe_mul]; norm_num
  rw [e]
  exact if_neg (by norm_num)

theorem weights_apply (X : FVec Ideal S4x4x4096x4352 .f32) (b : Fin 4) (h : Fin 4) (r : Fin 4096) (k : Fin 4352) :
    weights X (ix4 b h r k) = Ideal.div (Ideal.exp (X (ix4 b h r k) - Finset.univ.sup fun x => X (ix4 b h r x)))
      (∑ j, Ideal.exp (X (ix4 b h r j) - Finset.univ.sup fun x => X (ix4 b h r x))) := by
  have e : ∀ j, powers X (tops X) (ix4 b h r j) = Ideal.exp (X (ix4 b h r j) - Finset.univ.sup fun x => X (ix4 b h r x)) := by
    intro j
    rw [powers_apply, tops_apply, ofBits_bot, max_eq_right bot_le]
    rfl
  unfold weights
  rw [ratio, spread_apply, totals_apply, e]
  simp only [e]

/-- The reference's result. -/
def whole (Q : FVec Ideal S4x4096x4x192 .f32) (KC : FVec Ideal S4x256x4x192 .f32) (VC : FVec Ideal S4x256x4x128 .f32) (KL : FVec Ideal S4x4096x4x192 .f32)
    (VL : FVec Ideal S4x4096x4x128 .f32) : FVec Ideal S4x4096x512 .bf16 := applied (vals VC VL) (weights (scores Q (keys KC KL)))

theorem whole_apply (Q : FVec Ideal S4x4096x4x192 .f32) (KC : FVec Ideal S4x256x4x192 .f32) (VC : FVec Ideal S4x256x4x128 .f32) (KL : FVec Ideal S4x4096x4x192 .f32)
    (VL : FVec Ideal S4x4096x4x128 .f32) (b : Fin 4) (r : Fin 4096) (h : Fin 4) (d : Fin 128) : whole Q KC VC KL VL (ix3 b r ⟨128 * h.val + d.val, by omega⟩)
    = attend (fun b r n d => Q (ix4 b r n d)) (entry (fun b k h d => KC (ix4 b k h d)) fun b k h d => KL (ix4 b k h d))
        (entry (fun b k h d => VC (ix4 b k h d)) fun b k h d => VL (ix4 b k h d)) b r h d := by
  unfold whole
  rw [applied_apply]
  unfold attend soft
  simp only [weights_apply, scores_apply, keys_apply, vals_apply, root]
  rfl

end Cert.LatentReferenceIdeal.Attn

end
-- ==== Proof.Latent.Claim.lean ====
/-
The second attention's call and its reference end with the same result, where the queries and the keys are finite
numbers.
-/
module

public import proofs.«01_k».proof.Defs
public import proofs.«01_k».proof.Proof.Attn.Claim
public import proofs.«01_k».proof.Proof.Latent.Final
public import proofs.«01_k».proof.Proof.Latent.Ref

@[expose] public section

set_option maxRecDepth 16384

noncomputable section

namespace Cert.LatentAttn

open Idealize.ShloMosaic Idealize.SL.Sem
open Cert.LatentIdeal.Attn

/-- The broadcasts of the condition's bound. -/
theorem bounds : Cert.Pre_finite_latent.Facts := ⟨by decide, by decide⟩

/-- The condition, read: the queries and the keys are reals. -/
theorem reals (m : (ℓ : Loc Cert.LatentIdeal.nD Cert.LatentIdeal.τ Cert.LatentIdeal.sig) → Buf (Elt Ideal) ℓ)
    (h : Cert.Pre_LatentIdeal_finite_latent (hPre_finite_latent := bounds) m) (c : Dev Cert.LatentIdeal.nD) : Real_ m c :=
  ⟨fun i => Cert.Attn.real_of_lt _ (congrFun (h c).1 i), fun i => Cert.Attn.real_of_lt _ (congrFun (h c).2.1 i),
    fun i => Cert.Attn.real_of_lt _ (congrFun (h c).2.2 i)⟩

/-- Every place in the attention's array is one of a head and a dimension. -/
theorem place (k : Fin 512) : ∃ (h : Fin 4) (d : Fin 128), k = ⟨128 * h.val + d.val, by omega⟩ :=
  ⟨⟨k.val / 128, by omega⟩, ⟨k.val % 128, by omega⟩, Fin.ext (by show k.val = 128 * (k.val / 128) + k.val % 128; omega)⟩

/-- The second attention's call and its reference end with the same result. -/
theorem algebraic : Cert.algebraic_LatentIdeal_LatentReferenceIdeal_pre_finite_latent (hLatentIdeal := Cert.LatentIdeal.Gen.facts)
    (hLatentReferenceIdeal := Cert.LatentReferenceIdeal.Gen.facts) (hPre_finite_latent := bounds) := by
  intro m g m' g' hp h
  refine ⟨fun c => G5 m c, (θ_run _ _ _).mono (fun r hr c => hr.1 c) (run m g (reals m hp)), ?_⟩
  refine (θ_run _ _ _).mono (fun r hr c => ?_) (Cert.LatentReferenceIdeal.Value.run m' g')
  obtain ⟨e0, e1, e2, e3, e4⟩ := h c
  obtain ⟨r5, ra⟩ := hr c
  refine ⟨r5.trans ?_, ra⟩
  rw [e0, e1, e2, e3, e4]
  funext j
  obtain ⟨b, r, k, rfl⟩ : ∃ (b : Fin 4) (r : Fin 4096) (k : Fin 512), j = ix3 b r k := ⟨j 0, j 1, j 2, eq_ix3 j⟩
  obtain ⟨h, d, rfl⟩ := place k
  refine Eq.trans ?_ (G5_apply m c b r h d).symm
  exact Cert.LatentReferenceIdeal.Attn.whole_apply _ _ _ _ _ b r h d

end Cert.LatentAttn

end
-- ==== Proof.Modulate.Rows.lean ====
/-
  The modulation's call: the arrays it finds, the blocks its points read and leave, and the array it leaves.
-/
module

public import proofs.«01_k».proof.Proof.Gen.ModulateIdeal.Value
public import Idealize.ShloMosaic.Lib.Pointwise
public import Idealize.ShloMosaic.Lib.StableHlo.ReadAt
public import Idealize.ShloMosaic.Lib.Pipeline.ReadBack

@[expose] public section

set_option maxRecDepth 16384

noncomputable section

namespace Cert.ModulateIdeal.Layer

open Cert.ModulateIdeal Cert.ModulateIdeal.Gen Idealize.ShloMosaic Idealize.ShloMosaic.TcCoe Idealize.SL.Sem

/-- The conditioning rows: the context's, the four latents', and three of zeros. -/
def crow (a : Vec Ideal S4x2048 .f32) (e : Vec Ideal S2048 .f32) (i : Fin 8) (k : Fin 2048) : EReal :=
  if i.val < 1 then e (ix1 k) else if h : i.val - 1 < 4 then a (ix2 ⟨i.val - 1, h⟩ k) else 0

/-- An entry of the modulation: a conditioning row through `silu`, times the first layer's weights, plus its bias. -/
def modul (a : Vec Ideal S4x2048 .f32) (e : Vec Ideal S2048 .f32) (w : Vec Ideal S2x2048x12288 .f32) (b : Vec Ideal S2x12288 .f32) (i : Fin 8) (j : Fin 12288) : EReal :=
  (∑ k, Ideal.div (crow a e i k) (1 + Ideal.exp (0 - crow a e i k)) * w (ix3 0 k j)) + b (ix2 0 j)

variable (m : (ℓ : Loc nD τ sig) → Buf (Elt Ideal) ℓ) (c : Dev nD)

/-- The arguments as launched. -/
abbrev arA : Vec Ideal S4x2048 .f32 := m ((c.tc : Thread nD τ).loc main_arg0)
abbrev arE : Vec Ideal S2048 .f32 := m ((c.tc : Thread nD τ).loc main_arg1)
abbrev arW : Vec Ideal S2x2048x12288 .f32 := m ((c.tc : Thread nD τ).loc main_arg2)
abbrev arB : Vec Ideal S2x12288 .f32 := m ((c.tc : Thread nD τ).loc main_arg3)

theorem V2_apply (i : Fin 8) (k : Fin 2048) : V m c main_v2 (ix2 i k) = crow (arA m c) (arE m c) i k := by
  unfold V crow
  after_reads_at
  split
  · after_reads_at
  · split
    · rfl
    · after_reads_at

theorem V3_apply (j : Fin 12288) : V m c main_v3 (ix3 0 0 j) = arB m c (ix2 0 j) := by
  unfold V
  after_reads_at

theorem pay1_apply (x0 : Vec Ideal S8x2048 .f32) (x1 : Vec Ideal S1x2048x1024 .f32) (x2 : Vec Ideal S1x1x1024 .f32) (i : Fin 8) (j : Fin 1024) :
    k0_pay1 x0 x1 x2 (ix2 i j) = (∑ k, Ideal.div (x0 (ix2 i k)) (1 + Ideal.exp (0 - x0 (ix2 i k))) * x1 (ix3 0 k j)) + x2 (ix3 0 0 j) := by
  pointwise [k0_pay1]

/-- The blocks' places, decided over the grid. -/
theorem places : ∀ t : Fin cfg0.N, win0_0.index t = ![0, 0] ∧ win0_1.index t = ![0, 0, t.val] ∧ win0_2.index t = ![0, 0, t.val] ∧ win0_3.index t = ![0, t.val] :=
  (by decide +kernel : ∀ t : Fin grid0.N, _)

theorem N_lt (t : Fin cfg0.N) : t.val < 12 := lt_of_lt_of_eq t.isLt N_0

/-- The column of the array where a point's block has its column `j`. -/
def col (t : Fin cfg0.N) (j : Fin 1024) : Fin 12288 := ⟨1024 * t.val + j.val, by have := N_lt t; omega⟩

theorem blk0 (t : Fin cfg0.N) (i : Fin 8) (k : Fin 2048) : iblk m c 0 t (ix2 i k) = crow (arA m c) (arE m c) i k := by
  have e := (places t).1
  refine Eq.trans ?_ (V2_apply m c i k)
  unfold iblk
  refine congrArg (V m c main_v2) (funext fun a => Fin.ext ?_)
  match a with
  | ⟨0, _⟩ => show win0_0.index t (0 : Fin 2) * 8 + 1 * i.val = i.val; rw [e]; simp
  | ⟨1, _⟩ => show win0_0.index t (1 : Fin 2) * 2048 + 1 * k.val = k.val; rw [e]; simp

theorem blk1 (t : Fin cfg0.N) (k : Fin 2048) (j : Fin 1024) : iblk m c 1 t (ix3 0 k j) = arW m c (ix3 0 k (col t j)) := by
  have e := (places t).2.1
  refine Eq.trans ?_ (congrFun (V_main_arg2 m c) _)
  unfold iblk
  refine congrArg (V m c main_arg2) (funext fun a => Fin.ext ?_)
  match a with
  | ⟨0, _⟩ => show win0_1.index t (0 : Fin 3) * 1 + 1 * 0 = 0; rw [e]; simp
  | ⟨1, _⟩ => show win0_1.index t (1 : Fin 3) * 2048 + 1 * k.val = k.val; rw [e]; simp
  | ⟨2, _⟩ => show win0_1.index t (2 : Fin 3) * 1024 + 1 * j.val = 1024 * t.val + j.val; rw [e]; simp; omega

theorem blk2 (t : Fin cfg0.N) (j : Fin 1024) : iblk m c 2 t (ix3 0 0 j) = arB m c (ix2 0 (col t j)) := by
  have e := (places t).2.2.1
  refine Eq.trans ?_ (V3_apply m c (col t j))
  unfold iblk
  refine congrArg (V m c main_v3) (funext fun a => Fin.ext ?_)
  match a with
  | ⟨0, _⟩ => show win0_2.index t (0 : Fin 3) * 1 + 1 * 0 = 0; rw [e]; simp
  | ⟨1, _⟩ => show win0_2.index t (1 : Fin 3) * 1 + 1 * 0 = 0; rw [e]; simp
  | ⟨2, _⟩ => show win0_2.index t (2 : Fin 3) * 1024 + 1 * j.val = 1024 * t.val + j.val; rw [e]; simp; omega

/-- The array after the launch. -/
def G3 : Vec Ideal S8x12288 .f32 := fun i => modul (arA m c) (arE m c) (arW m c) (arB m c) (i 0) (i 1)

/-- What the body leaves is its payload of the whole blocks. -/
theorem out_eq (x0 : Vec Ideal S8x2048 .f32) (x1 : Vec Ideal S1x2048x1024 .f32) (x2 : Vec Ideal S1x1x1024 .f32) : out0_3 x0 x1 x2 = k0_pay1 x0 x1 x2 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_3
  exact (View.canon_unit_zero (S := S8x1024) hz2 _ _).trans (by
    simp only [r0_0, r0_1, r0_2, View.ld_unit_zero (S := S8x2048) hz2, View.ld_unit_zero (S := S1x2048x1024) hz3, View.ld_unit_zero (S := S1x1x1024) hz3])

theorem oBlk_apply (t : Fin cfg0.N) (i : Fin 8) (j : Fin 1024) :
    out0_3 (iblk m c 0 t) (iblk m c 1 t) (iblk m c 2 t) (ix2 i j) = modul (arA m c) (arE m c) (arW m c) (arB m c) i (col t j) := by
  rw [out_eq]
  refine (pay1_apply _ _ _ i j).trans ?_
  unfold modul
  refine congrArg₂ (· + ·) (Finset.sum_congr rfl fun k _ => ?_) (blk2 m c t j)
  rw [blk0, blk1]

theorem flushed_3 (t : Fin cfg0.N) : (dats m 0 c).flushed 3 t = ((cfg0.win 3).blk t).view.read (Elt Ideal) (G3 m c) := by
  rw [Value.flushed3]
  have e := (places t).2.2.2
  funext y
  have h0 : (y 0).val < 8 := (y 0).isLt
  have h1 : (y 1).val < 1024 := (y 1).isLt
  have hy : (cfg0.win 3).xinj (grid0.coords t) y = ix2 (⟨(y 0).val, h0⟩ : Fin 8) (⟨(y 1).val, h1⟩ : Fin 1024) := by
    funext a; apply Fin.ext
    match a with
    | ⟨0, _⟩ => rfl
    | ⟨1, _⟩ => rfl
  show out0_3 (iblk m c 0 t) (iblk m c 1 t) (iblk m c 2 t) ((cfg0.win 3).xinj (grid0.coords t) y) = G3 m c (((cfg0.win 3).blk t).view.emb y)
  rw [hy, oBlk_apply]
  have e0 : (⟨(y 0).val, h0⟩ : Fin 8) = ((cfg0.win 3).blk t).view.emb y 0 := Fin.ext (by
    show (y 0).val = win0_3.index t (0 : Fin 2) * 8 + 1 * (y 0).val
    rw [e]; show (y 0).val = 0 * 8 + 1 * (y 0).val; omega)
  have e1 : col t ⟨(y 1).val, h1⟩ = ((cfg0.win 3).blk t).view.emb y 1 := Fin.ext (by
    show 1024 * t.val + (y 1).val = win0_3.index t (1 : Fin 2) * 1024 + 1 * (y 1).val
    rw [e]; show 1024 * t.val + (y 1).val = t.val * 1024 + 1 * (y 1).val; omega)
  rw [e0, e1]
  rfl

theorem final_3 : (dats m 0 c).arrAt 3 cfg0.N = G3 m c := by
  refine (dats m 0 c).arrAt_eq_of_cover 3 _ (fun t _ => flushed_3 m c t) fun (i : S8x12288.Idx) => ?_
  have h0 : (i 0).val < 8 := (i 0).isLt
  have h1 : (i 1).val < 12288 := (i 1).isLt
  obtain ⟨t, ht⟩ : ∃ t : Fin cfg0.N, t.val = (i 1).val / 1024 := ⟨⟨(i 1).val / 1024, lt_of_lt_of_eq (by omega) N_0.symm⟩, rfl⟩
  have e := (places t).2.2.2
  refine ⟨t, flush0_3 t, ?_⟩
  show i ∈ ((View.whole main_v4).slice (win0_3.rect t)).set
  rw [View.set_slice_whole, Rect.mem_set_unit]
  intro a
  match a with
  | ⟨0, _⟩ => show win0_3.index t (0 : Fin 2) * 8 ≤ (i 0).val ∧ (i 0).val < win0_3.index t (0 : Fin 2) * 8 + 8; rw [e]; show 0 * 8 ≤ _ ∧ _ < 0 * 8 + 8; omega
  | ⟨1, _⟩ => show win0_3.index t (1 : Fin 2) * 1024 ≤ (i 1).val ∧ (i 1).val < win0_3.index t (1 : Fin 2) * 1024 + 1024; rw [e]; show t.val * 1024 ≤ _ ∧ _ < t.val * 1024 + 1024; omega

end Cert.ModulateIdeal.Layer

end
-- ==== Proof.Modulate.Ref.lean ====
/-
  The modulation's reference, entry by entry.
-/
module

public import proofs.«01_k».proof.Proof.Modulate.Rows
public import proofs.«01_k».proof.Proof.Ffn.Ref
public import proofs.«01_k».proof.Proof.Gen.ModulateReferenceIdeal.Run

@[expose] public section

noncomputable section

namespace Cert.ModulateReferenceIdeal.Layer

open Cert.ModulateReferenceIdeal Cert.ModulateReferenceIdeal.Gen Cert.ModulateReferenceIdeal.Value Idealize.ShloMosaic Idealize.ShloMosaic.TcCoe Idealize.SL.Sem
open Cert.ModulateIdeal.Layer (crow modul)
open Cert.FfnReferenceIdeal.Layer (silu)

variable (a : FVec Ideal S4x2048 .f32) (e : FVec Ideal S2048 .f32) (w : FVec Ideal S2x2048x12288 .f32) (b : FVec Ideal S2x12288 .f32)

/-- The conditioning rows. -/
def rows : FVec Ideal S8x2048 .f32 :=
  concatenate S8x2048 0 [⟨S1x2048, (broadcastInDim S1x2048 ![1] bcast_S2048_S1x2048_1 e : FVec Ideal S1x2048 .f32)⟩, ⟨S4x2048, a⟩,
    ⟨S3x2048, (broadcastInDim S3x2048 ![] bcast_S_S3x2048 (constant S_ .f32 0x00000000#32) : FVec Ideal S3x2048 .f32)⟩]
    concatenates_S1x2048_S4x2048_S3x2048_S8x2048_d0

/-- The reference's result as one term of the arguments. -/
def out : FVec Ideal S8x12288 .f32 :=
  addf (Host.dotGeneral dot_S8x2048_S2048x12288_S8x12288_1_0_0_1_n_n none
      (mulf (rows a e) (Host.divf (broadcastInDim S8x2048 ![] bcast_S_S8x2048 (constant S_ .f32 0x3F800000#32))
        (addf (broadcastInDim S8x2048 ![] bcast_S_S8x2048 (constant S_ .f32 0x3F800000#32)) (Host.exp (Host.negf (rows a e))))))
      (shapeCast _ (extractStridedSlice S1x2048x12288 ![0, 0, 0] w slices_S2x2048x12288_S1x2048x12288_0_0_0) shapeCasts_S1x2048x12288_S2048x12288))
    (broadcastInDim S8x12288 ![0, 1] bcast_S1x12288_S8x12288_0_1 (broadcastInDim S1x12288 ![1] bcast_S12288_S1x12288_1
      (shapeCast _ (extractStridedSlice S1x12288 ![0, 0] b slices_S2x12288_S1x12288_0_0) shapeCasts_S1x12288_S12288)))

theorem rows_apply (i : Fin 8) (k : Fin 2048) : rows a e (ix2 i k) = crow a e i k := by
  unfold crow
  pointwise [rows]
  rw [dite_eq_ite]

theorem result (i : Fin 8) (j : Fin 12288) : out a e w b (ix2 i j) = modul a e w b i j := by
  unfold out modul
  pointwise
  simp only [silu, rows_apply]

end Cert.ModulateReferenceIdeal.Layer
end
-- ==== Proof.Modulate.Claim.lean ====
/-
  The modulation's call and its reference end with the same result.
-/
module

public import proofs.«01_k».proof.Defs
public import proofs.«01_k».proof.Proof.Modulate.Rows
public import proofs.«01_k».proof.Proof.Modulate.Ref

@[expose] public section

noncomputable section

namespace Cert.Modulate

open Idealize.ShloMosaic Idealize.SL.Sem

/-- The call and its reference end with the same result. -/
theorem algebraic : Cert.algebraic_ModulateIdeal_ModulateReferenceIdeal (hModulateIdeal := Cert.ModulateIdeal.Gen.facts) (hModulateReferenceIdeal := Cert.ModulateReferenceIdeal.Gen.facts) := by
  intro m g m' g' _ h
  refine ⟨fun c => Cert.ModulateIdeal.Layer.G3 m c, ?_, ?_⟩
  · exact (θ_run _ _ _).mono (fun r hr c => ⟨(hr c).1.trans (Cert.ModulateIdeal.Layer.final_3 m c), (hr c).2⟩) (Cert.ModulateIdeal.Value.run_blocks m g)
  · refine (θ_run _ _ _).mono (fun r hr c => ⟨(hr c).1.trans ?_, (hr c).2⟩) (Cert.ModulateReferenceIdeal.Value.run m' g')
    obtain ⟨e0, e1, e2, e3⟩ := h c
    rw [e0, e1, e2, e3]
    funext j
    obtain ⟨i, k, rfl⟩ : ∃ (i : Fin 8) (k : Fin 12288), j = ix2 i k := ⟨j 0, j 1, eq_ix2 j⟩
    exact Cert.ModulateReferenceIdeal.Layer.result _ _ _ _ i k

end Cert.Modulate

end
-- ==== Proof.Project.Body.lean ====
/-
  The entries of the projections' payloads, and of the arrays that the host prepares for the call.
-/
module

public import proofs.«01_k».proof.Proof.Gen.ProjectIdeal.Skeleton
public import proofs.«01_k».proof.Proof.Gen.ProjectIdeal.Launch
public import Idealize.ShloMosaic.Lib.Pointwise
public import Idealize.ShloMosaic.Lib.StableHlo.ReadAt

@[expose] public section

set_option maxRecDepth 16384

noncomputable section

namespace Cert.ProjectIdeal.Layer

open Cert.ProjectIdeal Cert.ProjectIdeal.Gen Idealize.ShloMosaic Idealize.ShloMosaic.TcCoe Idealize.SL.Sem

theorem pay4_apply (a : Vec Ideal S1x512x2048 .f32) (b c d : Vec Ideal S1x1x2048 .f32) (r : Fin 512) (k : Fin 2048) :
    k0_pay4 a b c d (ix2 r k) = a (ix3 0 r k) * Ideal.rsqrt (Ideal.div (∑ x, a (ix3 0 r x) * a (ix3 0 r x)) (Ideal.ofBits FTy.f32 1157627904#32)
      + Ideal.ofBits FTy.f32 897988541#32) * b (ix3 0 0 k) * (1 + c (ix3 0 0 k)) + d (ix3 0 0 k) := by
  pointwise [k0_pay4]

theorem pay68_apply (h : Vec Ideal S512x2048 .bf16) (w : Vec Ideal S1x2048x512 .bf16) (r : Fin 512) (j : Fin 256) :
    k0_pay68 (k0_pay58 h w) (ix3 0 r j) = ∑ k, h (ix2 r k) * w (ix3 0 k ⟨256 + j.val, by omega⟩) := by
  pointwise [k0_pay68, k0_pay58]

theorem pay123_apply (h : Vec Ideal S512x2048 .bf16) (w : Vec Ideal S1x2048x512 .bf16) (r : Fin 512) (j : Fin 256) :
    k0_pay123 h w (ix3 0 r j) = ∑ k, h (ix2 r k) * w (ix3 0 k ⟨0 + j.val, by omega⟩) := by
  pointwise [k0_pay123, k0_pay122]

theorem pay124_apply (h : Vec Ideal S512x2048 .bf16) (w : Vec Ideal S1x2048x512 .bf16) (r : Fin 512) (j : Fin 256) :
    k0_pay124 h w (ix3 0 r j) = ∑ k, h (ix2 r k) * w (ix3 0 k ⟨256 + j.val, by omega⟩) := by
  pointwise [k0_pay124, k0_pay122]

theorem pay125_apply (h : Vec Ideal S512x2048 .bf16) (w : Vec Ideal S1x2048x512 .bf16) (r : Fin 512) (j : Fin 512) :
    k0_pay1 (k0_pay125 h w) (ix3 0 r j) = ∑ k, h (ix2 r k) * w (ix3 0 k j) := by
  pointwise [k0_pay1, k0_pay125]

theorem pay2_apply (h : Vec Ideal S512x2048 .bf16) (w : Vec Ideal S1x2048x512 .bf16) (r : Fin 512) (j : Fin 512) :
    k0_pay2 h w (ix3 0 r j) = ∑ k, h (ix2 r k) * w (ix3 0 k j) := by
  pointwise [k0_pay2]

theorem pay99_apply (h : Vec Ideal S512x2048 .bf16) (w : Vec Ideal S1x2048x512 .bf16) (r : Fin 512) (j : Fin 512) :
    k0_pay99 h w (ix2 r j) = ∑ k, h (ix2 r k) * w (ix3 0 k j) := by
  pointwise [k0_pay99]

theorem pay100_apply (h : Vec Ideal S512x2048 .bf16) (w : Vec Ideal S1x2048x512 .bf16) (gl : Vec Ideal S1x1x256 .f32) (wu : Vec Ideal S1x256x1024 .bf16) (r : Fin 512) (j : Fin 1024) :
    k0_pay100 h w gl wu (ix2 r j) = ∑ y : Fin 256,
      ((∑ k, h (ix2 r k) * w (ix3 0 k ⟨0 + y.val, by omega⟩))
        * Ideal.rsqrt (Ideal.div (∑ z : Fin 256, (∑ k, h (ix2 r k) * w (ix3 0 k ⟨0 + z.val, by omega⟩)) * (∑ k, h (ix2 r k) * w (ix3 0 k ⟨0 + z.val, by omega⟩)))
            (Ideal.ofBits FTy.f32 1132462080#32) + Ideal.ofBits FTy.f32 897988541#32) * gl (ix3 0 0 y)) * wu (ix3 0 y j) := by
  pointwise [k0_pay100]
  simp only [pay99_apply]

theorem pay119_apply (z : FVec Ideal S512x1024 .f32) (r : Fin 512) (j : Fin 512) :
    k0_pay119 (F := Ideal) z (ix3 0 r j) = z (ix2 r ⟨512 + j.val, by omega⟩) := by
  pointwise [k0_pay119]

variable (m : (ℓ : Loc nD τ sig) → Buf (Elt Ideal) ℓ) (c : Dev nD)

/-- An array as the call finds it. -/
abbrev W (b : Ref sig .tc) : Buf (Elt Ideal) ((c : Thread nD τ).loc b) := StableHlo.after hostOps0 (fun b => m (c, b)) b

theorem W76 (k : Fin 2048) : W m c main_v76 (ix3 0 0 k) = m ((c.tc : Thread nD τ).loc main_arg2) (ix2 0 k) := by
  unfold W
  after_reads_at

theorem W71 (k : Fin 256) : W m c main_v71 (ix3 0 0 k) = m ((c.tc : Thread nD τ).loc main_arg11) (ix2 0 k) := by
  unfold W
  after_reads_at

theorem U39 (k : Fin 2048) (j : Fin 2304) (q : Fin 3936) (hq : q.val = j.val) :
    StableHlo.upto hostOps0 (fun b => m (c, b)) 48 (Proc.tc.devRef main_v39) (ix3 0 k j) = m ((c.tc : Thread nD τ).loc main_arg3) (ix3 0 k q) := by
  rw [show q = ⟨0 + j.val, by have := j.isLt; omega⟩ from Fin.ext (hq.trans (zero_add _).symm)]
  after_reads_at

theorem U44 (k : Fin 2048) (j : Fin 1536) (q : Fin 3936) (hq : q.val = 2368 + j.val) :
    StableHlo.upto hostOps0 (fun b => m (c, b)) 48 (Proc.tc.devRef main_v44) (ix3 0 k j) = m ((c.tc : Thread nD τ).loc main_arg3) (ix3 0 k q) := by
  rw [show q = ⟨2368 + j.val, by have := j.isLt; omega⟩ from Fin.ext hq]
  after_reads_at

theorem U57 (y : Fin 256) (j : Fin 512) :
    StableHlo.upto hostOps0 (fun b => m (c, b)) 61 (Proc.tc.devRef main_v57) (ix3 0 y j)
      = m ((c.tc : Thread nD τ).loc main_arg13) (ix3 0 y ⟨j.val / 128 * 256 + (128 + j.val % 128), by omega⟩) := by
  after_reads_at

theorem U1 (b : Fin 4) (k : Fin 12288) :
    StableHlo.upto hostOps0 (fun b => m (c, b)) 5 (Proc.tc.devRef main_v1) (ix2 b k) = m ((c.tc : Thread nD τ).loc main_arg1) (ix3 b 0 k) := by
  after_reads_at

theorem W46_lo (k : Fin 2048) (j : Fin 4096) (q : Fin 3936) (hj : j.val < 2304) (hq : q.val = j.val) :
    W m c main_v46 (ix3 0 k j) = m ((c.tc : Thread nD τ).loc main_arg3) (ix3 0 k q) := by
  unfold W
  after_reads_at
  rw [dif_pos hj]
  exact U39 m c k _ q hq

theorem W46_hi (k : Fin 2048) (j : Fin 4096) (q : Fin 3936) (hq : j.val = 192 + q.val) (h : 2368 ≤ q.val) :
    W m c main_v46 (ix3 0 k j) = m ((c.tc : Thread nD τ).loc main_arg3) (ix3 0 k q) := by
  unfold W
  after_reads_at
  rw [dif_neg (by omega), dif_neg (by omega), dif_neg (by omega), dif_neg (by omega), dif_neg (by omega)]
  exact U44 m c k _ q (by show q.val = 2368 + (j.val - 2304 - 64 - 64 - 32 - 96); omega)

theorem W84 (y : Fin 256) (j : Fin 512) :
    W m c main_v84 (ix3 0 y ⟨512 + j.val, by omega⟩) = m ((c.tc : Thread nD τ).loc main_arg13) (ix3 0 y ⟨j.val / 128 * 256 + (128 + j.val % 128), by omega⟩) := by
  unfold W
  after_reads_at
  exact U57 m c y j

theorem W4 (b : Fin 4) (j : Fin 6) (k : Fin 2048) :
    W m c main_v4 (ix3 (⟨b.val + 1, by omega⟩ : Fin 8) j k) = m ((c.tc : Thread nD τ).loc main_arg1) (ix3 b 0 ⟨j.val * 2048 + k.val, by omega⟩) := by
  unfold W
  after_reads_at
  rw [dif_neg (by omega), dif_pos (by omega)]
  exact U1 m c _ _

end Cert.ProjectIdeal.Layer

end
-- ==== Proof.Project.Frame.lean ====
/-
  The projections' call: what its body leaves in each output's buffer, and that the call ends with every array at
  what its points wrote back, the arguments unchanged and the semaphores at zero.
-/
module

public import proofs.«01_k».proof.Proof.Gen.ProjectIdeal.Launch
public import proofs.«01_k».proof.Proof.Gen.ProjectIdeal.Skeleton
public import proofs.«01_k».proof.Proof.Gen.ProjectIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of these extents (`View.cover_of_tiled`) recurses once per coordinate of the long axes
set_option maxRecDepth 16384

noncomputable section

namespace Cert.ProjectIdeal.Whole

open Cert.ProjectIdeal Cert.ProjectIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1860000 in
/-- The arguments end unchanged, from a run to `FramePost`: for any proof data whose arrays are what the region finds
    (`hA`), a staged input is unchanged by `Dat.arrAt_in`, and an array that no window stages by the post's second
    clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩) h

/-! ## The body's accesses -/

abbrev r0_0 : Rect S1x512x2048 := Rect.unit (s := S1x512x2048) ![0, 0, 0] S1x512x2048.size inb_S1x512x2048_S1x512x2048_0_0_0
abbrev r0_1 : Rect S1x1x2048 := Rect.unit (s := S1x1x2048) ![0, 0, 0] S1x1x2048.size inb_S1x1x2048_S1x1x2048_0_0_0
abbrev r0_2 : Rect S1x6x2048 := Rect.unit (s := S1x6x2048) ![0, 1, 0] S1x1x2048.size inb_S1x6x2048_S1x1x2048_0_1_0
abbrev r0_3 : Rect S1x6x2048 := Rect.unit (s := S1x6x2048) ![0, 0, 0] S1x1x2048.size inb_S1x6x2048_S1x1x2048_0_0_0
abbrev r0_4 : Rect S1x2048x4096 := Rect.unit (s := S1x2048x4096) ![0, 0, 0] S1x2048x512.size inb_S1x2048x4096_S1x2048x512_0_0_0
abbrev r0_5 : Rect S1x1x128 := Rect.unit (s := S1x1x128) ![0, 0, 0] S1x1x128.size inb_S1x1x128_S1x1x128_0_0_0
abbrev r0_6 : Rect S512x128 := Rect.unit (s := S512x128) ![0, 0] S512x128.size inb_S512x128_S512x128_0_0
abbrev r0_7 : Rect S1x512x1024 := Rect.unit (s := S1x512x1024) ![0, 0, 0] S1x512x128.size inb_S1x512x1024_S1x512x128_0_0_0
abbrev r0_8 : Rect S1x512x1024 := Rect.unit (s := S1x512x1024) ![0, 0, 128] S1x512x128.size inb_S1x512x1024_S1x512x128_0_0_128
abbrev r0_9 : Rect S1x512x1024 := Rect.unit (s := S1x512x1024) ![0, 0, 256] S1x512x128.size inb_S1x512x1024_S1x512x128_0_0_256
abbrev r0_10 : Rect S1x512x1024 := Rect.unit (s := S1x512x1024) ![0, 0, 384] S1x512x128.size inb_S1x512x1024_S1x512x128_0_0_384
abbrev r0_11 : Rect S1x2048x4096 := Rect.unit (s := S1x2048x4096) ![0, 0, 512] S1x2048x512.size inb_S1x2048x4096_S1x2048x512_0_0_512
abbrev r0_12 : Rect S1x512x1024 := Rect.unit (s := S1x512x1024) ![0, 0, 512] S1x512x128.size inb_S1x512x1024_S1x512x128_0_0_512
abbrev r0_13 : Rect S1x512x1024 := Rect.unit (s := S1x512x1024) ![0, 0, 640] S1x512x128.size inb_S1x512x1024_S1x512x128_0_0_640
abbrev r0_14 : Rect S1x512x1024 := Rect.unit (s := S1x512x1024) ![0, 0, 768] S1x512x128.size inb_S1x512x1024_S1x512x128_0_0_768
abbrev r0_15 : Rect S1x512x1024 := Rect.unit (s := S1x512x1024) ![0, 0, 896] S1x512x128.size inb_S1x512x1024_S1x512x128_0_0_896
abbrev r0_16 : Rect S1x2048x4096 := Rect.unit (s := S1x2048x4096) ![0, 0, 1024] S1x2048x512.size inb_S1x2048x4096_S1x2048x512_0_0_1024
abbrev r0_17 : Rect S1x512x256 := Rect.unit (s := S1x512x256) ![0, 0, 0] S1x512x128.size inb_S1x512x256_S1x512x128_0_0_0
abbrev r0_18 : Rect S1x512x256 := Rect.unit (s := S1x512x256) ![0, 0, 128] S1x512x128.size inb_S1x512x256_S1x512x128_0_0_128
abbrev r0_19 : Rect S1x512x256 := Rect.unit (s := S1x512x256) ![0, 0, 0] S1x512x256.size inb_S1x512x256_S1x512x256_0_0_0
abbrev r0_20 : Rect S1x2048x4096 := Rect.unit (s := S1x2048x4096) ![0, 0, 1536] S1x2048x512.size inb_S1x2048x4096_S1x2048x512_0_0_1536
abbrev r0_21 : Rect S1x1x512 := Rect.unit (s := S1x1x512) ![0, 0, 0] S1x1x512.size inb_S1x1x512_S1x1x512_0_0_0
abbrev r0_22 : Rect S1x512x768 := Rect.unit (s := S1x512x768) ![0, 0, 0] S1x512x768.size inb_S1x512x768_S1x512x768_0_0_0
abbrev r0_23 : Rect S1x2048x4096 := Rect.unit (s := S1x2048x4096) ![0, 0, 2048] S1x2048x512.size inb_S1x2048x4096_S1x2048x512_0_0_2048
abbrev r0_24 : Rect S1x1x256 := Rect.unit (s := S1x1x256) ![0, 0, 0] S1x1x256.size inb_S1x1x256_S1x1x256_0_0_0
abbrev r0_25 : Rect S1x256x1024 := Rect.unit (s := S1x256x1024) ![0, 0, 0] S1x256x1024.size inb_S1x256x1024_S1x256x1024_0_0_0
abbrev r0_26 : Rect S1x512x512 := Rect.unit (s := S1x512x512) ![0, 0, 0] S1x512x512.size inb_S1x512x512_S1x512x512_0_0_0
abbrev r0_27 : Rect S1x128x512 := Rect.unit (s := S1x128x512) ![0, 0, 0] S1x128x512.size inb_S1x128x512_S1x128x512_0_0_0
abbrev r0_28 : Rect S1x2048x4096 := Rect.unit (s := S1x2048x4096) ![0, 0, 2560] S1x2048x512.size inb_S1x2048x4096_S1x2048x512_0_0_2560
abbrev r0_29 : Rect S1x2048x4096 := Rect.unit (s := S1x2048x4096) ![0, 0, 3072] S1x2048x512.size inb_S1x2048x4096_S1x2048x512_0_0_3072
abbrev r0_30 : Rect S1x2048x4096 := Rect.unit (s := S1x2048x4096) ![0, 0, 3584] S1x2048x512.size inb_S1x2048x4096_S1x2048x512_0_0_3584

/-! ## What the body leaves in each output window's buffer -/

/-! ### Values of the body that the stores' payloads, spelt out, would write more than once

    Each is a vector the body binds (often a part call's result), stated over the input windows' blocks and
    numbered on from the skeleton's payload functions (`k0_pay126` …, after `k0_pay125`), so that
    `out0_W` and the values after it name it instead of spelling it out; the comment after each is the printed function's
    name for the value (a count appended where that name is bound again). -/

def k0_pay126 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : IVec S512x128 32 :=
  iota .tc S512x128 32 [1] iota_S512x128_d1_w32 -- `v0`
def k0_pay127 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : IVec S512x128 1 :=
  k0_pay3 -- `v2`
def k0_pay128 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x2048 .bf16 :=
  k0_pay4 (View.ld x0 r0_0) (View.ld x2 r0_1) (View.ld x1 r0_2) (View.ld x1 r0_3) -- `v29`
def k0_pay129 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x512 .f32 :=
  k0_pay5 (View.ld x0 r0_0) (View.ld x2 r0_1) (View.ld x1 r0_2) (View.ld x1 r0_3) (View.ld x3 r0_4) -- `v32`
def k0_pay130 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay6 (View.ld x0 r0_0) (View.ld x2 r0_1) (View.ld x1 r0_2) (View.ld x1 r0_3) (View.ld x3 r0_4) -- `v33`
def k0_pay131 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay11 (k0_pay129 x0 x1 x2 x3 x4 x5 x6 x7 x8 x9 x10 x11 x12 x13 x14 x15 x16 x17 x18 x19) (View.ld x8 r0_5) -- `v118`
def k0_pay132 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay20 (k0_pay129 x0 x1 x2 x3 x4 x5 x6 x7 x8 x9 x10 x11 x12 x13 x14 x15 x16 x17 x18 x19) -- `v246`
def k0_pay133 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x512 .f32 :=
  k0_pay25 (k0_pay128 x0 x1 x2 x3 x4 x5 x6 x7 x8 x9 x10 x11 x12 x13 x14 x15 x16 x17 x18 x19) (View.ld x3 r0_11) -- `v319`
def k0_pay134 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay26 (k0_pay128 x0 x1 x2 x3 x4 x5 x6 x7 x8 x9 x10 x11 x12 x13 x14 x15 x16 x17 x18 x19) (View.ld x3 r0_11) -- `v320`
def k0_pay135 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S1x128 .f32 :=
  k0_pay27 (View.ld x8 r0_5) -- `v322`
def k0_pay136 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x1 .f32 :=
  k0_pay28 (k0_pay128 x0 x1 x2 x3 x4 x5 x6 x7 x8 x9 x10 x11 x12 x13 x14 x15 x16 x17 x18 x19) (View.ld x3 r0_11) -- `v327`
def k0_pay137 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay49 (k0_pay133 x0 x1 x2 x3 x4 x5 x6 x7 x8 x9 x10 x11 x12 x13 x14 x15 x16 x17 x18 x19) -- `v533`
def k0_pay138 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S1x128 .f32 :=
  k0_pay50 (View.ld x8 r0_5) -- `v535`
def k0_pay139 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x1 .f32 :=
  k0_pay51 (k0_pay133 x0 x1 x2 x3 x4 x5 x6 x7 x8 x9 x10 x11 x12 x13 x14 x15 x16 x17 x18 x19) -- `v538`
def k0_pay140 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x512 .f32 :=
  k0_pay58 (k0_pay128 x0 x1 x2 x3 x4 x5 x6 x7 x8 x9 x10 x11 x12 x13 x14 x15 x16 x17 x18 x19) (View.ld x3 r0_16) -- `v606`
def k0_pay141 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay59 (k0_pay128 x0 x1 x2 x3 x4 x5 x6 x7 x8 x9 x10 x11 x12 x13 x14 x15 x16 x17 x18 x19) (View.ld x3 r0_16) (View.ld x9 r0_5) -- `v621`
def k0_pay142 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x768 .f32 :=
  k0_pay69 (k0_pay128 x0 x1 x2 x3 x4 x5 x6 x7 x8 x9 x10 x11 x12 x13 x14 x15 x16 x17 x18 x19) (View.ld x3 r0_20) (View.ld x10 r0_21) (View.ld x16 r0_22) -- `v774`
def k0_pay143 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay80 (k0_pay142 x0 x1 x2 x3 x4 x5 x6 x7 x8 x9 x10 x11 x12 x13 x14 x15 x16 x17 x18 x19) -- `v851`
def k0_pay144 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay81 (k0_pay127 x0 x1 x2 x3 x4 x5 x6 x7 x8 x9 x10 x11 x12 x13 x14 x15 x16 x17 x18 x19) (k0_pay142 x0 x1 x2 x3 x4 x5 x6 x7 x8 x9 x10 x11 x12 x13 x14 x15 x16 x17 x18 x19) -- `v865`
def k0_pay145 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay82 (k0_pay143 x0 x1 x2 x3 x4 x5 x6 x7 x8 x9 x10 x11 x12 x13 x14 x15 x16 x17 x18 x19) (k0_pay144 x0 x1 x2 x3 x4 x5 x6 x7 x8 x9 x10 x11 x12 x13 x14 x15 x16 x17 x18 x19) (Scalar.ofBits .f32 0x3C800000#32) (View.ld x14 r0_5) -- `v875`
def k0_pay146 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay83 (k0_pay143 x0 x1 x2 x3 x4 x5 x6 x7 x8 x9 x10 x11 x12 x13 x14 x15 x16 x17 x18 x19) (k0_pay144 x0 x1 x2 x3 x4 x5 x6 x7 x8 x9 x10 x11 x12 x13 x14 x15 x16 x17 x18 x19) (Scalar.ofBits .f32 0x3C800000#32) (View.ld x14 r0_5) (View.ld x6 r0_6) -- `v878`
def k0_pay147 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : IVec S512x128 32 :=
  k0_pay84 (k0_pay126 x0 x1 x2 x3 x4 x5 x6 x7 x8 x9 x10 x11 x12 x13 x14 x15 x16 x17 x18 x19) -- `v906`
def k0_pay148 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : IVec S512x128 1 :=
  k0_pay85 (k0_pay126 x0 x1 x2 x3 x4 x5 x6 x7 x8 x9 x10 x11 x12 x13 x14 x15 x16 x17 x18 x19) -- `v908`
def k0_pay149 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay89 (k0_pay142 x0 x1 x2 x3 x4 x5 x6 x7 x8 x9 x10 x11 x12 x13 x14 x15 x16 x17 x18 x19) -- `v940`
def k0_pay150 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x1 .f32 :=
  k0_pay91 (k0_pay127 x0 x1 x2 x3 x4 x5 x6 x7 x8 x9 x10 x11 x12 x13 x14 x15 x16 x17 x18 x19) (k0_pay142 x0 x1 x2 x3 x4 x5 x6 x7 x8 x9 x10 x11 x12 x13 x14 x15 x16 x17 x18 x19) -- `v945`
def k0_pay151 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay92 (k0_pay127 x0 x1 x2 x3 x4 x5 x6 x7 x8 x9 x10 x11 x12 x13 x14 x15 x16 x17 x18 x19) (k0_pay142 x0 x1 x2 x3 x4 x5 x6 x7 x8 x9 x10 x11 x12 x13 x14 x15 x16 x17 x18 x19) -- `v947`
def k0_pay152 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay93 (k0_pay127 x0 x1 x2 x3 x4 x5 x6 x7 x8 x9 x10 x11 x12 x13 x14 x15 x16 x17 x18 x19) (k0_pay149 x0 x1 x2 x3 x4 x5 x6 x7 x8 x9 x10 x11 x12 x13 x14 x15 x16 x17 x18 x19) (k0_pay150 x0 x1 x2 x3 x4 x5 x6 x7 x8 x9 x10 x11 x12 x13 x14 x15 x16 x17 x18 x19) (k0_pay151 x0 x1 x2 x3 x4 x5 x6 x7 x8 x9 x10 x11 x12 x13 x14 x15 x16 x17 x18 x19) (View.ld x14 r0_5) -- `v964`
def k0_pay153 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay94 (k0_pay127 x0 x1 x2 x3 x4 x5 x6 x7 x8 x9 x10 x11 x12 x13 x14 x15 x16 x17 x18 x19) (k0_pay149 x0 x1 x2 x3 x4 x5 x6 x7 x8 x9 x10 x11 x12 x13 x14 x15 x16 x17 x18 x19) (k0_pay150 x0 x1 x2 x3 x4 x5 x6 x7 x8 x9 x10 x11 x12 x13 x14 x15 x16 x17 x18 x19) (k0_pay151 x0 x1 x2 x3 x4 x5 x6 x7 x8 x9 x10 x11 x12 x13 x14 x15 x16 x17 x18 x19) (View.ld x14 r0_5) (View.ld x6 r0_6) -- `v967`
def k0_pay154 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : IVec S512x128 32 :=
  k0_pay95 (k0_pay126 x0 x1 x2 x3 x4 x5 x6 x7 x8 x9 x10 x11 x12 x13 x14 x15 x16 x17 x18 x19) -- `v991`
def k0_pay155 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x1024 .f32 :=
  k0_pay100 (k0_pay128 x0 x1 x2 x3 x4 x5 x6 x7 x8 x9 x10 x11 x12 x13 x14 x15 x16 x17 x18 x19) (View.ld x3 r0_23) (View.ld x11 r0_24) (View.ld x17 r0_25) -- `v1050`
def k0_pay156 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay102 (k0_pay128 x0 x1 x2 x3 x4 x5 x6 x7 x8 x9 x10 x11 x12 x13 x14 x15 x16 x17 x18 x19) (View.ld x3 r0_23) (View.ld x15 r0_5) (View.ld x6 r0_6) -- `v1068`
def k0_pay157 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .f32 :=
  k0_pay104 (k0_pay126 x0 x1 x2 x3 x4 x5 x6 x7 x8 x9 x10 x11 x12 x13 x14 x15 x16 x17 x18 x19) (k0_pay101 (k0_pay128 x0 x1 x2 x3 x4 x5 x6 x7 x8 x9 x10 x11 x12 x13 x14 x15 x16 x17 x18 x19) (View.ld x3 r0_23) (View.ld x15 r0_5)) 16#32 k0_pay103 -- `v1113`
def k0_pay158 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : FVec F S512x128 .bf16 :=
  k0_pay107 (k0_pay127 x0 x1 x2 x3 x4 x5 x6 x7 x8 x9 x10 x11 x12 x13 x14 x15 x16 x17 x18 x19) (k0_pay156 x0 x1 x2 x3 x4 x5 x6 x7 x8 x9 x10 x11 x12 x13 x14 x15 x16 x17 x18 x19) (k0_pay157 x0 x1 x2 x3 x4 x5 x6 x7 x8 x9 x10 x11 x12 x13 x14 x15 x16 x17 x18 x19) (View.ld x7 r0_6) -- `v1123`

/-- Window 20's staging buffer after the body, from the input windows' blocks: its 8 stores as pieces, LAST
    FIRST (Lib/Pipeline/FrameBody.lean `View.canon`; the payloads are the skeleton's and the values stated above). -/
def out0_20 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : Vec F S1x512x1024 .bf16 :=
  View.canon [⟨r0_15, k0_pay57 (k0_pay52 (k0_pay137 x0 x1 x2 x3 x4 x5 x6 x7 x8 x9 x10 x11 x12 x13 x14 x15 x16 x17 x18 x19) (k0_pay138 x0 x1 x2 x3 x4 x5 x6 x7 x8 x9 x10 x11 x12 x13 x14 x15 x16 x17 x18 x19) (k0_pay139 x0 x1 x2 x3 x4 x5 x6 x7 x8 x9 x10 x11 x12 x13 x14 x15 x16 x17 x18 x19)) (k0_pay53 (k0_pay137 x0 x1 x2 x3 x4 x5 x6 x7 x8 x9 x10 x11 x12 x13 x14 x15 x16 x17 x18 x19) (k0_pay138 x0 x1 x2 x3 x4 x5 x6 x7 x8 x9 x10 x11 x12 x13 x14 x15 x16 x17 x18 x19) (k0_pay139 x0 x1 x2 x3 x4 x5 x6 x7 x8 x9 x10 x11 x12 x13 x14 x15 x16 x17 x18 x19) (View.ld x4 r0_6)) (Scalar.select (Scalar.cmpi .eq 2#32 0#32) 1#32 2#32) (k0_pay54 (k0_pay126 x0 x1 x2 x3 x4 x5 x6 x7 x8 x9 x10 x11 x12 x13 x14 x15 x16 x17 x18 x19)) (k0_pay55 (k0_pay126 x0 x1 x2 x3 x4 x5 x6 x7 x8 x9 x10 x11 x12 x13 x14 x15 x16 x17 x18 x19)) (k0_pay56 (k0_pay126 x0 x1 x2 x3 x4 x5 x6 x7 x8 x9 x10 x11 x12 x13 x14 x15 x16 x17 x18 x19)) (View.ld x5 r0_6)⟩,
    ⟨r0_14, k0_pay48 (k0_pay42 (k0_pay133 x0 x1 x2 x3 x4 x5 x6 x7 x8 x9 x10 x11 x12 x13 x14 x15 x16 x17 x18 x19) (View.ld x8 r0_5)) (k0_pay43 (k0_pay133 x0 x1 x2 x3 x4 x5 x6 x7 x8 x9 x10 x11 x12 x13 x14 x15 x16 x17 x18 x19) (View.ld x8 r0_5) (View.ld x4 r0_6)) (k0_pay44 (k0_pay126 x0 x1 x2 x3 x4 x5 x6 x7 x8 x9 x10 x11 x12 x13 x14 x15 x16 x17 x18 x19)) (k0_pay45 (k0_pay126 x0 x1 x2 x3 x4 x5 x6 x7 x8 x9 x10 x11 x12 x13 x14 x15 x16 x17 x18 x19)) (k0_pay46 (k0_pay126 x0 x1 x2 x3 x4 x5 x6 x7 x8 x9 x10 x11 x12 x13 x14 x15 x16 x17 x18 x19)) k0_pay47 (View.ld x5 r0_6)⟩,
    ⟨r0_13, k0_pay41 (k0_pay37 (k0_pay133 x0 x1 x2 x3 x4 x5 x6 x7 x8 x9 x10 x11 x12 x13 x14 x15 x16 x17 x18 x19) (View.ld x8 r0_5) (View.ld x4 r0_6)) (k0_pay40 (k0_pay126 x0 x1 x2 x3 x4 x5 x6 x7 x8 x9 x10 x11 x12 x13 x14 x15 x16 x17 x18 x19) (k0_pay36 (k0_pay133 x0 x1 x2 x3 x4 x5 x6 x7 x8 x9 x10 x11 x12 x13 x14 x15 x16 x17 x18 x19) (View.ld x8 r0_5)) 32#32 (k0_pay38 (k0_pay126 x0 x1 x2 x3 x4 x5 x6 x7 x8 x9 x10 x11 x12 x13 x14 x15 x16 x17 x18 x19)) (k0_pay39 (k0_pay126 x0 x1 x2 x3 x4 x5 x6 x7 x8 x9 x10 x11 x12 x13 x14 x15 x16 x17 x18 x19)) (View.ld x5 r0_6))⟩,
    ⟨r0_12, k0_pay35 (k0_pay29 (k0_pay134 x0 x1 x2 x3 x4 x5 x6 x7 x8 x9 x10 x11 x12 x13 x14 x15 x16 x17 x18 x19) (k0_pay135 x0 x1 x2 x3 x4 x5 x6 x7 x8 x9 x10 x11 x12 x13 x14 x15 x16 x17 x18 x19) (k0_pay136 x0 x1 x2 x3 x4 x5 x6 x7 x8 x9 x10 x11 x12 x13 x14 x15 x16 x17 x18 x19)) (k0_pay30 (k0_pay134 x0 x1 x2 x3 x4 x5 x6 x7 x8 x9 x10 x11 x12 x13 x14 x15 x16 x17 x18 x19) (k0_pay135 x0 x1 x2 x3 x4 x5 x6 x7 x8 x9 x10 x11 x12 x13 x14 x15 x16 x17 x18 x19) (k0_pay136 x0 x1 x2 x3 x4 x5 x6 x7 x8 x9 x10 x11 x12 x13 x14 x15 x16 x17 x18 x19) (View.ld x4 r0_6)) (Scalar.select (Scalar.cmpi .eq 2#32 0#32) 1#32 2#32) (k0_pay31 (k0_pay126 x0 x1 x2 x3 x4 x5 x6 x7 x8 x9 x10 x11 x12 x13 x14 x15 x16 x17 x18 x19)) (k0_pay32 (k0_pay126 x0 x1 x2 x3 x4 x5 x6 x7 x8 x9 x10 x11 x12 x13 x14 x15 x16 x17 x18 x19)) (k0_pay33 (k0_pay126 x0 x1 x2 x3 x4 x5 x6 x7 x8 x9 x10 x11 x12 x13 x14 x15 x16 x17 x18 x19)) k0_pay34 (View.ld x5 r0_6)⟩,
    ⟨r0_10, k0_pay24 (k0_pay21 (k0_pay132 x0 x1 x2 x3 x4 x5 x6 x7 x8 x9 x10 x11 x12 x13 x14 x15 x16 x17 x18 x19) (View.ld x8 r0_5)) (k0_pay22 (k0_pay132 x0 x1 x2 x3 x4 x5 x6 x7 x8 x9 x10 x11 x12 x13 x14 x15 x16 x17 x18 x19) (View.ld x8 r0_5) (View.ld x4 r0_6)) (k0_pay23 (k0_pay126 x0 x1 x2 x3 x4 x5 x6 x7 x8 x9 x10 x11 x12 x13 x14 x15 x16 x17 x18 x19)) 2#32 (Scalar.cmpi .eq 2#32 0#32) 1#32 (View.ld x5 r0_6)⟩,
    ⟨r0_9, k0_pay19 (k0_pay126 x0 x1 x2 x3 x4 x5 x6 x7 x8 x9 x10 x11 x12 x13 x14 x15 x16 x17 x18 x19) (k0_pay15 (k0_pay129 x0 x1 x2 x3 x4 x5 x6 x7 x8 x9 x10 x11 x12 x13 x14 x15 x16 x17 x18 x19) (View.ld x8 r0_5)) (k0_pay16 (k0_pay129 x0 x1 x2 x3 x4 x5 x6 x7 x8 x9 x10 x11 x12 x13 x14 x15 x16 x17 x18 x19) (View.ld x8 r0_5) (View.ld x4 r0_6)) 32#32 (k0_pay17 (k0_pay126 x0 x1 x2 x3 x4 x5 x6 x7 x8 x9 x10 x11 x12 x13 x14 x15 x16 x17 x18 x19)) (k0_pay18 (k0_pay126 x0 x1 x2 x3 x4 x5 x6 x7 x8 x9 x10 x11 x12 x13 x14 x15 x16 x17 x18 x19)) (Scalar.extui (Scalar.cmpi .sgt 32#32 0#32)) 0#32 (View.ld x5 r0_6)⟩,
    ⟨r0_8, k0_pay14 (k0_pay131 x0 x1 x2 x3 x4 x5 x6 x7 x8 x9 x10 x11 x12 x13 x14 x15 x16 x17 x18 x19) (k0_pay12 (k0_pay131 x0 x1 x2 x3 x4 x5 x6 x7 x8 x9 x10 x11 x12 x13 x14 x15 x16 x17 x18 x19) (View.ld x4 r0_6)) (k0_pay13 (k0_pay126 x0 x1 x2 x3 x4 x5 x6 x7 x8 x9 x10 x11 x12 x13 x14 x15 x16 x17 x18 x19)) 96#32 (View.ld x5 r0_6)⟩,
    ⟨r0_7, k0_pay10 (k0_pay7 (k0_pay130 x0 x1 x2 x3 x4 x5 x6 x7 x8 x9 x10 x11 x12 x13 x14 x15 x16 x17 x18 x19) (View.ld x8 r0_5)) (k0_pay8 (k0_pay130 x0 x1 x2 x3 x4 x5 x6 x7 x8 x9 x10 x11 x12 x13 x14 x15 x16 x17 x18 x19) (View.ld x8 r0_5) (View.ld x4 r0_6)) (Scalar.select (Scalar.cmpi .eq 2#32 0#32) 1#32 2#32) (k0_pay9 (k0_pay126 x0 x1 x2 x3 x4 x5 x6 x7 x8 x9 x10 x11 x12 x13 x14 x15 x16 x17 x18 x19)) (View.ld x5 r0_6)⟩]

/-- Its stores tile the buffer (checked by evaluation), so they cover it. -/
theorem cover0_20 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x512x1024.Idx) :
    ∃ pc ∈ ([⟨r0_15, p0⟩, ⟨r0_14, p1⟩, ⟨r0_13, p2⟩, ⟨r0_12, p3⟩, ⟨r0_10, p4⟩, ⟨r0_9, p5⟩, ⟨r0_8, p6⟩, ⟨r0_7, p7⟩] : List (View.Piece (Elt F) S1x512x1024 .bf16)), y ∈ pc.1.set :=
  View.cover_of_tiled [⟨r0_15, p0⟩, ⟨r0_14, p1⟩, ⟨r0_13, p2⟩, ⟨r0_12, p3⟩, ⟨r0_10, p4⟩, ⟨r0_9, p5⟩, ⟨r0_8, p6⟩, ⟨r0_7, p7⟩] S1x512x128.size (by rfl) y

/-- Window 21's staging buffer after the body, from the input windows' blocks: its 2 stores as pieces, LAST
    FIRST (Lib/Pipeline/FrameBody.lean `View.canon`; the payloads are the skeleton's and the values stated above). -/
def out0_21 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : Vec F S1x512x256 .bf16 :=
  View.canon [⟨r0_18, k0_pay67 (k0_pay126 x0 x1 x2 x3 x4 x5 x6 x7 x8 x9 x10 x11 x12 x13 x14 x15 x16 x17 x18 x19) (k0_pay63 (k0_pay140 x0 x1 x2 x3 x4 x5 x6 x7 x8 x9 x10 x11 x12 x13 x14 x15 x16 x17 x18 x19) (View.ld x9 r0_5)) (k0_pay64 (k0_pay140 x0 x1 x2 x3 x4 x5 x6 x7 x8 x9 x10 x11 x12 x13 x14 x15 x16 x17 x18 x19) (View.ld x9 r0_5) (View.ld x4 r0_6)) 32#32 (k0_pay65 (k0_pay126 x0 x1 x2 x3 x4 x5 x6 x7 x8 x9 x10 x11 x12 x13 x14 x15 x16 x17 x18 x19)) (k0_pay66 (k0_pay126 x0 x1 x2 x3 x4 x5 x6 x7 x8 x9 x10 x11 x12 x13 x14 x15 x16 x17 x18 x19)) (Scalar.extui (Scalar.cmpi .sgt 32#32 0#32)) (View.ld x5 r0_6)⟩,
    ⟨r0_17, k0_pay62 (k0_pay141 x0 x1 x2 x3 x4 x5 x6 x7 x8 x9 x10 x11 x12 x13 x14 x15 x16 x17 x18 x19) (k0_pay60 (k0_pay141 x0 x1 x2 x3 x4 x5 x6 x7 x8 x9 x10 x11 x12 x13 x14 x15 x16 x17 x18 x19) (View.ld x4 r0_6)) (k0_pay61 (k0_pay126 x0 x1 x2 x3 x4 x5 x6 x7 x8 x9 x10 x11 x12 x13 x14 x15 x16 x17 x18 x19)) (View.ld x5 r0_6)⟩]

/-- Its stores tile the buffer (checked by evaluation), so they cover it. -/
theorem cover0_21 (p0 : Vec F S1x512x128 .bf16) (p1 : Vec F S1x512x128 .bf16) (y : S1x512x256.Idx) :
    ∃ pc ∈ ([⟨r0_18, p0⟩, ⟨r0_17, p1⟩] : List (View.Piece (Elt F) S1x512x256 .bf16)), y ∈ pc.1.set :=
  View.cover_of_tiled [⟨r0_18, p0⟩, ⟨r0_17, p1⟩] S1x512x128.size (by rfl) y

/-- Window 22's staging buffer after the body, from the input windows' blocks: its 1 store as pieces, LAST
    FIRST (Lib/Pipeline/FrameBody.lean `View.canon`; the payloads are the skeleton's and the values stated above). -/
def out0_22 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : Vec F S1x512x256 .bf16 :=
  View.canon [⟨r0_19, k0_pay68 (k0_pay140 x0 x1 x2 x3 x4 x5 x6 x7 x8 x9 x10 x11 x12 x13 x14 x15 x16 x17 x18 x19)⟩]

/-- Its stores tile the buffer (checked by evaluation), so they cover it. -/
theorem cover0_22 (p0 : Vec F S1x512x256 .bf16) (y : S1x512x256.Idx) :
    ∃ pc ∈ ([⟨r0_19, p0⟩] : List (View.Piece (Elt F) S1x512x256 .bf16)), y ∈ pc.1.set :=
  View.cover_of_tiled [⟨r0_19, p0⟩] S1x512x256.size (by rfl) y

/-- Window 23's staging buffer after the body, from the input windows' blocks: its 8 stores as pieces, LAST
    FIRST (Lib/Pipeline/FrameBody.lean `View.canon`; the payloads are the skeleton's and the values stated above). -/
def out0_23 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : Vec F S1x512x1024 .bf16 :=
  View.canon [⟨r0_15, k0_pay98 (k0_pay127 x0 x1 x2 x3 x4 x5 x6 x7 x8 x9 x10 x11 x12 x13 x14 x15 x16 x17 x18 x19) (k0_pay152 x0 x1 x2 x3 x4 x5 x6 x7 x8 x9 x10 x11 x12 x13 x14 x15 x16 x17 x18 x19) (k0_pay153 x0 x1 x2 x3 x4 x5 x6 x7 x8 x9 x10 x11 x12 x13 x14 x15 x16 x17 x18 x19) (k0_pay154 x0 x1 x2 x3 x4 x5 x6 x7 x8 x9 x10 x11 x12 x13 x14 x15 x16 x17 x18 x19) 2#32 0#32 (View.ld x7 r0_6)⟩,
    ⟨r0_13, k0_pay97 (k0_pay127 x0 x1 x2 x3 x4 x5 x6 x7 x8 x9 x10 x11 x12 x13 x14 x15 x16 x17 x18 x19) (k0_pay152 x0 x1 x2 x3 x4 x5 x6 x7 x8 x9 x10 x11 x12 x13 x14 x15 x16 x17 x18 x19) (k0_pay153 x0 x1 x2 x3 x4 x5 x6 x7 x8 x9 x10 x11 x12 x13 x14 x15 x16 x17 x18 x19) (k0_pay154 x0 x1 x2 x3 x4 x5 x6 x7 x8 x9 x10 x11 x12 x13 x14 x15 x16 x17 x18 x19) 2#32 0#32 (View.ld x7 r0_6)⟩,
    ⟨r0_10, k0_pay88 (k0_pay127 x0 x1 x2 x3 x4 x5 x6 x7 x8 x9 x10 x11 x12 x13 x14 x15 x16 x17 x18 x19) (k0_pay145 x0 x1 x2 x3 x4 x5 x6 x7 x8 x9 x10 x11 x12 x13 x14 x15 x16 x17 x18 x19) (k0_pay146 x0 x1 x2 x3 x4 x5 x6 x7 x8 x9 x10 x11 x12 x13 x14 x15 x16 x17 x18 x19) (Scalar.select (Scalar.cmpi .eq 2#32 0#32) 1#32 2#32) (k0_pay147 x0 x1 x2 x3 x4 x5 x6 x7 x8 x9 x10 x11 x12 x13 x14 x15 x16 x17 x18 x19) (k0_pay148 x0 x1 x2 x3 x4 x5 x6 x7 x8 x9 x10 x11 x12 x13 x14 x15 x16 x17 x18 x19) (View.ld x7 r0_6)⟩,
    ⟨r0_8, k0_pay87 (k0_pay127 x0 x1 x2 x3 x4 x5 x6 x7 x8 x9 x10 x11 x12 x13 x14 x15 x16 x17 x18 x19) (k0_pay145 x0 x1 x2 x3 x4 x5 x6 x7 x8 x9 x10 x11 x12 x13 x14 x15 x16 x17 x18 x19) (k0_pay146 x0 x1 x2 x3 x4 x5 x6 x7 x8 x9 x10 x11 x12 x13 x14 x15 x16 x17 x18 x19) (Scalar.select (Scalar.cmpi .eq 2#32 0#32) 1#32 2#32) (k0_pay147 x0 x1 x2 x3 x4 x5 x6 x7 x8 x9 x10 x11 x12 x13 x14 x15 x16 x17 x18 x19) (k0_pay148 x0 x1 x2 x3 x4 x5 x6 x7 x8 x9 x10 x11 x12 x13 x14 x15 x16 x17 x18 x19) (View.ld x7 r0_6)⟩,
    ⟨r0_14, k0_pay79 (k0_pay142 x0 x1 x2 x3 x4 x5 x6 x7 x8 x9 x10 x11 x12 x13 x14 x15 x16 x17 x18 x19) (View.ld x12 r0_5)⟩,
    ⟨r0_12, k0_pay78 (k0_pay75 (k0_pay142 x0 x1 x2 x3 x4 x5 x6 x7 x8 x9 x10 x11 x12 x13 x14 x15 x16 x17 x18 x19)) (k0_pay76 (View.ld x12 r0_5)) (k0_pay77 (k0_pay142 x0 x1 x2 x3 x4 x5 x6 x7 x8 x9 x10 x11 x12 x13 x14 x15 x16 x17 x18 x19))⟩,
    ⟨r0_9, k0_pay74 (k0_pay142 x0 x1 x2 x3 x4 x5 x6 x7 x8 x9 x10 x11 x12 x13 x14 x15 x16 x17 x18 x19) (View.ld x12 r0_5)⟩,
    ⟨r0_7, k0_pay73 (k0_pay70 (k0_pay128 x0 x1 x2 x3 x4 x5 x6 x7 x8 x9 x10 x11 x12 x13 x14 x15 x16 x17 x18 x19) (View.ld x3 r0_20) (View.ld x10 r0_21) (View.ld x16 r0_22)) (k0_pay71 (View.ld x12 r0_5)) (k0_pay72 (k0_pay128 x0 x1 x2 x3 x4 x5 x6 x7 x8 x9 x10 x11 x12 x13 x14 x15 x16 x17 x18 x19) (View.ld x3 r0_20) (View.ld x10 r0_21) (View.ld x16 r0_22))⟩]

/-- Its stores tile the buffer (checked by evaluation), so they cover it. -/
theorem cover0_23 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x512x1024.Idx) :
    ∃ pc ∈ ([⟨r0_15, p0⟩, ⟨r0_13, p1⟩, ⟨r0_10, p2⟩, ⟨r0_8, p3⟩, ⟨r0_14, p4⟩, ⟨r0_12, p5⟩, ⟨r0_9, p6⟩, ⟨r0_7, p7⟩] : List (View.Piece (Elt F) S1x512x1024 .bf16)), y ∈ pc.1.set :=
  View.cover_of_tiled [⟨r0_15, p0⟩, ⟨r0_13, p1⟩, ⟨r0_10, p2⟩, ⟨r0_8, p3⟩, ⟨r0_14, p4⟩, ⟨r0_12, p5⟩, ⟨r0_9, p6⟩, ⟨r0_7, p7⟩] S1x512x128.size (by rfl) y

/-- Window 24's staging buffer after the body, from the input windows' blocks: its 8 stores as pieces, LAST
    FIRST (Lib/Pipeline/FrameBody.lean `View.canon`; the payloads are the skeleton's and the values stated above). -/
def out0_24 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : Vec F S1x512x1024 .bf16 :=
  View.canon [⟨r0_15, k0_pay118 (k0_pay158 x0 x1 x2 x3 x4 x5 x6 x7 x8 x9 x10 x11 x12 x13 x14 x15 x16 x17 x18 x19)⟩,
    ⟨r0_14, k0_pay117 (k0_pay155 x0 x1 x2 x3 x4 x5 x6 x7 x8 x9 x10 x11 x12 x13 x14 x15 x16 x17 x18 x19) (View.ld x13 r0_5)⟩,
    ⟨r0_13, k0_pay116 (k0_pay106 (k0_pay127 x0 x1 x2 x3 x4 x5 x6 x7 x8 x9 x10 x11 x12 x13 x14 x15 x16 x17 x18 x19) (k0_pay156 x0 x1 x2 x3 x4 x5 x6 x7 x8 x9 x10 x11 x12 x13 x14 x15 x16 x17 x18 x19) (k0_pay157 x0 x1 x2 x3 x4 x5 x6 x7 x8 x9 x10 x11 x12 x13 x14 x15 x16 x17 x18 x19) (View.ld x7 r0_6))⟩,
    ⟨r0_12, k0_pay115 (k0_pay155 x0 x1 x2 x3 x4 x5 x6 x7 x8 x9 x10 x11 x12 x13 x14 x15 x16 x17 x18 x19) (View.ld x13 r0_5)⟩,
    ⟨r0_10, k0_pay114 (k0_pay158 x0 x1 x2 x3 x4 x5 x6 x7 x8 x9 x10 x11 x12 x13 x14 x15 x16 x17 x18 x19)⟩,
    ⟨r0_9, k0_pay113 (k0_pay110 (k0_pay155 x0 x1 x2 x3 x4 x5 x6 x7 x8 x9 x10 x11 x12 x13 x14 x15 x16 x17 x18 x19)) (k0_pay111 (View.ld x13 r0_5)) (k0_pay112 (k0_pay155 x0 x1 x2 x3 x4 x5 x6 x7 x8 x9 x10 x11 x12 x13 x14 x15 x16 x17 x18 x19)) (Scalar.ofBits .f32 0x43000000#32)⟩,
    ⟨r0_8, k0_pay109 (k0_pay127 x0 x1 x2 x3 x4 x5 x6 x7 x8 x9 x10 x11 x12 x13 x14 x15 x16 x17 x18 x19) (k0_pay156 x0 x1 x2 x3 x4 x5 x6 x7 x8 x9 x10 x11 x12 x13 x14 x15 x16 x17 x18 x19) (k0_pay157 x0 x1 x2 x3 x4 x5 x6 x7 x8 x9 x10 x11 x12 x13 x14 x15 x16 x17 x18 x19) (View.ld x7 r0_6)⟩,
    ⟨r0_7, k0_pay108 (k0_pay155 x0 x1 x2 x3 x4 x5 x6 x7 x8 x9 x10 x11 x12 x13 x14 x15 x16 x17 x18 x19) (View.ld x13 r0_5)⟩]

/-- Its stores tile the buffer (checked by evaluation), so they cover it. -/
theorem cover0_24 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x512x1024.Idx) :
    ∃ pc ∈ ([⟨r0_15, p0⟩, ⟨r0_14, p1⟩, ⟨r0_13, p2⟩, ⟨r0_12, p3⟩, ⟨r0_10, p4⟩, ⟨r0_9, p5⟩, ⟨r0_8, p6⟩, ⟨r0_7, p7⟩] : List (View.Piece (Elt F) S1x512x1024 .bf16)), y ∈ pc.1.set :=
  View.cover_of_tiled [⟨r0_15, p0⟩, ⟨r0_14, p1⟩, ⟨r0_13, p2⟩, ⟨r0_12, p3⟩, ⟨r0_10, p4⟩, ⟨r0_9, p5⟩, ⟨r0_8, p6⟩, ⟨r0_7, p7⟩] S1x512x128.size (by rfl) y

/-- Window 25's staging buffer after the body, from the input windows' blocks: its 1 store as pieces, LAST
    FIRST (Lib/Pipeline/FrameBody.lean `View.canon`; the payloads are the skeleton's and the values stated above). -/
def out0_25 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : Vec F S1x512x512 .bf16 :=
  View.canon [⟨r0_26, k0_pay119 (k0_pay155 x0 x1 x2 x3 x4 x5 x6 x7 x8 x9 x10 x11 x12 x13 x14 x15 x16 x17 x18 x19)⟩]

/-- Its stores tile the buffer (checked by evaluation), so they cover it. -/
theorem cover0_25 (p0 : Vec F S1x512x512 .bf16) (y : S1x512x512.Idx) :
    ∃ pc ∈ ([⟨r0_26, p0⟩] : List (View.Piece (Elt F) S1x512x512 .bf16)), y ∈ pc.1.set :=
  View.cover_of_tiled [⟨r0_26, p0⟩] S1x512x512.size (by rfl) y

/-- Window 26's staging buffer after the body, from the input windows' blocks: its 1 store as pieces, LAST
    FIRST (Lib/Pipeline/FrameBody.lean `View.canon`; the payloads are the skeleton's and the values stated above). -/
def out0_26 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : Vec F S1x512x512 .f32 :=
  View.canon [⟨r0_26, k0_pay121 (k0_pay120 (k0_pay99 (k0_pay128 x0 x1 x2 x3 x4 x5 x6 x7 x8 x9 x10 x11 x12 x13 x14 x15 x16 x17 x18 x19) (View.ld x3 r0_23)) (View.ld x18 r0_27)) (View.ld x19 r0_21)⟩]

/-- Its stores tile the buffer (checked by evaluation), so they cover it. -/
theorem cover0_26 (p0 : Vec F S1x512x512 .f32) (y : S1x512x512.Idx) :
    ∃ pc ∈ ([⟨r0_26, p0⟩] : List (View.Piece (Elt F) S1x512x512 .f32)), y ∈ pc.1.set :=
  View.cover_of_tiled [⟨r0_26, p0⟩] S1x512x512.size (by rfl) y

/-- Window 27's staging buffer after the body, from the input windows' blocks: its 1 store as pieces, LAST
    FIRST (Lib/Pipeline/FrameBody.lean `View.canon`; the payloads are the skeleton's and the values stated above). -/
def out0_27 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : Vec F S1x512x256 .f32 :=
  View.canon [⟨r0_19, k0_pay123 (k0_pay128 x0 x1 x2 x3 x4 x5 x6 x7 x8 x9 x10 x11 x12 x13 x14 x15 x16 x17 x18 x19) (View.ld x3 r0_28)⟩]

/-- Its stores tile the buffer (checked by evaluation), so they cover it. -/
theorem cover0_27 (p0 : Vec F S1x512x256 .f32) (y : S1x512x256.Idx) :
    ∃ pc ∈ ([⟨r0_19, p0⟩] : List (View.Piece (Elt F) S1x512x256 .f32)), y ∈ pc.1.set :=
  View.cover_of_tiled [⟨r0_19, p0⟩] S1x512x256.size (by rfl) y

/-- Window 28's staging buffer after the body, from the input windows' blocks: its 1 store as pieces, LAST
    FIRST (Lib/Pipeline/FrameBody.lean `View.canon`; the payloads are the skeleton's and the values stated above). -/
def out0_28 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : Vec F S1x512x256 .f32 :=
  View.canon [⟨r0_19, k0_pay124 (k0_pay128 x0 x1 x2 x3 x4 x5 x6 x7 x8 x9 x10 x11 x12 x13 x14 x15 x16 x17 x18 x19) (View.ld x3 r0_28)⟩]

/-- Its stores tile the buffer (checked by evaluation), so they cover it. -/
theorem cover0_28 (p0 : Vec F S1x512x256 .f32) (y : S1x512x256.Idx) :
    ∃ pc ∈ ([⟨r0_19, p0⟩] : List (View.Piece (Elt F) S1x512x256 .f32)), y ∈ pc.1.set :=
  View.cover_of_tiled [⟨r0_19, p0⟩] S1x512x256.size (by rfl) y

/-- Window 29's staging buffer after the body, from the input windows' blocks: its 1 store as pieces, LAST
    FIRST (Lib/Pipeline/FrameBody.lean `View.canon`; the payloads are the skeleton's and the values stated above). -/
def out0_29 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : Vec F S1x512x512 .bf16 :=
  View.canon [⟨r0_26, k0_pay1 (k0_pay125 (k0_pay128 x0 x1 x2 x3 x4 x5 x6 x7 x8 x9 x10 x11 x12 x13 x14 x15 x16 x17 x18 x19) (View.ld x3 r0_29))⟩]

/-- Its stores tile the buffer (checked by evaluation), so they cover it. -/
theorem cover0_29 (p0 : Vec F S1x512x512 .bf16) (y : S1x512x512.Idx) :
    ∃ pc ∈ ([⟨r0_26, p0⟩] : List (View.Piece (Elt F) S1x512x512 .bf16)), y ∈ pc.1.set :=
  View.cover_of_tiled [⟨r0_26, p0⟩] S1x512x512.size (by rfl) y

/-- Window 30's staging buffer after the body, from the input windows' blocks: its 1 store as pieces, LAST
    FIRST (Lib/Pipeline/FrameBody.lean `View.canon`; the payloads are the skeleton's and the values stated above). -/
def out0_30 (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) : Vec F S1x512x512 .f32 :=
  View.canon [⟨r0_26, k0_pay2 (k0_pay128 x0 x1 x2 x3 x4 x5 x6 x7 x8 x9 x10 x11 x12 x13 x14 x15 x16 x17 x18 x19) (View.ld x3 r0_30)⟩]

/-- Its stores tile the buffer (checked by evaluation), so they cover it. -/
theorem cover0_30 (p0 : Vec F S1x512x512 .f32) (y : S1x512x512.Idx) :
    ∃ pc ∈ ([⟨r0_26, p0⟩] : List (View.Piece (Elt F) S1x512x512 .f32)), y ∈ pc.1.set :=
  View.cover_of_tiled [⟨r0_26, p0⟩] S1x512x512.size (by rfl) y

/-! ## The body's triple -/

set_option maxHeartbeats 1084000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg2 : Memref sig .tc .vmem S1x512x2048 .f32) (harg2 : arg2.IsWhole) (arg3 : Memref sig .tc .vmem S1x6x2048 .f32) (harg3 : arg3.IsWhole) (arg4 : Memref sig .tc .vmem S1x1x2048 .f32) (harg4 : arg4.IsWhole) (arg5 : Memref sig .tc .vmem S1x2048x4096 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x512 .f32) (harg12 : arg12.IsWhole) (arg13 : Memref sig .tc .vmem S1x1x256 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S1x512x768 .bf16) (harg18 : arg18.IsWhole) (arg19 : Memref sig .tc .vmem S1x256x1024 .bf16) (harg19 : arg19.IsWhole) (arg20 : Memref sig .tc .vmem S1x128x512 .f32) (harg20 : arg20.IsWhole) (arg21 : Memref sig .tc .vmem S1x1x512 .f32) (harg21 : arg21.IsWhole) (arg22 : Memref sig .tc .vmem S1x512x1024 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x1024 .bf16) (harg25 : arg25.IsWhole) (arg26 : Memref sig .tc .vmem S1x512x1024 .bf16) (harg26 : arg26.IsWhole) (arg27 : Memref sig .tc .vmem S1x512x512 .bf16) (harg27 : arg27.IsWhole) (arg28 : Memref sig .tc .vmem S1x512x512 .f32) (harg28 : arg28.IsWhole) (arg29 : Memref sig .tc .vmem S1x512x256 .f32) (harg29 : arg29.IsWhole) (arg30 : Memref sig .tc .vmem S1x512x256 .f32) (harg30 : arg30.IsWhole) (arg31 : Memref sig .tc .vmem S1x512x512 .bf16) (harg31 : arg31.IsWhole) (arg32 : Memref sig .tc .vmem S1x512x512 .f32) (harg32 : arg32.IsWhole)
    (x0 : Vec F S1x512x2048 .f32) (x1 : Vec F S1x6x2048 .f32) (x2 : Vec F S1x1x2048 .f32) (x3 : Vec F S1x2048x4096 .bf16) (x4 : Vec F S512x128 .f32) (x5 : Vec F S512x128 .f32) (x6 : Vec F S512x128 .f32) (x7 : Vec F S512x128 .f32) (x8 : Vec F S1x1x128 .f32) (x9 : Vec F S1x1x128 .f32) (x10 : Vec F S1x1x512 .f32) (x11 : Vec F S1x1x256 .f32) (x12 : Vec F S1x1x128 .f32) (x13 : Vec F S1x1x128 .f32) (x14 : Vec F S1x1x128 .f32) (x15 : Vec F S1x1x128 .f32) (x16 : Vec F S1x512x768 .bf16) (x17 : Vec F S1x256x1024 .bf16) (x18 : Vec F S1x128x512 .f32) (x19 : Vec F S1x1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare (out0_20 x0 x1 x2 x3 x4 x5 x6 x7 x8 x9 x10 x11 x12 x13 x14 x15 x16 x17 x18 x19) ∗ owns (c : Thread nD τ) arg23 fullShare (out0_21 x0 x1 x2 x3 x4 x5 x6 x7 x8 x9 x10 x11 x12 x13 x14 x15 x16 x17 x18 x19) ∗ owns (c : Thread nD τ) arg24 fullShare (out0_22 x0 x1 x2 x3 x4 x5 x6 x7 x8 x9 x10 x11 x12 x13 x14 x15 x16 x17 x18 x19) ∗ owns (c : Thread nD τ) arg25 fullShare (out0_23 x0 x1 x2 x3 x4 x5 x6 x7 x8 x9 x10 x11 x12 x13 x14 x15 x16 x17 x18 x19) ∗ owns (c : Thread nD τ) arg26 fullShare (out0_24 x0 x1 x2 x3 x4 x5 x6 x7 x8 x9 x10 x11 x12 x13 x14 x15 x16 x17 x18 x19) ∗ owns (c : Thread nD τ) arg27 fullShare (out0_25 x0 x1 x2 x3 x4 x5 x6 x7 x8 x9 x10 x11 x12 x13 x14 x15 x16 x17 x18 x19) ∗ owns (c : Thread nD τ) arg28 fullShare (out0_26 x0 x1 x2 x3 x4 x5 x6 x7 x8 x9 x10 x11 x12 x13 x14 x15 x16 x17 x18 x19) ∗ owns (c : Thread nD τ) arg29 fullShare (out0_27 x0 x1 x2 x3 x4 x5 x6 x7 x8 x9 x10 x11 x12 x13 x14 x15 x16 x17 x18 x19) ∗ owns (c : Thread nD τ) arg30 fullShare (out0_28 x0 x1 x2 x3 x4 x5 x6 x7 x8 x9 x10 x11 x12 x13 x14 x15 x16 x17 x18 x19) ∗ owns (c : Thread nD τ) arg31 fullShare (out0_29 x0 x1 x2 x3 x4 x5 x6 x7 x8 x9 x10 x11 x12 x13 x14 x15 x16 x17 x18 x19) ∗ owns (c : Thread nD τ) arg32 fullShare (out0_30 x0 x1 x2 x3 x4 x5 x6 x7 x8 x9 x10 x11 x12 x13 x14 x15 x16 x17 x18 x19)) -∗ K ⟨⟩))
      ⊢ wp frame (wpE (defs₀ (F := F)) Variants.none c none) E (cc0_proj_lat i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_proj_lat_eq_skeleton]; unfold cc0_proj_lat_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _ _ _ _ _ _ _ _)).trans ?_
    rfl
  isplitl [H21]
  · iexists _; isplitr
    swap; · iexact H21
    ipureintro
    refine (View.read_writes_eq_canon _ _ _ (cover0_21 _ _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _ _ _ _ _ _ _ _)).trans ?_
    rfl
  isplitl [H24]
  · iexists _; isplitr
    swap; · iexact H24
    ipureintro
    refine (View.read_writes_eq_canon _ _ _ (cover0_24 _ _ _ _ _ _ _ _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  iexists _; isplitr
  swap; · iexact H30
  ipureintro
  refine (View.read_writes_eq_canon _ _ _ (cover0_30 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 31, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- The frame, for any `F`: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.ProjectIdeal.Whole

end
-- ==== Proof.Project.Entries.lean ====
/-
  The entries of the projections of a normalised, modulated row.
-/
module

public import proofs.«01_k».proof.Proof.Gen.ProjectReferenceIdeal
public import Idealize.ShloMosaic.Lib.Pointwise
public import Idealize.ShloMosaic.Lib.IdealHost

@[expose] public section

noncomputable section

namespace Cert.ProjectReferenceIdeal.Layer

open Cert.ProjectReferenceIdeal Cert.ProjectReferenceIdeal.Gen Idealize.ShloMosaic

variable (x : Vec Ideal S4x4096x2048 .f32) (s : Vec Ideal S4x1x12288 .f32) (g : Vec Ideal S2x2048 .f32) (w : Vec Ideal S2x2048x3936 .f32)
  (gl : Vec Ideal S2x256 .f32) (wu : Vec Ideal S2x256x1024 .f32)

/-- A feature of a row after the layer's first normalisation and modulation. -/
def nrm (b : Fin 4) (r : Fin 4096) (k : Fin 2048) : EReal :=
  x (ix3 b r k) * Ideal.rsqrt (Ideal.div (∑ x', x (ix3 b r x') * x (ix3 b r x')) (Ideal.ofBits FTy.f32 1157627904#32) + Ideal.ofBits FTy.f32 897988541#32)
    * g (ix2 0 k) * (1 + s (ix3 b 0 ⟨2048 + k.val, by omega⟩)) + s (ix3 b 0 ⟨0 + k.val, by omega⟩)

/-- A column of the first projection. -/
def proj (b : Fin 4) (r : Fin 4096) (q : Fin 3936) : EReal := ∑ k, nrm x s g b r k * w (ix3 0 k q)

/-- An entry of the normalised latent of the second attention's keys and values. -/
def lat (b : Fin 4) (r : Fin 4096) (j : Fin 256) : EReal :=
  proj x s g w b r ⟨2048 + j.val, by omega⟩
    * Ideal.rsqrt (Ideal.div (∑ j' : Fin 256, proj x s g w b r ⟨2048 + j'.val, by omega⟩ * proj x s g w b r ⟨2048 + j'.val, by omega⟩) (Ideal.ofBits FTy.f32 1132462080#32)
      + Ideal.ofBits FTy.f32 897988541#32) * gl (ix2 0 j)

/-- An entry of the second attention's values: head `j / 128`, the second half of its columns. -/
def val (b : Fin 4) (r : Fin 4096) (j : Fin 512) : EReal :=
  ∑ y, lat x s g w gl b r y * wu (ix3 0 y ⟨j.val / 128 * 256 + (128 + j.val % 128), by omega⟩)

end Cert.ProjectReferenceIdeal.Layer

end
-- ==== Proof.Project.Rows.lean ====
/-
  The projections' call: the blocks its points read, what they leave in the value projections and in the retention's
  queries, keys, values and gates, and the arrays that the call leaves.
-/
module

public import proofs.«01_k».proof.Proof.Project.Body
public import proofs.«01_k».proof.Proof.Project.Frame
public import proofs.«01_k».proof.Proof.Project.Entries
public import Idealize.ShloMosaic.Lib.Pipeline.Value

@[expose] public section

set_option maxRecDepth 16384

noncomputable section

namespace Cert.ProjectIdeal.Layer

open Cert.ProjectIdeal Cert.ProjectIdeal.Gen Cert.ProjectIdeal.Whole Idealize.ShloMosaic Idealize.ShloMosaic.TcCoe Idealize.SL.Sem
open Cert.ProjectReferenceIdeal.Layer (nrm proj lat val)

variable (m : (ℓ : Loc nD τ sig) → Buf (Elt Ideal) ℓ) (c : Dev nD)

/-- The arguments as launched: the rows, the modulation, the gains, and the weights. -/
abbrev arX : Vec Ideal S4x4096x2048 .f32 := m ((c.tc : Thread nD τ).loc main_arg0)
abbrev arS : Vec Ideal S4x1x12288 .f32 := m ((c.tc : Thread nD τ).loc main_arg1)
abbrev arG : Vec Ideal S2x2048 .f32 := m ((c.tc : Thread nD τ).loc main_arg2)
abbrev arW : Vec Ideal S2x2048x3936 .f32 := m ((c.tc : Thread nD τ).loc main_arg3)
abbrev arL : Vec Ideal S2x256 .f32 := m ((c.tc : Thread nD τ).loc main_arg11)
abbrev arU : Vec Ideal S2x256x1024 .f32 := m ((c.tc : Thread nD τ).loc main_arg13)

/-- The places of the blocks that are read, decided over the grid. -/
theorem places : ∀ t : Fin cfg0.N, win0_0.index t = ![t.val / 8, t.val % 8, 0] ∧ win0_1.index t = ![t.val / 8 + 1, 0, 0] ∧ win0_2.index t = ![0, 0, 0]
    ∧ win0_3.index t = ![0, 0, 0] ∧ win0_11.index t = ![0, 0, 0] ∧ win0_17.index t = ![0, 0, 0] :=
  (by decide +kernel : ∀ t : Fin grid0.N, _)

/-- The places of the blocks that are written. -/
theorem oplaces : ∀ t : Fin cfg0.N, win0_22.index t = ![t.val / 8, t.val % 8, 0] ∧ win0_25.index t = ![t.val / 8, t.val % 8, 0] ∧ win0_27.index t = ![t.val / 8, t.val % 8, 0]
    ∧ win0_28.index t = ![t.val / 8, t.val % 8, 0] ∧ win0_29.index t = ![t.val / 8, t.val % 8, 0] ∧ win0_30.index t = ![t.val / 8, t.val % 8, 0] :=
  (by decide +kernel : ∀ t : Fin grid0.N, _)

theorem N_lt (t : Fin cfg0.N) : t.val < 32 := lt_of_lt_of_eq t.isLt N_0

/-- A point's latent, and the row of the array where its block has its row `r`. -/
def bat (t : Fin cfg0.N) : Fin 4 := ⟨t.val / 8, by have := N_lt t; omega⟩
def ro (t : Fin cfg0.N) (r : Fin 512) : Fin 4096 := ⟨512 * (t.val % 8) + r.val, by omega⟩

set_option maxHeartbeats 2000000 in
theorem blk0 (t : Fin cfg0.N) (r : Fin 512) (k : Fin 2048) : iblk m c 0 t (ix3 0 r k) = arX m c (ix3 (bat t) (ro t r) k) := by
  have e := (places t).1
  refine Eq.trans ?_ (congrFun (V_main_arg0 m c) _)
  unfold iblk
  refine congrArg (V m c main_arg0) (funext fun a => Fin.ext ?_)
  match a with
  | ⟨0, _⟩ => show win0_0.index t (0 : Fin 3) * 1 + 1 * 0 = t.val / 8; rw [e]; simp
  | ⟨1, _⟩ => show win0_0.index t (1 : Fin 3) * 512 + 1 * r.val = 512 * (t.val % 8) + r.val; rw [e]; simp; omega
  | ⟨2, _⟩ => show win0_0.index t (2 : Fin 3) * 2048 + 1 * k.val = k.val; rw [e]; simp

set_option maxHeartbeats 2000000 in
theorem blk1 (t : Fin cfg0.N) (j : Fin 6) (k : Fin 2048) : iblk m c 1 t (ix3 0 j k) = arS m c (ix3 (bat t) 0 ⟨j.val * 2048 + k.val, by omega⟩) := by
  have e := (places t).2.1
  refine Eq.trans ?_ (W4 m c (bat t) j k)
  unfold iblk
  refine congrArg (V m c main_v4) (funext fun a => Fin.ext ?_)
  match a with
  | ⟨0, _⟩ => show win0_1.index t (0 : Fin 3) * 1 + 1 * 0 = t.val / 8 + 1; rw [e]; simp
  | ⟨1, _⟩ => show win0_1.index t (1 : Fin 3) * 6 + 1 * j.val = j.val; rw [e]; simp
  | ⟨2, _⟩ => show win0_1.index t (2 : Fin 3) * 2048 + 1 * k.val = k.val; rw [e]; simp

set_option maxHeartbeats 2000000 in
theorem blk2 (t : Fin cfg0.N) (k : Fin 2048) : iblk m c 2 t (ix3 0 0 k) = arG m c (ix2 0 k) := by
  have e := (places t).2.2.1
  refine Eq.trans ?_ (W76 m c k)
  unfold iblk
  refine congrArg (V m c main_v76) (funext fun a => Fin.ext ?_)
  match a with
  | ⟨0, _⟩ => show win0_2.index t (0 : Fin 3) * 1 + 1 * 0 = 0; rw [e]; simp
  | ⟨1, _⟩ => show win0_2.index t (1 : Fin 3) * 1 + 1 * 0 = 0; rw [e]; simp
  | ⟨2, _⟩ => show win0_2.index t (2 : Fin 3) * 2048 + 1 * k.val = k.val; rw [e]; simp

set_option maxHeartbeats 2000000 in
theorem blk3 (t : Fin cfg0.N) (k : Fin 2048) (j : Fin 4096) : iblk m c 3 t (ix3 0 k j) = W m c main_v46 (ix3 0 k j) := by
  have e := (places t).2.2.2.1
  unfold iblk
  refine congrArg (V m c main_v46) (funext fun a => Fin.ext ?_)
  match a with
  | ⟨0, _⟩ => show win0_3.index t (0 : Fin 3) * 1 + 1 * 0 = 0; rw [e]; simp
  | ⟨1, _⟩ => show win0_3.index t (1 : Fin 3) * 2048 + 1 * k.val = k.val; rw [e]; simp
  | ⟨2, _⟩ => show win0_3.index t (2 : Fin 3) * 4096 + 1 * j.val = j.val; rw [e]; simp

set_option maxHeartbeats 2000000 in
theorem blk11 (t : Fin cfg0.N) (k : Fin 256) : iblk m c 11 t (ix3 0 0 k) = arL m c (ix2 0 k) := by
  have e := (places t).2.2.2.2.1
  refine Eq.trans ?_ (W71 m c k)
  unfold iblk
  refine congrArg (V m c main_v71) (funext fun a => Fin.ext ?_)
  match a with
  | ⟨0, _⟩ => show win0_11.index t (0 : Fin 3) * 1 + 1 * 0 = 0; rw [e]; simp
  | ⟨1, _⟩ => show win0_11.index t (1 : Fin 3) * 1 + 1 * 0 = 0; rw [e]; simp
  | ⟨2, _⟩ => show win0_11.index t (2 : Fin 3) * 256 + 1 * k.val = k.val; rw [e]; simp

set_option maxHeartbeats 2000000 in
theorem blk17 (t : Fin cfg0.N) (y : Fin 256) (j : Fin 512) :
    iblk m c 17 t (ix3 0 y ⟨512 + j.val, by omega⟩) = arU m c (ix3 0 y ⟨j.val / 128 * 256 + (128 + j.val % 128), by omega⟩) := by
  have e := (places t).2.2.2.2.2
  refine Eq.trans ?_ (W84 m c y j)
  unfold iblk
  refine congrArg (V m c main_v84) (funext fun a => Fin.ext ?_)
  match a with
  | ⟨0, _⟩ => show win0_17.index t (0 : Fin 3) * 1 + 1 * 0 = 0; rw [e]; simp
  | ⟨1, _⟩ => show win0_17.index t (1 : Fin 3) * 256 + 1 * y.val = y.val; rw [e]; simp
  | ⟨2, _⟩ => show win0_17.index t (2 : Fin 3) * 1024 + 1 * (512 + j.val) = 512 + j.val; rw [e]; simp

theorem hz3 : (![0, 0, 0] : Fin 3 → Nat) = fun _ => 0 := funext fun a => by fin_cases a <;> rfl

/-- A row of the modulation's block, read alone. -/
theorem sld (x1 : Vec Ideal S1x6x2048 .f32) (o : Nat) (inb) (j : Fin 6) (e : j.val = o) (k : Fin 2048) :
    View.ld x1 (Rect.unit (s := S1x6x2048) ![0, o, 0] S1x1x2048.size inb) (ix3 0 0 k) = x1 (ix3 0 j k) := by
  refine congrArg x1 (funext fun a => Fin.ext ?_)
  match a with
  | ⟨0, _⟩ => rfl
  | ⟨1, _⟩ => show o + 1 * 0 = j.val; omega
  | ⟨2, _⟩ => show 0 + 1 * k.val = k.val; omega

/-- A slice of the weights' columns, read alone. -/
theorem wld (x3 : Vec Ideal S1x2048x4096 .bf16) (o : Nat) (inb) (k : Fin 2048) (j : Fin 512) (q : Fin 4096) (e : q.val = o + j.val) :
    View.ld x3 (Rect.unit (s := S1x2048x4096) ![0, 0, o] S1x2048x512.size inb) (ix3 0 k j) = x3 (ix3 0 k q) := by
  refine congrArg x3 (funext fun a => Fin.ext ?_)
  match a with
  | ⟨0, _⟩ => rfl
  | ⟨1, _⟩ => show 0 + 1 * k.val = k.val; omega
  | ⟨2, _⟩ => show o + 1 * j.val = q.val; omega

/-- The normalised, modulated rows that the body makes of its blocks. -/
abbrev hB (t : Fin cfg0.N) : FVec Ideal S512x2048 .bf16 :=
  k0_pay4 (View.ld (iblk m c 0 t) r0_0) (View.ld (iblk m c 2 t) r0_1) (View.ld (iblk m c 1 t) r0_2) (View.ld (iblk m c 1 t) r0_3)

theorem hB_apply (t : Fin cfg0.N) (r : Fin 512) (k : Fin 2048) : hB m c t (ix2 r k) = nrm (arX m c) (arS m c) (arG m c) (bat t) (ro t r) k := by
  have e0 : View.ld (iblk m c 0 t) r0_0 = iblk m c 0 t := View.ld_unit_zero (S := S1x512x2048) hz3 _ _
  have e2 : View.ld (iblk m c 2 t) r0_1 = iblk m c 2 t := View.ld_unit_zero (S := S1x1x2048) hz3 _ _
  have e3 : View.ld (iblk m c 1 t) r0_2 (ix3 0 0 k) = arS m c (ix3 (bat t) 0 ⟨2048 + k.val, by omega⟩) :=
    (sld _ 1 _ 1 rfl k).trans ((blk1 m c t 1 k).trans (congrArg (fun q => arS m c (ix3 (bat t) 0 q)) (Fin.ext (by show 1 * 2048 + k.val = 2048 + k.val; omega))))
  have e4 : View.ld (iblk m c 1 t) r0_3 (ix3 0 0 k) = arS m c (ix3 (bat t) 0 ⟨0 + k.val, by omega⟩) :=
    (sld _ 0 _ 0 rfl k).trans ((blk1 m c t 0 k).trans (congrArg (fun q => arS m c (ix3 (bat t) 0 q)) (Fin.ext (by show 0 * 2048 + k.val = 0 + k.val; omega))))
  refine (pay4_apply _ _ _ _ r k).trans ?_
  rw [e0, e2, e3, e4, blk2]
  unfold nrm
  simp only [blk0]

/-- The columns before the 2304th are the weights' own; from the 2560th on they are the weights' from the 2368th on. -/
theorem col_lo (t : Fin cfg0.N) (o : Nat) (inb) (r : Fin 512) (j : Fin 512) (q : Fin 3936) (hq : q.val = o + j.val) (h : q.val < 2304) :
    ∑ k, hB m c t (ix2 r k) * View.ld (iblk m c 3 t) (Rect.unit (s := S1x2048x4096) ![0, 0, o] S1x2048x512.size inb) (ix3 0 k j)
      = proj (arX m c) (arS m c) (arG m c) (arW m c) (bat t) (ro t r) q := by
  refine Finset.sum_congr rfl fun k _ => congrArg₂ (· * ·) (hB_apply m c t r k) ?_
  refine (wld _ o inb k j ⟨q.val, by omega⟩ hq).trans ((blk3 m c t k _).trans (W46_lo m c k _ q h rfl))

theorem col_hi (t : Fin cfg0.N) (o : Nat) (ho : o ≤ 3584) (inb) (r : Fin 512) (j : Fin 512) (q : Fin 3936) (hq : 192 + q.val = o + j.val) (h : 2368 ≤ q.val) :
    ∑ k, hB m c t (ix2 r k) * View.ld (iblk m c 3 t) (Rect.unit (s := S1x2048x4096) ![0, 0, o] S1x2048x512.size inb) (ix3 0 k j)
      = proj (arX m c) (arS m c) (arG m c) (arW m c) (bat t) (ro t r) q := by
  refine Finset.sum_congr rfl fun k _ => congrArg₂ (· * ·) (hB_apply m c t r k) ?_
  refine (wld _ o inb k j ⟨192 + q.val, by omega⟩ hq).trans ((blk3 m c t k _).trans (W46_hi m c k _ q rfl h))

/-- The entry of a block of values of the second attention. -/
theorem lat_blk (t : Fin cfg0.N) (r : Fin 512) (j : Fin 512) :
    k0_pay119 (F := Ideal) (k0_pay100 (hB m c t) (View.ld (iblk m c 3 t) r0_23) (View.ld (iblk m c 11 t) r0_24) (View.ld (iblk m c 17 t) r0_25)) (ix3 0 r j)
      = val (arX m c) (arS m c) (arG m c) (arW m c) (arL m c) (arU m c) (bat t) (ro t r) j := by
  have e11 : View.ld (iblk m c 11 t) r0_24 = iblk m c 11 t := View.ld_unit_zero (S := S1x1x256) hz3 _ _
  have e17 : View.ld (iblk m c 17 t) r0_25 = iblk m c 17 t := View.ld_unit_zero (S := S1x256x1024) hz3 _ _
  have ec (y : Fin 256) : ∑ k, hB m c t (ix2 r k) * View.ld (iblk m c 3 t) r0_23 (ix3 0 k ⟨0 + y.val, by omega⟩)
      = proj (arX m c) (arS m c) (arG m c) (arW m c) (bat t) (ro t r) ⟨2048 + y.val, by omega⟩ :=
    col_lo m c t 2048 _ r ⟨0 + y.val, by omega⟩ ⟨2048 + y.val, by omega⟩ (by show 2048 + y.val = 2048 + (0 + y.val); omega) (by show 2048 + y.val < 2304; omega)
  refine (pay119_apply _ r j).trans ((pay100_apply _ _ _ _ r _).trans ?_)
  rw [e11, e17]
  unfold val lat
  simp only [ec, blk11, blk17]

/-- The array after the launch: the attention's values. -/
def G22 : Vec Ideal S4x4096x256 .bf16 := fun i => proj (arX m c) (arS m c) (arG m c) (arW m c) (i 0) (i 1) ⟨1280 + (i 2).val, by have : (i 2).val < 256 := (i 2).isLt; omega⟩

theorem o22_apply (t : Fin cfg0.N) (r : Fin 512) (j : Fin 256) : out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 0 r j) = G22 m c (ix3 (bat t) (ro t r) j) := by
  unfold out0_22 k0_pay140 k0_pay128
  exact (congrFun (View.canon_unit_zero (S := S1x512x256) hz3 _ _) _).trans ((pay68_apply _ _ r j).trans
    (col_lo m c t 1024 _ r ⟨256 + j.val, by omega⟩ ⟨1280 + j.val, by omega⟩ (by show 1280 + j.val = 1024 + (256 + j.val); omega) (by show 1280 + j.val < 2304; omega)))

/-- The array after the launch: the second attention's values. -/
def G25 : Vec Ideal S4x4096x512 .bf16 := fun i => val (arX m c) (arS m c) (arG m c) (arW m c) (arL m c) (arU m c) (i 0) (i 1) (i 2)

theorem o25_apply (t : Fin cfg0.N) (r : Fin 512) (j : Fin 512) : out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 0 r j) = G25 m c (ix3 (bat t) (ro t r) j) := by
  unfold out0_25 k0_pay155 k0_pay128
  exact (congrFun (View.canon_unit_zero (S := S1x512x512) hz3 _ _) _).trans (lat_blk m c t r j)

/-- The array after the launch: the retention's queries. -/
def G27 : Vec Ideal S4x4096x256 .f32 := fun i => proj (arX m c) (arS m c) (arG m c) (arW m c) (i 0) (i 1) ⟨2368 + (i 2).val, by have : (i 2).val < 256 := (i 2).isLt; omega⟩

theorem o27_apply (t : Fin cfg0.N) (r : Fin 512) (j : Fin 256) : out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 0 r j) = G27 m c (ix3 (bat t) (ro t r) j) := by
  unfold out0_27 k0_pay128
  exact (congrFun (View.canon_unit_zero (S := S1x512x256) hz3 _ _) _).trans ((pay123_apply _ _ r j).trans
    (col_hi m c t 2560 (by decide) _ r ⟨0 + j.val, by omega⟩ ⟨2368 + j.val, by omega⟩ (by show 192 + (2368 + j.val) = 2560 + (0 + j.val); omega) (by show 2368 ≤ 2368 + j.val; omega)))

/-- The array after the launch: its keys. -/
def G28 : Vec Ideal S4x4096x256 .f32 := fun i => proj (arX m c) (arS m c) (arG m c) (arW m c) (i 0) (i 1) ⟨2624 + (i 2).val, by have : (i 2).val < 256 := (i 2).isLt; omega⟩

theorem o28_apply (t : Fin cfg0.N) (r : Fin 512) (j : Fin 256) : out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 0 r j) = G28 m c (ix3 (bat t) (ro t r) j) := by
  unfold out0_28 k0_pay128
  exact (congrFun (View.canon_unit_zero (S := S1x512x256) hz3 _ _) _).trans ((pay124_apply _ _ r j).trans
    (col_hi m c t 2560 (by decide) _ r ⟨256 + j.val, by omega⟩ ⟨2624 + j.val, by omega⟩ (by show 192 + (2624 + j.val) = 2560 + (256 + j.val); omega) (by show 2368 ≤ 2624 + j.val; omega)))

/-- The array after the launch: its values. -/
def G29 : Vec Ideal S4x4096x512 .bf16 := fun i => proj (arX m c) (arS m c) (arG m c) (arW m c) (i 0) (i 1) ⟨2880 + (i 2).val, by have : (i 2).val < 512 := (i 2).isLt; omega⟩

theorem o29_apply (t : Fin cfg0.N) (r : Fin 512) (j : Fin 512) : out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 0 r j) = G29 m c (ix3 (bat t) (ro t r) j) := by
  unfold out0_29 k0_pay128
  exact (congrFun (View.canon_unit_zero (S := S1x512x512) hz3 _ _) _).trans ((pay125_apply _ _ r j).trans
    (col_hi m c t 3072 (by decide) _ r j ⟨2880 + j.val, by omega⟩ (by show 192 + (2880 + j.val) = 3072 + j.val; omega) (by show 2368 ≤ 2880 + j.val; omega)))

/-- The array after the launch: its gates. -/
def G30 : Vec Ideal S4x4096x512 .f32 := fun i => proj (arX m c) (arS m c) (arG m c) (arW m c) (i 0) (i 1) ⟨3392 + (i 2).val, by have : (i 2).val < 512 := (i 2).isLt; omega⟩

theorem o30_apply (t : Fin cfg0.N) (r : Fin 512) (j : Fin 512) : out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 0 r j) = G30 m c (ix3 (bat t) (ro t r) j) := by
  unfold out0_30 k0_pay128
  exact (congrFun (View.canon_unit_zero (S := S1x512x512) hz3 _ _) _).trans ((pay2_apply _ _ r j).trans
    (col_hi m c t 3584 (by decide) _ r j ⟨3392 + j.val, by omega⟩ (by show 192 + (3392 + j.val) = 3584 + j.val; omega) (by show 2368 ≤ 3392 + j.val; omega)))

/-- An index of a point's output block. -/
theorem at_row {n : Nat} (y : (⟨3, ![1, 512, n]⟩ : Shape).Idx) : y = ix3 0 (⟨(y 1).val, (y 1).isLt⟩ : Fin 512) (⟨(y 2).val, (y 2).isLt⟩ : Fin n) :=
  funext fun a => Fin.ext (by
    match a with
    | ⟨0, _⟩ => have : (y 0).val < 1 := (y 0).isLt; show (y 0).val = 0; omega
    | ⟨1, _⟩ => rfl
    | ⟨2, _⟩ => rfl)

/-- Where an index of a point's output block lies in the array. -/
theorem at_place {n : Nat} (t : Fin cfg0.N) {I : Fin 3 → Nat} (e : I = ![t.val / 8, t.val % 8, 0]) (y : (⟨3, ![1, 512, n]⟩ : Shape).Idx) (z : (⟨3, ![4, 4096, n]⟩ : Shape).Idx)
    (h0 : (z 0).val = I 0 * 1 + 1 * (y 0).val) (h1 : (z 1).val = I 1 * 512 + 1 * (y 1).val) (h2 : (z 2).val = I 2 * n + 1 * (y 2).val) :
    ix3 (bat t) (ro t (⟨(y 1).val, (y 1).isLt⟩ : Fin 512)) (⟨(y 2).val, (y 2).isLt⟩ : Fin n) = z := by
  subst e
  refine funext fun a => Fin.ext ?_
  match a with
  | ⟨0, _⟩ =>
    have : (y 0).val < 1 := (y 0).isLt
    show t.val / 8 = (z 0).val
    rw [h0]; show t.val / 8 = t.val / 8 * 1 + 1 * (y 0).val; omega
  | ⟨1, _⟩ =>
    show 512 * (t.val % 8) + (y 1).val = (z 1).val
    rw [h1]; show 512 * (t.val % 8) + (y 1).val = t.val % 8 * 512 + 1 * (y 1).val; omega
  | ⟨2, _⟩ =>
    show (y 2).val = (z 2).val
    rw [h2]; show (y 2).val = 0 * n + 1 * (y 2).val; omega

/-- Every index of an output's array lies in a point's block. -/
theorem covered {n : Nat} (i : (⟨3, ![4, 4096, n]⟩ : Shape).Idx) : ∃ t : Fin cfg0.N, ∀ {I : Fin 3 → Nat}, I = ![t.val / 8, t.val % 8, 0] →
    ∀ a : Fin 3, I a * (![1, 512, n] : Fin 3 → Nat) a ≤ (i a).val ∧ (i a).val < I a * (![1, 512, n] : Fin 3 → Nat) a + (![1, 512, n] : Fin 3 → Nat) a := by
  have h0 : (i 0).val < 4 := (i 0).isLt
  have h1 : (i 1).val < 4096 := (i 1).isLt
  have h2 : (i 2).val < n := (i 2).isLt
  refine ⟨⟨8 * (i 0).val + (i 1).val / 512, lt_of_lt_of_eq (by omega) N_0.symm⟩, fun {I} e a => ?_⟩
  subst e
  match a with
  | ⟨0, _⟩ => show (8 * (i 0).val + (i 1).val / 512) / 8 * 1 ≤ (i 0).val ∧ (i 0).val < (8 * (i 0).val + (i 1).val / 512) / 8 * 1 + 1; omega
  | ⟨1, _⟩ => show (8 * (i 0).val + (i 1).val / 512) % 8 * 512 ≤ (i 1).val ∧ (i 1).val < (8 * (i 0).val + (i 1).val / 512) % 8 * 512 + 512; omega
  | ⟨2, _⟩ => show 0 * n ≤ (i 2).val ∧ (i 2).val < 0 * n + n; omega

theorem flushed_22 (t : Fin cfg0.N) : (dats m 0 c).flushed 22 t = ((cfg0.win 22).blk t).view.read (Elt Ideal) (G22 m c) := by
  funext y
  refine (congrFun (congrArg ((cfg0.win 22).cut (grid0.coords t)) (after0_22 m c t)) y).trans ?_
  refine (congrArg (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (at_row (n := 256) ((cfg0.win 22).xinj (grid0.coords t) y))).trans ((o22_apply m c t _ _).trans (congrArg (G22 m c) ?_))
  exact at_place (n := 256) t (oplaces t).1 y _ rfl rfl rfl

theorem final_22 : (dats m 0 c).arrAt 22 cfg0.N = G22 m c := by
  refine (dats m 0 c).arrAt_eq_of_cover 22 _ (fun t _ => flushed_22 m c t) fun (i : S4x4096x256.Idx) => ?_
  obtain ⟨t, ht⟩ := covered (n := 256) i
  refine ⟨t, flush0_22 t, ?_⟩
  show i ∈ ((View.whole main_v87_2).slice (win0_22.rect t)).set
  rw [View.set_slice_whole, Rect.mem_set_unit]
  have := ht (oplaces t).1
  intro a
  match a with
  | ⟨0, _⟩ => exact this 0
  | ⟨1, _⟩ => exact this 1
  | ⟨2, _⟩ => exact this 2

theorem flushed_25 (t : Fin cfg0.N) : (dats m 0 c).flushed 25 t = ((cfg0.win 25).blk t).view.read (Elt Ideal) (G25 m c) := by
  funext y
  refine (congrFun (congrArg ((cfg0.win 25).cut (grid0.coords t)) (after0_25 m c t)) y).trans ?_
  refine (congrArg (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (at_row (n := 512) ((cfg0.win 25).xinj (grid0.coords t) y))).trans ((o25_apply m c t _ _).trans (congrArg (G25 m c) ?_))
  exact at_place (n := 512) t (oplaces t).2.1 y _ rfl rfl rfl

theorem final_25 : (dats m 0 c).arrAt 25 cfg0.N = G25 m c := by
  refine (dats m 0 c).arrAt_eq_of_cover 25 _ (fun t _ => flushed_25 m c t) fun (i : S4x4096x512.Idx) => ?_
  obtain ⟨t, ht⟩ := covered (n := 512) i
  refine ⟨t, flush0_25 t, ?_⟩
  show i ∈ ((View.whole main_v87_5).slice (win0_25.rect t)).set
  rw [View.set_slice_whole, Rect.mem_set_unit]
  have := ht (oplaces t).2.1
  intro a
  match a with
  | ⟨0, _⟩ => exact this 0
  | ⟨1, _⟩ => exact this 1
  | ⟨2, _⟩ => exact this 2

theorem flushed_27 (t : Fin cfg0.N) : (dats m 0 c).flushed 27 t = ((cfg0.win 27).blk t).view.read (Elt Ideal) (G27 m c) := by
  funext y
  refine (congrFun (congrArg ((cfg0.win 27).cut (grid0.coords t)) (after0_27 m c t)) y).trans ?_
  refine (congrArg (out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (at_row (n := 256) ((cfg0.win 27).xinj (grid0.coords t) y))).trans ((o27_apply m c t _ _).trans (congrArg (G27 m c) ?_))
  exact at_place (n := 256) t (oplaces t).2.2.1 y _ rfl rfl rfl

theorem final_27 : (dats m 0 c).arrAt 27 cfg0.N = G27 m c := by
  refine (dats m 0 c).arrAt_eq_of_cover 27 _ (fun t _ => flushed_27 m c t) fun (i : S4x4096x256.Idx) => ?_
  obtain ⟨t, ht⟩ := covered (n := 256) i
  refine ⟨t, flush0_27 t, ?_⟩
  show i ∈ ((View.whole main_v87_7).slice (win0_27.rect t)).set
  rw [View.set_slice_whole, Rect.mem_set_unit]
  have := ht (oplaces t).2.2.1
  intro a
  match a with
  | ⟨0, _⟩ => exact this 0
  | ⟨1, _⟩ => exact this 1
  | ⟨2, _⟩ => exact this 2

theorem flushed_28 (t : Fin cfg0.N) : (dats m 0 c).flushed 28 t = ((cfg0.win 28).blk t).view.read (Elt Ideal) (G28 m c) := by
  funext y
  refine (congrFun (congrArg ((cfg0.win 28).cut (grid0.coords t)) (after0_28 m c t)) y).trans ?_
  refine (congrArg (out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (at_row (n := 256) ((cfg0.win 28).xinj (grid0.coords t) y))).trans ((o28_apply m c t _ _).trans (congrArg (G28 m c) ?_))
  exact at_place (n := 256) t (oplaces t).2.2.2.1 y _ rfl rfl rfl

theorem final_28 : (dats m 0 c).arrAt 28 cfg0.N = G28 m c := by
  refine (dats m 0 c).arrAt_eq_of_cover 28 _ (fun t _ => flushed_28 m c t) fun (i : S4x4096x256.Idx) => ?_
  obtain ⟨t, ht⟩ := covered (n := 256) i
  refine ⟨t, flush0_28 t, ?_⟩
  show i ∈ ((View.whole main_v87_8).slice (win0_28.rect t)).set
  rw [View.set_slice_whole, Rect.mem_set_unit]
  have := ht (oplaces t).2.2.2.1
  intro a
  match a with
  | ⟨0, _⟩ => exact this 0
  | ⟨1, _⟩ => exact this 1
  | ⟨2, _⟩ => exact this 2

theorem flushed_29 (t : Fin cfg0.N) : (dats m 0 c).flushed 29 t = ((cfg0.win 29).blk t).view.read (Elt Ideal) (G29 m c) := by
  funext y
  refine (congrFun (congrArg ((cfg0.win 29).cut (grid0.coords t)) (after0_29 m c t)) y).trans ?_
  refine (congrArg (out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (at_row (n := 512) ((cfg0.win 29).xinj (grid0.coords t) y))).trans ((o29_apply m c t _ _).trans (congrArg (G29 m c) ?_))
  exact at_place (n := 512) t (oplaces t).2.2.2.2.1 y _ rfl rfl rfl

theorem final_29 : (dats m 0 c).arrAt 29 cfg0.N = G29 m c := by
  refine (dats m 0 c).arrAt_eq_of_cover 29 _ (fun t _ => flushed_29 m c t) fun (i : S4x4096x512.Idx) => ?_
  obtain ⟨t, ht⟩ := covered (n := 512) i
  refine ⟨t, flush0_29 t, ?_⟩
  show i ∈ ((View.whole main_v87_9).slice (win0_29.rect t)).set
  rw [View.set_slice_whole, Rect.mem_set_unit]
  have := ht (oplaces t).2.2.2.2.1
  intro a
  match a with
  | ⟨0, _⟩ => exact this 0
  | ⟨1, _⟩ => exact this 1
  | ⟨2, _⟩ => exact this 2

theorem flushed_30 (t : Fin cfg0.N) : (dats m 0 c).flushed 30 t = ((cfg0.win 30).blk t).view.read (Elt Ideal) (G30 m c) := by
  funext y
  refine (congrFun (congrArg ((cfg0.win 30).cut (grid0.coords t)) (after0_30 m c t)) y).trans ?_
  refine (congrArg (out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (at_row (n := 512) ((cfg0.win 30).xinj (grid0.coords t) y))).trans ((o30_apply m c t _ _).trans (congrArg (G30 m c) ?_))
  exact at_place (n := 512) t (oplaces t).2.2.2.2.2 y _ rfl rfl rfl

theorem final_30 : (dats m 0 c).arrAt 30 cfg0.N = G30 m c := by
  refine (dats m 0 c).arrAt_eq_of_cover 30 _ (fun t _ => flushed_30 m c t) fun (i : S4x4096x512.Idx) => ?_
  obtain ⟨t, ht⟩ := covered (n := 512) i
  refine ⟨t, flush0_30 t, ?_⟩
  show i ∈ ((View.whole main_v87_10).slice (win0_30.rect t)).set
  rw [View.set_slice_whole, Rect.mem_set_unit]
  have := ht (oplaces t).2.2.2.2.2
  intro a
  match a with
  | ⟨0, _⟩ => exact this 0
  | ⟨1, _⟩ => exact this 1
  | ⟨2, _⟩ => exact this 2

set_option maxHeartbeats 4000000 in
/-- The call ends with these arrays, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v87_2) = G22 m c
      ∧ r.2.mem ((c.tc : Thread nD τ).loc main_v87_5) = G25 m c
      ∧ r.2.mem ((c.tc : Thread nD τ).loc main_v87_7) = G27 m c
      ∧ r.2.mem ((c.tc : Thread nD τ).loc main_v87_8) = G28 m c
      ∧ r.2.mem ((c.tc : Thread nD τ).loc main_v87_9) = G29 m c
      ∧ r.2.mem ((c.tc : Thread nD τ).loc main_v87_10) = G30 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨((h.1 c).1 22).trans (final_22 m c), ((h.1 c).1 25).trans (final_25 m c), ((h.1 c).1 27).trans (final_27 m c),
      ((h.1 c).1 28).trans (final_28 m c), ((h.1 c).1 29).trans (final_29 m c), ((h.1 c).1 30).trans (final_30 m c), h.2 c⟩)
    (θ_run_and (run_main m ρ) (unchanged m ρ))

end Cert.ProjectIdeal.Layer

end
-- ==== Proof.Project.Ref.lean ====
/-
  The projections' reference, entry by entry.
-/
module

public import proofs.«01_k».proof.Proof.Project.Entries
public import proofs.«01_k».proof.Proof.Gen.ProjectReferenceIdeal.Run

@[expose] public section

noncomputable section

namespace Cert.ProjectReferenceIdeal.Layer

open Cert.ProjectReferenceIdeal Cert.ProjectReferenceIdeal.Gen Cert.ProjectReferenceIdeal.Value Idealize.ShloMosaic Idealize.ShloMosaic.TcCoe Idealize.SL.Sem

variable (x : FVec Ideal S4x4096x2048 .f32) (s : FVec Ideal S4x1x12288 .f32) (g : FVec Ideal S2x2048 .f32) (w : FVec Ideal S2x2048x3936 .f32)
  (gl : FVec Ideal S2x256 .f32) (wu : FVec Ideal S2x256x1024 .f32)

/-- The normalised, modulated rows. -/
def hrow : FVec Ideal S4x4096x2048 .f32 :=
  addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ (extractStridedSlice S1x2048 ![0, 0] g slices_S2x2048_S1x2048_0_0) shapeCasts_S1x2048_S2048)))) (broadcastInDim S4x4096x2048 ![0, 1, 2] bcast_S4x1x2048_S4x4096x2048_0_1_2 (addf (broadcastInDim S4x1x2048 ![] bcast_S_S4x1x2048 (constant S_ .f32 0x3F800000#32)) (extractStridedSlice S4x1x2048 ![0, 0, 2048] s slices_S4x1x12288_S4x1x2048_0_0_2048)))) (broadcastInDim S4x4096x2048 ![0, 1, 2] bcast_S4x1x2048_S4x4096x2048_0_1_2 (extractStridedSlice S4x1x2048 ![0, 0, 0] s slices_S4x1x12288_S4x1x2048_0_0_0))

/-- Their projection. -/
def pr : FVec Ideal S4x4096x3936 .f32 :=
  Host.dotGeneral dot_S4x4096x2048_S2048x3936_S4x4096x3936_2_0_01_1_n_n none (hrow x s g) (shapeCast _ (extractStridedSlice S1x2048x3936 ![0, 0, 0] w slices_S2x2048x3936_S1x2048x3936_0_0_0) shapeCasts_S1x2048x3936_S2048x3936)

/-- The latent of the second attention's keys and values. -/
def ck : FVec Ideal S4x4096x256 .f32 := extractStridedSlice S4x4096x256 ![0, 0, 2048] (pr x s g w) slices_S4x4096x3936_S4x4096x256_0_0_2048

/-- That latent, normalised. -/
def lt : FVec Ideal S4x4096x256 .f32 :=
  mulf (mulf (ck x s g w) (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf (ck x s g w) (ck x s g w)) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 (shapeCast _ (extractStridedSlice S1x256 ![0, 0] gl slices_S2x256_S1x256_0_0) shapeCasts_S1x256_S256)))

/-- The second attention's values. -/
def vals : FVec Ideal S4x4096x512 .bf16 :=
  truncf .bf16 (shapeCast _ (extractStridedSlice S4x4096x4x128 ![0, 0, 0, 128] (shapeCast _ (Host.dotGeneral dot_S4x4096x256_S256x1024_S4x4096x1024_2_0_01_1_n_n none (lt x s g w gl) (shapeCast _ (extractStridedSlice S1x256x1024 ![0, 0, 0] wu slices_S2x256x1024_S1x256x1024_0_0_0) shapeCasts_S1x256x1024_S256x1024)) shapeCasts_S4x4096x1024_S4x4096x4x256) slices_S4x4096x4x256_S4x4096x4x128_0_0_0_128) shapeCasts_S4x4096x4x128_S4x4096x512) bitsLt_bf16_f32

theorem hrow_apply (b : Fin 4) (r : Fin 4096) (k : Fin 2048) : hrow x s g (ix3 b r k) = nrm x s g b r k := by
  unfold nrm
  pointwise [hrow]

theorem pr_apply (b : Fin 4) (r : Fin 4096) (q : Fin 3936) : pr x s g w (ix3 b r q) = proj x s g w b r q := by
  unfold proj
  pointwise [pr]
  simp only [hrow_apply]

theorem ck_apply (b : Fin 4) (r : Fin 4096) (j : Fin 256) : ck x s g w (ix3 b r j) = proj x s g w b r ⟨2048 + j.val, by omega⟩ := by
  pointwise [ck]
  simp only [pr_apply]

theorem lt_apply (b : Fin 4) (r : Fin 4096) (j : Fin 256) : lt x s g w gl (ix3 b r j) = lat x s g w gl b r j := by
  unfold lat
  pointwise [lt]
  simp only [ck_apply]

theorem vals_apply (b : Fin 4) (r : Fin 4096) (j : Fin 512) : vals x s g w gl wu (ix3 b r j) = val x s g w gl wu b r j := by
  unfold val
  pointwise [vals]
  simp only [lt_apply]

theorem av_apply (b : Fin 4) (r : Fin 4096) (j : Fin 256) :
    (truncf .bf16 (extractStridedSlice S4x4096x256 ![0, 0, 1280] (pr x s g w) slices_S4x4096x3936_S4x4096x256_0_0_1280) bitsLt_bf16_f32 : FVec Ideal S4x4096x256 .bf16) (ix3 b r j)
      = proj x s g w b r ⟨1280 + j.val, by omega⟩ := by
  pointwise
  simp only [pr_apply]

theorem cq_apply (b : Fin 4) (r : Fin 4096) (j : Fin 256) :
    extractStridedSlice S4x4096x256 ![0, 0, 2368] (pr x s g w) slices_S4x4096x3936_S4x4096x256_0_0_2368 (ix3 b r j) = proj x s g w b r ⟨2368 + j.val, by omega⟩ := by
  pointwise
  simp only [pr_apply]

theorem ckey_apply (b : Fin 4) (r : Fin 4096) (j : Fin 256) :
    extractStridedSlice S4x4096x256 ![0, 0, 2624] (pr x s g w) slices_S4x4096x3936_S4x4096x256_0_0_2624 (ix3 b r j) = proj x s g w b r ⟨2624 + j.val, by omega⟩ := by
  pointwise
  simp only [pr_apply]

theorem cv_apply (b : Fin 4) (r : Fin 4096) (j : Fin 512) :
    (truncf .bf16 (extractStridedSlice S4x4096x512 ![0, 0, 2880] (pr x s g w) slices_S4x4096x3936_S4x4096x512_0_0_2880) bitsLt_bf16_f32 : FVec Ideal S4x4096x512 .bf16) (ix3 b r j)
      = proj x s g w b r ⟨2880 + j.val, by omega⟩ := by
  pointwise
  simp only [pr_apply]

theorem cg_apply (b : Fin 4) (r : Fin 4096) (j : Fin 512) :
    extractStridedSlice S4x4096x512 ![0, 0, 3392] (pr x s g w) slices_S4x4096x3936_S4x4096x512_0_0_3392 (ix3 b r j) = proj x s g w b r ⟨3392 + j.val, by omega⟩ := by
  pointwise
  simp only [pr_apply]

/-- The values as the run states them. -/
theorem vals_eq (m : (ℓ : Loc nD τ sig) → Buf (Elt Ideal) ℓ) (c : Dev nD) : res_out1 m c
    = vals (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg11)) (m ((c.tc : Thread nD τ).loc main_arg13)) := by
  unfold res_out1 res_main_v64 vals lt ck pr hrow
  rfl

end Cert.ProjectReferenceIdeal.Layer

end
-- ==== Proof.Project.Claim.lean ====
/-
  The projections' call and its reference end with the same values of the two attentions and the same queries, keys,
  values and gates of the retention.
-/
module

public import proofs.«01_k».proof.Defs
public import proofs.«01_k».proof.Proof.Project.Rows
public import proofs.«01_k».proof.Proof.Project.Ref

@[expose] public section

set_option maxRecDepth 16384

noncomputable section

namespace Cert.Project

open Idealize.ShloMosaic Idealize.SL.Sem
open Cert.ProjectIdeal.Layer (G22 G25 G27 G28 G29 G30)
open Cert.ProjectReferenceIdeal.Layer (av_apply vals_apply vals_eq cq_apply ckey_apply cv_apply cg_apply)

/-- Two arrays of rows agree when their entries do. -/
theorem ext3 {n : Nat} {α : Type} {f g : (⟨3, ![4, 4096, n]⟩ : Shape).Idx → α} (h : ∀ (b : Fin 4) (r : Fin 4096) (j : Fin n), f (ix3 b r j) = g (ix3 b r j)) : f = g :=
  funext fun i => by rw [eq_ix3 i]; exact h _ _ _

/-- The call and its reference end with the same results. -/
theorem algebraic : Cert.algebraic_ProjectIdeal_ProjectReferenceIdeal (hProjectIdeal := Cert.ProjectIdeal.Gen.facts) (hProjectReferenceIdeal := Cert.ProjectReferenceIdeal.Gen.facts) := by
  intro m g m' g' _ h
  refine ⟨fun c => G22 m c, fun c => G25 m c, fun c => G27 m c, fun c => G28 m c, fun c => G29 m c, fun c => G30 m c, Cert.ProjectIdeal.Layer.run m g, ?_⟩
  refine (θ_run _ _ _).mono (fun r hr c => ?_) (Cert.ProjectReferenceIdeal.Value.run m' g')
  obtain ⟨e0, e1, e2, e3, e4, e5, e6, e7, e8, e9, e10, e11, e12, e13, -⟩ := h c
  obtain ⟨r0, r1, r2, r3, r4, r5, rest⟩ := hr c
  have r1' := r1.trans (vals_eq m' c)
  rw [e0, e1, e2, e3] at r0 r2 r3 r4 r5
  rw [e0, e1, e2, e3, e11, e13] at r1'
  exact ⟨r0.trans (ext3 (n := 256) fun b r j => av_apply _ _ _ _ b r j), r1'.trans (ext3 (n := 512) fun b r j => vals_apply _ _ _ _ _ _ b r j),
    r2.trans (ext3 (n := 256) fun b r j => cq_apply _ _ _ _ b r j), r3.trans (ext3 (n := 256) fun b r j => ckey_apply _ _ _ _ b r j),
    r4.trans (ext3 (n := 512) fun b r j => cv_apply _ _ _ _ b r j), r5.trans (ext3 (n := 512) fun b r j => cg_apply _ _ _ _ b r j), rest⟩

end Cert.Project

end
-- ==== Proof.Project.Same.lean ====
/-
  The projections' call and its ideal form have one text: no operation of it is replaced. So over the
  machine's floats the two are one program, and the run proved for the ideal form over any float values
  is a run of the call itself. The equality is taken from the body up to the whole program.
-/
module
public import proofs.«01_k».proof.Defs
public import proofs.«01_k».proof.Proof.Gen.Project
public import proofs.«01_k».proof.Proof.Project.Frame

@[expose] public section

namespace Cert.Project.Same

open Idealize.ShloMosaic Idealize.SL.Sem

set_option maxRecDepth 100000
set_option maxHeartbeats 40000000

attribute [local instance] Cert.Project.Gen.facts Cert.ProjectIdeal.Gen.facts

/-- The two bodies are one program. -/
theorem body_eq : @Cert.Project.cc0_proj_lat Bits _ _ = @Cert.ProjectIdeal.cc0_proj_lat Bits _ _ := rfl

/-- So are the bodies as the pipeline calls them, at each point of the grid. -/
theorem defs₀_eq : @Cert.Project.defs₀ Bits _ _ = @Cert.ProjectIdeal.defs₀ Bits _ _ := by
  unfold Cert.Project.defs₀ Cert.ProjectIdeal.defs₀
  refine congrArg (Defs.onTc (nD := Cert.ProjectIdeal.nD) (τ := Cert.ProjectIdeal.τ) (sig := Cert.ProjectIdeal.sig)
    (Λ := Cert.ProjectIdeal.Λ₀)) (funext fun l => funext fun x => ?_)
  obtain ⟨n, hn⟩ := l
  cases n with
  | succ n => exact absurd hn (Nat.not_lt.2 (Nat.le_add_left _ _))
  | zero =>
    obtain ⟨t, s⟩ := x
    rfl

/-- So are the pipelines around them. -/
theorem defs_eq : @Cert.Project.defs Bits _ _ = @Cert.ProjectIdeal.defs Bits _ _ :=
  congrArg (Pipeline.defs (Cert.ProjectIdeal.pcfgs (F := Bits))) defs₀_eq

/-- And so are the host programs that call them. -/
theorem main_eq : @Cert.Project.main Bits _ _ = @Cert.ProjectIdeal.main Bits _ _ := rfl

/-- The projections' call runs with its arguments unchanged and its semaphores at zero. -/
theorem frame : Cert.quiescent_Project (hProject := Cert.Project.Gen.facts) := by
  intro m g _
  have h := Cert.ProjectIdeal.Whole.frame (F := Bits) m g
  rw [← main_eq, ← defs_eq] at h
  exact h

end Cert.Project.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Latent
public import proofs.«01_k».proof.Proof.Gen.Latent.Skeleton
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentIdeal.Value
public import proofs.«01_k».proof.Proof.Gen.LatentReferenceIdeal
public import proofs.«01_k».proof.Proof.Gen.LatentReferenceIdeal.Run
public import proofs.«01_k».proof.Proof.Gen.Modulate
public import proofs.«01_k».proof.Proof.Gen.Modulate.Skeleton
public import proofs.«01_k».proof.Proof.Gen.Modulate.Launch
public import proofs.«01_k».proof.Proof.Gen.Modulate.Points
public import proofs.«01_k».proof.Proof.Gen.Modulate.Frame
public import proofs.«01_k».proof.Proof.Gen.ModulateIdeal
public import proofs.«01_k».proof.Proof.Gen.ModulateIdeal.Skeleton
public import proofs.«01_k».proof.Proof.Gen.ModulateIdeal.Launch
public import proofs.«01_k».proof.Proof.Gen.ModulateIdeal.Points
public import proofs.«01_k».proof.Proof.Gen.ModulateIdeal.Frame
public import proofs.«01_k».proof.Proof.Gen.ModulateIdeal.Value
public import proofs.«01_k».proof.Proof.Gen.ModulateReferenceIdeal
public import proofs.«01_k».proof.Proof.Gen.ModulateReferenceIdeal.Run
public import proofs.«01_k».proof.Proof.Gen.Project
public import proofs.«01_k».proof.Proof.Gen.ProjectIdeal
public import proofs.«01_k».proof.Proof.Gen.ProjectReferenceIdeal
public import proofs.«01_k».proof.Proof.Gen.ProjectReferenceIdeal.Run
public import proofs.«01_k».proof.Proof.Ffn.Claim
public import proofs.«01_k».proof.Proof.Attn.Claim
public import proofs.«01_k».proof.Proof.Merge.Claim
public import proofs.«01_k».proof.Proof.Latent.Claim
public import proofs.«01_k».proof.Proof.Modulate.Claim
public import proofs.«01_k».proof.Proof.Project.Claim
public import proofs.«01_k».proof.Proof.Project.Same
public import Idealize.ShloMosaic.Lib.Quiescent
public import Idealize.ShloMosaic.Adequacy
public import Idealize.ShloMosaic.Init

@[expose] public section

noncomputable section

namespace Cert.Proof

open Idealize.ShloMosaic Idealize.SL.Sem

/-- The attention's reference runs with its arguments unchanged and no semaphore in its signature. -/
theorem frame_reference : Cert.quiescent_ReferenceIdeal (hReferenceIdeal := Cert.ReferenceIdeal.Gen.facts) := fun m g _ =>
  (θ_run _ _ _).mono (fun _ h => ⟨fun c => (h c).2.2.2.2.2, sem_eq_zero_of_no_sems (by decide) _⟩) (Cert.ReferenceIdeal.Value.run m g)

/-- The block's reference likewise. -/
theorem frame_ffnReference : Cert.quiescent_FfnReferenceIdeal (hFfnReferenceIdeal := Cert.FfnReferenceIdeal.Gen.facts) := fun m g _ =>
  (θ_run _ _ _).mono (fun _ h => ⟨fun c => (h c).2, sem_eq_zero_of_no_sems (by decide) _⟩) (Cert.FfnReferenceIdeal.Value.run m g)

/-- The output projection's reference likewise. -/
theorem frame_mergeReference : Cert.quiescent_MergeReferenceIdeal (hMergeReferenceIdeal := Cert.MergeReferenceIdeal.Gen.facts) := fun m g _ =>
  (θ_run _ _ _).mono (fun _ h => ⟨fun c => (h c).2, sem_eq_zero_of_no_sems (by decide) _⟩) (Cert.MergeReferenceIdeal.Value.run m g)

/-- The second attention's reference likewise. -/
theorem frame_latentReference : Cert.quiescent_LatentReferenceIdeal (hLatentReferenceIdeal := Cert.LatentReferenceIdeal.Gen.facts) := fun m g _ =>
  (θ_run _ _ _).mono (fun _ h => ⟨fun c => (h c).2, sem_eq_zero_of_no_sems (by decide) _⟩) (Cert.LatentReferenceIdeal.Value.run m g)

/-- The modulation's reference likewise. -/
theorem frame_modulateReference : Cert.quiescent_ModulateReferenceIdeal (hModulateReferenceIdeal := Cert.ModulateReferenceIdeal.Gen.facts) := fun m g _ =>
  (θ_run _ _ _).mono (fun _ h => ⟨fun c => (h c).2, sem_eq_zero_of_no_sems (by decide) _⟩) (Cert.ModulateReferenceIdeal.Value.run m g)

/-- The projections' call, in its ideal form, runs with its arguments unchanged and its semaphores at zero. -/
theorem frame_projectIdeal : Cert.quiescent_ProjectIdeal (hProjectIdeal := Cert.ProjectIdeal.Gen.facts) := fun m g _ =>
  Cert.ProjectIdeal.Whole.frame m g

/-- The projections' reference likewise. -/
theorem frame_projectReference : Cert.quiescent_ProjectReferenceIdeal (hProjectReferenceIdeal := Cert.ProjectReferenceIdeal.Gen.facts) := fun m g _ =>
  (θ_run _ _ _).mono (fun _ h => ⟨fun c => (h c).2.2.2.2.2.2, sem_eq_zero_of_no_sems (by decide) _⟩) (Cert.ProjectReferenceIdeal.Value.run m g)

theorem claim : Cert.Claim :=
  ⟨Cert.Kernel.Gen.facts, Cert.KernelIdeal.Gen.facts, Cert.ReferenceIdeal.Gen.facts, Cert.Ffn.Gen.facts, Cert.FfnIdeal.Gen.facts, Cert.FfnReferenceIdeal.Gen.facts,
    Cert.Merge.Gen.facts, Cert.MergeIdeal.Gen.facts, Cert.MergeReferenceIdeal.Gen.facts,
    Cert.Latent.Gen.facts, Cert.LatentIdeal.Gen.facts, Cert.LatentReferenceIdeal.Gen.facts,
    Cert.Modulate.Gen.facts, Cert.ModulateIdeal.Gen.facts, Cert.ModulateReferenceIdeal.Gen.facts,
    Cert.Project.Gen.facts, Cert.ProjectIdeal.Gen.facts, Cert.ProjectReferenceIdeal.Gen.facts, Cert.Attn.bounds, Cert.LatentAttn.bounds,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.Ffn.Gen.frame m g,
    fun m g _ => Cert.FfnIdeal.Gen.frame m g,
    frame_ffnReference,
    fun m g _ => Cert.Merge.Gen.frame m g,
    fun m g _ => Cert.MergeIdeal.Gen.frame m g,
    frame_mergeReference,
    fun m g _ => Cert.Latent.Gen.frame m g,
    fun m g _ => Cert.LatentIdeal.Gen.frame m g,
    fun m g _ => Cert.LatentIdeal.Gen.frame m g,
    frame_latentReference,
    fun m g _ => frame_latentReference m g trivial,
    fun m g _ => Cert.Modulate.Gen.frame m g,
    fun m g _ => Cert.ModulateIdeal.Gen.frame m g,
    frame_modulateReference,
    Cert.Project.Same.frame,
    frame_projectIdeal,
    frame_projectReference,
    IdealRules.named_const.statement Cert.KernelIdeal.κ "qscale" .f32 0x3E0293EE#32 ((((Real.log 2) * (Real.sqrt 128))⁻¹ : ℝ) : EReal) rfl,
    Cert.Attn.algebraic,
    trivial,
    Cert.Ffn.algebraic,
    trivial,
    Cert.Merge.algebraic,
    IdealRules.named_const.statement Cert.LatentIdeal.κ "lscale" .f32 0x3DD53B95#32 ((((Real.log 2) * (Real.sqrt 192))⁻¹ : ℝ) : EReal) rfl,
    Cert.LatentAttn.algebraic,
    trivial,
    Cert.Modulate.algebraic,
    trivial,
    Cert.Project.algebraic⟩

end Cert.Proof

end
